-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Gdown (m : (ℓ : Loc Cert.Gdown.nD Cert.Gdown.τ Cert.Gdown.sig) → Buf (Elt Bits) ℓ) : Prop :=
  True

def Pre_GdownIdeal (m : (ℓ : Loc Cert.GdownIdeal.nD Cert.GdownIdeal.τ Cert.GdownIdeal.sig) → Buf (Elt Ideal) ℓ) : Prop :=
  True

def Pre_GdownRefIdeal (m : (ℓ : Loc Cert.GdownRefIdeal.nD Cert.GdownRefIdeal.τ Cert.GdownRefIdeal.sig) → Buf (Elt Ideal) ℓ) : Prop :=
  True

def Pre_Gup (m : (ℓ : Loc Cert.Gup.nD Cert.Gup.τ Cert.Gup.sig) → Buf (Elt Bits) ℓ) : Prop :=
  True

def Pre_GupIdeal (m : (ℓ : Loc Cert.GupIdeal.nD Cert.GupIdeal.τ Cert.GupIdeal.sig) → Buf (Elt Ideal) ℓ) : Prop :=
  True

def Pre_GupRefIdeal (m : (ℓ : Loc Cert.GupRefIdeal.nD Cert.GupRefIdeal.τ Cert.GupRefIdeal.sig) → Buf (Elt Ideal) ℓ) : Prop :=
  True

def Pre_Dnorm (m : (ℓ : Loc Cert.Dnorm.nD Cert.Dnorm.τ Cert.Dnorm.sig) → Buf (Elt Bits) ℓ) : Prop :=
  True

def Pre_DnormIdeal (m : (ℓ : Loc Cert.DnormIdeal.nD Cert.DnormIdeal.τ Cert.DnormIdeal.sig) → Buf (Elt Ideal) ℓ) : Prop :=
  True

def Pre_DnormRefIdeal (m : (ℓ : Loc Cert.DnormRefIdeal.nD Cert.DnormRefIdeal.τ Cert.DnormRefIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))) = (fun _ => 1#1)

def Pre_MlaFwd (m : (ℓ : Loc Cert.MlaFwd.nD Cert.MlaFwd.τ Cert.MlaFwd.sig) → Buf (Elt Bits) ℓ) : Prop :=
  True

def Pre_MlaFwdIdeal (m : (ℓ : Loc Cert.MlaFwdIdeal.nD Cert.MlaFwdIdeal.τ Cert.MlaFwdIdeal.sig) → Buf (Elt Ideal) ℓ) : Prop :=
  True

def Pre_MlaFwdIdeal_finite_mla_fwd [hPre_finite_mla_fwd : Cert.Pre_finite_mla_fwd.Facts] (m : (ℓ : Loc Cert.MlaFwdIdeal.nD Cert.MlaFwdIdeal.τ Cert.MlaFwdIdeal.sig) → Buf (Elt Ideal) ℓ) : Prop :=
  ∀ c : Dev Cert.MlaFwdIdeal.nD,
    (Cert.Pre_finite_mla_fwd.fn (F := Ideal) (m ((c.tc : Thread Cert.MlaFwdIdeal.nD Cert.MlaFwdIdeal.τ).loc Cert.MlaFwdIdeal.main_arg0)) (m ((c.tc : Thread Cert.MlaFwdIdeal.nD Cert.MlaFwdIdeal.τ).loc Cert.MlaFwdIdeal.main_arg1)) (m ((c.tc : Thread Cert.MlaFwdIdeal.nD Cert.MlaFwdIdeal.τ).loc Cert.MlaFwdIdeal.main_arg2))) = (fun _ => 1#1)

def Pre_MlaFwdRefIdeal (m : (ℓ : Loc Cert.MlaFwdRefIdeal.nD Cert.MlaFwdRefIdeal.τ Cert.MlaFwdRefIdeal.sig) → Buf (Elt Ideal) ℓ) : Prop :=
  True

def Pre_MlaFwdRefIdeal_finite_mla_fwd [hPre_finite_mla_fwd : Cert.Pre_finite_mla_fwd.Facts] (m : (ℓ : Loc Cert.MlaFwdRefIdeal.nD Cert.MlaFwdRefIdeal.τ Cert.MlaFwdRefIdeal.sig) → Buf (Elt Ideal) ℓ) : Prop :=
  ∀ c : Dev Cert.MlaFwdRefIdeal.nD,
    (Cert.Pre_finite_mla_fwd.fn (F := Ideal) (m ((c.tc : Thread Cert.MlaFwdRefIdeal.nD Cert.MlaFwdRefIdeal.τ).loc Cert.MlaFwdRefIdeal.main_arg0)) (m ((c.tc : Thread Cert.MlaFwdRefIdeal.nD Cert.MlaFwdRefIdeal.τ).loc Cert.MlaFwdRefIdeal.main_arg1)) (m ((c.tc : Thread Cert.MlaFwdRefIdeal.nD Cert.MlaFwdRefIdeal.τ).loc Cert.MlaFwdRefIdeal.main_arg2))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Dattn (m : (ℓ : Loc Cert.Dattn.nD Cert.Dattn.τ Cert.Dattn.sig) → Buf (Elt Bits) ℓ) : Prop :=
  True

def Pre_DattnIdeal (m : (ℓ : Loc Cert.DattnIdeal.nD Cert.DattnIdeal.τ Cert.DattnIdeal.sig) → Buf (Elt Ideal) ℓ) : Prop :=
  True

def Pre_DattnRefIdeal (m : (ℓ : Loc Cert.DattnRefIdeal.nD Cert.DattnRefIdeal.τ Cert.DattnRefIdeal.sig) → Buf (Elt Ideal) ℓ) : Prop :=
  True

def Pre_Gout (m : (ℓ : Loc Cert.Gout.nD Cert.Gout.τ Cert.Gout.sig) → Buf (Elt Bits) ℓ) : Prop :=
  True

def Pre_GoutIdeal (m : (ℓ : Loc Cert.GoutIdeal.nD Cert.GoutIdeal.τ Cert.GoutIdeal.sig) → Buf (Elt Ideal) ℓ) : Prop :=
  True

def Pre_GoutRefIdeal (m : (ℓ : Loc Cert.GoutRefIdeal.nD Cert.GoutRefIdeal.τ Cert.GoutRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_OddGin (m : (ℓ : Loc Cert.OddGin.nD Cert.OddGin.τ Cert.OddGin.sig) → Buf (Elt Bits) ℓ) : Prop :=
  True

def Pre_OddGinIdeal (m : (ℓ : Loc Cert.OddGinIdeal.nD Cert.OddGinIdeal.τ Cert.OddGinIdeal.sig) → Buf (Elt Ideal) ℓ) : Prop :=
  True

def Pre_OddGinRefIdeal (m : (ℓ : Loc Cert.OddGinRefIdeal.nD Cert.OddGinRefIdeal.τ Cert.OddGinRefIdeal.sig) → Buf (Elt Ideal) ℓ) : Prop :=
  True

def Pre_OddDnorm (m : (ℓ : Loc Cert.OddDnorm.nD Cert.OddDnorm.τ Cert.OddDnorm.sig) → Buf (Elt Bits) ℓ) : Prop :=
  True

def Pre_OddDnormIdeal (m : (ℓ : Loc Cert.OddDnormIdeal.nD Cert.OddDnormIdeal.τ Cert.OddDnormIdeal.sig) → Buf (Elt Ideal) ℓ) : Prop :=
  True

def Pre_OddDnormRefIdeal (m : (ℓ : Loc Cert.OddDnormRefIdeal.nD Cert.OddDnormRefIdeal.τ Cert.OddDnormRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_EvenGin (m : (ℓ : Loc Cert.EvenGin.nD Cert.EvenGin.τ Cert.EvenGin.sig) → Buf (Elt Bits) ℓ) : Prop :=
  True

def Pre_EvenGinIdeal (m : (ℓ : Loc Cert.EvenGinIdeal.nD Cert.EvenGinIdeal.τ Cert.EvenGinIdeal.sig) → Buf (Elt Ideal) ℓ) : Prop :=
  True

def Pre_EvenGinRefIdeal (m : (ℓ : Loc Cert.EvenGinRefIdeal.nD Cert.EvenGinRefIdeal.τ Cert.EvenGinRefIdeal.sig) → Buf (Elt Ideal) ℓ) : Prop :=
  True

def Pre_EvenDnorm (m : (ℓ : Loc Cert.EvenDnorm.nD Cert.EvenDnorm.τ Cert.EvenDnorm.sig) → Buf (Elt Bits) ℓ) : Prop :=
  True

def Pre_EvenDnormIdeal (m : (ℓ : Loc Cert.EvenDnormIdeal.nD Cert.EvenDnormIdeal.τ Cert.EvenDnormIdeal.sig) → Buf (Elt Ideal) ℓ) : Prop :=
  True

def Pre_EvenDnormRefIdeal (m : (ℓ : Loc Cert.EvenDnormRefIdeal.nD Cert.EvenDnormRefIdeal.τ Cert.EvenDnormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_Gdown [hGdown : Cert.Gdown.Facts] : Prop :=
  ∀ (m : (ℓ : Loc Cert.Gdown.nD Cert.Gdown.τ Cert.Gdown.sig) → Buf (Elt Bits) ℓ) (g : Dev Cert.Gdown.nD → PrngReg), Pre_Gdown m →
    θ_run (Cert.Gdown.defs (F := Bits)) (onTc (τ := Cert.Gdown.τ) (Cert.Gdown.main (F := Bits))) ⟨m, fun _ => 0, g⟩ (fun r => (∀ c : Dev Cert.Gdown.nD,
      r.2.mem ((c.tc : Thread Cert.Gdown.nD Cert.Gdown.τ).loc Cert.Gdown.main_arg0) = m ((c.tc : Thread Cert.Gdown.nD Cert.Gdown.τ).loc Cert.Gdown.main_arg0)
      ∧ r.2.mem ((c.tc : Thread Cert.Gdown.nD Cert.Gdown.τ).loc Cert.Gdown.main_arg1) = m ((c.tc : Thread Cert.Gdown.nD Cert.Gdown.τ).loc Cert.Gdown.main_arg1)
      ∧ r.2.mem ((c.tc : Thread Cert.Gdown.nD Cert.Gdown.τ).loc Cert.Gdown.main_arg2) = m ((c.tc : Thread Cert.Gdown.nD Cert.Gdown.τ).loc Cert.Gdown.main_arg2))
      ∧ r.2.sem = fun _ => 0)

def quiescent_GdownIdeal [hGdownIdeal : Cert.GdownIdeal.Facts] : Prop :=
  ∀ (m : (ℓ : Loc Cert.GdownIdeal.nD Cert.GdownIdeal.τ Cert.GdownIdeal.sig) → Buf (Elt Ideal) ℓ) (g : Dev Cert.GdownIdeal.nD → PrngReg), Pre_GdownIdeal m →
    θ_run (Cert.GdownIdeal.defs (F := Ideal)) (onTc (τ := Cert.GdownIdeal.τ) (Cert.GdownIdeal.main (F := Ideal))) ⟨m, fun _ => 0, g⟩ (fun r => (∀ c : Dev Cert.GdownIdeal.nD,
      r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
      ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1)
      ∧ r.2.mem ((c.tc : Thread Cert.GdownIdeal.nD Cert.GdownIdeal.τ).loc Cert.GdownIdeal.main_arg2) = m ((c.tc : Thread Cert.GdownIdeal.nD Cert.GdownIdeal.τ).loc Cert.GdownIdeal.main_arg2))
      ∧ r.2.sem = fun _ => 0)

def quiescent_GdownRefIdeal [hGdownRefIdeal : Cert.GdownRefIdeal.Facts] : Prop :=
  ∀ (m : (ℓ : Loc Cert.GdownRefIdeal.nD Cert.GdownRefIdeal.τ Cert.GdownRefIdeal.sig) → Buf (Elt Ideal) ℓ) (g : Dev Cert.GdownRefIdeal.nD → PrngReg), Pre_GdownRefIdeal m →
    θ_run (Cert.GdownRefIdeal.defs (F := Ideal)) (onTc (τ := Cert.GdownRefIdeal.τ) (Cert.GdownRefIdeal.main (F := Ideal))) ⟨m, fun _ => 0, g⟩ (fun r => (∀ c : Dev Cert.GdownRefIdeal.nD,
      r.2.mem ((c.tc : Thread Cert.GdownRefIdeal.nD Cert.GdownRefIdeal.τ).loc Cert.GdownRefIdeal.main_arg0) = m ((c.tc : Thread Cert.GdownRefIdeal.nD Cert.GdownRefIdeal.τ).loc Cert.GdownRefIdeal.main_arg0)
      ∧ r.2.mem ((c.tc : Thread Cert.GdownRefIdeal.nD Cert.GdownRefIdeal.τ).loc Cert.GdownRefIdeal.main_arg1) = m ((c.tc : Thread Cert.GdownRefIdeal.nD Cert.GdownRefIdeal.τ).loc Cert.GdownRefIdeal.main_arg1)
      ∧ r.2.mem ((c.tc : Thread Cert.GdownRefIdeal.nD Cert.GdownRefIdeal.τ).loc Cert.GdownRefIdeal.main_arg2) = m ((c.tc : Thread Cert.GdownRefIdeal.nD Cert.GdownRefIdeal.τ).loc Cert.GdownRefIdeal.main_arg2))
      ∧ r.2.sem = fun _ => 0)

def quiescent_Gup [hGup : Cert.Gup.Facts] : Prop :=
  ∀ (m : (ℓ : Loc Cert.Gup.nD Cert.Gup.τ Cert.Gup.sig) → Buf (Elt Bits) ℓ) (g : Dev Cert.Gup.nD → PrngReg), Pre_Gup m →
    θ_run (Cert.Gup.defs (F := Bits)) (onTc (τ := Cert.Gup.τ) (Cert.Gup.main (F := Bits))) ⟨m, fun _ => 0, g⟩ (fun r => (∀ c : Dev Cert.Gup.nD,
      r.2.mem ((c.tc : Thread Cert.Gup.nD Cert.Gup.τ).loc Cert.Gup.main_arg0) = m ((c.tc : Thread Cert.Gup.nD Cert.Gup.τ).loc Cert.Gup.main_arg0)
      ∧ r.2.mem ((c.tc : Thread Cert.Gup.nD Cert.Gup.τ).loc Cert.Gup.main_arg1) = m ((c.tc : Thread Cert.Gup.nD Cert.Gup.τ).loc Cert.Gup.main_arg1))
      ∧ r.2.sem = fun _ => 0)

def quiescent_GupIdeal [hGupIdeal : Cert.GupIdeal.Facts] : Prop :=
  ∀ (m : (ℓ : Loc Cert.GupIdeal.nD Cert.GupIdeal.τ Cert.GupIdeal.sig) → Buf (Elt Ideal) ℓ) (g : Dev Cert.GupIdeal.nD → PrngReg), Pre_GupIdeal m →
    θ_run (Cert.GupIdeal.defs (F := Ideal)) (onTc (τ := Cert.GupIdeal.τ) (Cert.GupIdeal.main (F := Ideal))) ⟨m, fun _ => 0, g⟩ (fun r => (∀ c : Dev Cert.GupIdeal.nD,
      r.2.mem ((c.tc : Thread Cert.GupIdeal.nD Cert.GupIdeal.τ).loc Cert.GupIdeal.main_arg0) = m ((c.tc : Thread Cert.GupIdeal.nD Cert.GupIdeal.τ).loc Cert.GupIdeal.main_arg0)
      ∧ r.2.mem ((c.tc : Thread Cert.GupIdeal.nD Cert.GupIdeal.τ).loc Cert.GupIdeal.main_arg1) = m ((c.tc : Thread Cert.GupIdeal.nD Cert.GupIdeal.τ).loc Cert.GupIdeal.main_arg1))
      ∧ r.2.sem = fun _ => 0)

def quiescent_GupRefIdeal [hGupRefIdeal : Cert.GupRefIdeal.Facts] : Prop :=
  ∀ (m : (ℓ : Loc Cert.GupRefIdeal.nD Cert.GupRefIdeal.τ Cert.GupRefIdeal.sig) → Buf (Elt Ideal) ℓ) (g : Dev Cert.GupRefIdeal.nD → PrngReg), Pre_GupRefIdeal m →
    θ_run (Cert.GupRefIdeal.defs (F := Ideal)) (onTc (τ := Cert.GupRefIdeal.τ) (Cert.GupRefIdeal.main (F := Ideal))) ⟨m, fun _ => 0, g⟩ (fun r => (∀ c : Dev Cert.GupRefIdeal.nD,
      r.2.mem ((c.tc : Thread Cert.GupRefIdeal.nD Cert.GupRefIdeal.τ).loc Cert.GupRefIdeal.main_arg0) = m ((c.tc : Thread Cert.GupRefIdeal.nD Cert.GupRefIdeal.τ).loc Cert.GupRefIdeal.main_arg0)
      ∧ r.2.mem ((c.tc : Thread Cert.GupRefIdeal.nD Cert.GupRefIdeal.τ).loc Cert.GupRefIdeal.main_arg1) = m ((c.tc : Thread Cert.GupRefIdeal.nD Cert.GupRefIdeal.τ).loc Cert.GupRefIdeal.main_arg1))
      ∧ r.2.sem = fun _ => 0)

def quiescent_Dnorm [hDnorm : Cert.Dnorm.Facts] : Prop :=
  ∀ (m : (ℓ : Loc Cert.Dnorm.nD Cert.Dnorm.τ Cert.Dnorm.sig) → Buf (Elt Bits) ℓ) (g : Dev Cert.Dnorm.nD → PrngReg), Pre_Dnorm m →
    θ_run (Cert.Dnorm.defs (F := Bits)) (onTc (τ := Cert.Dnorm.τ) (Cert.Dnorm.main (F := Bits))) ⟨m, fun _ => 0, g⟩ (fun r => (∀ c : Dev Cert.Dnorm.nD,
      r.2.mem ((c.tc : Thread Cert.Dnorm.nD Cert.Dnorm.τ).loc Cert.Dnorm.main_arg0) = m ((c.tc : Thread Cert.Dnorm.nD Cert.Dnorm.τ).loc Cert.Dnorm.main_arg0)
      ∧ r.2.mem ((c.tc : Thread Cert.Dnorm.nD Cert.Dnorm.τ).loc Cert.Dnorm.main_arg1) = m ((c.tc : Thread Cert.Dnorm.nD Cert.Dnorm.τ).loc Cert.Dnorm.main_arg1))
      ∧ r.2.sem = fun _ => 0)

def quiescent_DnormIdeal [hDnormIdeal : Cert.DnormIdeal.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1))
      ∧ r.2.sem = fun _ => 0)

def quiescent_DnormRefIdeal [hDnormRefIdeal : Cert.DnormRefIdeal.Facts] : Prop :=
  ∀ (m : (ℓ : Loc Cert.DnormRefIdeal.nD Cert.DnormRefIdeal.τ Cert.DnormRefIdeal.sig) → Buf (Elt Ideal) ℓ) (g : Dev Cert.DnormRefIdeal.nD → PrngReg), Pre_DnormRefIdeal m →
    θ_run (Cert.DnormRefIdeal.defs (F := Ideal)) (onTc (τ := Cert.DnormRefIdeal.τ) (Cert.DnormRefIdeal.main (F := Ideal))) ⟨m, fun _ => 0, g⟩ (fun r => (∀ c : Dev Cert.DnormRefIdeal.nD,
      r.2.mem ((c.tc : Thread Cert.DnormRefIdeal.nD Cert.DnormRefIdeal.τ).loc Cert.DnormRefIdeal.main_arg0) = m ((c.tc : Thread Cert.DnormRefIdeal.nD Cert.DnormRefIdeal.τ).loc Cert.DnormRefIdeal.main_arg0)
      ∧ r.2.mem ((c.tc : Thread Cert.DnormRefIdeal.nD Cert.DnormRefIdeal.τ).loc Cert.DnormRefIdeal.main_arg1) = m ((c.tc : Thread Cert.DnormRefIdeal.nD Cert.DnormRefIdeal.τ).loc Cert.DnormRefIdeal.main_arg1))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_MlaFwd [hMlaFwd : Cert.MlaFwd.Facts] : Prop :=
  ∀ (m : (ℓ : Loc Cert.MlaFwd.nD Cert.MlaFwd.τ Cert.MlaFwd.sig) → Buf (Elt Bits) ℓ) (g : Dev Cert.MlaFwd.nD → PrngReg), Pre_MlaFwd m →
    θ_run (Cert.MlaFwd.defs (F := Bits)) (onTc (τ := Cert.MlaFwd.τ) (Cert.MlaFwd.main (F := Bits))) ⟨m, fun _ => 0, g⟩ (fun r => (∀ c : Dev Cert.MlaFwd.nD,
      r.2.mem ((c.tc : Thread Cert.MlaFwd.nD Cert.MlaFwd.τ).loc Cert.MlaFwd.main_arg0) = m ((c.tc : Thread Cert.MlaFwd.nD Cert.MlaFwd.τ).loc Cert.MlaFwd.main_arg0)
      ∧ r.2.mem ((c.tc : Thread Cert.MlaFwd.nD Cert.MlaFwd.τ).loc Cert.MlaFwd.main_arg1) = m ((c.tc : Thread Cert.MlaFwd.nD Cert.MlaFwd.τ).loc Cert.MlaFwd.main_arg1)
      ∧ r.2.mem ((c.tc : Thread Cert.MlaFwd.nD Cert.MlaFwd.τ).loc Cert.MlaFwd.main_arg2) = m ((c.tc : Thread Cert.MlaFwd.nD Cert.MlaFwd.τ).loc Cert.MlaFwd.main_arg2))
      ∧ r.2.sem = fun _ => 0)

def quiescent_MlaFwdIdeal [hMlaFwdIdeal : Cert.MlaFwdIdeal.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ r.2.sem = fun _ => 0)

def quiescent_MlaFwdIdeal_pre_finite_mla_fwd [hMlaFwdIdeal : Cert.MlaFwdIdeal.Facts] [hPre_finite_mla_fwd : Cert.Pre_finite_mla_fwd.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg), Pre_MlaFwdIdeal_finite_mla_fwd m →
    θ_run (Cert.MlaFwdIdeal.defs (F := Ideal)) (onTc (τ := Cert.MlaFwdIdeal.τ) (Cert.MlaFwdIdeal.main (F := Ideal))) ⟨m, fun _ => 0, g⟩ (fun r => (∀ c : Dev Cert.MlaFwdIdeal.nD,
      r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
      ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
      ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ r.2.sem = fun _ => 0)

def quiescent_MlaFwdRefIdeal [hMlaFwdRefIdeal : Cert.MlaFwdRefIdeal.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2))
      ∧ r.2.sem = fun _ => 0)

def quiescent_MlaFwdRefIdeal_pre_finite_mla_fwd [hMlaFwdRefIdeal : Cert.MlaFwdRefIdeal.Facts] [hPre_finite_mla_fwd : Cert.Pre_finite_mla_fwd.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal_finite_mla_fwd m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Dattn [hDattn : Cert.Dattn.Facts] : Prop :=
  ∀ (m : (ℓ : Loc Cert.Dattn.nD Cert.Dattn.τ Cert.Dattn.sig) → Buf (Elt Bits) ℓ) (g : Dev Cert.Dattn.nD → PrngReg), Pre_Dattn m →
    θ_run (Cert.Dattn.defs (F := Bits)) (onTc (τ := Cert.Dattn.τ) (Cert.Dattn.main (F := Bits))) ⟨m, fun _ => 0, g⟩ (fun r => (∀ c : Dev Cert.Dattn.nD,
      r.2.mem ((c.tc : Thread Cert.Dattn.nD Cert.Dattn.τ).loc Cert.Dattn.main_arg0) = m ((c.tc : Thread Cert.Dattn.nD Cert.Dattn.τ).loc Cert.Dattn.main_arg0)
      ∧ r.2.mem ((c.tc : Thread Cert.Dattn.nD Cert.Dattn.τ).loc Cert.Dattn.main_arg1) = m ((c.tc : Thread Cert.Dattn.nD Cert.Dattn.τ).loc Cert.Dattn.main_arg1))
      ∧ r.2.sem = fun _ => 0)

def quiescent_DattnIdeal [hDattnIdeal : Cert.DattnIdeal.Facts] : Prop :=
  ∀ (m : (ℓ : Loc Cert.DattnIdeal.nD Cert.DattnIdeal.τ Cert.DattnIdeal.sig) → Buf (Elt Ideal) ℓ) (g : Dev Cert.DattnIdeal.nD → PrngReg), Pre_DattnIdeal m →
    θ_run (Cert.DattnIdeal.defs (F := Ideal)) (onTc (τ := Cert.DattnIdeal.τ) (Cert.DattnIdeal.main (F := Ideal))) ⟨m, fun _ => 0, g⟩ (fun r => (∀ c : Dev Cert.DattnIdeal.nD,
      r.2.mem ((c.tc : Thread Cert.DattnIdeal.nD Cert.DattnIdeal.τ).loc Cert.DattnIdeal.main_arg0) = m ((c.tc : Thread Cert.DattnIdeal.nD Cert.DattnIdeal.τ).loc Cert.DattnIdeal.main_arg0)
      ∧ r.2.mem ((c.tc : Thread Cert.DattnIdeal.nD Cert.DattnIdeal.τ).loc Cert.DattnIdeal.main_arg1) = m ((c.tc : Thread Cert.DattnIdeal.nD Cert.DattnIdeal.τ).loc Cert.DattnIdeal.main_arg1))
      ∧ r.2.sem = fun _ => 0)

def quiescent_DattnRefIdeal [hDattnRefIdeal : Cert.DattnRefIdeal.Facts] : Prop :=
  ∀ (m : (ℓ : Loc Cert.DattnRefIdeal.nD Cert.DattnRefIdeal.τ Cert.DattnRefIdeal.sig) → Buf (Elt Ideal) ℓ) (g : Dev Cert.DattnRefIdeal.nD → PrngReg), Pre_DattnRefIdeal m →
    θ_run (Cert.DattnRefIdeal.defs (F := Ideal)) (onTc (τ := Cert.DattnRefIdeal.τ) (Cert.DattnRefIdeal.main (F := Ideal))) ⟨m, fun _ => 0, g⟩ (fun r => (∀ c : Dev Cert.DattnRefIdeal.nD,
      r.2.mem ((c.tc : Thread Cert.DattnRefIdeal.nD Cert.DattnRefIdeal.τ).loc Cert.DattnRefIdeal.main_arg0) = m ((c.tc : Thread Cert.DattnRefIdeal.nD Cert.DattnRefIdeal.τ).loc Cert.DattnRefIdeal.main_arg0)
      ∧ r.2.mem ((c.tc : Thread Cert.DattnRefIdeal.nD Cert.DattnRefIdeal.τ).loc Cert.DattnRefIdeal.main_arg1) = m ((c.tc : Thread Cert.DattnRefIdeal.nD Cert.DattnRefIdeal.τ).loc Cert.DattnRefIdeal.main_arg1))
      ∧ r.2.sem = fun _ => 0)

def quiescent_Gout [hGout : Cert.Gout.Facts] : Prop :=
  ∀ (m : (ℓ : Loc Cert.Gout.nD Cert.Gout.τ Cert.Gout.sig) → Buf (Elt Bits) ℓ) (g : Dev Cert.Gout.nD → PrngReg), Pre_Gout m →
    θ_run (Cert.Gout.defs (F := Bits)) (onTc (τ := Cert.Gout.τ) (Cert.Gout.main (F := Bits))) ⟨m, fun _ => 0, g⟩ (fun r => (∀ c : Dev Cert.Gout.nD,
      r.2.mem ((c.tc : Thread Cert.Gout.nD Cert.Gout.τ).loc Cert.Gout.main_arg0) = m ((c.tc : Thread Cert.Gout.nD Cert.Gout.τ).loc Cert.Gout.main_arg0)
      ∧ r.2.mem ((c.tc : Thread Cert.Gout.nD Cert.Gout.τ).loc Cert.Gout.main_arg1) = m ((c.tc : Thread Cert.Gout.nD Cert.Gout.τ).loc Cert.Gout.main_arg1))
      ∧ r.2.sem = fun _ => 0)

def quiescent_GoutIdeal [hGoutIdeal : Cert.GoutIdeal.Facts] : Prop :=
  ∀ (m : (ℓ : Loc Cert.GoutIdeal.nD Cert.GoutIdeal.τ Cert.GoutIdeal.sig) → Buf (Elt Ideal) ℓ) (g : Dev Cert.GoutIdeal.nD → PrngReg), Pre_GoutIdeal m →
    θ_run (Cert.GoutIdeal.defs (F := Ideal)) (onTc (τ := Cert.GoutIdeal.τ) (Cert.GoutIdeal.main (F := Ideal))) ⟨m, fun _ => 0, g⟩ (fun r => (∀ c : Dev Cert.GoutIdeal.nD,
      r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
      ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ r.2.sem = fun _ => 0)

def quiescent_GoutRefIdeal [hGoutRefIdeal : Cert.GoutRefIdeal.Facts] : Prop :=
  ∀ (m : (ℓ : Loc Cert.GoutRefIdeal.nD Cert.GoutRefIdeal.τ Cert.GoutRefIdeal.sig) → Buf (Elt Ideal) ℓ) (g : Dev Cert.GoutRefIdeal.nD → PrngReg), Pre_GoutRefIdeal m →
    θ_run (Cert.GoutRefIdeal.defs (F := Ideal)) (onTc (τ := Cert.GoutRefIdeal.τ) (Cert.GoutRefIdeal.main (F := Ideal))) ⟨m, fun _ => 0, g⟩ (fun r => (∀ c : Dev Cert.GoutRefIdeal.nD,
      r.2.mem ((c.tc : Thread Cert.GoutRefIdeal.nD Cert.GoutRefIdeal.τ).loc Cert.GoutRefIdeal.main_arg0) = m ((c.tc : Thread Cert.GoutRefIdeal.nD Cert.GoutRefIdeal.τ).loc Cert.GoutRefIdeal.main_arg0)
      ∧ r.2.mem ((c.tc : Thread Cert.GoutRefIdeal.nD Cert.GoutRefIdeal.τ).loc Cert.GoutRefIdeal.main_arg1) = m ((c.tc : Thread Cert.GoutRefIdeal.nD Cert.GoutRefIdeal.τ).loc Cert.GoutRefIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0)

def quiescent_OddGin [hOddGin : Cert.OddGin.Facts] : Prop :=
  ∀ (m : (ℓ : Loc Cert.OddGin.nD Cert.OddGin.τ Cert.OddGin.sig) → Buf (Elt Bits) ℓ) (g : Dev Cert.OddGin.nD → PrngReg), Pre_OddGin m →
    θ_run (Cert.OddGin.defs (F := Bits)) (onTc (τ := Cert.OddGin.τ) (Cert.OddGin.main (F := Bits))) ⟨m, fun _ => 0, g⟩ (fun r => (∀ c : Dev Cert.OddGin.nD,
      r.2.mem ((c.tc : Thread Cert.OddGin.nD Cert.OddGin.τ).loc Cert.OddGin.main_arg0) = m ((c.tc : Thread Cert.OddGin.nD Cert.OddGin.τ).loc Cert.OddGin.main_arg0)
      ∧ r.2.mem ((c.tc : Thread Cert.OddGin.nD Cert.OddGin.τ).loc Cert.OddGin.main_arg1) = m ((c.tc : Thread Cert.OddGin.nD Cert.OddGin.τ).loc Cert.OddGin.main_arg1))
      ∧ r.2.sem = fun _ => 0)

def quiescent_OddGinIdeal [hOddGinIdeal : Cert.OddGinIdeal.Facts] : Prop :=
  ∀ (m : (ℓ : Loc Cert.OddGinIdeal.nD Cert.OddGinIdeal.τ Cert.OddGinIdeal.sig) → Buf (Elt Ideal) ℓ) (g : Dev Cert.OddGinIdeal.nD → PrngReg), Pre_OddGinIdeal m →
    θ_run (Cert.OddGinIdeal.defs (F := Ideal)) (onTc (τ := Cert.OddGinIdeal.τ) (Cert.OddGinIdeal.main (F := Ideal))) ⟨m, fun _ => 0, g⟩ (fun r => (∀ c : Dev Cert.OddGinIdeal.nD,
      r.2.mem ((c.tc : Thread Cert.OddGinIdeal.nD Cert.OddGinIdeal.τ).loc Cert.OddGinIdeal.main_arg0) = m ((c.tc : Thread Cert.OddGinIdeal.nD Cert.OddGinIdeal.τ).loc Cert.OddGinIdeal.main_arg0)
      ∧ r.2.mem ((c.tc : Thread Cert.OddGinIdeal.nD Cert.OddGinIdeal.τ).loc Cert.OddGinIdeal.main_arg1) = m ((c.tc : Thread Cert.OddGinIdeal.nD Cert.OddGinIdeal.τ).loc Cert.OddGinIdeal.main_arg1))
      ∧ r.2.sem = fun _ => 0)

def quiescent_OddGinRefIdeal [hOddGinRefIdeal : Cert.OddGinRefIdeal.Facts] : Prop :=
  ∀ (m : (ℓ : Loc Cert.OddGinRefIdeal.nD Cert.OddGinRefIdeal.τ Cert.OddGinRefIdeal.sig) → Buf (Elt Ideal) ℓ) (g : Dev Cert.OddGinRefIdeal.nD → PrngReg), Pre_OddGinRefIdeal m →
    θ_run (Cert.OddGinRefIdeal.defs (F := Ideal)) (onTc (τ := Cert.OddGinRefIdeal.τ) (Cert.OddGinRefIdeal.main (F := Ideal))) ⟨m, fun _ => 0, g⟩ (fun r => (∀ c : Dev Cert.OddGinRefIdeal.nD,
      r.2.mem ((c.tc : Thread Cert.OddGinRefIdeal.nD Cert.OddGinRefIdeal.τ).loc Cert.OddGinRefIdeal.main_arg0) = m ((c.tc : Thread Cert.OddGinRefIdeal.nD Cert.OddGinRefIdeal.τ).loc Cert.OddGinRefIdeal.main_arg0)
      ∧ r.2.mem ((c.tc : Thread Cert.OddGinRefIdeal.nD Cert.OddGinRefIdeal.τ).loc Cert.OddGinRefIdeal.main_arg1) = m ((c.tc : Thread Cert.OddGinRefIdeal.nD Cert.OddGinRefIdeal.τ).loc Cert.OddGinRefIdeal.main_arg1))
      ∧ r.2.sem = fun _ => 0)

def quiescent_OddDnorm [hOddDnorm : Cert.OddDnorm.Facts] : Prop :=
  ∀ (m : (ℓ : Loc Cert.OddDnorm.nD Cert.OddDnorm.τ Cert.OddDnorm.sig) → Buf (Elt Bits) ℓ) (g : Dev Cert.OddDnorm.nD → PrngReg), Pre_OddDnorm m →
    θ_run (Cert.OddDnorm.defs (F := Bits)) (onTc (τ := Cert.OddDnorm.τ) (Cert.OddDnorm.main (F := Bits))) ⟨m, fun _ => 0, g⟩ (fun r => (∀ c : Dev Cert.OddDnorm.nD,
      r.2.mem ((c.tc : Thread Cert.OddDnorm.nD Cert.OddDnorm.τ).loc Cert.OddDnorm.main_arg0) = m ((c.tc : Thread Cert.OddDnorm.nD Cert.OddDnorm.τ).loc Cert.OddDnorm.main_arg0)
      ∧ r.2.mem ((c.tc : Thread Cert.OddDnorm.nD Cert.OddDnorm.τ).loc Cert.OddDnorm.main_arg1) = m ((c.tc : Thread Cert.OddDnorm.nD Cert.OddDnorm.τ).loc Cert.OddDnorm.main_arg1))
      ∧ r.2.sem = fun _ => 0)

def quiescent_OddDnormIdeal [hOddDnormIdeal : Cert.OddDnormIdeal.Facts] : Prop :=
  ∀ (m : (ℓ : Loc Cert.OddDnormIdeal.nD Cert.OddDnormIdeal.τ Cert.OddDnormIdeal.sig) → Buf (Elt Ideal) ℓ) (g : Dev Cert.OddDnormIdeal.nD → PrngReg), Pre_OddDnormIdeal m →
    θ_run (Cert.OddDnormIdeal.defs (F := Ideal)) (onTc (τ := Cert.OddDnormIdeal.τ) (Cert.OddDnormIdeal.main (F := Ideal))) ⟨m, fun _ => 0, g⟩ (fun r => (∀ c : Dev Cert.OddDnormIdeal.nD,
      r.2.mem ((c.tc : Thread Cert.OddDnormIdeal.nD Cert.OddDnormIdeal.τ).loc Cert.OddDnormIdeal.main_arg0) = m ((c.tc : Thread Cert.OddDnormIdeal.nD Cert.OddDnormIdeal.τ).loc Cert.OddDnormIdeal.main_arg0)
      ∧ r.2.mem ((c.tc : Thread Cert.OddDnormIdeal.nD Cert.OddDnormIdeal.τ).loc Cert.OddDnormIdeal.main_arg1) = m ((c.tc : Thread Cert.OddDnormIdeal.nD Cert.OddDnormIdeal.τ).loc Cert.OddDnormIdeal.main_arg1))
      ∧ r.2.sem = fun _ => 0)

def quiescent_OddDnormRefIdeal [hOddDnormRefIdeal : Cert.OddDnormRefIdeal.Facts] : Prop :=
  ∀ (m : (ℓ : Loc Cert.OddDnormRefIdeal.nD Cert.OddDnormRefIdeal.τ Cert.OddDnormRefIdeal.sig) → Buf (Elt Ideal) ℓ) (g : Dev Cert.OddDnormRefIdeal.nD → PrngReg), Pre_OddDnormRefIdeal m →
    θ_run (Cert.OddDnormRefIdeal.defs (F := Ideal)) (onTc (τ := Cert.OddDnormRefIdeal.τ) (Cert.OddDnormRefIdeal.main (F := Ideal))) ⟨m, fun _ => 0, g⟩ (fun r => (∀ c : Dev Cert.OddDnormRefIdeal.nD,
      r.2.mem ((c.tc : Thread Cert.OddDnormRefIdeal.nD Cert.OddDnormRefIdeal.τ).loc Cert.OddDnormRefIdeal.main_arg0) = m ((c.tc : Thread Cert.OddDnormRefIdeal.nD Cert.OddDnormRefIdeal.τ).loc Cert.OddDnormRefIdeal.main_arg0)
      ∧ r.2.mem ((c.tc : Thread Cert.OddDnormRefIdeal.nD Cert.OddDnormRefIdeal.τ).loc Cert.OddDnormRefIdeal.main_arg1) = m ((c.tc : Thread Cert.OddDnormRefIdeal.nD Cert.OddDnormRefIdeal.τ).loc Cert.OddDnormRefIdeal.main_arg1))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0)

def quiescent_EvenGin [hEvenGin : Cert.EvenGin.Facts] : Prop :=
  ∀ (m : (ℓ : Loc Cert.EvenGin.nD Cert.EvenGin.τ Cert.EvenGin.sig) → Buf (Elt Bits) ℓ) (g : Dev Cert.EvenGin.nD → PrngReg), Pre_EvenGin m →
    θ_run (Cert.EvenGin.defs (F := Bits)) (onTc (τ := Cert.EvenGin.τ) (Cert.EvenGin.main (F := Bits))) ⟨m, fun _ => 0, g⟩ (fun r => (∀ c : Dev Cert.EvenGin.nD,
      r.2.mem ((c.tc : Thread Cert.EvenGin.nD Cert.EvenGin.τ).loc Cert.EvenGin.main_arg0) = m ((c.tc : Thread Cert.EvenGin.nD Cert.EvenGin.τ).loc Cert.EvenGin.main_arg0)
      ∧ r.2.mem ((c.tc : Thread Cert.EvenGin.nD Cert.EvenGin.τ).loc Cert.EvenGin.main_arg1) = m ((c.tc : Thread Cert.EvenGin.nD Cert.EvenGin.τ).loc Cert.EvenGin.main_arg1))
      ∧ r.2.sem = fun _ => 0)

def quiescent_EvenGinIdeal [hEvenGinIdeal : Cert.EvenGinIdeal.Facts] : Prop :=
  ∀ (m : (ℓ : Loc Cert.EvenGinIdeal.nD Cert.EvenGinIdeal.τ Cert.EvenGinIdeal.sig) → Buf (Elt Ideal) ℓ) (g : Dev Cert.EvenGinIdeal.nD → PrngReg), Pre_EvenGinIdeal m →
    θ_run (Cert.EvenGinIdeal.defs (F := Ideal)) (onTc (τ := Cert.EvenGinIdeal.τ) (Cert.EvenGinIdeal.main (F := Ideal))) ⟨m, fun _ => 0, g⟩ (fun r => (∀ c : Dev Cert.EvenGinIdeal.nD,
      r.2.mem ((c.tc : Thread Cert.EvenGinIdeal.nD Cert.EvenGinIdeal.τ).loc Cert.EvenGinIdeal.main_arg0) = m ((c.tc : Thread Cert.EvenGinIdeal.nD Cert.EvenGinIdeal.τ).loc Cert.EvenGinIdeal.main_arg0)
      ∧ r.2.mem ((c.tc : Thread Cert.EvenGinIdeal.nD Cert.EvenGinIdeal.τ).loc Cert.EvenGinIdeal.main_arg1) = m ((c.tc : Thread Cert.EvenGinIdeal.nD Cert.EvenGinIdeal.τ).loc Cert.EvenGinIdeal.main_arg1))
      ∧ r.2.sem = fun _ => 0)

def quiescent_EvenGinRefIdeal [hEvenGinRefIdeal : Cert.EvenGinRefIdeal.Facts] : Prop :=
  ∀ (m : (ℓ : Loc Cert.EvenGinRefIdeal.nD Cert.EvenGinRefIdeal.τ Cert.EvenGinRefIdeal.sig) → Buf (Elt Ideal) ℓ) (g : Dev Cert.EvenGinRefIdeal.nD → PrngReg), Pre_EvenGinRefIdeal m →
    θ_run (Cert.EvenGinRefIdeal.defs (F := Ideal)) (onTc (τ := Cert.EvenGinRefIdeal.τ) (Cert.EvenGinRefIdeal.main (F := Ideal))) ⟨m, fun _ => 0, g⟩ (fun r => (∀ c : Dev Cert.EvenGinRefIdeal.nD,
      r.2.mem ((c.tc : Thread Cert.EvenGinRefIdeal.nD Cert.EvenGinRefIdeal.τ).loc Cert.EvenGinRefIdeal.main_arg0) = m ((c.tc : Thread Cert.EvenGinRefIdeal.nD Cert.EvenGinRefIdeal.τ).loc Cert.EvenGinRefIdeal.main_arg0)
      ∧ r.2.mem ((c.tc : Thread Cert.EvenGinRefIdeal.nD Cert.EvenGinRefIdeal.τ).loc Cert.EvenGinRefIdeal.main_arg1) = m ((c.tc : Thread Cert.EvenGinRefIdeal.nD Cert.EvenGinRefIdeal.τ).loc Cert.EvenGinRefIdeal.main_arg1))
      ∧ r.2.sem = fun _ => 0)

def quiescent_EvenDnorm [hEvenDnorm : Cert.EvenDnorm.Facts] : Prop :=
  ∀ (m : (ℓ : Loc Cert.EvenDnorm.nD Cert.EvenDnorm.τ Cert.EvenDnorm.sig) → Buf (Elt Bits) ℓ) (g : Dev Cert.EvenDnorm.nD → PrngReg), Pre_EvenDnorm m →
    θ_run (Cert.EvenDnorm.defs (F := Bits)) (onTc (τ := Cert.EvenDnorm.τ) (Cert.EvenDnorm.main (F := Bits))) ⟨m, fun _ => 0, g⟩ (fun r => (∀ c : Dev Cert.EvenDnorm.nD,
      r.2.mem ((c.tc : Thread Cert.EvenDnorm.nD Cert.EvenDnorm.τ).loc Cert.EvenDnorm.main_arg0) = m ((c.tc : Thread Cert.EvenDnorm.nD Cert.EvenDnorm.τ).loc Cert.EvenDnorm.main_arg0)
      ∧ r.2.mem ((c.tc : Thread Cert.EvenDnorm.nD Cert.EvenDnorm.τ).loc Cert.EvenDnorm.main_arg1) = m ((c.tc : Thread Cert.EvenDnorm.nD Cert.EvenDnorm.τ).loc Cert.EvenDnorm.main_arg1))
      ∧ r.2.sem = fun _ => 0)

def quiescent_EvenDnormIdeal [hEvenDnormIdeal : Cert.EvenDnormIdeal.Facts] : Prop :=
  ∀ (m : (ℓ : Loc Cert.EvenDnormIdeal.nD Cert.EvenDnormIdeal.τ Cert.EvenDnormIdeal.sig) → Buf (Elt Ideal) ℓ) (g : Dev Cert.EvenDnormIdeal.nD → PrngReg), Pre_EvenDnormIdeal m →
    θ_run (Cert.EvenDnormIdeal.defs (F := Ideal)) (onTc (τ := Cert.EvenDnormIdeal.τ) (Cert.EvenDnormIdeal.main (F := Ideal))) ⟨m, fun _ => 0, g⟩ (fun r => (∀ c : Dev Cert.EvenDnormIdeal.nD,
      r.2.mem ((c.tc : Thread Cert.EvenDnormIdeal.nD Cert.EvenDnormIdeal.τ).loc Cert.EvenDnormIdeal.main_arg0) = m ((c.tc : Thread Cert.EvenDnormIdeal.nD Cert.EvenDnormIdeal.τ).loc Cert.EvenDnormIdeal.main_arg0)
      ∧ r.2.mem ((c.tc : Thread Cert.EvenDnormIdeal.nD Cert.EvenDnormIdeal.τ).loc Cert.EvenDnormIdeal.main_arg1) = m ((c.tc : Thread Cert.EvenDnormIdeal.nD Cert.EvenDnormIdeal.τ).loc Cert.EvenDnormIdeal.main_arg1))
      ∧ r.2.sem = fun _ => 0)

def quiescent_EvenDnormRefIdeal [hEvenDnormRefIdeal : Cert.EvenDnormRefIdeal.Facts] : Prop :=
  ∀ (m : (ℓ : Loc Cert.EvenDnormRefIdeal.nD Cert.EvenDnormRefIdeal.τ Cert.EvenDnormRefIdeal.sig) → Buf (Elt Ideal) ℓ) (g : Dev Cert.EvenDnormRefIdeal.nD → PrngReg), Pre_EvenDnormRefIdeal m →
    θ_run (Cert.EvenDnormRefIdeal.defs (F := Ideal)) (onTc (τ := Cert.EvenDnormRefIdeal.τ) (Cert.EvenDnormRefIdeal.main (F := Ideal))) ⟨m, fun _ => 0, g⟩ (fun r => (∀ c : Dev Cert.EvenDnormRefIdeal.nD,
      r.2.mem ((c.tc : Thread Cert.EvenDnormRefIdeal.nD Cert.EvenDnormRefIdeal.τ).loc Cert.EvenDnormRefIdeal.main_arg0) = m ((c.tc : Thread Cert.EvenDnormRefIdeal.nD Cert.EvenDnormRefIdeal.τ).loc Cert.EvenDnormRefIdeal.main_arg0)
      ∧ r.2.mem ((c.tc : Thread Cert.EvenDnormRefIdeal.nD Cert.EvenDnormRefIdeal.τ).loc Cert.EvenDnormRefIdeal.main_arg1) = m ((c.tc : Thread Cert.EvenDnormRefIdeal.nD Cert.EvenDnormRefIdeal.τ).loc Cert.EvenDnormRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v5)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v5) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v14) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_Gdown_GdownIdeal : Prop :=
  True

def algebraic_GdownIdeal_GdownRefIdeal [hGdownIdeal : Cert.GdownIdeal.Facts] [hGdownRefIdeal : Cert.GdownRefIdeal.Facts] : Prop :=
  ∀ (m : (ℓ : Loc Cert.GdownIdeal.nD Cert.GdownIdeal.τ Cert.GdownIdeal.sig) → Buf (Elt Ideal) ℓ) (g : Dev Cert.GdownIdeal.nD → PrngReg)
    (m' : (ℓ : Loc Cert.GdownRefIdeal.nD Cert.GdownRefIdeal.τ Cert.GdownRefIdeal.sig) → Buf (Elt Ideal) ℓ) (g' : Dev Cert.GdownRefIdeal.nD → PrngReg), Pre_GdownIdeal m →
    (∀ c : Dev Cert.GdownIdeal.nD,
      m' ((c.tc : Thread Cert.GdownRefIdeal.nD Cert.GdownRefIdeal.τ).loc Cert.GdownRefIdeal.main_arg0) = m ((c.tc : Thread Cert.GdownIdeal.nD Cert.GdownIdeal.τ).loc Cert.GdownIdeal.main_arg0)
      ∧ m' ((c.tc : Thread Cert.GdownRefIdeal.nD Cert.GdownRefIdeal.τ).loc Cert.GdownRefIdeal.main_arg1) = m ((c.tc : Thread Cert.GdownIdeal.nD Cert.GdownIdeal.τ).loc Cert.GdownIdeal.main_arg1)
      ∧ m' ((c.tc : Thread Cert.GdownRefIdeal.nD Cert.GdownRefIdeal.τ).loc Cert.GdownRefIdeal.main_arg2) = m ((c.tc : Thread Cert.GdownIdeal.nD Cert.GdownIdeal.τ).loc Cert.GdownIdeal.main_arg2)) →
    ∃ (v0 : (c : Dev Cert.GdownIdeal.nD) → Buf (Elt Ideal) ((c.tc : Thread Cert.GdownIdeal.nD Cert.GdownIdeal.τ).loc Cert.GdownIdeal.main_v5)),
      θ_run (Cert.GdownIdeal.defs (F := Ideal)) (onTc (τ := Cert.GdownIdeal.τ) (Cert.GdownIdeal.main (F := Ideal))) ⟨m, fun _ => 0, g⟩ (fun r => ∀ c : Dev Cert.GdownIdeal.nD,
          r.2.mem ((c.tc : Thread Cert.GdownIdeal.nD Cert.GdownIdeal.τ).loc Cert.GdownIdeal.main_v5) = v0 c
          ∧ r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
          ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1)
          ∧ r.2.mem ((c.tc : Thread Cert.GdownIdeal.nD Cert.GdownIdeal.τ).loc Cert.GdownIdeal.main_arg2) = m ((c.tc : Thread Cert.GdownIdeal.nD Cert.GdownIdeal.τ).loc Cert.GdownIdeal.main_arg2))
      ∧ θ_run (Cert.GdownRefIdeal.defs (F := Ideal)) (onTc (τ := Cert.GdownRefIdeal.τ) (Cert.GdownRefIdeal.main (F := Ideal))) ⟨m', fun _ => 0, g'⟩ (fun r => ∀ c : Dev Cert.GdownRefIdeal.nD,
          r.2.mem ((c.tc : Thread Cert.GdownRefIdeal.nD Cert.GdownRefIdeal.τ).loc Cert.GdownRefIdeal.main_v8) = v0 c
          ∧ r.2.mem ((c.tc : Thread Cert.GdownRefIdeal.nD Cert.GdownRefIdeal.τ).loc Cert.GdownRefIdeal.main_arg0) = m' ((c.tc : Thread Cert.GdownRefIdeal.nD Cert.GdownRefIdeal.τ).loc Cert.GdownRefIdeal.main_arg0)
          ∧ r.2.mem ((c.tc : Thread Cert.GdownRefIdeal.nD Cert.GdownRefIdeal.τ).loc Cert.GdownRefIdeal.main_arg1) = m' ((c.tc : Thread Cert.GdownRefIdeal.nD Cert.GdownRefIdeal.τ).loc Cert.GdownRefIdeal.main_arg1)
          ∧ r.2.mem ((c.tc : Thread Cert.GdownRefIdeal.nD Cert.GdownRefIdeal.τ).loc Cert.GdownRefIdeal.main_arg2) = m' ((c.tc : Thread Cert.GdownRefIdeal.nD Cert.GdownRefIdeal.τ).loc Cert.GdownRefIdeal.main_arg2))

def preserves_Gup_GupIdeal : Prop :=
  True

def algebraic_GupIdeal_GupRefIdeal [hGupIdeal : Cert.GupIdeal.Facts] [hGupRefIdeal : Cert.GupRefIdeal.Facts] : Prop :=
  ∀ (m : (ℓ : Loc Cert.GupIdeal.nD Cert.GupIdeal.τ Cert.GupIdeal.sig) → Buf (Elt Ideal) ℓ) (g : Dev Cert.GupIdeal.nD → PrngReg)
    (m' : (ℓ : Loc Cert.GupRefIdeal.nD Cert.GupRefIdeal.τ Cert.GupRefIdeal.sig) → Buf (Elt Ideal) ℓ) (g' : Dev Cert.GupRefIdeal.nD → PrngReg), Pre_GupIdeal m →
    (∀ c : Dev Cert.GupIdeal.nD,
      m' ((c.tc : Thread Cert.GupRefIdeal.nD Cert.GupRefIdeal.τ).loc Cert.GupRefIdeal.main_arg0) = m ((c.tc : Thread Cert.GupIdeal.nD Cert.GupIdeal.τ).loc Cert.GupIdeal.main_arg0)
      ∧ m' ((c.tc : Thread Cert.GupRefIdeal.nD Cert.GupRefIdeal.τ).loc Cert.GupRefIdeal.main_arg1) = m ((c.tc : Thread Cert.GupIdeal.nD Cert.GupIdeal.τ).loc Cert.GupIdeal.main_arg1)) →
    ∃ (v0 : (c : Dev Cert.GupIdeal.nD) → Buf (Elt Ideal) ((c.tc : Thread Cert.GupIdeal.nD Cert.GupIdeal.τ).loc Cert.GupIdeal.main_v0)),
      θ_run (Cert.GupIdeal.defs (F := Ideal)) (onTc (τ := Cert.GupIdeal.τ) (Cert.GupIdeal.main (F := Ideal))) ⟨m, fun _ => 0, g⟩ (fun r => ∀ c : Dev Cert.GupIdeal.nD,
          r.2.mem ((c.tc : Thread Cert.GupIdeal.nD Cert.GupIdeal.τ).loc Cert.GupIdeal.main_v0) = v0 c
          ∧ r.2.mem ((c.tc : Thread Cert.GupIdeal.nD Cert.GupIdeal.τ).loc Cert.GupIdeal.main_arg0) = m ((c.tc : Thread Cert.GupIdeal.nD Cert.GupIdeal.τ).loc Cert.GupIdeal.main_arg0)
          ∧ r.2.mem ((c.tc : Thread Cert.GupIdeal.nD Cert.GupIdeal.τ).loc Cert.GupIdeal.main_arg1) = m ((c.tc : Thread Cert.GupIdeal.nD Cert.GupIdeal.τ).loc Cert.GupIdeal.main_arg1))
      ∧ θ_run (Cert.GupRefIdeal.defs (F := Ideal)) (onTc (τ := Cert.GupRefIdeal.τ) (Cert.GupRefIdeal.main (F := Ideal))) ⟨m', fun _ => 0, g'⟩ (fun r => ∀ c : Dev Cert.GupRefIdeal.nD,
          r.2.mem ((c.tc : Thread Cert.GupRefIdeal.nD Cert.GupRefIdeal.τ).loc Cert.GupRefIdeal.main_v7) = v0 c
          ∧ r.2.mem ((c.tc : Thread Cert.GupRefIdeal.nD Cert.GupRefIdeal.τ).loc Cert.GupRefIdeal.main_arg0) = m' ((c.tc : Thread Cert.GupRefIdeal.nD Cert.GupRefIdeal.τ).loc Cert.GupRefIdeal.main_arg0)
          ∧ r.2.mem ((c.tc : Thread Cert.GupRefIdeal.nD Cert.GupRefIdeal.τ).loc Cert.GupRefIdeal.main_arg1) = m' ((c.tc : Thread Cert.GupRefIdeal.nD Cert.GupRefIdeal.τ).loc Cert.GupRefIdeal.main_arg1))

def preserves_Dnorm_DnormIdeal : Prop :=
  True

def algebraic_DnormIdeal_DnormRefIdeal [hDnormIdeal : Cert.DnormIdeal.Facts] [hDnormRefIdeal : Cert.DnormRefIdeal.Facts] : Prop :=
  ∀ (m : (ℓ : Loc Cert.DnormIdeal.nD Cert.DnormIdeal.τ Cert.DnormIdeal.sig) → Buf (Elt Ideal) ℓ) (g : Dev Cert.DnormIdeal.nD → PrngReg)
    (m' : (ℓ : Loc Cert.DnormRefIdeal.nD Cert.DnormRefIdeal.τ Cert.DnormRefIdeal.sig) → Buf (Elt Ideal) ℓ) (g' : Dev Cert.DnormRefIdeal.nD → PrngReg), Pre_DnormIdeal m →
    (∀ c : Dev Cert.DnormIdeal.nD,
      m' ((c.tc : Thread Cert.DnormRefIdeal.nD Cert.DnormRefIdeal.τ).loc Cert.DnormRefIdeal.main_arg0) = m ((c.tc : Thread Cert.DnormIdeal.nD Cert.DnormIdeal.τ).loc Cert.DnormIdeal.main_arg0)
      ∧ m' ((c.tc : Thread Cert.DnormRefIdeal.nD Cert.DnormRefIdeal.τ).loc Cert.DnormRefIdeal.main_arg1) = m ((c.tc : Thread Cert.DnormIdeal.nD Cert.DnormIdeal.τ).loc Cert.DnormIdeal.main_arg1)) →
    ∃ (v0 : (c : Dev Cert.DnormIdeal.nD) → Buf (Elt Ideal) ((c.tc : Thread Cert.DnormIdeal.nD Cert.DnormIdeal.τ).loc Cert.DnormIdeal.main_v2)),
      θ_run (Cert.DnormIdeal.defs (F := Ideal)) (onTc (τ := Cert.DnormIdeal.τ) (Cert.DnormIdeal.main (F := Ideal))) ⟨m, fun _ => 0, g⟩ (fun r => ∀ c : Dev Cert.DnormIdeal.nD,
          r.2.mem ((c.tc : Thread Cert.DnormIdeal.nD Cert.DnormIdeal.τ).loc Cert.DnormIdeal.main_v2) = v0 c
          ∧ r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
          ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1))
      ∧ θ_run (Cert.DnormRefIdeal.defs (F := Ideal)) (onTc (τ := Cert.DnormRefIdeal.τ) (Cert.DnormRefIdeal.main (F := Ideal))) ⟨m', fun _ => 0, g'⟩ (fun r => ∀ c : Dev Cert.DnormRefIdeal.nD,
          r.2.mem ((c.tc : Thread Cert.DnormRefIdeal.nD Cert.DnormRefIdeal.τ).loc Cert.DnormRefIdeal.main_v3) = v0 c
          ∧ r.2.mem ((c.tc : Thread Cert.DnormRefIdeal.nD Cert.DnormRefIdeal.τ).loc Cert.DnormRefIdeal.main_arg0) = m' ((c.tc : Thread Cert.DnormRefIdeal.nD Cert.DnormRefIdeal.τ).loc Cert.DnormRefIdeal.main_arg0)
          ∧ r.2.mem ((c.tc : Thread Cert.DnormRefIdeal.nD Cert.DnormRefIdeal.τ).loc Cert.DnormRefIdeal.main_arg1) = m' ((c.tc : Thread Cert.DnormRefIdeal.nD Cert.DnormRefIdeal.τ).loc Cert.DnormRefIdeal.main_arg1))

def preserves_Mla_MlaIdeal : Prop :=
  True

def algebraic_MlaIdeal_MlaRefIdeal_pre_finite_mla [hMlaIdeal : Cert.MlaIdeal.Facts] [hMlaRefIdeal : Cert.MlaRefIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)) →
    ∃ (v0 : (c : Dev Cert.MlaIdeal.nD) → Buf (Elt Ideal) ((c.tc : Thread Cert.MlaIdeal.nD Cert.MlaIdeal.τ).loc Cert.MlaIdeal.main_v27_0)) (v1 : (c : Dev Cert.MlaIdeal.nD) → Buf (Elt Ideal) ((c.tc : Thread Cert.MlaIdeal.nD Cert.MlaIdeal.τ).loc Cert.MlaIdeal.main_v27_1)) (v2 : (c : Dev Cert.MlaIdeal.nD) → Buf (Elt Ideal) ((c.tc : Thread Cert.MlaIdeal.nD Cert.MlaIdeal.τ).loc Cert.MlaIdeal.main_v27_2)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v27_0) = v0 c
          ∧ r.2.mem ((c.tc : Thread Cert.MlaIdeal.nD Cert.MlaIdeal.τ).loc Cert.MlaIdeal.main_v27_1) = v1 c
          ∧ r.2.mem ((c.tc : Thread Cert.MlaIdeal.nD Cert.MlaIdeal.τ).loc Cert.MlaIdeal.main_v27_2) = v2 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v53) = v0 c
          ∧ r.2.mem ((c.tc : Thread Cert.MlaRefIdeal.nD Cert.MlaRefIdeal.τ).loc Cert.MlaRefIdeal.main_v52) = v1 c
          ∧ r.2.mem ((c.tc : Thread Cert.MlaRefIdeal.nD Cert.MlaRefIdeal.τ).loc Cert.MlaRefIdeal.main_v38) = v2 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2_0)) (v1 : (c : Dev Cert.UpIdeal.nD) → Buf (Elt Ideal) ((c.tc : Thread Cert.UpIdeal.nD Cert.UpIdeal.τ).loc Cert.UpIdeal.main_v2_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2_0) = v0 c
          ∧ r.2.mem ((c.tc : Thread Cert.UpIdeal.nD Cert.UpIdeal.τ).loc Cert.UpIdeal.main_v2_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_v5) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Fwd_FwdIdeal : Prop :=
  True

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v22) = v0 c
          ∧ r.2.mem ((c.tc : Thread Cert.FwdRefIdeal.nD Cert.FwdRefIdeal.τ).loc Cert.FwdRefIdeal.main_v27) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_MlaFwd_MlaFwdIdeal : Prop :=
  True

def algebraic_MlaFwdIdeal_MlaFwdRefIdeal_pre_finite_mla_fwd [hMlaFwdIdeal : Cert.MlaFwdIdeal.Facts] [hMlaFwdRefIdeal : Cert.MlaFwdRefIdeal.Facts] [hPre_finite_mla_fwd : Cert.Pre_finite_mla_fwd.Facts] : Prop :=
  ∀ (m : (ℓ : Loc Cert.MlaFwdIdeal.nD Cert.MlaFwdIdeal.τ Cert.MlaFwdIdeal.sig) → Buf (Elt Ideal) ℓ) (g : Dev Cert.MlaFwdIdeal.nD → PrngReg)
    (m' : (ℓ : Loc Cert.MlaFwdRefIdeal.nD Cert.MlaFwdRefIdeal.τ Cert.MlaFwdRefIdeal.sig) → Buf (Elt Ideal) ℓ) (g' : Dev Cert.MlaFwdRefIdeal.nD → PrngReg), Pre_MlaFwdIdeal_finite_mla_fwd m →
    (∀ c : Dev Cert.MlaFwdIdeal.nD,
      m' ((c.tc : Thread Cert.MlaFwdRefIdeal.nD Cert.MlaFwdRefIdeal.τ).loc Cert.MlaFwdRefIdeal.main_arg0) = m ((c.tc : Thread Cert.MlaFwdIdeal.nD Cert.MlaFwdIdeal.τ).loc Cert.MlaFwdIdeal.main_arg0)
      ∧ m' ((c.tc : Thread Cert.MlaFwdRefIdeal.nD Cert.MlaFwdRefIdeal.τ).loc Cert.MlaFwdRefIdeal.main_arg1) = m ((c.tc : Thread Cert.MlaFwdIdeal.nD Cert.MlaFwdIdeal.τ).loc Cert.MlaFwdIdeal.main_arg1)
      ∧ m' ((c.tc : Thread Cert.MlaFwdRefIdeal.nD Cert.MlaFwdRefIdeal.τ).loc Cert.MlaFwdRefIdeal.main_arg2) = m ((c.tc : Thread Cert.MlaFwdIdeal.nD Cert.MlaFwdIdeal.τ).loc Cert.MlaFwdIdeal.main_arg2)) →
    ∃ (v0 : (c : Dev Cert.MlaFwdIdeal.nD) → Buf (Elt Ideal) ((c.tc : Thread Cert.MlaFwdIdeal.nD Cert.MlaFwdIdeal.τ).loc Cert.MlaFwdIdeal.main_v0_0)) (v1 : (c : Dev Cert.MlaFwdIdeal.nD) → Buf (Elt Ideal) ((c.tc : Thread Cert.MlaFwdIdeal.nD Cert.MlaFwdIdeal.τ).loc Cert.MlaFwdIdeal.main_v0_1)),
      θ_run (Cert.MlaFwdIdeal.defs (F := Ideal)) (onTc (τ := Cert.MlaFwdIdeal.τ) (Cert.MlaFwdIdeal.main (F := Ideal))) ⟨m, fun _ => 0, g⟩ (fun r => ∀ c : Dev Cert.MlaFwdIdeal.nD,
          r.2.mem ((c.tc : Thread Cert.MlaFwdIdeal.nD Cert.MlaFwdIdeal.τ).loc Cert.MlaFwdIdeal.main_v0_0) = v0 c
          ∧ r.2.mem ((c.tc : Thread Cert.MlaFwdIdeal.nD Cert.MlaFwdIdeal.τ).loc Cert.MlaFwdIdeal.main_v0_1) = v1 c
          ∧ r.2.mem ((c.tc : Thread Cert.MlaFwdIdeal.nD Cert.MlaFwdIdeal.τ).loc Cert.MlaFwdIdeal.main_arg0) = m ((c.tc : Thread Cert.MlaFwdIdeal.nD Cert.MlaFwdIdeal.τ).loc Cert.MlaFwdIdeal.main_arg0)
          ∧ r.2.mem ((c.tc : Thread Cert.MlaFwdIdeal.nD Cert.MlaFwdIdeal.τ).loc Cert.MlaFwdIdeal.main_arg1) = m ((c.tc : Thread Cert.MlaFwdIdeal.nD Cert.MlaFwdIdeal.τ).loc Cert.MlaFwdIdeal.main_arg1)
          ∧ r.2.mem ((c.tc : Thread Cert.MlaFwdIdeal.nD Cert.MlaFwdIdeal.τ).loc Cert.MlaFwdIdeal.main_arg2) = m ((c.tc : Thread Cert.MlaFwdIdeal.nD Cert.MlaFwdIdeal.τ).loc Cert.MlaFwdIdeal.main_arg2))
      ∧ θ_run (Cert.MlaFwdRefIdeal.defs (F := Ideal)) (onTc (τ := Cert.MlaFwdRefIdeal.τ) (Cert.MlaFwdRefIdeal.main (F := Ideal))) ⟨m', fun _ => 0, g'⟩ (fun r => ∀ c : Dev Cert.MlaFwdRefIdeal.nD,
          r.2.mem ((c.tc : Thread Cert.MlaFwdRefIdeal.nD Cert.MlaFwdRefIdeal.τ).loc Cert.MlaFwdRefIdeal.main_v18) = v0 c
          ∧ r.2.mem ((c.tc : Thread Cert.MlaFwdRefIdeal.nD Cert.MlaFwdRefIdeal.τ).loc Cert.MlaFwdRefIdeal.main_v23) = v1 c
          ∧ r.2.mem ((c.tc : Thread Cert.MlaFwdRefIdeal.nD Cert.MlaFwdRefIdeal.τ).loc Cert.MlaFwdRefIdeal.main_arg0) = m' ((c.tc : Thread Cert.MlaFwdRefIdeal.nD Cert.MlaFwdRefIdeal.τ).loc Cert.MlaFwdRefIdeal.main_arg0)
          ∧ r.2.mem ((c.tc : Thread Cert.MlaFwdRefIdeal.nD Cert.MlaFwdRefIdeal.τ).loc Cert.MlaFwdRefIdeal.main_arg1) = m' ((c.tc : Thread Cert.MlaFwdRefIdeal.nD Cert.MlaFwdRefIdeal.τ).loc Cert.MlaFwdRefIdeal.main_arg1)
          ∧ r.2.mem ((c.tc : Thread Cert.MlaFwdRefIdeal.nD Cert.MlaFwdRefIdeal.τ).loc Cert.MlaFwdRefIdeal.main_arg2) = m' ((c.tc : Thread Cert.MlaFwdRefIdeal.nD Cert.MlaFwdRefIdeal.τ).loc Cert.MlaFwdRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Dattn_DattnIdeal : Prop :=
  True

def algebraic_DattnIdeal_DattnRefIdeal [hDattnIdeal : Cert.DattnIdeal.Facts] [hDattnRefIdeal : Cert.DattnRefIdeal.Facts] : Prop :=
  ∀ (m : (ℓ : Loc Cert.DattnIdeal.nD Cert.DattnIdeal.τ Cert.DattnIdeal.sig) → Buf (Elt Ideal) ℓ) (g : Dev Cert.DattnIdeal.nD → PrngReg)
    (m' : (ℓ : Loc Cert.DattnRefIdeal.nD Cert.DattnRefIdeal.τ Cert.DattnRefIdeal.sig) → Buf (Elt Ideal) ℓ) (g' : Dev Cert.DattnRefIdeal.nD → PrngReg), Pre_DattnIdeal m →
    (∀ c : Dev Cert.DattnIdeal.nD,
      m' ((c.tc : Thread Cert.DattnRefIdeal.nD Cert.DattnRefIdeal.τ).loc Cert.DattnRefIdeal.main_arg0) = m ((c.tc : Thread Cert.DattnIdeal.nD Cert.DattnIdeal.τ).loc Cert.DattnIdeal.main_arg0)
      ∧ m' ((c.tc : Thread Cert.DattnRefIdeal.nD Cert.DattnRefIdeal.τ).loc Cert.DattnRefIdeal.main_arg1) = m ((c.tc : Thread Cert.DattnIdeal.nD Cert.DattnIdeal.τ).loc Cert.DattnIdeal.main_arg1)) →
    ∃ (v0 : (c : Dev Cert.DattnIdeal.nD) → Buf (Elt Ideal) ((c.tc : Thread Cert.DattnIdeal.nD Cert.DattnIdeal.τ).loc Cert.DattnIdeal.main_v1)),
      θ_run (Cert.DattnIdeal.defs (F := Ideal)) (onTc (τ := Cert.DattnIdeal.τ) (Cert.DattnIdeal.main (F := Ideal))) ⟨m, fun _ => 0, g⟩ (fun r => ∀ c : Dev Cert.DattnIdeal.nD,
          r.2.mem ((c.tc : Thread Cert.DattnIdeal.nD Cert.DattnIdeal.τ).loc Cert.DattnIdeal.main_v1) = v0 c
          ∧ r.2.mem ((c.tc : Thread Cert.DattnIdeal.nD Cert.DattnIdeal.τ).loc Cert.DattnIdeal.main_arg0) = m ((c.tc : Thread Cert.DattnIdeal.nD Cert.DattnIdeal.τ).loc Cert.DattnIdeal.main_arg0)
          ∧ r.2.mem ((c.tc : Thread Cert.DattnIdeal.nD Cert.DattnIdeal.τ).loc Cert.DattnIdeal.main_arg1) = m ((c.tc : Thread Cert.DattnIdeal.nD Cert.DattnIdeal.τ).loc Cert.DattnIdeal.main_arg1))
      ∧ θ_run (Cert.DattnRefIdeal.defs (F := Ideal)) (onTc (τ := Cert.DattnRefIdeal.τ) (Cert.DattnRefIdeal.main (F := Ideal))) ⟨m', fun _ => 0, g'⟩ (fun r => ∀ c : Dev Cert.DattnRefIdeal.nD,
          r.2.mem ((c.tc : Thread Cert.DattnRefIdeal.nD Cert.DattnRefIdeal.τ).loc Cert.DattnRefIdeal.main_v3) = v0 c
          ∧ r.2.mem ((c.tc : Thread Cert.DattnRefIdeal.nD Cert.DattnRefIdeal.τ).loc Cert.DattnRefIdeal.main_arg0) = m' ((c.tc : Thread Cert.DattnRefIdeal.nD Cert.DattnRefIdeal.τ).loc Cert.DattnRefIdeal.main_arg0)
          ∧ r.2.mem ((c.tc : Thread Cert.DattnRefIdeal.nD Cert.DattnRefIdeal.τ).loc Cert.DattnRefIdeal.main_arg1) = m' ((c.tc : Thread Cert.DattnRefIdeal.nD Cert.DattnRefIdeal.τ).loc Cert.DattnRefIdeal.main_arg1))

def preserves_Gout_GoutIdeal : Prop :=
  True

def algebraic_GoutIdeal_GoutRefIdeal [hGoutIdeal : Cert.GoutIdeal.Facts] [hGoutRefIdeal : Cert.GoutRefIdeal.Facts] : Prop :=
  ∀ (m : (ℓ : Loc Cert.GoutIdeal.nD Cert.GoutIdeal.τ Cert.GoutIdeal.sig) → Buf (Elt Ideal) ℓ) (g : Dev Cert.GoutIdeal.nD → PrngReg)
    (m' : (ℓ : Loc Cert.GoutRefIdeal.nD Cert.GoutRefIdeal.τ Cert.GoutRefIdeal.sig) → Buf (Elt Ideal) ℓ) (g' : Dev Cert.GoutRefIdeal.nD → PrngReg), Pre_GoutIdeal m →
    (∀ c : Dev Cert.GoutIdeal.nD,
      m' ((c.tc : Thread Cert.GoutRefIdeal.nD Cert.GoutRefIdeal.τ).loc Cert.GoutRefIdeal.main_arg0) = m ((c.tc : Thread Cert.GoutIdeal.nD Cert.GoutIdeal.τ).loc Cert.GoutIdeal.main_arg0)
      ∧ m' ((c.tc : Thread Cert.GoutRefIdeal.nD Cert.GoutRefIdeal.τ).loc Cert.GoutRefIdeal.main_arg1) = m ((c.tc : Thread Cert.GoutIdeal.nD Cert.GoutIdeal.τ).loc Cert.GoutIdeal.main_arg1)) →
    ∃ (v0 : (c : Dev Cert.GoutIdeal.nD) → Buf (Elt Ideal) ((c.tc : Thread Cert.GoutIdeal.nD Cert.GoutIdeal.τ).loc Cert.GoutIdeal.main_v0)),
      θ_run (Cert.GoutIdeal.defs (F := Ideal)) (onTc (τ := Cert.GoutIdeal.τ) (Cert.GoutIdeal.main (F := Ideal))) ⟨m, fun _ => 0, g⟩ (fun r => ∀ c : Dev Cert.GoutIdeal.nD,
          r.2.mem ((c.tc : Thread Cert.GoutIdeal.nD Cert.GoutIdeal.τ).loc Cert.GoutIdeal.main_v0) = v0 c
          ∧ r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
          ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ θ_run (Cert.GoutRefIdeal.defs (F := Ideal)) (onTc (τ := Cert.GoutRefIdeal.τ) (Cert.GoutRefIdeal.main (F := Ideal))) ⟨m', fun _ => 0, g'⟩ (fun r => ∀ c : Dev Cert.GoutRefIdeal.nD,
          r.2.mem ((c.tc : Thread Cert.GoutRefIdeal.nD Cert.GoutRefIdeal.τ).loc Cert.GoutRefIdeal.main_v5) = v0 c
          ∧ r.2.mem ((c.tc : Thread Cert.GoutRefIdeal.nD Cert.GoutRefIdeal.τ).loc Cert.GoutRefIdeal.main_arg0) = m' ((c.tc : Thread Cert.GoutRefIdeal.nD Cert.GoutRefIdeal.τ).loc Cert.GoutRefIdeal.main_arg0)
          ∧ r.2.mem ((c.tc : Thread Cert.GoutRefIdeal.nD Cert.GoutRefIdeal.τ).loc Cert.GoutRefIdeal.main_arg1) = m' ((c.tc : Thread Cert.GoutRefIdeal.nD Cert.GoutRefIdeal.τ).loc Cert.GoutRefIdeal.main_arg1))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v2)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v2) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v1) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1))

def preserves_OddGin_OddGinIdeal : Prop :=
  True

def algebraic_OddGinIdeal_OddGinRefIdeal [hOddGinIdeal : Cert.OddGinIdeal.Facts] [hOddGinRefIdeal : Cert.OddGinRefIdeal.Facts] : Prop :=
  ∀ (m : (ℓ : Loc Cert.OddGinIdeal.nD Cert.OddGinIdeal.τ Cert.OddGinIdeal.sig) → Buf (Elt Ideal) ℓ) (g : Dev Cert.OddGinIdeal.nD → PrngReg)
    (m' : (ℓ : Loc Cert.OddGinRefIdeal.nD Cert.OddGinRefIdeal.τ Cert.OddGinRefIdeal.sig) → Buf (Elt Ideal) ℓ) (g' : Dev Cert.OddGinRefIdeal.nD → PrngReg), Pre_OddGinIdeal m →
    (∀ c : Dev Cert.OddGinIdeal.nD,
      m' ((c.tc : Thread Cert.OddGinRefIdeal.nD Cert.OddGinRefIdeal.τ).loc Cert.OddGinRefIdeal.main_arg0) = m ((c.tc : Thread Cert.OddGinIdeal.nD Cert.OddGinIdeal.τ).loc Cert.OddGinIdeal.main_arg0)
      ∧ m' ((c.tc : Thread Cert.OddGinRefIdeal.nD Cert.OddGinRefIdeal.τ).loc Cert.OddGinRefIdeal.main_arg1) = m ((c.tc : Thread Cert.OddGinIdeal.nD Cert.OddGinIdeal.τ).loc Cert.OddGinIdeal.main_arg1)) →
    ∃ (v0 : (c : Dev Cert.OddGinIdeal.nD) → Buf (Elt Ideal) ((c.tc : Thread Cert.OddGinIdeal.nD Cert.OddGinIdeal.τ).loc Cert.OddGinIdeal.main_v0)),
      θ_run (Cert.OddGinIdeal.defs (F := Ideal)) (onTc (τ := Cert.OddGinIdeal.τ) (Cert.OddGinIdeal.main (F := Ideal))) ⟨m, fun _ => 0, g⟩ (fun r => ∀ c : Dev Cert.OddGinIdeal.nD,
          r.2.mem ((c.tc : Thread Cert.OddGinIdeal.nD Cert.OddGinIdeal.τ).loc Cert.OddGinIdeal.main_v0) = v0 c
          ∧ r.2.mem ((c.tc : Thread Cert.OddGinIdeal.nD Cert.OddGinIdeal.τ).loc Cert.OddGinIdeal.main_arg0) = m ((c.tc : Thread Cert.OddGinIdeal.nD Cert.OddGinIdeal.τ).loc Cert.OddGinIdeal.main_arg0)
          ∧ r.2.mem ((c.tc : Thread Cert.OddGinIdeal.nD Cert.OddGinIdeal.τ).loc Cert.OddGinIdeal.main_arg1) = m ((c.tc : Thread Cert.OddGinIdeal.nD Cert.OddGinIdeal.τ).loc Cert.OddGinIdeal.main_arg1))
      ∧ θ_run (Cert.OddGinRefIdeal.defs (F := Ideal)) (onTc (τ := Cert.OddGinRefIdeal.τ) (Cert.OddGinRefIdeal.main (F := Ideal))) ⟨m', fun _ => 0, g'⟩ (fun r => ∀ c : Dev Cert.OddGinRefIdeal.nD,
          r.2.mem ((c.tc : Thread Cert.OddGinRefIdeal.nD Cert.OddGinRefIdeal.τ).loc Cert.OddGinRefIdeal.main_v7) = v0 c
          ∧ r.2.mem ((c.tc : Thread Cert.OddGinRefIdeal.nD Cert.OddGinRefIdeal.τ).loc Cert.OddGinRefIdeal.main_arg0) = m' ((c.tc : Thread Cert.OddGinRefIdeal.nD Cert.OddGinRefIdeal.τ).loc Cert.OddGinRefIdeal.main_arg0)
          ∧ r.2.mem ((c.tc : Thread Cert.OddGinRefIdeal.nD Cert.OddGinRefIdeal.τ).loc Cert.OddGinRefIdeal.main_arg1) = m' ((c.tc : Thread Cert.OddGinRefIdeal.nD Cert.OddGinRefIdeal.τ).loc Cert.OddGinRefIdeal.main_arg1))

def preserves_OddDnorm_OddDnormIdeal : Prop :=
  True

def algebraic_OddDnormIdeal_OddDnormRefIdeal [hOddDnormIdeal : Cert.OddDnormIdeal.Facts] [hOddDnormRefIdeal : Cert.OddDnormRefIdeal.Facts] : Prop :=
  ∀ (m : (ℓ : Loc Cert.OddDnormIdeal.nD Cert.OddDnormIdeal.τ Cert.OddDnormIdeal.sig) → Buf (Elt Ideal) ℓ) (g : Dev Cert.OddDnormIdeal.nD → PrngReg)
    (m' : (ℓ : Loc Cert.OddDnormRefIdeal.nD Cert.OddDnormRefIdeal.τ Cert.OddDnormRefIdeal.sig) → Buf (Elt Ideal) ℓ) (g' : Dev Cert.OddDnormRefIdeal.nD → PrngReg), Pre_OddDnormIdeal m →
    (∀ c : Dev Cert.OddDnormIdeal.nD,
      m' ((c.tc : Thread Cert.OddDnormRefIdeal.nD Cert.OddDnormRefIdeal.τ).loc Cert.OddDnormRefIdeal.main_arg0) = m ((c.tc : Thread Cert.OddDnormIdeal.nD Cert.OddDnormIdeal.τ).loc Cert.OddDnormIdeal.main_arg0)
      ∧ m' ((c.tc : Thread Cert.OddDnormRefIdeal.nD Cert.OddDnormRefIdeal.τ).loc Cert.OddDnormRefIdeal.main_arg1) = m ((c.tc : Thread Cert.OddDnormIdeal.nD Cert.OddDnormIdeal.τ).loc Cert.OddDnormIdeal.main_arg1)) →
    ∃ (v0 : (c : Dev Cert.OddDnormIdeal.nD) → Buf (Elt Ideal) ((c.tc : Thread Cert.OddDnormIdeal.nD Cert.OddDnormIdeal.τ).loc Cert.OddDnormIdeal.main_v2)),
      θ_run (Cert.OddDnormIdeal.defs (F := Ideal)) (onTc (τ := Cert.OddDnormIdeal.τ) (Cert.OddDnormIdeal.main (F := Ideal))) ⟨m, fun _ => 0, g⟩ (fun r => ∀ c : Dev Cert.OddDnormIdeal.nD,
          r.2.mem ((c.tc : Thread Cert.OddDnormIdeal.nD Cert.OddDnormIdeal.τ).loc Cert.OddDnormIdeal.main_v2) = v0 c
          ∧ r.2.mem ((c.tc : Thread Cert.OddDnormIdeal.nD Cert.OddDnormIdeal.τ).loc Cert.OddDnormIdeal.main_arg0) = m ((c.tc : Thread Cert.OddDnormIdeal.nD Cert.OddDnormIdeal.τ).loc Cert.OddDnormIdeal.main_arg0)
          ∧ r.2.mem ((c.tc : Thread Cert.OddDnormIdeal.nD Cert.OddDnormIdeal.τ).loc Cert.OddDnormIdeal.main_arg1) = m ((c.tc : Thread Cert.OddDnormIdeal.nD Cert.OddDnormIdeal.τ).loc Cert.OddDnormIdeal.main_arg1))
      ∧ θ_run (Cert.OddDnormRefIdeal.defs (F := Ideal)) (onTc (τ := Cert.OddDnormRefIdeal.τ) (Cert.OddDnormRefIdeal.main (F := Ideal))) ⟨m', fun _ => 0, g'⟩ (fun r => ∀ c : Dev Cert.OddDnormRefIdeal.nD,
          r.2.mem ((c.tc : Thread Cert.OddDnormRefIdeal.nD Cert.OddDnormRefIdeal.τ).loc Cert.OddDnormRefIdeal.main_v3) = v0 c
          ∧ r.2.mem ((c.tc : Thread Cert.OddDnormRefIdeal.nD Cert.OddDnormRefIdeal.τ).loc Cert.OddDnormRefIdeal.main_arg0) = m' ((c.tc : Thread Cert.OddDnormRefIdeal.nD Cert.OddDnormRefIdeal.τ).loc Cert.OddDnormRefIdeal.main_arg0)
          ∧ r.2.mem ((c.tc : Thread Cert.OddDnormRefIdeal.nD Cert.OddDnormRefIdeal.τ).loc Cert.OddDnormRefIdeal.main_arg1) = m' ((c.tc : Thread Cert.OddDnormRefIdeal.nD Cert.OddDnormRefIdeal.τ).loc Cert.OddDnormRefIdeal.main_arg1))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v6)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v6) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v5) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1))

def preserves_EvenGin_EvenGinIdeal : Prop :=
  True

def algebraic_EvenGinIdeal_EvenGinRefIdeal [hEvenGinIdeal : Cert.EvenGinIdeal.Facts] [hEvenGinRefIdeal : Cert.EvenGinRefIdeal.Facts] : Prop :=
  ∀ (m : (ℓ : Loc Cert.EvenGinIdeal.nD Cert.EvenGinIdeal.τ Cert.EvenGinIdeal.sig) → Buf (Elt Ideal) ℓ) (g : Dev Cert.EvenGinIdeal.nD → PrngReg)
    (m' : (ℓ : Loc Cert.EvenGinRefIdeal.nD Cert.EvenGinRefIdeal.τ Cert.EvenGinRefIdeal.sig) → Buf (Elt Ideal) ℓ) (g' : Dev Cert.EvenGinRefIdeal.nD → PrngReg), Pre_EvenGinIdeal m →
    (∀ c : Dev Cert.EvenGinIdeal.nD,
      m' ((c.tc : Thread Cert.EvenGinRefIdeal.nD Cert.EvenGinRefIdeal.τ).loc Cert.EvenGinRefIdeal.main_arg0) = m ((c.tc : Thread Cert.EvenGinIdeal.nD Cert.EvenGinIdeal.τ).loc Cert.EvenGinIdeal.main_arg0)
      ∧ m' ((c.tc : Thread Cert.EvenGinRefIdeal.nD Cert.EvenGinRefIdeal.τ).loc Cert.EvenGinRefIdeal.main_arg1) = m ((c.tc : Thread Cert.EvenGinIdeal.nD Cert.EvenGinIdeal.τ).loc Cert.EvenGinIdeal.main_arg1)) →
    ∃ (v0 : (c : Dev Cert.EvenGinIdeal.nD) → Buf (Elt Ideal) ((c.tc : Thread Cert.EvenGinIdeal.nD Cert.EvenGinIdeal.τ).loc Cert.EvenGinIdeal.main_v0)),
      θ_run (Cert.EvenGinIdeal.defs (F := Ideal)) (onTc (τ := Cert.EvenGinIdeal.τ) (Cert.EvenGinIdeal.main (F := Ideal))) ⟨m, fun _ => 0, g⟩ (fun r => ∀ c : Dev Cert.EvenGinIdeal.nD,
          r.2.mem ((c.tc : Thread Cert.EvenGinIdeal.nD Cert.EvenGinIdeal.τ).loc Cert.EvenGinIdeal.main_v0) = v0 c
          ∧ r.2.mem ((c.tc : Thread Cert.EvenGinIdeal.nD Cert.EvenGinIdeal.τ).loc Cert.EvenGinIdeal.main_arg0) = m ((c.tc : Thread Cert.EvenGinIdeal.nD Cert.EvenGinIdeal.τ).loc Cert.EvenGinIdeal.main_arg0)
          ∧ r.2.mem ((c.tc : Thread Cert.EvenGinIdeal.nD Cert.EvenGinIdeal.τ).loc Cert.EvenGinIdeal.main_arg1) = m ((c.tc : Thread Cert.EvenGinIdeal.nD Cert.EvenGinIdeal.τ).loc Cert.EvenGinIdeal.main_arg1))
      ∧ θ_run (Cert.EvenGinRefIdeal.defs (F := Ideal)) (onTc (τ := Cert.EvenGinRefIdeal.τ) (Cert.EvenGinRefIdeal.main (F := Ideal))) ⟨m', fun _ => 0, g'⟩ (fun r => ∀ c : Dev Cert.EvenGinRefIdeal.nD,
          r.2.mem ((c.tc : Thread Cert.EvenGinRefIdeal.nD Cert.EvenGinRefIdeal.τ).loc Cert.EvenGinRefIdeal.main_v7) = v0 c
          ∧ r.2.mem ((c.tc : Thread Cert.EvenGinRefIdeal.nD Cert.EvenGinRefIdeal.τ).loc Cert.EvenGinRefIdeal.main_arg0) = m' ((c.tc : Thread Cert.EvenGinRefIdeal.nD Cert.EvenGinRefIdeal.τ).loc Cert.EvenGinRefIdeal.main_arg0)
          ∧ r.2.mem ((c.tc : Thread Cert.EvenGinRefIdeal.nD Cert.EvenGinRefIdeal.τ).loc Cert.EvenGinRefIdeal.main_arg1) = m' ((c.tc : Thread Cert.EvenGinRefIdeal.nD Cert.EvenGinRefIdeal.τ).loc Cert.EvenGinRefIdeal.main_arg1))

def preserves_EvenDnorm_EvenDnormIdeal : Prop :=
  True

def algebraic_EvenDnormIdeal_EvenDnormRefIdeal [hEvenDnormIdeal : Cert.EvenDnormIdeal.Facts] [hEvenDnormRefIdeal : Cert.EvenDnormRefIdeal.Facts] : Prop :=
  ∀ (m : (ℓ : Loc Cert.EvenDnormIdeal.nD Cert.EvenDnormIdeal.τ Cert.EvenDnormIdeal.sig) → Buf (Elt Ideal) ℓ) (g : Dev Cert.EvenDnormIdeal.nD → PrngReg)
    (m' : (ℓ : Loc Cert.EvenDnormRefIdeal.nD Cert.EvenDnormRefIdeal.τ Cert.EvenDnormRefIdeal.sig) → Buf (Elt Ideal) ℓ) (g' : Dev Cert.EvenDnormRefIdeal.nD → PrngReg), Pre_EvenDnormIdeal m →
    (∀ c : Dev Cert.EvenDnormIdeal.nD,
      m' ((c.tc : Thread Cert.EvenDnormRefIdeal.nD Cert.EvenDnormRefIdeal.τ).loc Cert.EvenDnormRefIdeal.main_arg0) = m ((c.tc : Thread Cert.EvenDnormIdeal.nD Cert.EvenDnormIdeal.τ).loc Cert.EvenDnormIdeal.main_arg0)
      ∧ m' ((c.tc : Thread Cert.EvenDnormRefIdeal.nD Cert.EvenDnormRefIdeal.τ).loc Cert.EvenDnormRefIdeal.main_arg1) = m ((c.tc : Thread Cert.EvenDnormIdeal.nD Cert.EvenDnormIdeal.τ).loc Cert.EvenDnormIdeal.main_arg1)) →
    ∃ (v0 : (c : Dev Cert.EvenDnormIdeal.nD) → Buf (Elt Ideal) ((c.tc : Thread Cert.EvenDnormIdeal.nD Cert.EvenDnormIdeal.τ).loc Cert.EvenDnormIdeal.main_v6)),
      θ_run (Cert.EvenDnormIdeal.defs (F := Ideal)) (onTc (τ := Cert.EvenDnormIdeal.τ) (Cert.EvenDnormIdeal.main (F := Ideal))) ⟨m, fun _ => 0, g⟩ (fun r => ∀ c : Dev Cert.EvenDnormIdeal.nD,
          r.2.mem ((c.tc : Thread Cert.EvenDnormIdeal.nD Cert.EvenDnormIdeal.τ).loc Cert.EvenDnormIdeal.main_v6) = v0 c
          ∧ r.2.mem ((c.tc : Thread Cert.EvenDnormIdeal.nD Cert.EvenDnormIdeal.τ).loc Cert.EvenDnormIdeal.main_arg0) = m ((c.tc : Thread Cert.EvenDnormIdeal.nD Cert.EvenDnormIdeal.τ).loc Cert.EvenDnormIdeal.main_arg0)
          ∧ r.2.mem ((c.tc : Thread Cert.EvenDnormIdeal.nD Cert.EvenDnormIdeal.τ).loc Cert.EvenDnormIdeal.main_arg1) = m ((c.tc : Thread Cert.EvenDnormIdeal.nD Cert.EvenDnormIdeal.τ).loc Cert.EvenDnormIdeal.main_arg1))
      ∧ θ_run (Cert.EvenDnormRefIdeal.defs (F := Ideal)) (onTc (τ := Cert.EvenDnormRefIdeal.τ) (Cert.EvenDnormRefIdeal.main (F := Ideal))) ⟨m', fun _ => 0, g'⟩ (fun r => ∀ c : Dev Cert.EvenDnormRefIdeal.nD,
          r.2.mem ((c.tc : Thread Cert.EvenDnormRefIdeal.nD Cert.EvenDnormRefIdeal.τ).loc Cert.EvenDnormRefIdeal.main_v6) = v0 c
          ∧ r.2.mem ((c.tc : Thread Cert.EvenDnormRefIdeal.nD Cert.EvenDnormRefIdeal.τ).loc Cert.EvenDnormRefIdeal.main_arg0) = m' ((c.tc : Thread Cert.EvenDnormRefIdeal.nD Cert.EvenDnormRefIdeal.τ).loc Cert.EvenDnormRefIdeal.main_arg0)
          ∧ r.2.mem ((c.tc : Thread Cert.EvenDnormRefIdeal.nD Cert.EvenDnormRefIdeal.τ).loc Cert.EvenDnormRefIdeal.main_arg1) = m' ((c.tc : Thread Cert.EvenDnormRefIdeal.nD Cert.EvenDnormRefIdeal.τ).loc Cert.EvenDnormRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v17) = v0 c
          ∧ r.2.mem ((c.tc : Thread Cert.LossRefIdeal.nD Cert.LossRefIdeal.τ).loc Cert.LossRefIdeal.main_v23) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def Claim : Prop :=
  ∃ (hKernel : Cert.Kernel.Facts) (hKernelIdeal : Cert.KernelIdeal.Facts) (hReferenceIdeal : Cert.ReferenceIdeal.Facts) (hDact : Cert.Dact.Facts) (hDactIdeal : Cert.DactIdeal.Facts) (hDactRefIdeal : Cert.DactRefIdeal.Facts) (hGdown : Cert.Gdown.Facts) (hGdownIdeal : Cert.GdownIdeal.Facts) (hGdownRefIdeal : Cert.GdownRefIdeal.Facts) (hGup : Cert.Gup.Facts) (hGupIdeal : Cert.GupIdeal.Facts) (hGupRefIdeal : Cert.GupRefIdeal.Facts) (hDnorm : Cert.Dnorm.Facts) (hDnormIdeal : Cert.DnormIdeal.Facts) (hDnormRefIdeal : Cert.DnormRefIdeal.Facts) (hMla : Cert.Mla.Facts) (hMlaIdeal : Cert.MlaIdeal.Facts) (hMlaRefIdeal : Cert.MlaRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hFwd : Cert.Fwd.Facts) (hFwdIdeal : Cert.FwdIdeal.Facts) (hFwdRefIdeal : Cert.FwdRefIdeal.Facts) (hMlaFwd : Cert.MlaFwd.Facts) (hMlaFwdIdeal : Cert.MlaFwdIdeal.Facts) (hMlaFwdRefIdeal : Cert.MlaFwdRefIdeal.Facts) (hOut : Cert.Out.Facts) (hOutIdeal : Cert.OutIdeal.Facts) (hOutRefIdeal : Cert.OutRefIdeal.Facts) (hDattn : Cert.Dattn.Facts) (hDattnIdeal : Cert.DattnIdeal.Facts) (hDattnRefIdeal : Cert.DattnRefIdeal.Facts) (hGout : Cert.Gout.Facts) (hGoutIdeal : Cert.GoutIdeal.Facts) (hGoutRefIdeal : Cert.GoutRefIdeal.Facts) (hOddIn : Cert.OddIn.Facts) (hOddInIdeal : Cert.OddInIdeal.Facts) (hOddInRefIdeal : Cert.OddInRefIdeal.Facts) (hOddGin : Cert.OddGin.Facts) (hOddGinIdeal : Cert.OddGinIdeal.Facts) (hOddGinRefIdeal : Cert.OddGinRefIdeal.Facts) (hOddDnorm : Cert.OddDnorm.Facts) (hOddDnormIdeal : Cert.OddDnormIdeal.Facts) (hOddDnormRefIdeal : Cert.OddDnormRefIdeal.Facts) (hEvenIn : Cert.EvenIn.Facts) (hEvenInIdeal : Cert.EvenInIdeal.Facts) (hEvenInRefIdeal : Cert.EvenInRefIdeal.Facts) (hEvenGin : Cert.EvenGin.Facts) (hEvenGinIdeal : Cert.EvenGinIdeal.Facts) (hEvenGinRefIdeal : Cert.EvenGinRefIdeal.Facts) (hEvenDnorm : Cert.EvenDnorm.Facts) (hEvenDnormIdeal : Cert.EvenDnormIdeal.Facts) (hEvenDnormRefIdeal : Cert.EvenDnormRefIdeal.Facts) (hLoss : Cert.Loss.Facts) (hLossIdeal : Cert.LossIdeal.Facts) (hLossRefIdeal : Cert.LossRefIdeal.Facts) (hPre_finite : Cert.Pre_finite.Facts) (hPre_finite_mla : Cert.Pre_finite_mla.Facts) (hPre_finite_fwd : Cert.Pre_finite_fwd.Facts) (hPre_finite_mla_fwd : Cert.Pre_finite_mla_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dact (hDact := hDact)
    ∧ quiescent_DactIdeal (hDactIdeal := hDactIdeal)
    ∧ quiescent_DactRefIdeal (hDactRefIdeal := hDactRefIdeal)
    ∧ quiescent_Gdown (hGdown := hGdown)
    ∧ quiescent_GdownIdeal (hGdownIdeal := hGdownIdeal)
    ∧ quiescent_GdownRefIdeal (hGdownRefIdeal := hGdownRefIdeal)
    ∧ quiescent_Gup (hGup := hGup)
    ∧ quiescent_GupIdeal (hGupIdeal := hGupIdeal)
    ∧ quiescent_GupRefIdeal (hGupRefIdeal := hGupRefIdeal)
    ∧ quiescent_Dnorm (hDnorm := hDnorm)
    ∧ quiescent_DnormIdeal (hDnormIdeal := hDnormIdeal)
    ∧ quiescent_DnormRefIdeal (hDnormRefIdeal := hDnormRefIdeal)
    ∧ quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ quiescent_MlaFwd (hMlaFwd := hMlaFwd)
    ∧ quiescent_MlaFwdIdeal (hMlaFwdIdeal := hMlaFwdIdeal)
    ∧ quiescent_MlaFwdIdeal_pre_finite_mla_fwd (hMlaFwdIdeal := hMlaFwdIdeal) (hPre_finite_mla_fwd := hPre_finite_mla_fwd)
    ∧ quiescent_MlaFwdRefIdeal (hMlaFwdRefIdeal := hMlaFwdRefIdeal)
    ∧ quiescent_MlaFwdRefIdeal_pre_finite_mla_fwd (hMlaFwdRefIdeal := hMlaFwdRefIdeal) (hPre_finite_mla_fwd := hPre_finite_mla_fwd)
    ∧ quiescent_Out (hOut := hOut)
    ∧ quiescent_OutIdeal (hOutIdeal := hOutIdeal)
    ∧ quiescent_OutRefIdeal (hOutRefIdeal := hOutRefIdeal)
    ∧ quiescent_Dattn (hDattn := hDattn)
    ∧ quiescent_DattnIdeal (hDattnIdeal := hDattnIdeal)
    ∧ quiescent_DattnRefIdeal (hDattnRefIdeal := hDattnRefIdeal)
    ∧ quiescent_Gout (hGout := hGout)
    ∧ quiescent_GoutIdeal (hGoutIdeal := hGoutIdeal)
    ∧ quiescent_GoutRefIdeal (hGoutRefIdeal := hGoutRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_OddGin (hOddGin := hOddGin)
    ∧ quiescent_OddGinIdeal (hOddGinIdeal := hOddGinIdeal)
    ∧ quiescent_OddGinRefIdeal (hOddGinRefIdeal := hOddGinRefIdeal)
    ∧ quiescent_OddDnorm (hOddDnorm := hOddDnorm)
    ∧ quiescent_OddDnormIdeal (hOddDnormIdeal := hOddDnormIdeal)
    ∧ quiescent_OddDnormRefIdeal (hOddDnormRefIdeal := hOddDnormRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_EvenGin (hEvenGin := hEvenGin)
    ∧ quiescent_EvenGinIdeal (hEvenGinIdeal := hEvenGinIdeal)
    ∧ quiescent_EvenGinRefIdeal (hEvenGinRefIdeal := hEvenGinRefIdeal)
    ∧ quiescent_EvenDnorm (hEvenDnorm := hEvenDnorm)
    ∧ quiescent_EvenDnormIdeal (hEvenDnormIdeal := hEvenDnormIdeal)
    ∧ quiescent_EvenDnormRefIdeal (hEvenDnormRefIdeal := hEvenDnormRefIdeal)
    ∧ quiescent_Loss (hLoss := hLoss)
    ∧ quiescent_LossIdeal (hLossIdeal := hLossIdeal)
    ∧ quiescent_LossRefIdeal (hLossRefIdeal := hLossRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dact_DactIdeal
    ∧ algebraic_DactIdeal_DactRefIdeal (hDactIdeal := hDactIdeal) (hDactRefIdeal := hDactRefIdeal)
    ∧ preserves_Gdown_GdownIdeal
    ∧ algebraic_GdownIdeal_GdownRefIdeal (hGdownIdeal := hGdownIdeal) (hGdownRefIdeal := hGdownRefIdeal)
    ∧ preserves_Gup_GupIdeal
    ∧ algebraic_GupIdeal_GupRefIdeal (hGupIdeal := hGupIdeal) (hGupRefIdeal := hGupRefIdeal)
    ∧ preserves_Dnorm_DnormIdeal
    ∧ algebraic_DnormIdeal_DnormRefIdeal (hDnormIdeal := hDnormIdeal) (hDnormRefIdeal := hDnormRefIdeal)
    ∧ preserves_Mla_MlaIdeal
    ∧ algebraic_MlaIdeal_MlaRefIdeal_pre_finite_mla (hMlaIdeal := hMlaIdeal) (hMlaRefIdeal := hMlaRefIdeal) (hPre_finite_mla := hPre_finite_mla)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
    ∧ preserves_MlaFwd_MlaFwdIdeal
    ∧ algebraic_MlaFwdIdeal_MlaFwdRefIdeal_pre_finite_mla_fwd (hMlaFwdIdeal := hMlaFwdIdeal) (hMlaFwdRefIdeal := hMlaFwdRefIdeal) (hPre_finite_mla_fwd := hPre_finite_mla_fwd)
    ∧ preserves_Out_OutIdeal
    ∧ algebraic_OutIdeal_OutRefIdeal (hOutIdeal := hOutIdeal) (hOutRefIdeal := hOutRefIdeal)
    ∧ preserves_Dattn_DattnIdeal
    ∧ algebraic_DattnIdeal_DattnRefIdeal (hDattnIdeal := hDattnIdeal) (hDattnRefIdeal := hDattnRefIdeal)
    ∧ preserves_Gout_GoutIdeal
    ∧ algebraic_GoutIdeal_GoutRefIdeal (hGoutIdeal := hGoutIdeal) (hGoutRefIdeal := hGoutRefIdeal)
    ∧ preserves_OddIn_OddInIdeal
    ∧ algebraic_OddInIdeal_OddInRefIdeal (hOddInIdeal := hOddInIdeal) (hOddInRefIdeal := hOddInRefIdeal)
    ∧ preserves_OddGin_OddGinIdeal
    ∧ algebraic_OddGinIdeal_OddGinRefIdeal (hOddGinIdeal := hOddGinIdeal) (hOddGinRefIdeal := hOddGinRefIdeal)
    ∧ preserves_OddDnorm_OddDnormIdeal
    ∧ algebraic_OddDnormIdeal_OddDnormRefIdeal (hOddDnormIdeal := hOddDnormIdeal) (hOddDnormRefIdeal := hOddDnormRefIdeal)
    ∧ preserves_EvenIn_EvenInIdeal
    ∧ algebraic_EvenInIdeal_EvenInRefIdeal (hEvenInIdeal := hEvenInIdeal) (hEvenInRefIdeal := hEvenInRefIdeal)
    ∧ preserves_EvenGin_EvenGinIdeal
    ∧ algebraic_EvenGinIdeal_EvenGinRefIdeal (hEvenGinIdeal := hEvenGinIdeal) (hEvenGinRefIdeal := hEvenGinRefIdeal)
    ∧ preserves_EvenDnorm_EvenDnormIdeal
    ∧ algebraic_EvenDnormIdeal_EvenDnormRefIdeal (hEvenDnormIdeal := hEvenDnormIdeal) (hEvenDnormRefIdeal := hEvenDnormRefIdeal)
    ∧ preserves_Loss_LossIdeal
    ∧ algebraic_LossIdeal_LossRefIdeal (hLossIdeal := hLossIdeal) (hLossRefIdeal := hLossRefIdeal)
-- ==== Pre_finite.lean ====
abbrev S8x8192x128 : Shape := ⟨3, ![8, 8192, 128]⟩
abbrev S2x8192x128 : Shape := ⟨3, ![2, 8192, 128]⟩
abbrev S8192x1024 : Shape := ⟨2, ![8192, 1024]⟩
abbrev S8192x2048 : Shape := ⟨2, ![8192, 2048]⟩
abbrev S_ : Shape := ⟨0, ![]⟩

class Facts : Prop where
  slices_S8192x2048_S8192x1024_0_1024 : S8192x2048.Slices ![0, 1024] S8192x1024
  bitsLt_bf16_f32 : FTy.bits .bf16 < FTy.bits .f32
  bcast_S_S8x8192x128 : S_.BroadcastsInDim S8x8192x128 (![] : Fin 0 → Fin S8x8192x128.rank)
  reducesTo_S8x8192x128_S_d0_1_2 : S8x8192x128.ReducesTo [0, 1, 2] S_
  h_S_ : 0 < S_.numel
  bcast_S_S2x8192x128 : S_.BroadcastsInDim S2x8192x128 (![] : Fin 0 → Fin S2x8192x128.rank)
  reducesTo_S2x8192x128_S_d0_1_2 : S2x8192x128.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v0 : FVec F S8192x1024 .bf16) (main_v17 : IVec S_ 1) : IVec S_ 1 :=
  let main_v18 : FVec F S8192x1024 .f32 := (extf .f32 · bitsLt_bf16_f32) main_v0
  let main_v19 : FVec F S8192x1024 .f32 := Host.absf main_v18
  let main_cst_4 : FVec F S_ .f32 := constant S_ .f32 0x7F800000#32
  let main_v20 : FVec F S8192x1024 .f32 := broadcastInDim S8192x1024 ![] bcast_S_S8192x1024 main_cst_4
  let main_v21 : IVec S8192x1024 1 := cmpf .olt main_v19 main_v20
  let main_c_5 : IVec S_ 1 := constantI S_ 1 1#1
  let main_v22 : IVec S_ 1 := (fun x v => Host.reduce IntOp.andi x v reducesTo_S8192x1024_S_d0_1 h_S_) main_v21 main_c_5
  let main_v23 : IVec S_ 1 := andi main_v17 main_v22
  main_v23

def fn {F : FTy → Type} [FloatOps F] (main_arg0 : FVec F S8x8192x128 .bf16) (main_arg1 : FVec F S2x8192x128 .bf16) (main_arg2 : FVec F S2x8192x128 .bf16) (main_arg3 : FVec F S8192x1024 .bf16) (main_arg4 : FVec F S8192x2048 .bf16) : IVec S_ 1 :=
  let main_v0 : FVec F S8192x1024 .bf16 := (extractStridedSlice S8192x1024 ![0, 1024] · slices_S8192x2048_S8192x1024_0_1024) main_arg4
  let main_v1 : FVec F S8x8192x128 .f32 := (extf .f32 · bitsLt_bf16_f32) main_arg0
  let main_v2 : FVec F S8x8192x128 .f32 := Host.absf main_v1
  let main_cst : FVec F S_ .f32 := constant S_ .f32 0x7F800000#32
  let main_v3 : FVec F S8x8192x128 .f32 := broadcastInDim S8x8192x128 ![] bcast_S_S8x8192x128 main_cst
  let main_v4 : IVec S8x8192x128 1 := cmpf .olt main_v2 main_v3
  let main_c : IVec S_ 1 := constantI S_ 1 1#1
  let main_v5 : IVec S_ 1 := (fun x v => Host.reduce IntOp.andi x v reducesTo_S8x8192x128_S_d0_1_2 h_S_) main_v4 main_c
  let main_v6 : FVec F S2x8192x128 .f32 := (extf .f32 · bitsLt_bf16_f32) main_arg1
  let main_v7 : FVec F S2x8192x128 .f32 := Host.absf main_v6
  let main_cst_0 : FVec F S_ .f32 := constant S_ .f32 0x7F800000#32
  let main_v8 : FVec F S2x8192x128 .f32 := broadcastInDim S2x8192x128 ![] bcast_S_S2x8192x128 main_cst_0
  let main_v9 : IVec S2x8192x128 1 := cmpf .olt main_v7 main_v8
  let main_c_1 : IVec S_ 1 := constantI S_ 1 1#1
  let main_v10 : IVec S_ 1 := (fun x v => Host.reduce IntOp.andi x v reducesTo_S2x8192x128_S_d0_1_2 h_S_) main_v9 main_c_1
  let main_v11 : IVec S_ 1 := andi main_v5 main_v10
  let main_v12 : FVec F S2x8192x128 .f32 := (extf .f32 · bitsLt_bf16_f32) main_arg2
  let main_v13 : FVec F S2x8192x128 .f32 := Host.absf main_v12
  let main_cst_2 : FVec F S_ .f32 := constant S_ .f32 0x7F800000#32
  let main_v14 : FVec F S2x8192x128 .f32 := broadcastInDim S2x8192x128 ![] bcast_S_S2x8192x128 main_cst_2
  let main_v15 : IVec S2x8192x128 1 := cmpf .olt main_v13 main_v14
  let main_c_3 : IVec S_ 1 := constantI S_ 1 1#1
  let main_v16 : IVec S_ 1 := (fun x v => Host.reduce IntOp.andi x v reducesTo_S2x8192x128_S_d0_1_2 h_S_) main_v15 main_c_3
  let main_v17 : IVec S_ 1 := andi main_v11 main_v16
  fn_part1 (F := F) main_v0 main_v17
-- ==== Pre_finite_fwd.lean ====
abbrev S8x8192x128 : Shape := ⟨3, ![8, 8192, 128]⟩
abbrev S2x8192x128 : Shape := ⟨3, ![2, 8192, 128]⟩
abbrev S_ : Shape := ⟨0, ![]⟩

class Facts : Prop where
  bitsLt_bf16_f32 : FTy.bits .bf16 < FTy.bits .f32
  bcast_S_S8x8192x128 : S_.BroadcastsInDim S8x8192x128 (![] : Fin 0 → Fin S8x8192x128.rank)
  reducesTo_S8x8192x128_S_d0_1_2 : S8x8192x128.ReducesTo [0, 1, 2] S_
  h_S_ : 0 < S_.numel
  bcast_S_S2x8192x128 : S_.BroadcastsInDim S2x8192x128 (![] : Fin 0 → Fin S2x8192x128.rank)
  reducesTo_S2x8192x128_S_d0_1_2 : S2x8192x128.ReducesTo [0, 1, 2] S_

variable [Facts]

def fn {F : FTy → Type} [FloatOps F] (main_arg0 : FVec F S8x8192x128 .bf16) (main_arg1 : FVec F S2x8192x128 .bf16) (main_arg2 : FVec F S2x8192x128 .bf16) : IVec S_ 1 :=
  let main_v0 : FVec F S8x8192x128 .f32 := (extf .f32 · bitsLt_bf16_f32) main_arg0
  let main_v1 : FVec F S8x8192x128 .f32 := Host.absf main_v0
  let main_cst : FVec F S_ .f32 := constant S_ .f32 0x7F800000#32
  let main_v2 : FVec F S8x8192x128 .f32 := broadcastInDim S8x8192x128 ![] bcast_S_S8x8192x128 main_cst
  let main_v3 : IVec S8x8192x128 1 := cmpf .olt main_v1 main_v2
  let main_c : IVec S_ 1 := constantI S_ 1 1#1
  let main_v4 : IVec S_ 1 := (fun x v => Host.reduce IntOp.andi x v reducesTo_S8x8192x128_S_d0_1_2 h_S_) main_v3 main_c
  let main_v5 : FVec F S2x8192x128 .f32 := (extf .f32 · bitsLt_bf16_f32) main_arg1
  let main_v6 : FVec F S2x8192x128 .f32 := Host.absf main_v5
  let main_cst_0 : FVec F S_ .f32 := constant S_ .f32 0x7F800000#32
  let main_v7 : FVec F S2x8192x128 .f32 := broadcastInDim S2x8192x128 ![] bcast_S_S2x8192x128 main_cst_0
  let main_v8 : IVec S2x8192x128 1 := cmpf .olt main_v6 main_v7
  let main_c_1 : IVec S_ 1 := constantI S_ 1 1#1
  let main_v9 : IVec S_ 1 := (fun x v => Host.reduce IntOp.andi x v reducesTo_S2x8192x128_S_d0_1_2 h_S_) main_v8 main_c_1
  let main_v10 : IVec S_ 1 := andi main_v4 main_v9
  main_v10
-- ==== Pre_finite_mla.lean ====
abbrev S8x8192x256 : Shape := ⟨3, ![8, 8192, 256]⟩
abbrev S8x8192x128 : Shape := ⟨3, ![8, 8192, 128]⟩
abbrev S8192x1024 : Shape := ⟨2, ![8192, 1024]⟩
abbrev S8192x2048 : Shape := ⟨2, ![8192, 2048]⟩
abbrev S_ : Shape := ⟨0, ![]⟩

class Facts : Prop where
  slices_S8192x2048_S8192x1024_0_0 : S8192x2048.Slices ![0, 0] S8192x1024
  bitsLt_bf16_f32 : FTy.bits .bf16 < FTy.bits .f32
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel
  bcast_S_S8x8192x128 : S_.BroadcastsInDim S8x8192x128 (![] : Fin 0 → Fin S8x8192x128.rank)
  reducesTo_S8x8192x128_S_d0_1_2 : S8x8192x128.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v0 : FVec F S8192x1024 .bf16) (main_v17 : IVec S_ 1) : IVec S_ 1 :=
  let main_v18 : FVec F S8192x1024 .f32 := (extf .f32 · bitsLt_bf16_f32) main_v0
  let main_v19 : FVec F S8192x1024 .f32 := Host.absf main_v18
  let main_cst_4 : FVec F S_ .f32 := constant S_ .f32 0x7F800000#32
  let main_v20 : FVec F S8192x1024 .f32 := broadcastInDim S8192x1024 ![] bcast_S_S8192x1024 main_cst_4
  let main_v21 : IVec S8192x1024 1 := cmpf .olt main_v19 main_v20
  let main_c_5 : IVec S_ 1 := constantI S_ 1 1#1
  let main_v22 : IVec S_ 1 := (fun x v => Host.reduce IntOp.andi x v reducesTo_S8192x1024_S_d0_1 h_S_) main_v21 main_c_5
  let main_v23 : IVec S_ 1 := andi main_v17 main_v22
  main_v23

def fn {F : FTy → Type} [FloatOps F] (main_arg0 : FVec F S8x8192x256 .bf16) (main_arg1 : FVec F S8x8192x256 .bf16) (main_arg2 : FVec F S8x8192x128 .bf16) (main_arg3 : FVec F S8192x1024 .bf16) (main_arg4 : FVec F S8192x2048 .bf16) : IVec S_ 1 :=
  let main_v0 : FVec F S8192x1024 .bf16 := (extractStridedSlice S8192x1024 ![0, 0] · slices_S8192x2048_S8192x1024_0_0) main_arg4
  let main_v1 : FVec F S8x8192x256 .f32 := (extf .f32 · bitsLt_bf16_f32) main_arg0
  let main_v2 : FVec F S8x8192x256 .f32 := Host.absf main_v1
  let main_cst : FVec F S_ .f32 := constant S_ .f32 0x7F800000#32
  let main_v3 : FVec F S8x8192x256 .f32 := broadcastInDim S8x8192x256 ![] bcast_S_S8x8192x256 main_cst
  let main_v4 : IVec S8x8192x256 1 := cmpf .olt main_v2 main_v3
  let main_c : IVec S_ 1 := constantI S_ 1 1#1
  let main_v5 : IVec S_ 1 := (fun x v => Host.reduce IntOp.andi x v reducesTo_S8x8192x256_S_d0_1_2 h_S_) main_v4 main_c
  let main_v6 : FVec F S8x8192x256 .f32 := (extf .f32 · bitsLt_bf16_f32) main_arg1
  let main_v7 : FVec F S8x8192x256 .f32 := Host.absf main_v6
  let main_cst_0 : FVec F S_ .f32 := constant S_ .f32 0x7F800000#32
  let main_v8 : FVec F S8x8192x256 .f32 := broadcastInDim S8x8192x256 ![] bcast_S_S8x8192x256 main_cst_0
  let main_v9 : IVec S8x8192x256 1 := cmpf .olt main_v7 main_v8
  let main_c_1 : IVec S_ 1 := constantI S_ 1 1#1
  let main_v10 : IVec S_ 1 := (fun x v => Host.reduce IntOp.andi x v reducesTo_S8x8192x256_S_d0_1_2 h_S_) main_v9 main_c_1
  let main_v11 : IVec S_ 1 := andi main_v5 main_v10
  let main_v12 : FVec F S8x8192x128 .f32 := (extf .f32 · bitsLt_bf16_f32) main_arg2
  let main_v13 : FVec F S8x8192x128 .f32 := Host.absf main_v12
  let main_cst_2 : FVec F S_ .f32 := constant S_ .f32 0x7F800000#32
  let main_v14 : FVec F S8x8192x128 .f32 := broadcastInDim S8x8192x128 ![] bcast_S_S8x8192x128 main_cst_2
  let main_v15 : IVec S8x8192x128 1 := cmpf .olt main_v13 main_v14
  let main_c_3 : IVec S_ 1 := constantI S_ 1 1#1
  let main_v16 : IVec S_ 1 := (fun x v => Host.reduce IntOp.andi x v reducesTo_S8x8192x128_S_d0_1_2 h_S_) main_v15 main_c_3
  let main_v17 : IVec S_ 1 := andi main_v11 main_v16
  fn_part1 (F := F) main_v0 main_v17
-- ==== Pre_finite_mla_fwd.lean ====
abbrev S8x8192x256 : Shape := ⟨3, ![8, 8192, 256]⟩
abbrev S8x8192x128 : Shape := ⟨3, ![8, 8192, 128]⟩
abbrev S_ : Shape := ⟨0, ![]⟩

class Facts : Prop where
  bitsLt_bf16_f32 : FTy.bits .bf16 < FTy.bits .f32
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel

variable [Facts]

def fn {F : FTy → Type} [FloatOps F] (main_arg0 : FVec F S8x8192x256 .bf16) (main_arg1 : FVec F S8x8192x256 .bf16) (main_arg2 : FVec F S8x8192x128 .bf16) : IVec S_ 1 :=
  let main_v0 : FVec F S8x8192x256 .f32 := (extf .f32 · bitsLt_bf16_f32) main_arg0
  let main_v1 : FVec F S8x8192x256 .f32 := Host.absf main_v0
  let main_cst : FVec F S_ .f32 := constant S_ .f32 0x7F800000#32
  let main_v2 : FVec F S8x8192x256 .f32 := broadcastInDim S8x8192x256 ![] bcast_S_S8x8192x256 main_cst
  let main_v3 : IVec S8x8192x256 1 := cmpf .olt main_v1 main_v2
  let main_c : IVec S_ 1 := constantI S_ 1 1#1
  let main_v4 : IVec S_ 1 := (fun x v => Host.reduce IntOp.andi x v reducesTo_S8x8192x256_S_d0_1_2 h_S_) main_v3 main_c
  let main_v5 : FVec F S8x8192x256 .f32 := (extf .f32 · bitsLt_bf16_f32) main_arg1
  let main_v6 : FVec F S8x8192x256 .f32 := Host.absf main_v5
  let main_cst_0 : FVec F S_ .f32 := constant S_ .f32 0x7F800000#32
  let main_v7 : FVec F S8x8192x256 .f32 := broadcastInDim S8x8192x256 ![] bcast_S_S8x8192x256 main_cst_0
  let main_v8 : IVec S8x8192x256 1 := cmpf .olt main_v6 main_v7
  let main_c_1 : IVec S_ 1 := constantI S_ 1 1#1
  let main_v9 : IVec S_ 1 := (fun x v => Host.reduce IntOp.andi x v reducesTo_S8x8192x256_S_d0_1_2 h_S_) main_v8 main_c_1
  let main_v10 : IVec S_ 1 := andi main_v4 main_v9
  main_v10
-- ==== Kernel.lean ====
abbrev S8x8192x128 : Shape := ⟨3, ![8, 8192, 128]⟩
abbrev S2x8192x128 : Shape := ⟨3, ![2, 8192, 128]⟩
abbrev S8192x1024 : Shape := ⟨2, ![8192, 1024]⟩
abbrev S8192x2048 : Shape := ⟨2, ![8192, 2048]⟩
abbrev S2x4x8192x128 : Shape := ⟨4, ![2, 4, 8192, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8192x8x128 : Shape := ⟨3, ![8192, 8, 128]⟩
abbrev S8192x16x128 : Shape := ⟨3, ![8192, 16, 128]⟩
abbrev S8192x16 : Shape := ⟨2, ![8192, 16]⟩
abbrev S16x8192 : Shape := ⟨2, ![16, 8192]⟩
abbrev S16x8192x1 : Shape := ⟨3, ![16, 8192, 1]⟩
abbrev S1x2048x128 : Shape := ⟨3, ![1, 2048, 128]⟩
abbrev S1x1024x128 : Shape := ⟨3, ![1, 1024, 128]⟩
abbrev S2048x128 : Shape := ⟨2, ![2048, 128]⟩
abbrev S1x2048x1 : Shape := ⟨3, ![1, 2048, 1]⟩
abbrev S1x8192x128 : Shape := ⟨3, ![1, 8192, 128]⟩
abbrev S1024x128 : Shape := ⟨2, ![1024, 128]⟩
abbrev S2048x1024 : Shape := ⟨2, ![2048, 1024]⟩
abbrev S2048x1 : Shape := ⟨2, ![2048, 1]⟩

abbrev nBuf : Space → Nat
  | .hbm => 42
  | .vmem => 20
  | .smem => 0
  | _ => 0

abbrev bufTy : (tb : Table) → Fin (tcTables nBuf tb) → BufTy
  | .hbm, ⟨0, _⟩ => ⟨S8x8192x128, .bf16⟩
  | .hbm, ⟨1, _⟩ => ⟨S2x8192x128, .bf16⟩
  | .hbm, ⟨2, _⟩ => ⟨S2x8192x128, .bf16⟩
  | .hbm, ⟨3, _⟩ => ⟨S8192x1024, .bf16⟩
  | .hbm, ⟨4, _⟩ => ⟨S8192x2048, .bf16⟩
  | .hbm, ⟨5, _⟩ => ⟨S8x8192x128, .f32⟩
  | .hbm, ⟨6, _⟩ => ⟨S2x8192x128, .f32⟩
  | .hbm, ⟨7, _⟩ => ⟨S2x4x8192x128, .f32⟩
  | .hbm, ⟨8, _⟩ => ⟨S8x8192x128, .f32⟩
  | .hbm, ⟨9, _⟩ => ⟨S2x8192x128, .f32⟩
  | .hbm, ⟨10, _⟩ => ⟨S2x4x8192x128, .f32⟩
  | .hbm, ⟨11, _⟩ => ⟨S8x8192x128, .f32⟩
  | .hbm, ⟨12, _⟩ => ⟨S8x8192x8192, .f32⟩
  | .hbm, ⟨13, _⟩ => ⟨S_, .f32⟩
  | .hbm, ⟨14, _⟩ => ⟨S8x8192, .f32⟩
  | .hbm, ⟨15, _⟩ => ⟨S8x8192x1, .f32⟩
  | .hbm, ⟨16, _⟩ => ⟨S8x8192x8192, .f32⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S8x8192x1, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x8192x128, .f32⟩
  | .hbm, ⟨27, _⟩ => ⟨S8192x8x128, .f32⟩
  | .hbm, ⟨28, _⟩ => ⟨S8192x1024, .f32⟩
  | .hbm, ⟨29, _⟩ => ⟨S8192x1024, .bf16⟩
  | .hbm, ⟨30, _⟩ => ⟨S8192x2048, .bf16⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x16x128, .f32⟩
  | .hbm, ⟨35, _⟩ => ⟨S_, .f32⟩
  | .hbm, ⟨36, _⟩ => ⟨S8192x16, .f32⟩
  | .hbm, ⟨37, _⟩ => ⟨S16x8192, .f32⟩
  | .hbm, ⟨38, _⟩ => ⟨S16x8192x1, .f32⟩
  | .hbm, ⟨39, _⟩ => ⟨S8x8192x128, .f32⟩
  | .hbm, ⟨40, _⟩ => ⟨S8x8192x128, .f32⟩
  | .hbm, ⟨41, _⟩ => ⟨S8x8192x128, .f32⟩
  | .local _ .vmem, ⟨0, _⟩ => ⟨S1x2048x128, .bf16⟩
  | .local _ .vmem, ⟨1, _⟩ => ⟨S1x2048x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | .local _ .vmem, ⟨10, _⟩ => ⟨S1x2048x1, .f32⟩
  | .local _ .vmem, ⟨11, _⟩ => ⟨S1x2048x1, .f32⟩
  | .local _ .vmem, ⟨12, _⟩ => ⟨S1x8192x128, .f32⟩
  | .local _ .vmem, ⟨13, _⟩ => ⟨S1x8192x128, .f32⟩
  | .local _ .vmem, ⟨14, _⟩ => ⟨S1x1024x128, .f32⟩
  | .local _ .vmem, ⟨15, _⟩ => ⟨S1x1024x128, .f32⟩
  | .local _ .vmem, ⟨16, _⟩ => ⟨S1x1024x128, .f32⟩
  | .local _ .vmem, ⟨17, _⟩ => ⟨S1x1024x128, .f32⟩
  | .local _ .vmem, ⟨18, _⟩ => ⟨S1024x128, .f32⟩
  | .local _ .vmem, ⟨19, _⟩ => ⟨S1024x128, .f32⟩
  | _, _ => ⟨S8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31_0 : Ref sig .tc := ⟨.hbm, 39, rfl⟩
abbrev main_v31_1 : Ref sig .tc := ⟨.hbm, 40, rfl⟩
abbrev main_v31_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 8, 4], ![false, false, false]⟩

def k0_mult1 (i : grid0.Coords) : BitVec 32 :=
  let arg2 : BitVec 32 := BitVec.ofNat 32 (i 2).val
  let c2048_i32 : BitVec 32 := 2048#32
  let v37 : BitVec 32 := Scalar.muli arg2 c2048_i32
  v37
def k0_cond2 (i : grid0.Coords) : BitVec 1 :=
  let arg1 : BitVec 32 := BitVec.ofNat 32 (i 1).val
  let c0_i32_29 : BitVec 32 := 0#32
  let v39 : BitVec 1 := Scalar.cmpi .eq arg1 c0_i32_29
  let v40 : BitVec 32 := Scalar.extui v39
  let c0_i32_30 : BitVec 32 := 0#32
  let v41 : BitVec 1 := Scalar.cmpi .ne v40 c0_i32_30
  v41

def k0_off1 (i : grid0.Coords) : Fin 3 → Nat :=
  let c0_34 : Index := 0#32
  let arg2 : BitVec 32 := BitVec.ofNat 32 (i 2).val
  let c2048_i32 : BitVec 32 := 2048#32
  let v37 : BitVec 32 := Scalar.muli arg2 c2048_i32
  let v38 : BitVec 32 := v37
  let v48 : Index := Scalar.indexCast v38
  let c0_35 : Index := 0#32
  ![0, v48.toNat, 0]
def k0_cond3 (i : grid0.Coords) : BitVec 1 :=
  let arg1 : BitVec 32 := BitVec.ofNat 32 (i 1).val
  let c0_i32_31 : BitVec 32 := 0#32
  let v42 : BitVec 1 := Scalar.cmpi .sgt arg1 c0_i32_31
  let v43 : BitVec 32 := Scalar.extui v42
  let c0_i32_32 : BitVec 32 := 0#32
  let v44 : BitVec 1 := Scalar.cmpi .ne v43 c0_i32_32
  v44

def k0_off2 (i : grid0.Coords) : Fin 3 → Nat :=
  let c0_34 : Index := 0#32
  let arg2 : BitVec 32 := BitVec.ofNat 32 (i 2).val
  let c2048_i32 : BitVec 32 := 2048#32
  let v37 : BitVec 32 := Scalar.muli arg2 c2048_i32
  let v38 : BitVec 32 := v37
  let v48 : Index := Scalar.indexCast v38
  let c0_35 : Index := 0#32
  ![0, v48.toNat, 0]
def k0_cond4 (i : grid0.Coords) : BitVec 1 :=
  let arg2 : BitVec 32 := BitVec.ofNat 32 (i 2).val
  let c3_i32 : BitVec 32 := 3#32
  let v45 : BitVec 1 := Scalar.cmpi .eq arg2 c3_i32
  let v46 : BitVec 32 := Scalar.extui v45
  let c0_i32_33 : BitVec 32 := 0#32
  let v47 : BitVec 1 := Scalar.cmpi .ne v46 c0_i32_33
  v47

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![v0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S8x8192x128 : Shape := ⟨3, ![8, 8192, 128]⟩
abbrev S2x8192x128 : Shape := ⟨3, ![2, 8192, 128]⟩
abbrev S8192x1024 : Shape := ⟨2, ![8192, 1024]⟩
abbrev S8192x2048 : Shape := ⟨2, ![8192, 2048]⟩
abbrev S2x4x8192x128 : Shape := ⟨4, ![2, 4, 8192, 128]⟩
abbrev S8192x8x128 : Shape := ⟨3, ![8192, 8, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩

abbrev nBuf : Space → Nat
  | .hbm => 75
  | .vmem => 0
  | .smem => 0
  | _ => 0

abbrev bufTy : (tb : Table) → Fin (tcTables nBuf tb) → BufTy
  | .hbm, ⟨0, _⟩ => ⟨S8x8192x128, .bf16⟩
  | .hbm, ⟨1, _⟩ => ⟨S2x8192x128, .bf16⟩
  | .hbm, ⟨2, _⟩ => ⟨S2x8192x128, .bf16⟩
  | .hbm, ⟨3, _⟩ => ⟨S8192x1024, .bf16⟩
  | .hbm, ⟨4, _⟩ => ⟨S8192x2048, .bf16⟩
  | .hbm, ⟨5, _⟩ => ⟨S8x8192x128, .f32⟩
  | .hbm, ⟨6, _⟩ => ⟨S2x8192x128, .f32⟩
  | .hbm, ⟨7, _⟩ => ⟨S2x4x8192x128, .f32⟩
  | .hbm, ⟨8, _⟩ => ⟨S8x8192x128, .f32⟩
  | .hbm, ⟨9, _⟩ => ⟨S2x8192x128, .f32⟩
  | .hbm, ⟨10, _⟩ => ⟨S2x4x8192x128, .f32⟩
  | .hbm, ⟨11, _⟩ => ⟨S8x8192x128, .f32⟩
  | .hbm, ⟨12, _⟩ => ⟨S8192x1024, .bf16⟩
  | .hbm, ⟨13, _⟩ => ⟨S8192x1024, .f32⟩
  | .hbm, ⟨14, _⟩ => ⟨S8192x8x128, .f32⟩
  | .hbm, ⟨15, _⟩ => ⟨S8x8192x128, .f32⟩
  | .hbm, ⟨16, _⟩ => ⟨S8x8192x8192, .f32⟩
  | .hbm, ⟨17, _⟩ => ⟨S_, .f32⟩
  | .hbm, ⟨18, _⟩ => ⟨S8x8192, .f32⟩
  | .hbm, ⟨19, _⟩ => ⟨S8x8192x1, .f32⟩
  | .hbm, ⟨20, _⟩ => ⟨S8x8192x8192, .f32⟩
  | .hbm, ⟨21, _⟩ => ⟨S8x8192x8192, .i1⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S_, .f32⟩
  | .hbm, ⟨26, _⟩ => ⟨S8x8192, .f32⟩
  | .hbm, ⟨27, _⟩ => ⟨S8x8192, .f32⟩
  | .hbm, ⟨28, _⟩ => ⟨S_, .f32⟩
  | .hbm, ⟨29, _⟩ => ⟨S8x8192, .f32⟩
  | .hbm, ⟨30, _⟩ => ⟨S8x8192, .i1⟩
  | .hbm, ⟨31, _⟩ => ⟨S_, .f32⟩
  | .hbm, ⟨32, _⟩ => ⟨S8x8192, .f32⟩
  | .hbm, ⟨33, _⟩ => ⟨S8x8192, .i1⟩
  | .hbm, ⟨34, _⟩ => ⟨S_, .f32⟩
  | .hbm, ⟨35, _⟩ => ⟨S8x8192, .f32⟩
  | .hbm, ⟨36, _⟩ => ⟨S_, .f32⟩
  | .hbm, ⟨37, _⟩ => ⟨S8x8192, .f32⟩
  | .hbm, ⟨38, _⟩ => ⟨S_, .f32⟩
  | .hbm, ⟨39, _⟩ => ⟨S8x8192, .f32⟩
  | .hbm, ⟨40, _⟩ => ⟨S8x8192, .f32⟩
  | .hbm, ⟨41, _⟩ => ⟨S8x8192, .f32⟩
  | .hbm, ⟨42, _⟩ => ⟨S8x8192x1, .f32⟩
  | .hbm, ⟨43, _⟩ => ⟨S8x8192x8192, .f32⟩
  | .hbm, ⟨44, _⟩ => ⟨S8x8192x8192, .f32⟩
  | .hbm, ⟨45, _⟩ => ⟨S8x8192x8192, .f32⟩
  | .hbm, ⟨46, _⟩ => ⟨S_, .f32⟩
  | .hbm, ⟨47, _⟩ => ⟨S8x8192, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S8x8192x1, .f32⟩
  | .hbm, ⟨52, _⟩ => ⟨S_, .f32⟩
  | .hbm, ⟨53, _⟩ => ⟨S8x8192x1, .f32⟩
  | .hbm, ⟨54, _⟩ => ⟨S8x8192x1, .f32⟩
  | .hbm, ⟨55, _⟩ => ⟨S8x8192x128, .f32⟩
  | .hbm, ⟨56, _⟩ => ⟨S8x128x8192, .f32⟩
  | .hbm, ⟨57, _⟩ => ⟨S8x8192x128, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S_, .f32⟩
  | .hbm, ⟨63, _⟩ => ⟨S8x8192, .f32⟩
  | .hbm, ⟨64, _⟩ => ⟨S8x8192x1, .f32⟩
  | .hbm, ⟨65, _⟩ => ⟨S8x8192x1, .f32⟩
  | .hbm, ⟨66, _⟩ => ⟨S8x8192x8192, .f32⟩
  | .hbm, ⟨67, _⟩ => ⟨S8x8192x8192, .f32⟩
  | .hbm, ⟨68, _⟩ => ⟨S_, .f32⟩
  | .hbm, ⟨69, _⟩ => ⟨S8x8192, .f32⟩
  | .hbm, ⟨70, _⟩ => ⟨S8x8192x8192, .f32⟩
  | .hbm, ⟨71, _⟩ => ⟨S8x8192x8192, .f32⟩
  | .hbm, ⟨72, _⟩ => ⟨S8x8192x8192, .f32⟩
  | .hbm, ⟨73, _⟩ => ⟨S8x8192x128, .f32⟩
  | .hbm, ⟨74, _⟩ => ⟨S8x8192x128, .f32⟩
  | _, _ => ⟨S8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Dact.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S1024x2048 : Shape := ⟨2, ![1024, 2048]⟩
abbrev S1024x1024 : Shape := ⟨2, ![1024, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .bf16⟩
  | .hbm, ⟨10, _⟩ => ⟨S8192x2048, .bf16⟩
  | .hbm, ⟨11, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DactRefIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .i1⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x2048, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Gdown.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S2048x1024 : Shape := ⟨2, ![2048, 1024]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .bf16⟩
  | .hbm, ⟨10, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdownRefIdeal.lean ====
abbrev S8192x2048 : Shape := ⟨2, ![8192, 2048]⟩
abbrev S2048x8192 : Shape := ⟨2, ![2048, 8192]⟩
abbrev S_ : Shape := ⟨0, ![]⟩
abbrev S8192x8192 : Shape := ⟨2, ![8192, 8192]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x2048, .f32⟩
  | .hbm, ⟨12, _⟩ => ⟨S2048x8192, .f32⟩
  | .hbm, ⟨13, _⟩ => ⟨S8192x2048, .f32⟩
  | .hbm, ⟨14, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Gup.lean ====
abbrev S8192x8192 : Shape := ⟨2, ![8192, 8192]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GupRefIdeal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S8192x2048, .f32⟩
  | .hbm, ⟨10, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dnorm.lean ====
abbrev S8192x8192 : Shape := ⟨2, ![8192, 8192]⟩
abbrev S2048x8192 : Shape := ⟨2, ![2048, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .f32⟩
  | .hbm, ⟨2, _⟩ => ⟨S8192x2048, .f32⟩
  | .hbm, ⟨3, _⟩ => ⟨S8192x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DnormRefIdeal.lean ====
abbrev S8192x8192 : Shape := ⟨2, ![8192, 8192]⟩
abbrev S2048x8192 : Shape := ⟨2, ![2048, 8192]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .f32⟩
  | .hbm, ⟨2, _⟩ => ⟨S_, .f32⟩
  | .hbm, ⟨3, _⟩ => ⟨S8192x2048, .f32⟩
  | .hbm, ⟨4, _⟩ => ⟨S8192x8192, .f32⟩
  | .hbm, ⟨5, _⟩ => ⟨S8192x8192, .f32⟩
  | .hbm, ⟨6, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Mla.lean ====
abbrev S8x8192x256 : Shape := ⟨3, ![8, 8192, 256]⟩
abbrev S8x8192x128 : Shape := ⟨3, ![8, 8192, 128]⟩
abbrev S8192x1024 : Shape := ⟨2, ![8192, 1024]⟩
abbrev S8192x2048 : Shape := ⟨2, ![8192, 2048]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8192x8x128 : Shape := ⟨3, ![8192, 8, 128]⟩
abbrev S8192x16x128 : Shape := ⟨3, ![8192, 16, 128]⟩
abbrev S8192x16 : Shape := ⟨2, ![8192, 16]⟩
abbrev S16x8192 : Shape := ⟨2, ![16, 8192]⟩
abbrev S16x8192x1 : Shape := ⟨3, ![16, 8192, 1]⟩
abbrev S1x2048x256 : Shape := ⟨3, ![1, 2048, 256]⟩
abbrev S1x1024x256 : Shape := ⟨3, ![1, 1024, 256]⟩
abbrev S1x1024x128 : Shape := ⟨3, ![1, 1024, 128]⟩
abbrev S2048x128 : Shape := ⟨2, ![2048, 128]⟩
abbrev S1x2048x1 : Shape := ⟨3, ![1, 2048, 1]⟩
abbrev S1x8192x256 : Shape := ⟨3, ![1, 8192, 256]⟩
abbrev S1024x256 : Shape := ⟨2, ![1024, 256]⟩
abbrev S1024x128 : Shape := ⟨2, ![1024, 128]⟩
abbrev S2048x256 : Shape := ⟨2, ![2048, 256]⟩
abbrev S2048x1024 : Shape := ⟨2, ![2048, 1024]⟩
abbrev S2048x1 : Shape := ⟨2, ![2048, 1]⟩

abbrev nBuf : Space → Nat
  | .hbm => 38
  | .vmem => 20
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .bf16⟩
  | .hbm, ⟨2, _⟩ => ⟨S8x8192x128, .bf16⟩
  | .hbm, ⟨3, _⟩ => ⟨S8192x1024, .bf16⟩
  | .hbm, ⟨4, _⟩ => ⟨S8192x2048, .bf16⟩
  | .hbm, ⟨5, _⟩ => ⟨S8x8192x256, .f32⟩
  | .hbm, ⟨6, _⟩ => ⟨S8x8192x256, .f32⟩
  | .hbm, ⟨7, _⟩ => ⟨S8x8192x128, .f32⟩
  | .hbm, ⟨8, _⟩ => ⟨S8x8192x8192, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S8x8192x8192, .f32⟩
  | .hbm, ⟨13, _⟩ => ⟨S8x8192x8192, .f32⟩
  | .hbm, ⟨14, _⟩ => ⟨S8x8192x8192, .f32⟩
  | .hbm, ⟨15, _⟩ => ⟨S_, .f32⟩
  | .hbm, ⟨16, _⟩ => ⟨S8x8192, .f32⟩
  | .hbm, ⟨17, _⟩ => ⟨S8x8192x1, .f32⟩
  | .hbm, ⟨18, _⟩ => ⟨S8x8192x1, .f32⟩
  | .hbm, ⟨19, _⟩ => ⟨S8x8192x1, .f32⟩
  | .hbm, ⟨20, _⟩ => ⟨S8x8192x8192, .f32⟩
  | .hbm, ⟨21, _⟩ => ⟨S8x8192x8192, .f32⟩
  | .hbm, ⟨22, _⟩ => ⟨S8x8192x128, .f32⟩
  | .hbm, ⟨23, _⟩ => ⟨S8192x8x128, .f32⟩
  | .hbm, ⟨24, _⟩ => ⟨S8192x1024, .f32⟩
  | .hbm, ⟨25, _⟩ => ⟨S8192x1024, .bf16⟩
  | .hbm, ⟨26, _⟩ => ⟨S8192x2048, .bf16⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x16x128, .f32⟩
  | .hbm, ⟨31, _⟩ => ⟨S_, .f32⟩
  | .hbm, ⟨32, _⟩ => ⟨S8192x16, .f32⟩
  | .hbm, ⟨33, _⟩ => ⟨S16x8192, .f32⟩
  | .hbm, ⟨34, _⟩ => ⟨S16x8192x1, .f32⟩
  | .hbm, ⟨35, _⟩ => ⟨S8x8192x256, .f32⟩
  | .hbm, ⟨36, _⟩ => ⟨S8x8192x256, .f32⟩
  | .hbm, ⟨37, _⟩ => ⟨S8x8192x128, .f32⟩
  | .local _ .vmem, ⟨0, _⟩ => ⟨S1x2048x256, .bf16⟩
  | .local _ .vmem, ⟨1, _⟩ => ⟨S1x2048x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x128, .bf16⟩
  | .local _ .vmem, ⟨5, _⟩ => ⟨S1x1024x128, .bf16⟩
  | .local _ .vmem, ⟨6, _⟩ => ⟨S2048x128, .bf16⟩
  | .local _ .vmem, ⟨7, _⟩ => ⟨S2048x128, .bf16⟩
  | .local _ .vmem, ⟨8, _⟩ => ⟨S1x2048x1, .f32⟩
  | .local _ .vmem, ⟨9, _⟩ => ⟨S1x2048x1, .f32⟩
  | .local _ .vmem, ⟨10, _⟩ => ⟨S1x2048x1, .f32⟩
  | .local _ .vmem, ⟨11, _⟩ => ⟨S1x2048x1, .f32⟩
  | .local _ .vmem, ⟨12, _⟩ => ⟨S1x8192x256, .f32⟩
  | .local _ .vmem, ⟨13, _⟩ => ⟨S1x8192x256, .f32⟩
  | .local _ .vmem, ⟨14, _⟩ => ⟨S1x1024x256, .f32⟩
  | .local _ .vmem, ⟨15, _⟩ => ⟨S1x1024x256, .f32⟩
  | .local _ .vmem, ⟨16, _⟩ => ⟨S1x1024x128, .f32⟩
  | .local _ .vmem, ⟨17, _⟩ => ⟨S1x1024x128, .f32⟩
  | .local _ .vmem, ⟨18, _⟩ => ⟨S1024x256, .f32⟩
  | .local _ .vmem, ⟨19, _⟩ => ⟨S1024x128, .f32⟩
  | _, _ => ⟨S8x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 8, 4], ![false, false, false]⟩

def k0_mult1 (i : grid0.Coords) : BitVec 32 :=
  let arg2 : BitVec 32 := BitVec.ofNat 32 (i 2).val
  let c2048_i32 : BitVec 32 := 2048#32
  let v37 : BitVec 32 := Scalar.muli arg2 c2048_i32
  v37
def k0_cond2 (i : grid0.Coords) : BitVec 1 :=
  let arg1 : BitVec 32 := BitVec.ofNat 32 (i 1).val
  let c0_i32_29 : BitVec 32 := 0#32
  let v39 : BitVec 1 := Scalar.cmpi .eq arg1 c0_i32_29
  let v40 : BitVec 32 := Scalar.extui v39
  let c0_i32_30 : BitVec 32 := 0#32
  let v41 : BitVec 1 := Scalar.cmpi .ne v40 c0_i32_30
  v41

def k0_off1 (i : grid0.Coords) : Fin 3 → Nat :=
  let c0_34 : Index := 0#32
  let arg2 : BitVec 32 := BitVec.ofNat 32 (i 2).val
  let c2048_i32 : BitVec 32 := 2048#32
  let v37 : BitVec 32 := Scalar.muli arg2 c2048_i32
  let v38 : BitVec 32 := v37
  let v48 : Index := Scalar.indexCast v38
  let c0_35 : Index := 0#32
  ![0, v48.toNat, 0]
def k0_cond3 (i : grid0.Coords) : BitVec 1 :=
  let arg1 : BitVec 32 := BitVec.ofNat 32 (i 1).val
  let c0_i32_31 : BitVec 32 := 0#32
  let v42 : BitVec 1 := Scalar.cmpi .sgt arg1 c0_i32_31
  let v43 : BitVec 32 := Scalar.extui v42
  let c0_i32_32 : BitVec 32 := 0#32
  let v44 : BitVec 1 := Scalar.cmpi .ne v43 c0_i32_32
  v44

def k0_off2 (i : grid0.Coords) : Fin 3 → Nat :=
  let c0_34 : Index := 0#32
  let arg2 : BitVec 32 := BitVec.ofNat 32 (i 2).val
  let c2048_i32 : BitVec 32 := 2048#32
  let v37 : BitVec 32 := Scalar.muli arg2 c2048_i32
  let v38 : BitVec 32 := v37
  let v48 : Index := Scalar.indexCast v38
  let c0_35 : Index := 0#32
  ![0, v48.toNat, 0]
def k0_cond4 (i : grid0.Coords) : BitVec 1 :=
  let arg2 : BitVec 32 := BitVec.ofNat 32 (i 2).val
  let c3_i32 : BitVec 32 := 3#32
  let v45 : BitVec 1 := Scalar.cmpi .eq arg2 c3_i32
  let v46 : BitVec 32 := Scalar.extui v45
  let c0_i32_33 : BitVec 32 := 0#32
  let v47 : BitVec 1 := Scalar.cmpi .ne v46 c0_i32_33
  v47

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg1.toNat, c0_i32_5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg1.toNat, c0_i32_5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![v0.toNat, arg2.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== MlaRefIdeal.lean ====
abbrev S8x8192x256 : Shape := ⟨3, ![8, 8192, 256]⟩
abbrev S8x8192x128 : Shape := ⟨3, ![8, 8192, 128]⟩
abbrev S8192x1024 : Shape := ⟨2, ![8192, 1024]⟩
abbrev S8192x2048 : Shape := ⟨2, ![8192, 2048]⟩
abbrev S8192x8x128 : Shape := ⟨3, ![8192, 8, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩

abbrev nBuf : Space → Nat
  | .hbm => 71
  | .vmem => 0
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .bf16⟩
  | .hbm, ⟨2, _⟩ => ⟨S8x8192x128, .bf16⟩
  | .hbm, ⟨3, _⟩ => ⟨S8192x1024, .bf16⟩
  | .hbm, ⟨4, _⟩ => ⟨S8192x2048, .bf16⟩
  | .hbm, ⟨5, _⟩ => ⟨S8192x1024, .bf16⟩
  | .hbm, ⟨6, _⟩ => ⟨S8192x1024, .f32⟩
  | .hbm, ⟨7, _⟩ => ⟨S8192x8x128, .f32⟩
  | .hbm, ⟨8, _⟩ => ⟨S8x8192x128, .f32⟩
  | .hbm, ⟨9, _⟩ => ⟨S8x8192x256, .f32⟩
  | .hbm, ⟨10, _⟩ => ⟨S8x8192x256, .f32⟩
  | .hbm, ⟨11, _⟩ => ⟨S8x8192x128, .f32⟩
  | .hbm, ⟨12, _⟩ => ⟨S8x8192x8192, .f32⟩
  | .hbm, ⟨13, _⟩ => ⟨S_, .f32⟩
  | .hbm, ⟨14, _⟩ => ⟨S8x8192, .f32⟩
  | .hbm, ⟨15, _⟩ => ⟨S8x8192x1, .f32⟩
  | .hbm, ⟨16, _⟩ => ⟨S8x8192x8192, .f32⟩
  | .hbm, ⟨17, _⟩ => ⟨S8x8192x8192, .i1⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S_, .f32⟩
  | .hbm, ⟨22, _⟩ => ⟨S8x8192, .f32⟩
  | .hbm, ⟨23, _⟩ => ⟨S8x8192, .f32⟩
  | .hbm, ⟨24, _⟩ => ⟨S_, .f32⟩
  | .hbm, ⟨25, _⟩ => ⟨S8x8192, .f32⟩
  | .hbm, ⟨26, _⟩ => ⟨S8x8192, .i1⟩
  | .hbm, ⟨27, _⟩ => ⟨S_, .f32⟩
  | .hbm, ⟨28, _⟩ => ⟨S8x8192, .f32⟩
  | .hbm, ⟨29, _⟩ => ⟨S8x8192, .i1⟩
  | .hbm, ⟨30, _⟩ => ⟨S_, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S_, .f32⟩
  | .hbm, ⟨35, _⟩ => ⟨S8x8192, .f32⟩
  | .hbm, ⟨36, _⟩ => ⟨S8x8192, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S8x8192x1, .f32⟩
  | .hbm, ⟨45, _⟩ => ⟨S8x8192x8192, .f32⟩
  | .hbm, ⟨46, _⟩ => ⟨S8x8192x8192, .f32⟩
  | .hbm, ⟨47, _⟩ => ⟨S8x8192x1, .f32⟩
  | .hbm, ⟨48, _⟩ => ⟨S_, .f32⟩
  | .hbm, ⟨49, _⟩ => ⟨S8x8192x1, .f32⟩
  | .hbm, ⟨50, _⟩ => ⟨S8x8192x1, .f32⟩
  | .hbm, ⟨51, _⟩ => ⟨S8x8192x128, .f32⟩
  | .hbm, ⟨52, _⟩ => ⟨S8x128x8192, .f32⟩
  | .hbm, ⟨53, _⟩ => ⟨S8x8192x128, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S_, .f32⟩
  | .hbm, ⟨59, _⟩ => ⟨S8x8192, .f32⟩
  | .hbm, ⟨60, _⟩ => ⟨S8x8192x1, .f32⟩
  | .hbm, ⟨61, _⟩ => ⟨S8x8192x1, .f32⟩
  | .hbm, ⟨62, _⟩ => ⟨S8x8192x8192, .f32⟩
  | .hbm, ⟨63, _⟩ => ⟨S8x8192x8192, .f32⟩
  | .hbm, ⟨64, _⟩ => ⟨S_, .f32⟩
  | .hbm, ⟨65, _⟩ => ⟨S8x8192, .f32⟩
  | .hbm, ⟨66, _⟩ => ⟨S8x8192x8192, .f32⟩
  | .hbm, ⟨67, _⟩ => ⟨S8x8192x8192, .f32⟩
  | .hbm, ⟨68, _⟩ => ⟨S8x8192x8192, .f32⟩
  | .hbm, ⟨69, _⟩ => ⟨S8x8192x256, .f32⟩
  | .hbm, ⟨70, _⟩ => ⟨S8x8192x256, .f32⟩
  | _, _ => ⟨S8x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Up.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .bf16⟩
  | .hbm, ⟨4, _⟩ => ⟨S8192x8192, .bf16⟩
  | .hbm, ⟨5, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x8192, .bf16⟩
  | .hbm, ⟨9, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S8192x8192 : Shape := ⟨2, ![8192, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x8192 : Shape := ⟨2, ![8192, 8192]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .f32⟩
  | .hbm, ⟨3, _⟩ => ⟨S8192x8192, .f32⟩
  | .hbm, ⟨4, _⟩ => ⟨S8192x2048, .f32⟩
  | .hbm, ⟨5, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Fwd.lean ====
abbrev S8x8192x128 : Shape := ⟨3, ![8, 8192, 128]⟩
abbrev S2x8192x128 : Shape := ⟨3, ![2, 8192, 128]⟩
abbrev S8192x1024 : Shape := ⟨2, ![8192, 1024]⟩
abbrev S8x8192x1 : Shape := ⟨3, ![8, 8192, 1]⟩
abbrev S1x1024x128 : Shape := ⟨3, ![1, 1024, 128]⟩
abbrev S1x8192x128 : Shape := ⟨3, ![1, 8192, 128]⟩
abbrev S1024x128 : Shape := ⟨2, ![1024, 128]⟩
abbrev S1x1024x1 : Shape := ⟨3, ![1, 1024, 1]⟩
abbrev S1024x1 : Shape := ⟨2, ![1024, 1]⟩
abbrev S8192x128 : Shape := ⟨2, ![8192, 128]⟩
abbrev S1024x8192 : Shape := ⟨2, ![1024, 8192]⟩
abbrev S1024 : Shape := ⟨1, ![1024]⟩

abbrev nBuf : Space → Nat
  | .hbm => 5
  | .vmem => 13
  | .smem => 0
  | _ => 0

abbrev bufTy : (tb : Table) → Fin (tcTables nBuf tb) → BufTy
  | .hbm, ⟨0, _⟩ => ⟨S8x8192x128, .bf16⟩
  | .hbm, ⟨1, _⟩ => ⟨S2x8192x128, .bf16⟩
  | .hbm, ⟨2, _⟩ => ⟨S2x8192x128, .bf16⟩
  | .hbm, ⟨3, _⟩ => ⟨S8192x1024, .bf16⟩
  | .hbm, ⟨4, _⟩ => ⟨S8x8192x1, .f32⟩
  | .local _ .vmem, ⟨0, _⟩ => ⟨S1x1024x128, .bf16⟩
  | .local _ .vmem, ⟨1, _⟩ => ⟨S1x1024x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1024x128, .bf16⟩
  | .local _ .vmem, ⟨7, _⟩ => ⟨S1024x128, .bf16⟩
  | .local _ .vmem, ⟨8, _⟩ => ⟨S1x1024x1, .f32⟩
  | .local _ .vmem, ⟨9, _⟩ => ⟨S1x1024x1, .f32⟩
  | .local _ .vmem, ⟨10, _⟩ => ⟨S1024x1, .f32⟩
  | .local _ .vmem, ⟨11, _⟩ => ⟨S1024x1, .f32⟩
  | .local _ .vmem, ⟨12, _⟩ => ⟨S1024x128, .f32⟩
  | _, _ => ⟨S8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_26 : BitVec 32 := 0#32
  let v40 : BitVec 1 := Scalar.cmpi .eq arg2 c0_i32_26
  let v41 : BitVec 32 := Scalar.extui v40
  let c0_i32_27 : BitVec 32 := 0#32
  let v42 : BitVec 1 := Scalar.cmpi .ne v41 c0_i32_27
  v42

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg2.toNat, c0_i32_4.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg2.toNat, c0_i32_4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FwdRefIdeal.lean ====
abbrev S8x8192x128 : Shape := ⟨3, ![8, 8192, 128]⟩
abbrev S2x8192x128 : Shape := ⟨3, ![2, 8192, 128]⟩
abbrev S2x4x8192x128 : Shape := ⟨4, ![2, 4, 8192, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8192x8x128 : Shape := ⟨3, ![8192, 8, 128]⟩
abbrev S8192x1024 : Shape := ⟨2, ![8192, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8x8192x128, .bf16⟩
  | .hbm, ⟨1, _⟩ => ⟨S2x8192x128, .bf16⟩
  | .hbm, ⟨2, _⟩ => ⟨S2x8192x128, .bf16⟩
  | .hbm, ⟨3, _⟩ => ⟨S2x8192x128, .f32⟩
  | .hbm, ⟨4, _⟩ => ⟨S2x4x8192x128, .f32⟩
  | .hbm, ⟨5, _⟩ => ⟨S8x8192x128, .f32⟩
  | .hbm, ⟨6, _⟩ => ⟨S2x8192x128, .f32⟩
  | .hbm, ⟨7, _⟩ => ⟨S2x4x8192x128, .f32⟩
  | .hbm, ⟨8, _⟩ => ⟨S8x8192x128, .f32⟩
  | .hbm, ⟨9, _⟩ => ⟨S8x8192x128, .f32⟩
  | .hbm, ⟨10, _⟩ => ⟨S8x8192x8192, .f32⟩
  | .hbm, ⟨11, _⟩ => ⟨S_, .f32⟩
  | .hbm, ⟨12, _⟩ => ⟨S8x8192, .f32⟩
  | .hbm, ⟨13, _⟩ => ⟨S_, .f32⟩
  | .hbm, ⟨14, _⟩ => ⟨S8x8192, .f32⟩
  | .hbm, ⟨15, _⟩ => ⟨S8x8192, .f32⟩
  | .hbm, ⟨16, _⟩ => ⟨S8x8192x1, .f32⟩
  | .hbm, ⟨17, _⟩ => ⟨S8x8192x8192, .f32⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .f32⟩
  | .hbm, ⟨25, _⟩ => ⟨S8x8192x128, .f32⟩
  | .hbm, ⟨26, _⟩ => ⟨S8192x8x128, .f32⟩
  | .hbm, ⟨27, _⟩ => ⟨S8192x1024, .f32⟩
  | .hbm, ⟨28, _⟩ => ⟨S8192x1024, .bf16⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S8x8192x1, .f32⟩
  | .hbm, ⟨34, _⟩ => ⟨S8x8192x1, .f32⟩
  | _, _ => ⟨S8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== MlaFwd.lean ====
abbrev S8x8192x256 : Shape := ⟨3, ![8, 8192, 256]⟩
abbrev S8x8192x128 : Shape := ⟨3, ![8, 8192, 128]⟩
abbrev S8192x1024 : Shape := ⟨2, ![8192, 1024]⟩
abbrev S8x8192x1 : Shape := ⟨3, ![8, 8192, 1]⟩
abbrev S1x1024x256 : Shape := ⟨3, ![1, 1024, 256]⟩
abbrev S1x8192x256 : Shape := ⟨3, ![1, 8192, 256]⟩
abbrev S1x8192x128 : Shape := ⟨3, ![1, 8192, 128]⟩
abbrev S1024x128 : Shape := ⟨2, ![1024, 128]⟩
abbrev S1x1024x1 : Shape := ⟨3, ![1, 1024, 1]⟩
abbrev S1024x1 : Shape := ⟨2, ![1024, 1]⟩
abbrev S1024x256 : Shape := ⟨2, ![1024, 256]⟩
abbrev S8192x256 : Shape := ⟨2, ![8192, 256]⟩
abbrev S1024x8192 : Shape := ⟨2, ![1024, 8192]⟩
abbrev S1024 : Shape := ⟨1, ![1024]⟩
abbrev S8192x128 : Shape := ⟨2, ![8192, 128]⟩

abbrev nBuf : Space → Nat
  | .hbm => 5
  | .vmem => 13
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .bf16⟩
  | .hbm, ⟨2, _⟩ => ⟨S8x8192x128, .bf16⟩
  | .hbm, ⟨3, _⟩ => ⟨S8192x1024, .bf16⟩
  | .hbm, ⟨4, _⟩ => ⟨S8x8192x1, .f32⟩
  | .local _ .vmem, ⟨0, _⟩ => ⟨S1x1024x256, .bf16⟩
  | .local _ .vmem, ⟨1, _⟩ => ⟨S1x1024x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1024x128, .bf16⟩
  | .local _ .vmem, ⟨7, _⟩ => ⟨S1024x128, .bf16⟩
  | .local _ .vmem, ⟨8, _⟩ => ⟨S1x1024x1, .f32⟩
  | .local _ .vmem, ⟨9, _⟩ => ⟨S1x1024x1, .f32⟩
  | .local _ .vmem, ⟨10, _⟩ => ⟨S1024x1, .f32⟩
  | .local _ .vmem, ⟨11, _⟩ => ⟨S1024x1, .f32⟩
  | .local _ .vmem, ⟨12, _⟩ => ⟨S1024x128, .f32⟩
  | _, _ => ⟨S8x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_26 : BitVec 32 := 0#32
  let v40 : BitVec 1 := Scalar.cmpi .eq arg2 c0_i32_26
  let v41 : BitVec 32 := Scalar.extui v40
  let c0_i32_27 : BitVec 32 := 0#32
  let v42 : BitVec 1 := Scalar.cmpi .ne v41 c0_i32_27
  v42

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg2.toNat, c0_i32_5.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg2.toNat, c0_i32_5.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MlaFwdRefIdeal.lean ====
abbrev S8x8192x256 : Shape := ⟨3, ![8, 8192, 256]⟩
abbrev S8x8192x128 : Shape := ⟨3, ![8, 8192, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8192x8x128 : Shape := ⟨3, ![8192, 8, 128]⟩
abbrev S8192x1024 : Shape := ⟨2, ![8192, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8x8192x256, .bf16⟩
  | .hbm, ⟨1, _⟩ => ⟨S8x8192x256, .bf16⟩
  | .hbm, ⟨2, _⟩ => ⟨S8x8192x128, .bf16⟩
  | .hbm, ⟨3, _⟩ => ⟨S8x8192x256, .f32⟩
  | .hbm, ⟨4, _⟩ => ⟨S8x8192x256, .f32⟩
  | .hbm, ⟨5, _⟩ => ⟨S8x8192x128, .f32⟩
  | .hbm, ⟨6, _⟩ => ⟨S8x8192x8192, .f32⟩
  | .hbm, ⟨7, _⟩ => ⟨S_, .f32⟩
  | .hbm, ⟨8, _⟩ => ⟨S8x8192, .f32⟩
  | .hbm, ⟨9, _⟩ => ⟨S_, .f32⟩
  | .hbm, ⟨10, _⟩ => ⟨S8x8192, .f32⟩
  | .hbm, ⟨11, _⟩ => ⟨S8x8192, .f32⟩
  | .hbm, ⟨12, _⟩ => ⟨S8x8192x1, .f32⟩
  | .hbm, ⟨13, _⟩ => ⟨S8x8192x8192, .f32⟩
  | .hbm, ⟨14, _⟩ => ⟨S8x8192x8192, .f32⟩
  | .hbm, ⟨15, _⟩ => ⟨S8x8192x8192, .f32⟩
  | .hbm, ⟨16, _⟩ => ⟨S_, .f32⟩
  | .hbm, ⟨17, _⟩ => ⟨S8x8192, .f32⟩
  | .hbm, ⟨18, _⟩ => ⟨S8x8192x1, .f32⟩
  | .hbm, ⟨19, _⟩ => ⟨S8x8192x8192, .f32⟩
  | .hbm, ⟨20, _⟩ => ⟨S8x8192x8192, .f32⟩
  | .hbm, ⟨21, _⟩ => ⟨S8x8192x128, .f32⟩
  | .hbm, ⟨22, _⟩ => ⟨S8192x8x128, .f32⟩
  | .hbm, ⟨23, _⟩ => ⟨S8192x1024, .f32⟩
  | .hbm, ⟨24, _⟩ => ⟨S8192x1024, .bf16⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x1, .f32⟩
  | _, _ => ⟨S8x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dattn.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .bf16⟩
  | .hbm, ⟨3, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DattnRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gout.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GoutRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OddIn.lean ====
abbrev S8192x2048 : Shape := ⟨2, ![8192, 2048]⟩
abbrev S2048x2560 : Shape := ⟨2, ![2048, 2560]⟩
abbrev S2560x2048 : Shape := ⟨2, ![2560, 2048]⟩
abbrev S8192x2560 : Shape := ⟨2, ![8192, 2560]⟩
abbrev S1024x2048 : Shape := ⟨2, ![1024, 2048]⟩
abbrev S1280x2048 : Shape := ⟨2, ![1280, 2048]⟩
abbrev S1024x1280 : Shape := ⟨2, ![1024, 1280]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2560, .f32⟩
  | .hbm, ⟨2, _⟩ => ⟨S2560x2048, .f32⟩
  | .hbm, ⟨3, _⟩ => ⟨S2560x2048, .bf16⟩
  | .hbm, ⟨4, _⟩ => ⟨S8192x2560, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1024x1280, .f32⟩
  | .local _ .vmem, ⟨5, _⟩ => ⟨S1024x1280, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddInRefIdeal.lean ====
abbrev S8192x2048 : Shape := ⟨2, ![8192, 2048]⟩
abbrev S2048x2560 : Shape := ⟨2, ![2048, 2560]⟩
abbrev S8192x2560 : Shape := ⟨2, ![8192, 2560]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2560, .f32⟩
  | .hbm, ⟨2, _⟩ => ⟨S8192x2048, .f32⟩
  | .hbm, ⟨3, _⟩ => ⟨S8192x2560, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OddGin.lean ====
abbrev S8192x2560 : Shape := ⟨2, ![8192, 2560]⟩
abbrev S8192x2048 : Shape := ⟨2, ![8192, 2048]⟩
abbrev S2560x2048 : Shape := ⟨2, ![2560, 2048]⟩
abbrev S2048x1280 : Shape := ⟨2, ![2048, 1280]⟩
abbrev S2048x1024 : Shape := ⟨2, ![2048, 1024]⟩
abbrev S1280x1024 : Shape := ⟨2, ![1280, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2560, .bf16⟩
  | .hbm, ⟨1, _⟩ => ⟨S8192x2048, .bf16⟩
  | .hbm, ⟨2, _⟩ => ⟨S2560x2048, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddGinRefIdeal.lean ====
abbrev S8192x2560 : Shape := ⟨2, ![8192, 2560]⟩
abbrev S8192x2048 : Shape := ⟨2, ![8192, 2048]⟩
abbrev S_ : Shape := ⟨0, ![]⟩
abbrev S2048x2560 : Shape := ⟨2, ![2048, 2560]⟩
abbrev S2560x2048 : Shape := ⟨2, ![2560, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x2048, .bf16⟩
  | .hbm, ⟨2, _⟩ => ⟨S_, .f32⟩
  | .hbm, ⟨3, _⟩ => ⟨S2048x2560, .f32⟩
  | .hbm, ⟨4, _⟩ => ⟨S8192x2048, .f32⟩
  | .hbm, ⟨5, _⟩ => ⟨S8192x2560, .f32⟩
  | .hbm, ⟨6, _⟩ => ⟨S8192x2560, .f32⟩
  | .hbm, ⟨7, _⟩ => ⟨S2560x2048, .f32⟩
  | .hbm, ⟨8, _⟩ => ⟨S2048x2560, .f32⟩
  | .hbm, ⟨9, _⟩ => ⟨S2560x2048, .f32⟩
  | .hbm, ⟨10, _⟩ => ⟨S2560x2048, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OddDnorm.lean ====
abbrev S8192x2560 : Shape := ⟨2, ![8192, 2560]⟩
abbrev S2048x2560 : Shape := ⟨2, ![2048, 2560]⟩
abbrev S2560x2048 : Shape := ⟨2, ![2560, 2048]⟩
abbrev S8192x2048 : Shape := ⟨2, ![8192, 2048]⟩
abbrev S1024x2560 : Shape := ⟨2, ![1024, 2560]⟩
abbrev S2560x1024 : Shape := ⟨2, ![2560, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2560, .bf16⟩
  | .hbm, ⟨1, _⟩ => ⟨S2048x2560, .f32⟩
  | .hbm, ⟨2, _⟩ => ⟨S2560x2048, .f32⟩
  | .hbm, ⟨3, _⟩ => ⟨S2560x2048, .bf16⟩
  | .hbm, ⟨4, _⟩ => ⟨S8192x2048, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1024x1024, .f32⟩
  | .local _ .vmem, ⟨5, _⟩ => ⟨S1024x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddDnormRefIdeal.lean ====
abbrev S8192x2560 : Shape := ⟨2, ![8192, 2560]⟩
abbrev S2048x2560 : Shape := ⟨2, ![2048, 2560]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S2048x2560, .f32⟩
  | .hbm, ⟨2, _⟩ => ⟨S_, .f32⟩
  | .hbm, ⟨3, _⟩ => ⟨S8192x2048, .f32⟩
  | .hbm, ⟨4, _⟩ => ⟨S8192x2560, .f32⟩
  | .hbm, ⟨5, _⟩ => ⟨S8192x2560, .f32⟩
  | .hbm, ⟨6, _⟩ => ⟨S8192x2048, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== EvenIn.lean ====
abbrev S8192x2048 : Shape := ⟨2, ![8192, 2048]⟩
abbrev S2048x2368 : Shape := ⟨2, ![2048, 2368]⟩
abbrev S2368x2048 : Shape := ⟨2, ![2368, 2048]⟩
abbrev S832x2048 : Shape := ⟨2, ![832, 2048]⟩
abbrev S_ : Shape := ⟨0, ![]⟩
abbrev S64x2048 : Shape := ⟨2, ![64, 2048]⟩
abbrev S1536x2048 : Shape := ⟨2, ![1536, 2048]⟩
abbrev S2432x2048 : Shape := ⟨2, ![2432, 2048]⟩
abbrev S8192x2432 : Shape := ⟨2, ![8192, 2432]⟩
abbrev S512x2048 : Shape := ⟨2, ![512, 2048]⟩
abbrev S512x2432 : Shape := ⟨2, ![512, 2432]⟩

abbrev nBuf : Space → Nat
  | .hbm => 10
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2368, .f32⟩
  | .hbm, ⟨2, _⟩ => ⟨S2368x2048, .f32⟩
  | .hbm, ⟨3, _⟩ => ⟨S2368x2048, .bf16⟩
  | .hbm, ⟨4, _⟩ => ⟨S832x2048, .bf16⟩
  | .hbm, ⟨5, _⟩ => ⟨S_, .bf16⟩
  | .hbm, ⟨6, _⟩ => ⟨S64x2048, .bf16⟩
  | .hbm, ⟨7, _⟩ => ⟨S1536x2048, .bf16⟩
  | .hbm, ⟨8, _⟩ => ⟨S2432x2048, .bf16⟩
  | .hbm, ⟨9, _⟩ => ⟨S8192x2432, .f32⟩
  | .local _ .vmem, ⟨0, _⟩ => ⟨S512x2048, .bf16⟩
  | .local _ .vmem, ⟨1, _⟩ => ⟨S512x2048, .bf16⟩
  | .local _ .vmem, ⟨2, _⟩ => ⟨S2432x2048, .bf16⟩
  | .local _ .vmem, ⟨3, _⟩ => ⟨S512x2432, .f32⟩
  | .local _ .vmem, ⟨4, _⟩ => ⟨S512x2432, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2432x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenInRefIdeal.lean ====
abbrev S8192x2048 : Shape := ⟨2, ![8192, 2048]⟩
abbrev S2048x2368 : Shape := ⟨2, ![2048, 2368]⟩
abbrev S8192x2368 : Shape := ⟨2, ![8192, 2368]⟩
abbrev S8192x832 : Shape := ⟨2, ![8192, 832]⟩
abbrev S_ : Shape := ⟨0, ![]⟩
abbrev S8192x64 : Shape := ⟨2, ![8192, 64]⟩
abbrev S8192x1536 : Shape := ⟨2, ![8192, 1536]⟩
abbrev S8192x2432 : Shape := ⟨2, ![8192, 2432]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2368, .f32⟩
  | .hbm, ⟨2, _⟩ => ⟨S8192x2048, .f32⟩
  | .hbm, ⟨3, _⟩ => ⟨S8192x2368, .f32⟩
  | .hbm, ⟨4, _⟩ => ⟨S8192x832, .f32⟩
  | .hbm, ⟨5, _⟩ => ⟨S_, .f32⟩
  | .hbm, ⟨6, _⟩ => ⟨S8192x64, .f32⟩
  | .hbm, ⟨7, _⟩ => ⟨S8192x1536, .f32⟩
  | .hbm, ⟨8, _⟩ => ⟨S8192x2432, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvenGin.lean ====
abbrev S8192x2432 : Shape := ⟨2, ![8192, 2432]⟩
abbrev S8192x2048 : Shape := ⟨2, ![8192, 2048]⟩
abbrev S2432x2048 : Shape := ⟨2, ![2432, 2048]⟩
abbrev S1024x2432 : Shape := ⟨2, ![1024, 2432]⟩
abbrev S1024x1024 : Shape := ⟨2, ![1024, 1024]⟩
abbrev S2432x1024 : Shape := ⟨2, ![2432, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2432, .bf16⟩
  | .hbm, ⟨1, _⟩ => ⟨S8192x2048, .bf16⟩
  | .hbm, ⟨2, _⟩ => ⟨S2432x2048, .bf16⟩
  | .local _ .vmem, ⟨0, _⟩ => ⟨S1024x2432, .bf16⟩
  | .local _ .vmem, ⟨1, _⟩ => ⟨S1024x2432, .bf16⟩
  | .local _ .vmem, ⟨2, _⟩ => ⟨S1024x1024, .bf16⟩
  | .local _ .vmem, ⟨3, _⟩ => ⟨S1024x1024, .bf16⟩
  | .local _ .vmem, ⟨4, _⟩ => ⟨S2432x1024, .bf16⟩
  | .local _ .vmem, ⟨5, _⟩ => ⟨S2432x1024, .bf16⟩
  | .local _ .vmem, ⟨6, _⟩ => ⟨S2432x1024, .f32⟩
  | _, _ => ⟨S8192x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2432x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenGinRefIdeal.lean ====
abbrev S8192x2432 : Shape := ⟨2, ![8192, 2432]⟩
abbrev S8192x2048 : Shape := ⟨2, ![8192, 2048]⟩
abbrev S_ : Shape := ⟨0, ![]⟩
abbrev S2048x2432 : Shape := ⟨2, ![2048, 2432]⟩
abbrev S2432x2048 : Shape := ⟨2, ![2432, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2432, .bf16⟩
  | .hbm, ⟨1, _⟩ => ⟨S8192x2048, .bf16⟩
  | .hbm, ⟨2, _⟩ => ⟨S_, .f32⟩
  | .hbm, ⟨3, _⟩ => ⟨S2048x2432, .f32⟩
  | .hbm, ⟨4, _⟩ => ⟨S8192x2048, .f32⟩
  | .hbm, ⟨5, _⟩ => ⟨S8192x2432, .f32⟩
  | .hbm, ⟨6, _⟩ => ⟨S8192x2432, .f32⟩
  | .hbm, ⟨7, _⟩ => ⟨S2432x2048, .f32⟩
  | .hbm, ⟨8, _⟩ => ⟨S2048x2432, .f32⟩
  | .hbm, ⟨9, _⟩ => ⟨S2432x2048, .f32⟩
  | .hbm, ⟨10, _⟩ => ⟨S2432x2048, .bf16⟩
  | _, _ => ⟨S8192x2432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== EvenDnorm.lean ====
abbrev S8192x2432 : Shape := ⟨2, ![8192, 2432]⟩
abbrev S2048x2368 : Shape := ⟨2, ![2048, 2368]⟩
abbrev S2368x2048 : Shape := ⟨2, ![2368, 2048]⟩
abbrev S832x2048 : Shape := ⟨2, ![832, 2048]⟩
abbrev S_ : Shape := ⟨0, ![]⟩
abbrev S64x2048 : Shape := ⟨2, ![64, 2048]⟩
abbrev S1536x2048 : Shape := ⟨2, ![1536, 2048]⟩
abbrev S2432x2048 : Shape := ⟨2, ![2432, 2048]⟩
abbrev S8192x2048 : Shape := ⟨2, ![8192, 2048]⟩
abbrev S1024x2432 : Shape := ⟨2, ![1024, 2432]⟩
abbrev S2432x1024 : Shape := ⟨2, ![2432, 1024]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S8192x2432, .bf16⟩
  | .hbm, ⟨1, _⟩ => ⟨S2048x2368, .f32⟩
  | .hbm, ⟨2, _⟩ => ⟨S2368x2048, .f32⟩
  | .hbm, ⟨3, _⟩ => ⟨S2368x2048, .bf16⟩
  | .hbm, ⟨4, _⟩ => ⟨S832x2048, .bf16⟩
  | .hbm, ⟨5, _⟩ => ⟨S_, .bf16⟩
  | .hbm, ⟨6, _⟩ => ⟨S64x2048, .bf16⟩
  | .hbm, ⟨7, _⟩ => ⟨S1536x2048, .bf16⟩
  | .hbm, ⟨8, _⟩ => ⟨S2432x2048, .bf16⟩
  | .hbm, ⟨9, _⟩ => ⟨S8192x2048, .f32⟩
  | .local _ .vmem, ⟨0, _⟩ => ⟨S1024x2432, .bf16⟩
  | .local _ .vmem, ⟨1, _⟩ => ⟨S1024x2432, .bf16⟩
  | .local _ .vmem, ⟨2, _⟩ => ⟨S2432x1024, .bf16⟩
  | .local _ .vmem, ⟨3, _⟩ => ⟨S2432x1024, .bf16⟩
  | .local _ .vmem, ⟨4, _⟩ => ⟨S1024x1024, .f32⟩
  | .local _ .vmem, ⟨5, _⟩ => ⟨S1024x1024, .f32⟩
  | _, _ => ⟨S8192x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2432x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvenDnormRefIdeal.lean ====
abbrev S8192x2432 : Shape := ⟨2, ![8192, 2432]⟩
abbrev S2048x2368 : Shape := ⟨2, ![2048, 2368]⟩
abbrev S_ : Shape := ⟨0, ![]⟩
abbrev S8192x2048 : Shape := ⟨2, ![8192, 2048]⟩
abbrev S8192x832 : Shape := ⟨2, ![8192, 832]⟩
abbrev S8192x1536 : Shape := ⟨2, ![8192, 1536]⟩
abbrev S8192x2368 : Shape := ⟨2, ![8192, 2368]⟩

abbrev nBuf : Space → Nat
  | .hbm => 10
  | .vmem => 0
  | .smem => 0
  | _ => 0

abbrev bufTy : (tb : Table) → Fin (tcTables nBuf tb) → BufTy
  | .hbm, ⟨0, _⟩ => ⟨S8192x2432, .bf16⟩
  | .hbm, ⟨1, _⟩ => ⟨S2048x2368, .f32⟩
  | .hbm, ⟨2, _⟩ => ⟨S_, .f32⟩
  | .hbm, ⟨3, _⟩ => ⟨S8192x2048, .f32⟩
  | .hbm, ⟨4, _⟩ => ⟨S8192x2432, .f32⟩
  | .hbm, ⟨5, _⟩ => ⟨S8192x832, .f32⟩
  | .hbm, ⟨6, _⟩ => ⟨S8192x1536, .f32⟩
  | .hbm, ⟨7, _⟩ => ⟨S8192x2368, .f32⟩
  | .hbm, ⟨8, _⟩ => ⟨S8192x2368, .f32⟩
  | .hbm, ⟨9, _⟩ => ⟨S8192x2048, .f32⟩
  | _, _ => ⟨S8192x2432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Loss.lean ====
abbrev S8192x8192 : Shape := ⟨2, ![8192, 8192]⟩
abbrev S8192x2048 : Shape := ⟨2, ![8192, 2048]⟩
abbrev S1x1 : Shape := ⟨2, ![1, 1]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩

abbrev nBuf : Space → Nat
  | .hbm => 7
  | .vmem => 12
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .bf16⟩
  | .hbm, ⟨5, _⟩ => ⟨S8192x2048, .f32⟩
  | .hbm, ⟨6, _⟩ => ⟨S1x1, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1, .f32⟩
  | .local _ .vmem, ⟨11, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def k0_cond4 (i : grid0.Coords) : BitVec 1 :=
  let arg0 : BitVec 32 := BitVec.ofNat 32 (i 0).val
  let c0_i32_19 : BitVec 32 := 0#32
  let v29 : BitVec 1 := Scalar.cmpi .eq arg0 c0_i32_19
  let arg1 : BitVec 32 := BitVec.ofNat 32 (i 1).val
  let c0_i32_20 : BitVec 32 := 0#32
  let v30 : BitVec 1 := Scalar.cmpi .eq arg1 c0_i32_20
  let v31 : BitVec 1 := Scalar.andi v29 v30
  let v32 : BitVec 32 := Scalar.extui v31
  let c0_i32_21 : BitVec 32 := 0#32
  let v33 : BitVec 1 := Scalar.cmpi .ne v32 c0_i32_21
  v33

def k0_cond5 (i : grid0.Coords) : BitVec 1 :=
  let arg0 : BitVec 32 := BitVec.ofNat 32 (i 0).val
  let c0_i32_19 : BitVec 32 := 0#32
  let v29 : BitVec 1 := Scalar.cmpi .eq arg0 c0_i32_19
  let arg1 : BitVec 32 := BitVec.ofNat 32 (i 1).val
  let c0_i32_20 : BitVec 32 := 0#32
  let v30 : BitVec 1 := Scalar.cmpi .eq arg1 c0_i32_20
  let v31 : BitVec 1 := Scalar.andi v29 v30
  let v_true : BitVec 1 := 1#1
  let v34 : BitVec 1 := Scalar.xori v31 v_true
  let v35 : BitVec 32 := Scalar.extui v34
  let c0_i32_22 : BitVec 32 := 0#32
  let v36 : BitVec 1 := Scalar.cmpi .ne v35 c0_i32_22
  v36

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]
-- ==== LossRefIdeal.lean ====
abbrev S8192x8192 : Shape := ⟨2, ![8192, 8192]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1 : Shape := ⟨1, ![1]⟩
abbrev S1x1 : Shape := ⟨2, ![1, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S1, .f32⟩
  | .hbm, ⟨37, _⟩ => ⟨S1x1, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_cst_6 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Proof.Same.lean ====
/-
  The kernel's program and its idealization are one text: equal body tables and equal host operations, at the machine's
  floats. A run of the one is a run of the other.
-/
module

public import proofs.«01_k».proof.Proof.Gen.Kernel
public import proofs.«01_k».proof.Proof.Gen.KernelIdeal
public import Idealize.ShloMosaic.PureOps.BitExact
public import Idealize.ShloMosaic.Adequacy
public import Idealize.ShloMosaic.Init

@[expose] public section

set_option maxRecDepth 65536
set_option maxHeartbeats 0

noncomputable section

namespace Cert.Proof

open Idealize.ShloMosaic Idealize.SL.Sem

theorem bodies_eq : Cert.Kernel.defs₀ (F := Bits) = Cert.KernelIdeal.defs₀ (F := Bits) :=
  congrArg Defs.onTc (funext fun l => match l with | 0 => rfl)

theorem defs_eq : Cert.Kernel.defs (F := Bits) = Cert.KernelIdeal.defs (F := Bits) :=
  congrArg (Pipeline.defs Cert.KernelIdeal.pcfgs) bodies_eq

theorem main_eq : Cert.Kernel.main (F := Bits) = Cert.KernelIdeal.main (F := Bits) := rfl

/-- A run of the idealization's text at the machine's floats is the kernel's. -/
theorem run_of (s : MemSt Cert.KernelIdeal.nD Cert.KernelIdeal.τ Cert.KernelIdeal.sig (Elt Bits)) (Q : PUnit × MemSt Cert.KernelIdeal.nD Cert.KernelIdeal.τ Cert.KernelIdeal.sig (Elt Bits) → Prop)
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q :=
  have key : ∀ d p, d = Cert.KernelIdeal.defs (F := Bits) → p = Cert.KernelIdeal.main (F := Bits) →
      θ_run d (onTc (τ := Cert.KernelIdeal.τ) p) s Q := fun d p hd hp => by subst hd hp; exact h
  key _ _ defs_eq main_eq

end Cert.Proof

end
-- ==== Proof.Blocked.lean ====
/-
  What the calls of the gradient of the MLP share: a sum over 8192 places taken in four blocks of 2048, or in
  eight of 1024.
-/
module

public import Idealize.ShloMosaic.Lib.Pointwise

@[expose] public section

noncomputable section

namespace Cert.Mlp

open scoped BigOperators
open Idealize.ShloMosaic

/-- Place `j` of block `b`. -/
def at4 (b : ℕ) (hb : b < 4) (j : Fin 2048) : Fin 8192 := ⟨2048 * b + j.val, by omega⟩

/-- The four blocks' sums, added in order, are the whole sum. -/
theorem sum_blocks (f : Fin 8192 → EReal) :
    ((∑ j, f (at4 0 (by decide) j) + ∑ j, f (at4 1 (by decide) j)) + ∑ j, f (at4 2 (by decide) j)) + ∑ j, f (at4 3 (by decide) j) = ∑ k, f k := by
  have e : ∑ k, f k = ∑ k : Fin (((2048 + 2048) + 2048) + 2048), f k := rfl
  rw [e, Fin.sum_univ_add, Fin.sum_univ_add, Fin.sum_univ_add]
  refine congrArg₂ _ (congrArg₂ _ (congrArg₂ _ ?_ ?_) ?_) ?_ <;>
    exact Finset.sum_congr rfl fun j _ => congrArg f (Fin.ext (by simp [at4]; try omega))

/-- Place `j` of block `b`, of eight. -/
def at8 (b : ℕ) (hb : b < 8) (j : Fin 1024) : Fin 8192 := ⟨1024 * b + j.val, by omega⟩

/-- The eight blocks' sums, added in order, are the whole sum. -/
theorem sum_blocks8 (f : Fin 8192 → EReal) :
    ((((((∑ j, f (at8 0 (by decide) j) + ∑ j, f (at8 1 (by decide) j)) + ∑ j, f (at8 2 (by decide) j)) + ∑ j, f (at8 3 (by decide) j))
      + ∑ j, f (at8 4 (by decide) j)) + ∑ j, f (at8 5 (by decide) j)) + ∑ j, f (at8 6 (by decide) j)) + ∑ j, f (at8 7 (by decide) j) = ∑ k, f k := by
  have e : ∑ k, f k = ∑ k : Fin (((((((1024 + 1024) + 1024) + 1024) + 1024) + 1024) + 1024) + 1024), f k := rfl
  rw [e, Fin.sum_univ_add, Fin.sum_univ_add, Fin.sum_univ_add, Fin.sum_univ_add, Fin.sum_univ_add, Fin.sum_univ_add, Fin.sum_univ_add]
  refine congrArg₂ _ (congrArg₂ _ (congrArg₂ _ (congrArg₂ _ (congrArg₂ _ (congrArg₂ _ (congrArg₂ _ ?_ ?_) ?_) ?_) ?_) ?_) ?_) ?_ <;>
    exact Finset.sum_congr rfl fun j _ => congrArg f (Fin.ext (by simp [at8]; try omega))

/-- Two arrays that agree at all coordinates are one. -/
theorem eq_of_at {n k : ℕ} {α : Type} (f g : (⟨2, ![n, k]⟩ : Shape).Idx → α) (h : ∀ (i : Fin n) (j : Fin k), f (ix2 i j) = g (ix2 i j)) : f = g :=
  funext fun x => by
    have e : x = ix2 (x 0) (x 1) := funext fun a => match a with
      | ⟨0, _⟩ => rfl
      | ⟨1, _⟩ => rfl
    rw [e]; exact h _ _

end Cert.Mlp

end
-- ==== Proof.Hidden.lean ====
/-
  The hidden layer of the MLP, entry by entry, over the extended reals.
-/
module

public import proofs.«01_k».proof.Proof.Blocked

@[expose] public section

noncomputable section

namespace Cert.Mlp

open scoped BigOperators
open Idealize.ShloMosaic

/-- The hidden layer before its nonlinearity: the layer's input times the up weights. -/
def pre (h : (⟨2, ![8192, 2048]⟩ : Shape).Idx → EReal) (w : (⟨2, ![2048, 8192]⟩ : Shape).Idx → EReal) (i j : Fin 8192) : EReal :=
  ∑ d : Fin 2048, h (ix2 i d) * w (ix2 d j)

/-- The hidden layer: the square of its positive part. -/
def hid (h : (⟨2, ![8192, 2048]⟩ : Shape).Idx → EReal) (w : (⟨2, ![2048, 8192]⟩ : Shape).Idx → EReal) (i j : Fin 8192) : EReal :=
  max (pre h w i j) 0 * max (pre h w i j) 0

end Cert.Mlp

end
-- ==== Proof.DactValue.lean ====
/-
  The call that makes the cotangent of the hidden layer before its nonlinearity: its result is the product of the
  cotangent of the layer's output with the transposed down weights, times twice the positive part of the hidden layer.
-/
module

public import proofs.«01_k».proof.Defs
public import proofs.«01_k».proof.Proof.Hidden
public import proofs.«01_k».proof.Proof.Gen.Dact.Frame
public import proofs.«01_k».proof.Proof.Gen.DactIdeal.Value
public import proofs.«01_k».proof.Proof.Gen.DactRefIdeal.Run
public import Idealize.ShloMosaic.Lib.VecWindow
public import Idealize.ShloMosaic.Lib.Pipeline.ValueKit.Geometry

@[expose] public section

set_option maxRecDepth 16384

noncomputable section

namespace Cert.DactIdeal

open Idealize.ShloMosaic Idealize.ShloMosaic.TcCoe Idealize.ShloMosaic.Tactic Idealize.SL.Sem
open Cert.DactIdeal.Gen Cert.DactIdeal.Value
open Cert.Mlp
open scoped BigOperators

theorem hz : (![0, 0] : Fin 2 → Nat) = fun _ => 0 := funext fun a => by fin_cases a <;> rfl

abbrev M := FVec Ideal S8192x2048 .f32
abbrev W := FVec Ideal S8192x2048 .bf16
abbrev R := FVec Ideal S8192x8192 .bf16

/-- The result: the product of the first factor with the transposed second, times twice the third, entry by entry. -/
def res (d : M) (w : W) (r : R) : R := fun i => (∑ k : Fin 2048, d (ix2 (i 0) k) * w (ix2 (i 1) k)) * (Ideal.ofBits .f32 0x40000000#32 * r i)

/-! ## One tile -/

theorem out_eq (x0 : Vec Ideal S1024x2048 .f32) (x1 : Vec Ideal S1024x2048 .bf16) (x2 : Vec Ideal S1024x1024 .bf16) : out0_3 x0 x1 x2 = k0_pay1 x0 x1 x2 := by
  unfold out0_3
  rw [View.canon_unit_zero hz]
  simp only [View.ld_unit_zero (S := S1024x2048) hz, View.ld_unit_zero (S := S1024x1024) hz]

theorem pay1_at (x0 : Vec Ideal S1024x2048 .f32) (x1 : Vec Ideal S1024x2048 .bf16) (x2 : Vec Ideal S1024x1024 .bf16) (p q : Fin 1024) :
    k0_pay1 x0 x1 x2 (ix2 p q) = (∑ k : Fin 2048, x0 (ix2 p k) * x1 (ix2 q k)) * (Ideal.ofBits .f32 0x40000000#32 * x2 (ix2 p q)) := by
  pointwise [k0_pay1]

variable (m : (ℓ : Loc nD τ sig) → Buf (Elt Ideal) ℓ) (c : Dev nD)

theorem lt64 (t : Fin cfg0.N) : t.val < 64 := Nat.lt_of_lt_of_eq t.isLt N_0

theorem idx (t : Fin cfg0.N) : win0_0.index t = ![t.val / 8, 0] ∧ win0_1.index t = ![t.val % 8, 0] ∧ win0_2.index t = ![t.val / 8, t.val % 8] ∧ win0_3.index t = ![t.val / 8, t.val % 8] :=
  (by decide +kernel : ∀ t : Fin grid0.N, win0_0.index t = ![t.val / 8, 0] ∧ win0_1.index t = ![t.val % 8, 0] ∧ win0_2.index t = ![t.val / 8, t.val % 8] ∧ win0_3.index t = ![t.val / 8, t.val % 8]) t

/-- Row `p` of point `t`'s tile. -/
def row (t : Fin cfg0.N) (p : Fin 1024) : Fin 8192 := ⟨1024 * (t.val / 8) + p.val, by have := lt64 t; omega⟩
/-- Column `q` of point `t`'s tile. -/
def col (t : Fin cfg0.N) (q : Fin 1024) : Fin 8192 := ⟨1024 * (t.val % 8) + q.val, by omega⟩

theorem emb0 (t : Fin cfg0.N) (p : Fin 1024) (k : Fin 2048) : (((cfg0.win 0).blk t).view.emb (ix2 p k) : S8192x2048.Idx) = ix2 (row t p) k := by
  have hh := lt64 t
  blk_ext [row, idx t]
theorem emb1 (t : Fin cfg0.N) (q : Fin 1024) (k : Fin 2048) : (((cfg0.win 1).blk t).view.emb (ix2 q k) : S8192x2048.Idx) = ix2 (col t q) k := by
  have hh := lt64 t
  blk_ext [col, idx t]
theorem emb2 (t : Fin cfg0.N) (p q : Fin 1024) : (((cfg0.win 2).blk t).view.emb (ix2 p q) : S8192x8192.Idx) = ix2 (row t p) (col t q) := by
  have hh := lt64 t
  blk_ext [row, col, idx t]
theorem emb3 (t : Fin cfg0.N) (p q : Fin 1024) : (((cfg0.win 3).blk t).view.emb (ix2 p q) : S8192x8192.Idx) = ix2 (row t p) (col t q) := by
  have hh := lt64 t
  blk_ext [row, col, idx t]

theorem of0 (t : Fin cfg0.N) (x : S1024x2048.Idx) (L : M) : (((cfg0.win 0).blk t).view.read (Elt Ideal) L : Vec Ideal S1024x2048 .f32) x = L (((cfg0.win 0).blk t).view.emb x) := rfl
theorem of1 (t : Fin cfg0.N) (x : S1024x2048.Idx) (L : W) : (((cfg0.win 1).blk t).view.read (Elt Ideal) L : Vec Ideal S1024x2048 .bf16) x = L (((cfg0.win 1).blk t).view.emb x) := rfl
theorem of2 (t : Fin cfg0.N) (x : S1024x1024.Idx) (L : R) : (((cfg0.win 2).blk t).view.read (Elt Ideal) L : Vec Ideal S1024x1024 .bf16) x = L (((cfg0.win 2).blk t).view.emb x) := rfl

theorem tile_at (t : Fin cfg0.N) (p q : Fin 1024) (d : M) (w : W) (r : R) (hd : V m c (Pipeline.arrRef spec0 0) = d) (hw : V m c (Pipeline.arrRef spec0 1) = w) (hr : V m c (Pipeline.arrRef spec0 2) = r) :
    out0_3 (iblk m c 0 t) (iblk m c 1 t) (iblk m c 2 t) (ix2 p q) = res d w r (ix2 (row t p) (col t q)) := by
  rw [out_eq, pay1_at]
  unfold iblk res
  rw [hd, hw, hr]
  refine congrArg₂ _ (Finset.sum_congr rfl fun k _ => ?_) (congrArg _ ?_)
  · exact congrArg₂ _ ((of0 t _ d).trans (congrArg d (emb0 t p k))) ((of1 t _ w).trans (congrArg w (emb1 t q k)))
  · exact (of2 t _ r).trans (congrArg r (emb2 t p q))

/-! ## The whole array -/

theorem flushed_at (d : M) (w : W) (r : R) (hd : V m c (Pipeline.arrRef spec0 0) = d) (hw : V m c (Pipeline.arrRef spec0 1) = w) (hr : V m c (Pipeline.arrRef spec0 2) = r) (t : Fin cfg0.N) :
    (dats m 0 c).flushed 3 t = ((cfg0.win 3).blk t).view.read (Elt Ideal) (res d w r) := by
  rw [flushed3]
  refine eq_of_at (n := 1024) (k := 1024) (α := EReal) _ _ fun p q => ?_
  refine (tile_at m c t p q d w r hd hw hr).trans ?_
  exact congrArg (res d w r) (emb3 t p q).symm

theorem covered (i : S8192x8192.Idx) : ∃ t : Fin cfg0.N, (cfg0.win 3).flush t = true ∧ i ∈ ((cfg0.win 3).blk t).view.set := by
  have h0 : (i 0).val < 8192 := (i 0).isLt
  have h1 : (i 1).val < 8192 := (i 1).isLt
  have hN : 8 * ((i 0).val / 1024) + (i 1).val / 1024 < cfg0.N := Nat.lt_of_lt_of_eq (by omega : _ < 64) N_0.symm
  refine ⟨⟨8 * ((i 0).val / 1024) + (i 1).val / 1024, hN⟩, flush0_3 _, ?_⟩
  have e := emb3 ⟨8 * ((i 0).val / 1024) + (i 1).val / 1024, hN⟩ ⟨(i 0).val % 1024, Nat.mod_lt _ (by decide)⟩ ⟨(i 1).val % 1024, Nat.mod_lt _ (by decide)⟩
  have hi : i = ix2 (row ⟨8 * ((i 0).val / 1024) + (i 1).val / 1024, hN⟩ ⟨(i 0).val % 1024, Nat.mod_lt _ (by decide)⟩) (col ⟨8 * ((i 0).val / 1024) + (i 1).val / 1024, hN⟩ ⟨(i 1).val % 1024, Nat.mod_lt _ (by decide)⟩) :=
    funext fun a => match a with
      | ⟨0, _⟩ => Fin.ext (by show (i 0).val = 1024 * ((8 * ((i 0).val / 1024) + (i 1).val / 1024) / 8) + (i 0).val % 1024; omega)
      | ⟨1, _⟩ => Fin.ext (by show (i 1).val = 1024 * ((8 * ((i 0).val / 1024) + (i 1).val / 1024) % 8) + (i 1).val % 1024; omega)
  exact (congrArg (· ∈ _) (e.trans hi.symm)).mp (View.emb_mem_set _ _)

theorem result (d : M) (w : W) (r : R) (hd : V m c (Pipeline.arrRef spec0 0) = d) (hw : V m c (Pipeline.arrRef spec0 1) = w) (hr : V m c (Pipeline.arrRef spec0 2) = r) : (dats m 0 c).arrAt 3 cfg0.N = res d w r :=
  (dats m 0 c).arrAt_eq_of_cover 3 _ (fun t _ => flushed_at m c d w r hd hw hr t) covered

/-! ## The host's lines before the call -/

/-- The hidden layer before its nonlinearity. -/
def hPre (h : W) (w : FVec Ideal S2048x8192 .f32) : FVec Ideal S8192x8192 .f32 :=
  Host.dotGeneral dot_S8192x2048_S2048x8192_S8192x8192_1_0_0_1_n_n none (extf .f32 h Facts₀.bitsLt_bf16_f32) w
/-- Its positive part. -/
def hPos (h : W) (w : FVec Ideal S2048x8192 .f32) : R :=
  truncf .bf16 (maximumf (hPre h w) (broadcastInDim S8192x8192 ![] Facts₀.bcast_S_S8192x8192 (constant S_ .f32 0x00000000#32))) Facts₀.bitsLt_bf16_f32
/-- The down weights as the call takes them. -/
def hDown (w : M) : W := truncf .bf16 w Facts₀.bitsLt_bf16_f32

theorem hPos_at (h : W) (w : FVec Ideal S2048x8192 .f32) (i j : Fin 8192) : hPos h w (ix2 i j) = max (pre h w i j) 0 := by
  have e : hPre h w (ix2 i j) = pre h w i j := by pointwise [hPre, pre]
  rw [← e]
  unfold hPos
  generalize hPre h w = a
  pointwise

theorem V_pos : V m c (Pipeline.arrRef spec0 2) = hPos (m ((c.tc : Thread nD τ).loc main_arg0)) (m ((c.tc : Thread nD τ).loc main_arg1)) := by
  show V m c main_v3 = _
  unfold V
  simp only [hostOps0, hostOps0_1, hostOps0_2, List.flatten_cons, List.flatten_nil, List.append_nil, List.cons_append, List.nil_append]
  after_results_simp; rfl

theorem V_down : V m c (Pipeline.arrRef spec0 1) = hDown (m ((c.tc : Thread nD τ).loc main_arg2)) := by
  show V m c main_v4 = _
  unfold V
  simp only [hostOps0, hostOps0_1, hostOps0_2, List.flatten_cons, List.flatten_nil, List.append_nil, List.cons_append, List.nil_append]
  after_results_simp; rfl

/-! ## The reference -/

/-- Where the hidden layer is not positive both sides are zero. -/
theorem select_pos (u x t : EReal) : (if 0 < u then x * (t * max u 0) else 0) = x * (t * max u 0) := by
  split
  · rfl
  · next h => rw [max_eq_right (not_lt.mp h), mul_zero, mul_zero]

/-- The reference's result, entry by entry. -/
theorem reference (h : FVec Ideal DactRefIdeal.S8192x2048 .bf16) (w : FVec Ideal DactRefIdeal.S2048x8192 .f32) (v g : FVec Ideal DactRefIdeal.S8192x2048 .f32) (u : FVec Ideal DactRefIdeal.S8192x8192 .f32)
    (hu : u = Host.dotGeneral DactRefIdeal.dot_S8192x2048_S2048x8192_S8192x8192_1_0_0_1_n_n none (extf .f32 h DactRefIdeal.Facts₀.bitsLt_bf16_f32) w) :
    truncf .bf16 (select (cmpf .ogt u (broadcastInDim DactRefIdeal.S8192x8192 ![] DactRefIdeal.Facts₀.bcast_S_S8192x8192 (constant DactRefIdeal.S_ .f32 0x00000000#32)))
        (mulf (Host.dotGeneral DactRefIdeal.dot_S8192x2048_S8192x2048_S8192x8192_1_1_0_0_n_n none g v)
          (mulf (broadcastInDim DactRefIdeal.S8192x8192 ![] DactRefIdeal.Facts₀.bcast_S_S8192x8192 (constant DactRefIdeal.S_ .f32 0x40000000#32))
            (maximumf u (broadcastInDim DactRefIdeal.S8192x8192 ![] DactRefIdeal.Facts₀.bcast_S_S8192x8192 (constant DactRefIdeal.S_ .f32 0x00000000#32)))))
        (broadcastInDim DactRefIdeal.S8192x8192 ![] DactRefIdeal.Facts₀.bcast_S_S8192x8192 (constant DactRefIdeal.S_ .f32 0x00000000#32))) DactRefIdeal.Facts₀.bitsLt_bf16_f32
      = res g (hDown v) (hPos h w) :=
  eq_of_at _ _ fun i j => by
    have e : ∀ k l, u (ix2 k l) = pre h w k l := fun k l => by subst hu; pointwise [pre]
    have r : res g (hDown v) (hPos h w) (ix2 i j) = (if 0 < u (ix2 i j) then (∑ k : Fin 2048, g (ix2 i k) * v (ix2 j k)) * (Ideal.ofBits .f32 0x40000000#32 * max (u (ix2 i j)) 0) else 0) := by
      rw [select_pos]
      show (∑ k : Fin 2048, g (ix2 i k) * v (ix2 j k)) * (Ideal.ofBits .f32 0x40000000#32 * hPos h w (ix2 i j)) = _
      rw [hPos_at, ← e]
    rw [r]
    clear r e hu
    pointwise

/-- The call's result is the reference's. -/
theorem algebraic : Cert.algebraic_DactIdeal_DactRefIdeal := by
  intro m ρ m' ρ' _ hag
  refine ⟨fun c => res (m ((c.tc : Thread nD τ).loc main_arg3)) (hDown (m ((c.tc : Thread nD τ).loc main_arg2))) (hPos (m ((c.tc : Thread nD τ).loc main_arg0)) (m ((c.tc : Thread nD τ).loc main_arg1))), ?_, ?_⟩
  · refine (θ_run Cert.DactIdeal.defs _ _).mono (fun r h c => ?_) (Cert.DactIdeal.Value.run_blocks (F := Ideal) m ρ)
    exact ⟨(h c).1.trans (result m c _ _ _ (V_main_arg3 m c) (V_down m c) (V_pos m c)), (h c).2⟩
  · refine (θ_run Cert.DactRefIdeal.defs _ _).mono (fun r h c => ?_) (Cert.DactRefIdeal.Value.run (F := Ideal) m' ρ')
    obtain ⟨e0, e1, e2, e3⟩ := hag c
    refine ⟨(h c).1.trans ?_, (h c).2⟩
    rw [e0, e1, e2, e3]
    exact reference _ _ _ _ _ rfl

end Cert.DactIdeal

end
-- ==== Proof.GdownValue.lean ====
/-
  The call that makes the gradient of the down weights: its result is the product of the transposed hidden layer with
  the cotangent of the layer's output, over all 8192 rows.
-/
module

public import proofs.«01_k».proof.Defs
public import proofs.«01_k».proof.Proof.Hidden
public import proofs.«01_k».proof.Proof.Gen.Gdown.Frame
public import proofs.«01_k».proof.Proof.Gen.GdownIdeal.Value
public import proofs.«01_k».proof.Proof.Gen.GdownRefIdeal.Run
public import Idealize.ShloMosaic.Lib.VecWindow
public import Idealize.ShloMosaic.Lib.Pipeline.ValueKit.Geometry

@[expose] public section

set_option maxRecDepth 16384

noncomputable section

namespace Cert.GdownIdeal.Mm

open Idealize.ShloMosaic Idealize.ShloMosaic.TcCoe Idealize.ShloMosaic.Tactic
open Cert.GdownIdeal Cert.GdownIdeal.Gen Cert.GdownIdeal.Value
open Cert.Mlp
open scoped BigOperators

theorem hz : (![0, 0] : Fin 2 → Nat) = fun _ => 0 := funext fun a => by fin_cases a <;> rfl

/-! ## The body in its three cases -/

/-- The first block of the sum is stored. -/
theorem first (c : Dev nD) (i : grid0.Coords) (a3 h3 a4 h4 a5 h5 a6 h6 hc0 hc1 hc2) (x0 : Vec Ideal S2048x1024 .bf16) (x1 : Vec Ideal S2048x1024 .f32) :
    sout0_A_0 (F := Ideal) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S2048x1024) hz]

/-- A middle block is added. -/
theorem middle (c : Dev nD) (i : grid0.Coords) (a3 h3 a4 h4 a5 h5 a6) (h6 : a6.IsWhole) (hc0 hc1 hc2) (x0 : Vec Ideal S2048x1024 .bf16) (x1 : Vec Ideal S2048x1024 .f32) (s : Vec Ideal S1024x1024 .f32) :
    sout0_B_0 (F := Ideal) c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S1024x1024) hz]

/-- The last block is added and the sum written. -/
theorem last (c : Dev nD) (i : grid0.Coords) (a3 h3 a4 h4 a5 h5 a6) (h6 : a6.IsWhole) (hc0 hc1 hc2) (x0 : Vec Ideal S2048x1024 .bf16) (x1 : Vec Ideal S2048x1024 .f32) (s : Vec Ideal S1024x1024 .f32) :
    out0_C_2 (F := Ideal) c i a3 h3 a4 h4 a5 h5 a6 h6 hc0 hc1 hc2 x0 x1 s = k0_pay4 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h6.read_unread, View.ld_unit_zero (S := S2048x1024) hz, View.ld_unit_zero (S := S1024x1024) hz]

theorem pay1_at (x0 : Vec Ideal S2048x1024 .bf16) (x1 : Vec Ideal S2048x1024 .f32) (p q : Fin 1024) : k0_pay1 x0 x1 (ix2 p q) = ∑ k : Fin 2048, x0 (ix2 k p) * x1 (ix2 k q) := by
  pointwise [k0_pay1]
theorem pay2_at (x0 : Vec Ideal S2048x1024 .bf16) (x1 : Vec Ideal S2048x1024 .f32) (p q : Fin 1024) : k0_pay2 x0 x1 (ix2 p q) = k0_pay1 x0 x1 (ix2 p q) := by
  pointwise [k0_pay2]
theorem pay3_at (x0 : Vec Ideal S2048x1024 .bf16) (x1 : Vec Ideal S2048x1024 .f32) (s : Vec Ideal S1024x1024 .f32) (p q : Fin 1024) : k0_pay3 x0 x1 s (ix2 p q) = s (ix2 p q) + k0_pay1 x0 x1 (ix2 p q) := by
  pointwise [k0_pay3]
theorem pay4_at (x0 : Vec Ideal S2048x1024 .bf16) (x1 : Vec Ideal S2048x1024 .f32) (s : Vec Ideal S1024x1024 .f32) (p q : Fin 1024) : k0_pay4 x0 x1 s (ix2 p q) = s (ix2 p q) + k0_pay1 x0 x1 (ix2 p q) := by
  pointwise [k0_pay4]

/-! ## The four points of a tile -/

variable (m : (ℓ : Loc nD τ sig) → Buf (Elt Ideal) ℓ) (c : Dev nD)

theorem lt64 (t : Fin cfg0.N) : t.val < 64 := Nat.lt_of_lt_of_eq t.isLt N_0

/-- The product of the two blocks of point `t`. -/
def part (t : Fin cfg0.N) (p q : Fin 1024) : EReal := k0_pay1 (iblk m c 0 t) (iblk m c 1 t) (ix2 p q)

theorem at_first (t : Fin cfg0.N) (h : t.val % 4 = 0) (p q : Fin 1024) : (outsAt0 m c t.val t.isLt).2 (ix2 p q) = part m c t p q := by
  rw [outsAt0_A m c t h (by omega) (by omega)]
  dsimp only
  rw [first, pay2_at]
  rfl

theorem at_middle (t : Fin cfg0.N) (h : 1 ≤ t.val % 4 ∧ t.val % 4 ≤ 2) (p q : Fin 1024) :
    (outsAt0 m c t.val t.isLt).2 (ix2 p q) = (outsAt0 m c (t.val - 1) (Nat.lt_of_le_of_lt (Nat.sub_le _ _) t.isLt)).2 (ix2 p q) + part m c t p q := by
  rw [outsAt0_B m c t (by omega) h (by omega)]
  dsimp only
  rw [middle, pay3_at]
  rfl

theorem at_last (t : Fin cfg0.N) (h : t.val % 4 = 3) (p q : Fin 1024) :
    (outsAt0 m c t.val t.isLt).1 (ix2 p q) = (outsAt0 m c (t.val - 1) (Nat.lt_of_le_of_lt (Nat.sub_le _ _) t.isLt)).2 (ix2 p q) + part m c t p q := by
  rw [outsAt0_C m c t (by omega) (by omega) h]
  dsimp only
  rw [last, pay4_at]
  rfl

/-- Point `b` of tile `r`. -/
def pt (r b : ℕ) (hr : r < 16) (hb : b < 4) : Fin cfg0.N := ⟨4 * r + b, Nat.lt_of_lt_of_eq (by omega) N_0.symm⟩

theorem tile (r : ℕ) (hr : r < 16) (p q : Fin 1024) :
    (outsAt0 m c (pt r 3 hr (by decide)).val (pt r 3 hr (by decide)).isLt).1 (ix2 p q)
      = ((part m c (pt r 0 hr (by decide)) p q + part m c (pt r 1 hr (by decide)) p q) + part m c (pt r 2 hr (by decide)) p q) + part m c (pt r 3 hr (by decide)) p q := by
  rw [at_last m c (pt r 3 hr _) (by show (4 * r + 3) % 4 = 3; omega),
    show (outsAt0 m c ((pt r 3 hr (by decide)).val - 1) _).2 (ix2 p q) = _ from at_middle m c (pt r 2 hr (by decide)) (by show 1 ≤ (4 * r + 2) % 4 ∧ (4 * r + 2) % 4 ≤ 2; omega) p q,
    show (outsAt0 m c ((pt r 2 hr (by decide)).val - 1) _).2 (ix2 p q) = _ from at_middle m c (pt r 1 hr (by decide)) (by show 1 ≤ (4 * r + 1) % 4 ∧ (4 * r + 1) % 4 ≤ 2; omega) p q,
    show (outsAt0 m c ((pt r 1 hr (by decide)).val - 1) _).2 (ix2 p q) = _ from at_first m c (pt r 0 hr (by decide)) (by show (4 * r + 0) % 4 = 0; omega) p q]

/-! ## The blocks at an index -/

abbrev A := FVec Ideal S8192x8192 .bf16
abbrev B := FVec Ideal S8192x2048 .f32
abbrev O := FVec Ideal S8192x2048 .bf16

theorem idx (t : Fin cfg0.N) : win0_0.index t = ![t.val % 4, t.val / 8] ∧ win0_1.index t = ![t.val % 4, t.val / 4 % 2] :=
  (by decide +kernel : ∀ t : Fin grid0.N, win0_0.index t = ![t.val % 4, t.val / 8] ∧ win0_1.index t = ![t.val % 4, t.val / 4 % 2]) t

theorem emb0 (t : Fin cfg0.N) (k : Fin 2048) (p : Fin 1024) :
    (((cfg0.win 0).blk t).view.emb (ix2 k p) : S8192x8192.Idx) = ix2 (at4 (t.val % 4) (Nat.mod_lt _ (by decide)) k) ⟨1024 * (t.val / 8) + p.val, by have := lt64 t; omega⟩ := by
  have hh := lt64 t
  blk_ext [at4, idx t]
theorem emb1 (t : Fin cfg0.N) (k : Fin 2048) (q : Fin 1024) :
    (((cfg0.win 1).blk t).view.emb (ix2 k q) : S8192x2048.Idx) = ix2 (at4 (t.val % 4) (Nat.mod_lt _ (by decide)) k) ⟨1024 * (t.val / 4 % 2) + q.val, by omega⟩ := by
  have hh := lt64 t
  blk_ext [at4, idx t]

theorem of0 (t : Fin cfg0.N) (x : S2048x1024.Idx) (L : A) : (((cfg0.win 0).blk t).view.read (Elt Ideal) L : Vec Ideal S2048x1024 .bf16) x = L (((cfg0.win 0).blk t).view.emb x) := rfl
theorem of1 (t : Fin cfg0.N) (x : S2048x1024.Idx) (L : B) : (((cfg0.win 1).blk t).view.read (Elt Ideal) L : Vec Ideal S2048x1024 .f32) x = L (((cfg0.win 1).blk t).view.emb x) := rfl

theorem part_at (t : Fin cfg0.N) (p q : Fin 1024) (a : A) (b : B) (ha : V m c (Pipeline.arrRef spec0 0) = a) (hb : V m c (Pipeline.arrRef spec0 1) = b) :
    part m c t p q = ∑ k : Fin 2048, a (ix2 (at4 (t.val % 4) (Nat.mod_lt _ (by decide)) k) ⟨1024 * (t.val / 8) + p.val, by have := lt64 t; omega⟩)
      * b (ix2 (at4 (t.val % 4) (Nat.mod_lt _ (by decide)) k) ⟨1024 * (t.val / 4 % 2) + q.val, by omega⟩) := by
  unfold part
  rw [pay1_at]
  refine Finset.sum_congr rfl fun k _ => ?_
  unfold iblk
  rw [ha, hb, ← emb0, ← emb1]
  exact congrArg₂ _ (of0 t _ a) (of1 t _ b)

/-! ## The result -/

/-- The product of the transposed first factor and the second. -/
def prod (a : A) (b : B) : O := fun i => ∑ k : Fin 8192, a (ix2 k (i 0)) * b (ix2 k (i 1))

theorem result (a : A) (b : B) (ha : V m c (Pipeline.arrRef spec0 0) = a) (hb : V m c (Pipeline.arrRef spec0 1) = b) : G2 m c = prod a b := by
  funext i
  have h0 : (i 0).val < 8192 := (i 0).isLt
  have h1 : (i 1).val < 2048 := (i 1).isLt
  have hr : 2 * ((i 0).val / 1024 - 0) + 1 * ((i 1).val / 1024 - 0) < 16 := by omega
  have hp : pt2Of i < cfg0.N := Nat.lt_of_lt_of_eq (by show 4 * (2 * ((i 0).val / 1024 - 0) + 1 * ((i 1).val / 1024 - 0)) + 3 < 64; omega) N_0.symm
  have hl : loc2Of i = ix2 ⟨(i 0).val % 1024, Nat.mod_lt _ (by decide)⟩ ⟨(i 1).val % 1024, Nat.mod_lt _ (by decide)⟩ := funext fun a => match a with
    | ⟨0, _⟩ => rfl
    | ⟨1, _⟩ => rfl
  have e : G2 m c i = (outsAt0 m c (pt2Of i) hp).1 (loc2Of i) := by
    unfold G2; rw [dif_pos hp, outsAt0_sweep]
  rw [e, hl]
  refine (tile m c _ hr _ _).trans ?_
  unfold prod
  rw [← sum_blocks]
  have hpart : ∀ (b' : ℕ) (hb' : b' < 4), part m c (pt _ b' hr hb') ⟨(i 0).val % 1024, Nat.mod_lt _ (by decide)⟩ ⟨(i 1).val % 1024, Nat.mod_lt _ (by decide)⟩
      = ∑ k : Fin 2048, a (ix2 (at4 b' hb' k) (i 0)) * b (ix2 (at4 b' hb' k) (i 1)) := fun b' hb' => by
    rw [part_at m c _ _ _ a b ha hb]
    refine Finset.sum_congr rfl fun k _ => congrArg₂ _ (congrArg a ?_) (congrArg b ?_)
    · refine congrArg₂ ix2 (Fin.ext ?_) (Fin.ext ?_)
      · simp only [at4, pt]; omega
      · simp only [pt]; omega
    · refine congrArg₂ ix2 (Fin.ext ?_) (Fin.ext ?_)
      · simp only [at4, pt]; omega
      · simp only [pt]; omega
  rw [hpart 0, hpart 1, hpart 2, hpart 3]

end Cert.GdownIdeal.Mm

namespace Cert.GdownIdeal

open Idealize.ShloMosaic Idealize.ShloMosaic.TcCoe Idealize.ShloMosaic.Tactic Idealize.SL.Sem
open Cert.Mlp

/-! ## The host's lines before the call -/

/-- The hidden layer before its nonlinearity. -/
def hPre (h : FVec Ideal S8192x2048 .bf16) (w : FVec Ideal S2048x8192 .f32) : FVec Ideal S8192x8192 .f32 :=
  Host.dotGeneral dot_S8192x2048_S2048x8192_S8192x8192_1_0_0_1_n_n none (extf .f32 h Facts₀.bitsLt_bf16_f32) w
/-- The hidden layer. -/
def hHid (h : FVec Ideal S8192x2048 .bf16) (w : FVec Ideal S2048x8192 .f32) : Mm.A :=
  truncf .bf16 (mulf (maximumf (hPre h w) (broadcastInDim S8192x8192 ![] Facts₀.bcast_S_S8192x8192 (constant S_ .f32 0x00000000#32))) (maximumf (hPre h w) (broadcastInDim S8192x8192 ![] Facts₀.bcast_S_S8192x8192 (constant S_ .f32 0x00000000#32)))) Facts₀.bitsLt_bf16_f32

theorem hHid_at (h : FVec Ideal S8192x2048 .bf16) (w : FVec Ideal S2048x8192 .f32) (i j : Fin 8192) : hHid h w (ix2 i j) = hid h w i j := by
  have e : hPre h w (ix2 i j) = pre h w i j := by pointwise [hPre, pre]
  unfold hid
  rw [← e]
  unfold hHid
  generalize hPre h w = a
  pointwise

theorem V_hid (m : (ℓ : Loc nD τ sig) → Buf (Elt Ideal) ℓ) (c : Dev nD) : Gen.V m c (Pipeline.arrRef spec0 0) = hHid (m ((c.tc : Thread nD τ).loc main_arg0)) (m ((c.tc : Thread nD τ).loc main_arg1)) := by
  show Gen.V m c main_v4 = _
  unfold Gen.V
  simp only [Gen.hostOps0, Gen.hostOps0_1, Gen.hostOps0_2, List.flatten_cons, List.flatten_nil, List.append_nil, List.cons_append, List.nil_append]
  after_results_simp; rfl

/-- The reference's result is the product with the hidden layer, entry by entry. -/
theorem reference (h : FVec Ideal GdownRefIdeal.S8192x2048 .bf16) (w : FVec Ideal GdownRefIdeal.S2048x8192 .f32) (g : FVec Ideal GdownRefIdeal.S8192x2048 .f32) (a : FVec Ideal GdownRefIdeal.S8192x8192 .f32)
    (ha : a = Host.dotGeneral GdownRefIdeal.dot_S8192x2048_S2048x8192_S8192x8192_1_0_0_1_n_n none (extf .f32 h GdownRefIdeal.Facts₀.bitsLt_bf16_f32) w) :
    truncf .bf16 (transpose GdownRefIdeal.S8192x2048 [1, 0] (Host.dotGeneral GdownRefIdeal.dot_S8192x2048_S8192x8192_S2048x8192_0_0_1_1_n_n none g
      (mulf (maximumf a (broadcastInDim GdownRefIdeal.S8192x8192 ![] GdownRefIdeal.Facts₀.bcast_S_S8192x8192 (constant GdownRefIdeal.S_ .f32 0x00000000#32)))
        (maximumf a (broadcastInDim GdownRefIdeal.S8192x8192 ![] GdownRefIdeal.Facts₀.bcast_S_S8192x8192 (constant GdownRefIdeal.S_ .f32 0x00000000#32)))))
      GdownRefIdeal.Facts₀.transposes_S2048x8192_S8192x2048_1_0) GdownRefIdeal.Facts₀.bitsLt_bf16_f32
      = Mm.prod (hHid h w) g :=
  eq_of_at _ _ fun i j => by
    have e : ∀ k l, a (ix2 k l) = pre h w k l := fun k l => by subst ha; pointwise [pre]
    have r : Mm.prod (hHid h w) g (ix2 i j) = ∑ k : Fin 8192, g (ix2 k j) * (max (a (ix2 k i)) 0 * max (a (ix2 k i)) 0) :=
      Finset.sum_congr rfl fun k _ => by
        show hHid h w (ix2 k i) * g (ix2 k j) = _
        rw [show hHid h w (ix2 k i) = hid h w k i from hHid_at h w k i, hid, ← e, mul_comm]
    rw [r]
    clear r e ha
    pointwise

/-- The call's result is the reference's. -/
theorem algebraic : Cert.algebraic_GdownIdeal_GdownRefIdeal := by
  intro m ρ m' ρ' _ hag
  refine ⟨fun c => Mm.prod (hHid (m ((c.tc : Thread nD τ).loc main_arg0)) (m ((c.tc : Thread nD τ).loc main_arg1))) (m ((c.tc : Thread nD τ).loc main_arg2)), ?_, ?_⟩
  · refine (θ_run Cert.GdownIdeal.defs _ _).mono (fun r h c => ?_) (Cert.GdownIdeal.Value.run (F := Ideal) m ρ)
    exact ⟨(h c).1.trans (Mm.result m c _ _ (V_hid m c) (Gen.V_main_arg2 m c)), (h c).2⟩
  · refine (θ_run Cert.GdownRefIdeal.defs _ _).mono (fun r h c => ?_) (Cert.GdownRefIdeal.Value.run (F := Ideal) m' ρ')
    obtain ⟨e0, e1, e2⟩ := hag c
    refine ⟨(h c).1.trans ?_, (h c).2⟩
    rw [e0, e1, e2]
    exact reference _ _ _ _ rfl

end Cert.GdownIdeal

end
-- ==== Proof.GupValue.lean ====
/-
  The call that makes the gradient of the up weights: its result is the product of the transposed cotangent of the
  hidden layer with the layer's input, over all 8192 rows.
-/
module

public import proofs.«01_k».proof.Defs
public import proofs.«01_k».proof.Proof.Blocked
public import proofs.«01_k».proof.Proof.Gen.Gup.Frame
public import proofs.«01_k».proof.Proof.Gen.GupIdeal.Value
public import proofs.«01_k».proof.Proof.Gen.GupRefIdeal.Run
public import Idealize.ShloMosaic.Lib.VecWindow
public import Idealize.ShloMosaic.Lib.Pipeline.ValueKit.Geometry

@[expose] public section

set_option maxRecDepth 16384

noncomputable section

namespace Cert.GupIdeal.Mm

open Idealize.ShloMosaic Idealize.ShloMosaic.TcCoe Idealize.ShloMosaic.Tactic
open Cert.GupIdeal Cert.GupIdeal.Gen Cert.GupIdeal.Value
open Cert.Mlp
open scoped BigOperators

theorem hz : (![0, 0] : Fin 2 → Nat) = fun _ => 0 := funext fun a => by fin_cases a <;> rfl

/-! ## The body in its three cases -/

/-- The first block of the sum is stored. -/
theorem first (c : Dev nD) (i : grid0.Coords) (a3 h3 a4 h4 a5 h5 a6 h6 hc0 hc1 hc2) (x0 x1 : Vec Ideal S2048x1024 .bf16) :
    sout0_A_0 (F := Ideal) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S2048x1024) hz]

/-- A middle block is added. -/
theorem middle (c : Dev nD) (i : grid0.Coords) (a3 h3 a4 h4 a5 h5 a6) (h6 : a6.IsWhole) (hc0 hc1 hc2) (x0 x1 : Vec Ideal S2048x1024 .bf16) (s : Vec Ideal S1024x1024 .f32) :
    sout0_B_0 (F := Ideal) c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S1024x1024) hz]

/-- The last block is added and the sum written. -/
theorem last (c : Dev nD) (i : grid0.Coords) (a3 h3 a4 h4 a5 h5 a6) (h6 : a6.IsWhole) (hc0 hc1 hc2) (x0 x1 : Vec Ideal S2048x1024 .bf16) (s : Vec Ideal S1024x1024 .f32) :
    out0_C_2 (F := Ideal) c i a3 h3 a4 h4 a5 h5 a6 h6 hc0 hc1 hc2 x0 x1 s = k0_pay4 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h6.read_unread, View.ld_unit_zero (S := S2048x1024) hz, View.ld_unit_zero (S := S1024x1024) hz]

theorem pay1_at (x0 x1 : Vec Ideal S2048x1024 .bf16) (p q : Fin 1024) : k0_pay1 x0 x1 (ix2 p q) = ∑ k : Fin 2048, x0 (ix2 k p) * x1 (ix2 k q) := by
  pointwise [k0_pay1]
theorem pay2_at (x0 x1 : Vec Ideal S2048x1024 .bf16) (p q : Fin 1024) : k0_pay2 x0 x1 (ix2 p q) = k0_pay1 x0 x1 (ix2 p q) := by
  pointwise [k0_pay2]
theorem pay3_at (x0 x1 : Vec Ideal S2048x1024 .bf16) (s : Vec Ideal S1024x1024 .f32) (p q : Fin 1024) : k0_pay3 x0 x1 s (ix2 p q) = s (ix2 p q) + k0_pay1 x0 x1 (ix2 p q) := by
  pointwise [k0_pay3]
theorem pay4_at (x0 x1 : Vec Ideal S2048x1024 .bf16) (s : Vec Ideal S1024x1024 .f32) (p q : Fin 1024) : k0_pay4 x0 x1 s (ix2 p q) = s (ix2 p q) + k0_pay1 x0 x1 (ix2 p q) := by
  pointwise [k0_pay4]

/-! ## The four points of a tile -/

variable (m : (ℓ : Loc nD τ sig) → Buf (Elt Ideal) ℓ) (c : Dev nD)

theorem lt64 (t : Fin cfg0.N) : t.val < 64 := Nat.lt_of_lt_of_eq t.isLt N_0

/-- The product of the two blocks of point `t`. -/
def part (t : Fin cfg0.N) (p q : Fin 1024) : EReal := k0_pay1 (iblk m c 0 t) (iblk m c 1 t) (ix2 p q)

theorem at_first (t : Fin cfg0.N) (h : t.val % 4 = 0) (p q : Fin 1024) : (outsAt0 m c t.val t.isLt).2 (ix2 p q) = part m c t p q := by
  rw [outsAt0_A m c t h (by omega) (by omega)]
  dsimp only
  rw [first, pay2_at]
  rfl

theorem at_middle (t : Fin cfg0.N) (h : 1 ≤ t.val % 4 ∧ t.val % 4 ≤ 2) (p q : Fin 1024) :
    (outsAt0 m c t.val t.isLt).2 (ix2 p q) = (outsAt0 m c (t.val - 1) (Nat.lt_of_le_of_lt (Nat.sub_le _ _) t.isLt)).2 (ix2 p q) + part m c t p q := by
  rw [outsAt0_B m c t (by omega) h (by omega)]
  dsimp only
  rw [middle, pay3_at]
  rfl

theorem at_last (t : Fin cfg0.N) (h : t.val % 4 = 3) (p q : Fin 1024) :
    (outsAt0 m c t.val t.isLt).1 (ix2 p q) = (outsAt0 m c (t.val - 1) (Nat.lt_of_le_of_lt (Nat.sub_le _ _) t.isLt)).2 (ix2 p q) + part m c t p q := by
  rw [outsAt0_C m c t (by omega) (by omega) h]
  dsimp only
  rw [last, pay4_at]
  rfl

/-- Point `b` of tile `r`. -/
def pt (r b : ℕ) (hr : r < 16) (hb : b < 4) : Fin cfg0.N := ⟨4 * r + b, Nat.lt_of_lt_of_eq (by omega) N_0.symm⟩

theorem tile (r : ℕ) (hr : r < 16) (p q : Fin 1024) :
    (outsAt0 m c (pt r 3 hr (by decide)).val (pt r 3 hr (by decide)).isLt).1 (ix2 p q)
      = ((part m c (pt r 0 hr (by decide)) p q + part m c (pt r 1 hr (by decide)) p q) + part m c (pt r 2 hr (by decide)) p q) + part m c (pt r 3 hr (by decide)) p q := by
  rw [at_last m c (pt r 3 hr _) (by show (4 * r + 3) % 4 = 3; omega),
    show (outsAt0 m c ((pt r 3 hr (by decide)).val - 1) _).2 (ix2 p q) = _ from at_middle m c (pt r 2 hr (by decide)) (by show 1 ≤ (4 * r + 2) % 4 ∧ (4 * r + 2) % 4 ≤ 2; omega) p q,
    show (outsAt0 m c ((pt r 2 hr (by decide)).val - 1) _).2 (ix2 p q) = _ from at_middle m c (pt r 1 hr (by decide)) (by show 1 ≤ (4 * r + 1) % 4 ∧ (4 * r + 1) % 4 ≤ 2; omega) p q,
    show (outsAt0 m c ((pt r 1 hr (by decide)).val - 1) _).2 (ix2 p q) = _ from at_first m c (pt r 0 hr (by decide)) (by show (4 * r + 0) % 4 = 0; omega) p q]

/-! ## The blocks at an index -/

abbrev A := FVec Ideal S8192x8192 .bf16
abbrev B := FVec Ideal S8192x2048 .bf16

theorem idx (t : Fin cfg0.N) : win0_0.index t = ![t.val % 4, t.val / 8] ∧ win0_1.index t = ![t.val % 4, t.val / 4 % 2] :=
  (by decide +kernel : ∀ t : Fin grid0.N, win0_0.index t = ![t.val % 4, t.val / 8] ∧ win0_1.index t = ![t.val % 4, t.val / 4 % 2]) t

theorem emb0 (t : Fin cfg0.N) (k : Fin 2048) (p : Fin 1024) :
    (((cfg0.win 0).blk t).view.emb (ix2 k p) : S8192x8192.Idx) = ix2 (at4 (t.val % 4) (Nat.mod_lt _ (by decide)) k) ⟨1024 * (t.val / 8) + p.val, by have := lt64 t; omega⟩ := by
  have hh := lt64 t
  blk_ext [at4, idx t]
theorem emb1 (t : Fin cfg0.N) (k : Fin 2048) (q : Fin 1024) :
    (((cfg0.win 1).blk t).view.emb (ix2 k q) : S8192x2048.Idx) = ix2 (at4 (t.val % 4) (Nat.mod_lt _ (by decide)) k) ⟨1024 * (t.val / 4 % 2) + q.val, by omega⟩ := by
  have hh := lt64 t
  blk_ext [at4, idx t]

theorem of0 (t : Fin cfg0.N) (x : S2048x1024.Idx) (L : A) : (((cfg0.win 0).blk t).view.read (Elt Ideal) L : Vec Ideal S2048x1024 .bf16) x = L (((cfg0.win 0).blk t).view.emb x) := rfl
theorem of1 (t : Fin cfg0.N) (x : S2048x1024.Idx) (L : B) : (((cfg0.win 1).blk t).view.read (Elt Ideal) L : Vec Ideal S2048x1024 .bf16) x = L (((cfg0.win 1).blk t).view.emb x) := rfl

theorem part_at (t : Fin cfg0.N) (p q : Fin 1024) (a : A) (b : B) (ha : V m c (Pipeline.arrRef spec0 0) = a) (hb : V m c (Pipeline.arrRef spec0 1) = b) :
    part m c t p q = ∑ k : Fin 2048, a (ix2 (at4 (t.val % 4) (Nat.mod_lt _ (by decide)) k) ⟨1024 * (t.val / 8) + p.val, by have := lt64 t; omega⟩)
      * b (ix2 (at4 (t.val % 4) (Nat.mod_lt _ (by decide)) k) ⟨1024 * (t.val / 4 % 2) + q.val, by omega⟩) := by
  unfold part
  rw [pay1_at]
  refine Finset.sum_congr rfl fun k _ => ?_
  unfold iblk
  rw [ha, hb, ← emb0, ← emb1]
  exact congrArg₂ _ (of0 t _ a) (of1 t _ b)

/-! ## The result -/

/-- The product of the transposed first factor and the second. -/
def prod (a : A) (b : B) : B := fun i => ∑ k : Fin 8192, a (ix2 k (i 0)) * b (ix2 k (i 1))

theorem result (a : A) (b : B) (ha : V m c (Pipeline.arrRef spec0 0) = a) (hb : V m c (Pipeline.arrRef spec0 1) = b) : G2 m c = prod a b := by
  funext i
  have h0 : (i 0).val < 8192 := (i 0).isLt
  have h1 : (i 1).val < 2048 := (i 1).isLt
  have hr : 2 * ((i 0).val / 1024 - 0) + 1 * ((i 1).val / 1024 - 0) < 16 := by omega
  have hp : pt2Of i < cfg0.N := Nat.lt_of_lt_of_eq (by show 4 * (2 * ((i 0).val / 1024 - 0) + 1 * ((i 1).val / 1024 - 0)) + 3 < 64; omega) N_0.symm
  have hl : loc2Of i = ix2 ⟨(i 0).val % 1024, Nat.mod_lt _ (by decide)⟩ ⟨(i 1).val % 1024, Nat.mod_lt _ (by decide)⟩ := funext fun a => match a with
    | ⟨0, _⟩ => rfl
    | ⟨1, _⟩ => rfl
  have e : G2 m c i = (outsAt0 m c (pt2Of i) hp).1 (loc2Of i) := by
    unfold G2; rw [dif_pos hp, outsAt0_sweep]
  rw [e, hl]
  refine (tile m c _ hr _ _).trans ?_
  unfold prod
  rw [← sum_blocks]
  have hpart : ∀ (b' : ℕ) (hb' : b' < 4), part m c (pt _ b' hr hb') ⟨(i 0).val % 1024, Nat.mod_lt _ (by decide)⟩ ⟨(i 1).val % 1024, Nat.mod_lt _ (by decide)⟩
      = ∑ k : Fin 2048, a (ix2 (at4 b' hb' k) (i 0)) * b (ix2 (at4 b' hb' k) (i 1)) := fun b' hb' => by
    rw [part_at m c _ _ _ a b ha hb]
    refine Finset.sum_congr rfl fun k _ => congrArg₂ _ (congrArg a ?_) (congrArg b ?_)
    · refine congrArg₂ ix2 (Fin.ext ?_) (Fin.ext ?_)
      · simp only [at4, pt]; omega
      · simp only [pt]; omega
    · refine congrArg₂ ix2 (Fin.ext ?_) (Fin.ext ?_)
      · simp only [at4, pt]; omega
      · simp only [pt]; omega
  rw [hpart 0, hpart 1, hpart 2, hpart 3]

end Cert.GupIdeal.Mm

namespace Cert.GupIdeal

open Idealize.ShloMosaic Idealize.ShloMosaic.TcCoe Idealize.SL.Sem
open Cert.Mlp

/-- The reference's result is the product, entry by entry. -/
theorem reference (a : FVec Ideal GupRefIdeal.S8192x8192 .bf16) (b : FVec Ideal GupRefIdeal.S8192x2048 .bf16) :
    truncf .bf16 (transpose GupRefIdeal.S8192x2048 [1, 0] (transpose GupRefIdeal.S2048x8192 [1, 0] (Host.dotGeneral GupRefIdeal.dot_S8192x8192_S8192x2048_S8192x2048_0_0_1_1_n_n none (extf .f32 a GupRefIdeal.Facts₀.bitsLt_bf16_f32) (extf .f32 b GupRefIdeal.Facts₀.bitsLt_bf16_f32)) GupRefIdeal.Facts₀.transposes_S8192x2048_S2048x8192_1_0) GupRefIdeal.Facts₀.transposes_S2048x8192_S8192x2048_1_0) GupRefIdeal.Facts₀.bitsLt_bf16_f32
      = Mm.prod a b :=
  eq_of_at _ _ fun i j => by pointwise [Mm.prod]

/-- The call's result is the reference's. -/
theorem algebraic : Cert.algebraic_GupIdeal_GupRefIdeal := by
  intro m ρ m' ρ' _ hag
  refine ⟨fun c => Mm.prod (m ((c.tc : Thread nD τ).loc main_arg0)) (m ((c.tc : Thread nD τ).loc main_arg1)), ?_, ?_⟩
  · refine (θ_run Cert.GupIdeal.defs _ _).mono (fun r h c => ?_) (Cert.GupIdeal.Value.run (F := Ideal) m ρ)
    exact ⟨(h c).1.trans (Mm.result m c _ _ (Gen.V_main_arg0 m c) (Gen.V_main_arg1 m c)), (h c).2⟩
  · refine (θ_run Cert.GupRefIdeal.defs _ _).mono (fun r h c => ?_) (Cert.GupRefIdeal.Value.run (F := Ideal) m' ρ')
    obtain ⟨e0, e1⟩ := hag c
    refine ⟨(h c).1.trans ?_, (h c).2⟩
    rw [e0, e1]
    exact reference _ _

end Cert.GupIdeal

end
-- ==== Proof.DnormValue.lean ====
/-
  The call that makes the cotangent of the layer's input: its result is the product of the cotangent of the hidden
  layer with the transposed up weights, over all 8192 hidden places.
-/
module

public import proofs.«01_k».proof.Defs
public import proofs.«01_k».proof.Proof.Blocked
public import proofs.«01_k».proof.Proof.Gen.Dnorm.Frame
public import proofs.«01_k».proof.Proof.Gen.DnormIdeal.Value
public import proofs.«01_k».proof.Proof.Gen.DnormRefIdeal.Run
public import Idealize.ShloMosaic.Lib.VecWindow
public import Idealize.ShloMosaic.Lib.Pipeline.ValueKit.Geometry

@[expose] public section

set_option maxRecDepth 16384

noncomputable section

namespace Cert.DnormIdeal.Mm

open Idealize.ShloMosaic Idealize.ShloMosaic.TcCoe Idealize.ShloMosaic.Tactic
open Cert.DnormIdeal Cert.DnormIdeal.Gen Cert.DnormIdeal.Value
open Cert.Mlp
open scoped BigOperators

theorem hz : (![0, 0] : Fin 2 → Nat) = fun _ => 0 := funext fun a => by fin_cases a <;> rfl

/-! ## The body in its three cases -/

/-- The first block of the sum is stored. -/
theorem first (c : Dev nD) (i : grid0.Coords) (a3 h3 a4 h4 a5 h5 a6 h6 hc0 hc1 hc2) (x0 : Vec Ideal S1024x2048 .bf16) (x1 : Vec Ideal S2048x1024 .bf16) :
    sout0_A_0 (F := Ideal) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S1024x2048) hz, View.ld_unit_zero (S := S2048x1024) hz]

/-- A middle block is added. -/
theorem middle (c : Dev nD) (i : grid0.Coords) (a3 h3 a4 h4 a5 h5 a6) (h6 : a6.IsWhole) (hc0 hc1 hc2) (x0 : Vec Ideal S1024x2048 .bf16) (x1 : Vec Ideal S2048x1024 .bf16) (s : Vec Ideal S1024x1024 .f32) :
    sout0_B_0 (F := Ideal) c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero hz]
  simp only [View.readAt_eq_ld, h3.read_unread, h4.read_unread, h6.read_unread, View.ld_unit_zero (S := S1024x2048) hz, View.ld_unit_zero (S := S2048x1024) hz, View.ld_unit_zero (S := S1024x1024) hz]

/-- The last block is added and the sum written. -/
theorem last (c : Dev nD) (i : grid0.Coords) (a3 h3 a4 h4 a5 h5 a6) (h6 : a6.IsWhole) (hc0 hc1 hc2) (x0 : Vec Ideal S1024x2048 .bf16) (x1 : Vec Ideal S2048x1024 .bf16) (s : Vec Ideal S1024x1024 .f32) :
    out0_C_2 (F := Ideal) c i a3 h3 a4 h4 a5 h5 a6 h6 hc0 hc1 hc2 x0 x1 s = k0_pay4 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h6.read_unread, View.ld_unit_zero (S := S1024x2048) hz, View.ld_unit_zero (S := S2048x1024) hz, View.ld_unit_zero (S := S1024x1024) hz]

theorem pay1_at (x0 : Vec Ideal S1024x2048 .bf16) (x1 : Vec Ideal S2048x1024 .bf16) (p q : Fin 1024) : k0_pay1 x0 x1 (ix2 p q) = ∑ k : Fin 2048, x0 (ix2 p k) * x1 (ix2 k q) := by
  pointwise [k0_pay1]
theorem pay2_at (x0 : Vec Ideal S1024x2048 .bf16) (x1 : Vec Ideal S2048x1024 .bf16) (p q : Fin 1024) : k0_pay2 x0 x1 (ix2 p q) = k0_pay1 x0 x1 (ix2 p q) := by
  pointwise [k0_pay2]
theorem pay3_at (x0 : Vec Ideal S1024x2048 .bf16) (x1 : Vec Ideal S2048x1024 .bf16) (s : Vec Ideal S1024x1024 .f32) (p q : Fin 1024) : k0_pay3 x0 x1 s (ix2 p q) = s (ix2 p q) + k0_pay1 x0 x1 (ix2 p q) := by
  pointwise [k0_pay3]
theorem pay4_at (x0 : Vec Ideal S1024x2048 .bf16) (x1 : Vec Ideal S2048x1024 .bf16) (s : Vec Ideal S1024x1024 .f32) (p q : Fin 1024) : k0_pay4 x0 x1 s (ix2 p q) = s (ix2 p q) + k0_pay1 x0 x1 (ix2 p q) := by
  pointwise [k0_pay4]

/-! ## The four points of a tile -/

variable (m : (ℓ : Loc nD τ sig) → Buf (Elt Ideal) ℓ) (c : Dev nD)

theorem lt64 (t : Fin cfg0.N) : t.val < 64 := Nat.lt_of_lt_of_eq t.isLt N_0

/-- The product of the two blocks of point `t`. -/
def part (t : Fin cfg0.N) (p q : Fin 1024) : EReal := k0_pay1 (iblk m c 0 t) (iblk m c 1 t) (ix2 p q)

theorem at_first (t : Fin cfg0.N) (h : t.val % 4 = 0) (p q : Fin 1024) : (outsAt0 m c t.val t.isLt).2 (ix2 p q) = part m c t p q := by
  rw [outsAt0_A m c t h (by omega) (by omega)]
  dsimp only
  rw [first, pay2_at]
  rfl

theorem at_middle (t : Fin cfg0.N) (h : 1 ≤ t.val % 4 ∧ t.val % 4 ≤ 2) (p q : Fin 1024) :
    (outsAt0 m c t.val t.isLt).2 (ix2 p q) = (outsAt0 m c (t.val - 1) (Nat.lt_of_le_of_lt (Nat.sub_le _ _) t.isLt)).2 (ix2 p q) + part m c t p q := by
  rw [outsAt0_B m c t (by omega) h (by omega)]
  dsimp only
  rw [middle, pay3_at]
  rfl

theorem at_last (t : Fin cfg0.N) (h : t.val % 4 = 3) (p q : Fin 1024) :
    (outsAt0 m c t.val t.isLt).1 (ix2 p q) = (outsAt0 m c (t.val - 1) (Nat.lt_of_le_of_lt (Nat.sub_le _ _) t.isLt)).2 (ix2 p q) + part m c t p q := by
  rw [outsAt0_C m c t (by omega) (by omega) h]
  dsimp only
  rw [last, pay4_at]
  rfl

/-- Point `b` of tile `r`. -/
def pt (r b : ℕ) (hr : r < 16) (hb : b < 4) : Fin cfg0.N := ⟨4 * r + b, Nat.lt_of_lt_of_eq (by omega) N_0.symm⟩

theorem tile (r : ℕ) (hr : r < 16) (p q : Fin 1024) :
    (outsAt0 m c (pt r 3 hr (by decide)).val (pt r 3 hr (by decide)).isLt).1 (ix2 p q)
      = ((part m c (pt r 0 hr (by decide)) p q + part m c (pt r 1 hr (by decide)) p q) + part m c (pt r 2 hr (by decide)) p q) + part m c (pt r 3 hr (by decide)) p q := by
  rw [at_last m c (pt r 3 hr _) (by show (4 * r + 3) % 4 = 3; omega),
    show (outsAt0 m c ((pt r 3 hr (by decide)).val - 1) _).2 (ix2 p q) = _ from at_middle m c (pt r 2 hr (by decide)) (by show 1 ≤ (4 * r + 2) % 4 ∧ (4 * r + 2) % 4 ≤ 2; omega) p q,
    show (outsAt0 m c ((pt r 2 hr (by decide)).val - 1) _).2 (ix2 p q) = _ from at_middle m c (pt r 1 hr (by decide)) (by show 1 ≤ (4 * r + 1) % 4 ∧ (4 * r + 1) % 4 ≤ 2; omega) p q,
    show (outsAt0 m c ((pt r 1 hr (by decide)).val - 1) _).2 (ix2 p q) = _ from at_first m c (pt r 0 hr (by decide)) (by show (4 * r + 0) % 4 = 0; omega) p q]

/-! ## The blocks at an index -/

abbrev A := FVec Ideal S8192x8192 .bf16
abbrev B := FVec Ideal S8192x2048 .bf16
abbrev O := FVec Ideal S8192x2048 .f32

theorem idx (t : Fin cfg0.N) : win0_0.index t = ![t.val / 8, t.val % 4] ∧ win0_1.index t = ![t.val % 4, t.val / 4 % 2] :=
  (by decide +kernel : ∀ t : Fin grid0.N, win0_0.index t = ![t.val / 8, t.val % 4] ∧ win0_1.index t = ![t.val % 4, t.val / 4 % 2]) t

theorem emb0 (t : Fin cfg0.N) (p : Fin 1024) (k : Fin 2048) :
    (((cfg0.win 0).blk t).view.emb (ix2 p k) : S8192x8192.Idx) = ix2 ⟨1024 * (t.val / 8) + p.val, by have := lt64 t; omega⟩ (at4 (t.val % 4) (Nat.mod_lt _ (by decide)) k) := by
  have hh := lt64 t
  blk_ext [at4, idx t]
theorem emb1 (t : Fin cfg0.N) (k : Fin 2048) (q : Fin 1024) :
    (((cfg0.win 1).blk t).view.emb (ix2 k q) : S8192x2048.Idx) = ix2 (at4 (t.val % 4) (Nat.mod_lt _ (by decide)) k) ⟨1024 * (t.val / 4 % 2) + q.val, by omega⟩ := by
  have hh := lt64 t
  blk_ext [at4, idx t]

theorem of0 (t : Fin cfg0.N) (x : S1024x2048.Idx) (L : A) : (((cfg0.win 0).blk t).view.read (Elt Ideal) L : Vec Ideal S1024x2048 .bf16) x = L (((cfg0.win 0).blk t).view.emb x) := rfl
theorem of1 (t : Fin cfg0.N) (x : S2048x1024.Idx) (L : B) : (((cfg0.win 1).blk t).view.read (Elt Ideal) L : Vec Ideal S2048x1024 .bf16) x = L (((cfg0.win 1).blk t).view.emb x) := rfl

theorem part_at (t : Fin cfg0.N) (p q : Fin 1024) (a : A) (b : B) (ha : V m c (Pipeline.arrRef spec0 0) = a) (hb : V m c (Pipeline.arrRef spec0 1) = b) :
    part m c t p q = ∑ k : Fin 2048, a (ix2 ⟨1024 * (t.val / 8) + p.val, by have := lt64 t; omega⟩ (at4 (t.val % 4) (Nat.mod_lt _ (by decide)) k))
      * b (ix2 (at4 (t.val % 4) (Nat.mod_lt _ (by decide)) k) ⟨1024 * (t.val / 4 % 2) + q.val, by omega⟩) := by
  unfold part
  rw [pay1_at]
  refine Finset.sum_congr rfl fun k _ => ?_
  unfold iblk
  rw [ha, hb, ← emb0, ← emb1]
  exact congrArg₂ _ (of0 t _ a) (of1 t _ b)

/-! ## The result -/

/-- The product of the two factors. -/
def prod (a : A) (b : B) : O := fun i => ∑ k : Fin 8192, a (ix2 (i 0) k) * b (ix2 k (i 1))

theorem result (a : A) (b : B) (ha : V m c (Pipeline.arrRef spec0 0) = a) (hb : V m c (Pipeline.arrRef spec0 1) = b) : G2 m c = prod a b := by
  funext i
  have h0 : (i 0).val < 8192 := (i 0).isLt
  have h1 : (i 1).val < 2048 := (i 1).isLt
  have hr : 2 * ((i 0).val / 1024 - 0) + 1 * ((i 1).val / 1024 - 0) < 16 := by omega
  have hp : pt2Of i < cfg0.N := Nat.lt_of_lt_of_eq (by show 4 * (2 * ((i 0).val / 1024 - 0) + 1 * ((i 1).val / 1024 - 0)) + 3 < 64; omega) N_0.symm
  have hl : loc2Of i = ix2 ⟨(i 0).val % 1024, Nat.mod_lt _ (by decide)⟩ ⟨(i 1).val % 1024, Nat.mod_lt _ (by decide)⟩ := funext fun a => match a with
    | ⟨0, _⟩ => rfl
    | ⟨1, _⟩ => rfl
  have e : G2 m c i = (outsAt0 m c (pt2Of i) hp).1 (loc2Of i) := by
    unfold G2; rw [dif_pos hp, outsAt0_sweep]
  rw [e, hl]
  refine (tile m c _ hr _ _).trans ?_
  unfold prod
  rw [← sum_blocks]
  have hpart : ∀ (b' : ℕ) (hb' : b' < 4), part m c (pt _ b' hr hb') ⟨(i 0).val % 1024, Nat.mod_lt _ (by decide)⟩ ⟨(i 1).val % 1024, Nat.mod_lt _ (by decide)⟩
      = ∑ k : Fin 2048, a (ix2 (i 0) (at4 b' hb' k)) * b (ix2 (at4 b' hb' k) (i 1)) := fun b' hb' => by
    rw [part_at m c _ _ _ a b ha hb]
    refine Finset.sum_congr rfl fun k _ => congrArg₂ _ (congrArg a ?_) (congrArg b ?_)
    · refine congrArg₂ ix2 (Fin.ext ?_) (Fin.ext ?_)
      · simp only [pt]; omega
      · simp only [at4, pt]; omega
    · refine congrArg₂ ix2 (Fin.ext ?_) (Fin.ext ?_)
      · simp only [at4, pt]; omega
      · simp only [pt]; omega
  rw [hpart 0, hpart 1, hpart 2, hpart 3]

end Cert.DnormIdeal.Mm

namespace Cert.DnormIdeal

open Idealize.ShloMosaic Idealize.ShloMosaic.TcCoe Idealize.ShloMosaic.Tactic Idealize.SL.Sem
open Cert.Mlp

/-- The transposed up weights, as the host's line before the call makes them. -/
def hT (w : FVec Ideal S2048x8192 .f32) : Mm.B :=
  truncf .bf16 (transpose S8192x2048 [1, 0] w Facts₀.transposes_S2048x8192_S8192x2048_1_0) Facts₀.bitsLt_bf16_f32

theorem V_T (m : (ℓ : Loc nD τ sig) → Buf (Elt Ideal) ℓ) (c : Dev nD) : Gen.V m c (Pipeline.arrRef spec0 1) = hT (m ((c.tc : Thread nD τ).loc main_arg1)) := by
  show Gen.V m c main_v1 = _
  unfold Gen.V; after_results_simp; rfl

/-- The reference's result is the product with the transposed weights, entry by entry. -/
theorem reference (a : FVec Ideal DnormRefIdeal.S8192x8192 .bf16) (w : FVec Ideal DnormRefIdeal.S2048x8192 .f32) :
    Host.dotGeneral DnormRefIdeal.dot_S8192x8192_S2048x8192_S8192x2048_1_1_0_0_n_n none (extf .f32 a DnormRefIdeal.Facts₀.bitsLt_bf16_f32) w = Mm.prod a (hT w) :=
  eq_of_at _ _ fun i j => by pointwise [Mm.prod, hT]

/-- The call's result is the reference's. -/
theorem algebraic : Cert.algebraic_DnormIdeal_DnormRefIdeal := by
  intro m ρ m' ρ' _ hag
  refine ⟨fun c => Mm.prod (m ((c.tc : Thread nD τ).loc main_arg0)) (hT (m ((c.tc : Thread nD τ).loc main_arg1))), ?_, ?_⟩
  · refine (θ_run Cert.DnormIdeal.defs _ _).mono (fun r h c => ?_) (Cert.DnormIdeal.Value.run (F := Ideal) m ρ)
    exact ⟨(h c).1.trans (Mm.result m c _ _ (Gen.V_main_arg0 m c) (V_T m c)), (h c).2⟩
  · refine (θ_run Cert.DnormRefIdeal.defs _ _).mono (fun r h c => ?_) (Cert.DnormRefIdeal.Value.run (F := Ideal) m' ρ')
    obtain ⟨e0, e1⟩ := hag c
    refine ⟨(h c).1.trans ?_, (h c).2⟩
    rw [e0, e1]
    exact reference _ _

end Cert.DnormIdeal

end
-- ==== Proof.MlaSame.lean ====
/-
  The latent attention's program and its idealization are one text: equal body tables and equal host operations, at the machine's
  floats. A run of the one is a run of the other.
-/
module

public import proofs.«01_k».proof.Proof.Gen.Mla
public import proofs.«01_k».proof.Proof.Gen.MlaIdeal
public import Idealize.ShloMosaic.PureOps.BitExact
public import Idealize.ShloMosaic.Adequacy
public import Idealize.ShloMosaic.Init

@[expose] public section

set_option maxRecDepth 65536
set_option maxHeartbeats 0

noncomputable section

namespace Cert.Proof.MlaSame

open Idealize.ShloMosaic Idealize.SL.Sem

theorem bodies_eq : Cert.Mla.defs₀ (F := Bits) = Cert.MlaIdeal.defs₀ (F := Bits) :=
  congrArg Defs.onTc (funext fun l => match l with | 0 => rfl)

theorem defs_eq : Cert.Mla.defs (F := Bits) = Cert.MlaIdeal.defs (F := Bits) :=
  congrArg (Pipeline.defs Cert.MlaIdeal.pcfgs) bodies_eq

theorem main_eq : Cert.Mla.main (F := Bits) = Cert.MlaIdeal.main (F := Bits) := rfl

/-- A run of the idealization's text at the machine's floats is the kernel's. -/
theorem run_of (s : MemSt Cert.MlaIdeal.nD Cert.MlaIdeal.τ Cert.MlaIdeal.sig (Elt Bits)) (Q : PUnit × MemSt Cert.MlaIdeal.nD Cert.MlaIdeal.τ Cert.MlaIdeal.sig (Elt Bits) → Prop)
    (h : θ_run (Cert.MlaIdeal.defs (F := Bits)) (onTc (τ := Cert.MlaIdeal.τ) (Cert.MlaIdeal.main (F := Bits))) s Q) :
    θ_run (Cert.Mla.defs (F := Bits)) (onTc (τ := Cert.Mla.τ) (Cert.Mla.main (F := Bits))) s Q :=
  have key : ∀ d p, d = Cert.MlaIdeal.defs (F := Bits) → p = Cert.MlaIdeal.main (F := Bits) →
      θ_run d (onTc (τ := Cert.MlaIdeal.τ) p) s Q := fun d p hd hp => by subst hd hp; exact h
  key _ _ defs_eq main_eq

end Cert.Proof.MlaSame

end
-- ==== Proof.MlaBody.lean ====
/-
  The body of the latent attention's backward call, run once over its four conditions: from the contents of its windows and of
  its two scratch sums to the contents it leaves, as pure functions. At any float arithmetic.
-/
module

public import proofs.«01_k».proof.Proof.Gen.MlaIdeal.Frame
public import proofs.«01_k».proof.Proof.Gen.MlaIdeal.Skeleton
public import Idealize.ShloMosaic.Lib.VecWindow

@[expose] public section

set_option maxRecDepth 16384

noncomputable section

namespace Cert.MlaIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MlaIdeal.Gen

variable {F : FTy → Type} [FloatOps F]

local notation "𝕄" => MT nD τ sig Unit (Elt F) ℕ (UR sig nD τ) ℕ

/-- The first query block of a key block: the sums in scratch start over. -/
abbrev isFirst (i : grid0.Coords) : Prop := (Scalar.cmpi .ne (Scalar.extui (Scalar.cmpi .eq (BitVec.ofNat 32 (i 2).val) 0#32)) 0#32) = 1#1

/-- Row block `q` of the four lies in dq's window. -/
theorem rows_inb (q : Fin 4) : ∀ a, (![0, 2048 * q.val, 0] : Fin 3 → ℕ) a + S1x2048x256.size a ≤ S1x8192x256.size a
  | ⟨0, _⟩ => show 0 + 1 ≤ 1 by omega
  | ⟨1, _⟩ => show 2048 * q.val + 2048 ≤ 8192 by have := q.isLt; omega
  | ⟨2, _⟩ => show 0 + 256 ≤ 256 by omega

/-- dq's window with row block `q` replaced by `w`. -/
def rowsPut (q : Fin 4) (w : Vec F S1x2048x256 .f32) (y : Vec F S1x8192x256 .f32) : Vec F S1x8192x256 .f32 :=
  VecWindow.put y ![0, 2048 * q.val, 0] S1x2048x256.size w

/-- Row block `q` of dq's window. -/
def rowsGet (q : Fin 4) (y : Vec F S1x8192x256 .f32) : Vec F S1x2048x256 .f32 :=
  VecWindow.window y ![0, 2048 * q.val, 0] S1x2048x256.size (rows_inb q)

section Step

variable (i : grid0.Coords) (x0 : Vec F S1x2048x256 .bf16) (x1 : Vec F S1x1024x256 .bf16) (x2 : Vec F S1x1024x128 .bf16) (x3 : Vec F S2048x128 .bf16)
  (x4 x5 : Vec F S1x2048x1 .f32)

/-- The tile of the scores' gradient. -/
def dsT : FVec F S2048x1024 .bf16 := k0_pay12 x0 x1 x3 x4 x2 x5
/-- What the point leaves in the sum of dk. -/
def dkS (s : Vec F S1024x256 .f32) : Vec F S1024x256 .f32 := k0_pay1 (k0_pay9 x0) (dsT x0 x1 x2 x3 x4 x5) (if isFirst i then k0_pay7 else s)
/-- What the point leaves in the sum of dv. -/
def dvS (s : Vec F S1024x128 .f32) : Vec F S1024x128 .f32 := k0_pay13 x0 x1 x3 x4 (if isFirst i then k0_pay8 else s)
/-- What the point leaves in dq's window. -/
def dqW (y : Vec F S1x8192x256 .f32) : Vec F S1x8192x256 .f32 :=
  rowsPut (i 2) (if k0_cond2 i = 1#1 then k0_pay3 (k0_pay10 x1) (dsT x0 x1 x2 x3 x4 x5) else k0_pay4 (k0_pay10 x1) (dsT x0 x1 x2 x3 x4 x5) (rowsGet (i 2) y)) y

end Step

set_option maxHeartbeats 2000000 in
theorem body_run (c : Dev nD) (i : grid0.Coords) (arg3 : Memref sig .tc .vmem S1x2048x256 .bf16) (harg3 : arg3.IsWhole) (arg4 : Memref sig .tc .vmem S1x1024x256 .bf16) (harg4 : arg4.IsWhole) (arg5 : Memref sig .tc .vmem S1x1024x128 .bf16) (harg5 : arg5.IsWhole) (arg6 : Memref sig .tc .vmem S2048x128 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x8192x256 .f32) (harg9 : arg9.IsWhole) (arg10 : Memref sig .tc .vmem S1x1024x256 .f32) (harg10 : arg10.IsWhole) (arg11 : Memref sig .tc .vmem S1x1024x128 .f32) (harg11 : arg11.IsWhole) (arg12 : Memref sig .tc .vmem S1024x256 .f32) (harg12 : arg12.IsWhole) (arg13 : Memref sig .tc .vmem S1024x128 .f32) (harg13 : arg13.IsWhole)
    (ho1 : k0_off1 i = ![0, 2048 * (i 2).val, 0]) (ho2 : k0_off2 i = ![0, 2048 * (i 2).val, 0]) (hx : k0_cond3 i = 1#1 ↔ ¬ k0_cond2 i = 1#1)
    (x0 : Vec F S1x2048x256 .bf16) (x1 : Vec F S1x1024x256 .bf16) (x2 : Vec F S1x1024x128 .bf16) (x3 : Vec F S2048x128 .bf16) (x4 : Vec F S1x2048x1 .f32) (x5 : Vec F S1x2048x1 .f32)
    (y6 : Vec F S1x8192x256 .f32) (y7 : Vec F S1x1024x256 .f32) (y8 : Vec F S1x1024x128 .f32) (s0 : Vec F S1024x256 .f32) (s1 : Vec F S1024x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8 ∗ owns (c : Thread nD τ) arg12 fullShare s0 ∗ owns (c : Thread nD τ) arg13 fullShare s1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ owns (c : Thread nD τ) arg9 fullShare (dqW i x0 x1 x2 x3 x4 x5 y6)
            ∗ owns (c : Thread nD τ) arg10 fullShare (if k0_cond4 i = 1#1 then k0_pay5 (dkS i x0 x1 x2 x3 x4 x5 s0) else y7)
            ∗ owns (c : Thread nD τ) arg11 fullShare (if k0_cond4 i = 1#1 then k0_pay6 (dvS i x0 x1 x3 x4 s1) else y8)
            ∗ owns (c : Thread nD τ) arg12 fullShare (dkS i x0 x1 x2 x3 x4 x5 s0) ∗ owns (c : Thread nD τ) arg13 fullShare (dvS i x0 x1 x3 x4 s1)) -∗ K ⟨⟩))
      ⊢ wp frame (wpE (defs₀ (F := F)) Variants.none c none) E (cc0_mla_attn_bwd i arg3 harg3 arg4 harg4 arg5 harg5 arg6 harg6 arg7 harg7 arg8 harg8 arg9 harg9 arg10 harg10 arg11 harg11 arg12 harg12 arg13 harg13) K := by
  simp only [cc0_mla_attn_bwd_eq_skeleton]; unfold cc0_mla_attn_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0; obtain rfl := harg13.eq_unread hfs1
  have e3 : arg3.view.readAt (Elt F) (Rect.unit (s := S1x2048x256) ![0, 0, 0] ![1, 2048, 256] inb_S1x2048x256_S1x2048x256_0_0_0).toLoadRect (harg3.unread x0) = x0 := (View.readAt_full arg3.view _ inb_S1x2048x256_S1x2048x256_0_0_0).trans (harg3.read_unread _)
  have e4 : arg4.view.readAt (Elt F) (Rect.unit (s := S1x1024x256) ![0, 0, 0] ![1, 1024, 256] inb_S1x1024x256_S1x1024x256_0_0_0).toLoadRect (harg4.unread x1) = x1 := (View.readAt_full arg4.view _ inb_S1x1024x256_S1x1024x256_0_0_0).trans (harg4.read_unread _)
  have e5 : arg5.view.readAt (Elt F) (Rect.unit (s := S1x1024x128) ![0, 0, 0] ![1, 1024, 128] inb_S1x1024x128_S1x1024x128_0_0_0).toLoadRect (harg5.unread x2) = x2 := (View.readAt_full arg5.view _ inb_S1x1024x128_S1x1024x128_0_0_0).trans (harg5.read_unread _)
  have e6 : arg6.view.readAt (Elt F) (Rect.unit (s := S2048x128) ![0, 0] ![2048, 128] inb_S2048x128_S2048x128_0_0).toLoadRect (harg6.unread x3) = x3 := (View.readAt_full arg6.view _ inb_S2048x128_S2048x128_0_0).trans (harg6.read_unread _)
  have e7 : arg7.view.readAt (Elt F) (Rect.unit (s := S1x2048x1) ![0, 0, 0] ![1, 2048, 1] inb_S1x2048x1_S1x2048x1_0_0_0).toLoadRect (harg7.unread x4) = x4 := (View.readAt_full arg7.view _ inb_S1x2048x1_S1x2048x1_0_0_0).trans (harg7.read_unread _)
  have e8 : arg8.view.readAt (Elt F) (Rect.unit (s := S1x2048x1) ![0, 0, 0] ![1, 2048, 1] inb_S1x2048x1_S1x2048x1_0_0_0).toLoadRect (harg8.unread x5) = x5 := (View.readAt_full arg8.view _ inb_S1x2048x1_S1x2048x1_0_0_0).trans (harg8.read_unread _)
  have e12 : arg12.view.readAt (Elt F) (Rect.unit (s := S1024x256) ![0, 0] ![1024, 256] inb_S1024x256_S1024x256_0_0).toLoadRect (harg12.unread s0) = s0 := (View.readAt_full arg12.view _ inb_S1024x256_S1024x256_0_0).trans (harg12.read_unread _)
  have e13 : arg13.view.readAt (Elt F) (Rect.unit (s := S1024x128) ![0, 0] ![1024, 128] inb_S1024x128_S1024x128_0_0).toLoadRect (harg13.unread s1) = s1 := (View.readAt_full arg13.view _ inb_S1024x128_S1024x128_0_0).trans (harg13.read_unread _)
  have c12 : ∀ w L, arg12.view.readCov (Val := Elt F) (⟨Rect.unit (s := S1024x256) ![0, 0] ![1024, 256] inb_S1024x256_S1024x256_0_0, w⟩ :: L) (Rect.unit (s := S1024x256) ![0, 0] ![1024, 256] inb_S1024x256_S1024x256_0_0).toLoadRect = w := fun w L => View.readCov_full arg12.view _ _ w L
  have c13 : ∀ w L, arg13.view.readCov (Val := Elt F) (⟨Rect.unit (s := S1024x128) ![0, 0] ![1024, 128] inb_S1024x128_S1024x128_0_0, w⟩ :: L) (Rect.unit (s := S1024x128) ![0, 0] ![1024, 128] inb_S1024x128_S1024x128_0_0).toLoadRect = w := fun w L => View.readCov_full arg13.view _ _ w L
  have hc12 : (k0_cond2 i = 1#1 ∧ ¬ k0_cond3 i = 1#1) ∨ (¬ k0_cond2 i = 1#1 ∧ k0_cond3 i = 1#1) := by tauto
  rcases Classical.em (isFirst i) with hc0 | hc0 <;> rcases hc12 with ⟨hc1, hc2⟩ | ⟨hc1, hc2⟩ <;> rcases Classical.em (k0_cond4 i = 1#1) with hc3 | hc3 <;>
    (sl_exec (disch := first | sl_exact hc0 | sl_exact hc1 | sl_exact hc2 | sl_exact hc3)
     sl_step
     iapply Hk
     isplitl [H0]; · iexists _; isplitr; · ipureintro; exact harg3.read_unread _
                     iexact H0
     isplitl [H1]; · iexists _; isplitr; · ipureintro; exact harg4.read_unread _
                     iexact H1
     isplitl [H2]; · iexists _; isplitr; · ipureintro; exact harg5.read_unread _
                     iexact H2
     isplitl [H3]; · iexists _; isplitr; · ipureintro; exact harg6.read_unread _
                     iexact H3
     isplitl [H4]; · iexists _; isplitr; · ipureintro; exact harg7.read_unread _
                     iexact H4
     isplitl [H5]; · iexists _; isplitr; · ipureintro; exact harg8.read_unread _
                     iexact H5
     isplitl [H6]; · iexists _; isplitr; swap
                     · iexact H6
                     · ipureintro
                       sl_unfold_run_names
                       first
                       | refine (View.read_writes_cons_put arg9.view _ _ _ [] ho1).trans ?_
                       | refine (View.read_writes_cons_put arg9.view _ _ _ [] ho2).trans ?_
                       simp only [dqW, rowsPut, rowsGet, dsT]
                       first | rw [if_pos hc1] | rw [if_neg hc1]
                       try simp only [View.writes_nil, harg9.read_unread, e3, e4, e5, e6, e7, e8, e12, e13]
                       try rw [View.readAt_unit arg9.view _ _ ho2 (rows_inb (i 2)), harg9.read_unread]
                       try rfl
     isplitl [H7]; · iexists _; isplitr; swap
                     · iexact H7
                     · ipureintro
                       sl_unfold_run_names
                       first
                       | rw [if_neg hc3]; exact harg10.read_unread _
                       | refine (View.read_writes_full arg10.view _ _ _ []).trans ?_
                         simp only [dkS, dsT]
                         rw [if_pos hc3]
                         first | rw [if_pos hc0] | rw [if_neg hc0]
                         try simp only [c12, c13, e3, e4, e5, e6, e7, e8, e12, e13]
                         try rfl
     isplitl [H8]; · iexists _; isplitr; swap
                     · iexact H8
                     · ipureintro
                       sl_unfold_run_names
                       first
                       | rw [if_neg hc3]; exact harg11.read_unread _
                       | refine (View.read_writes_full arg11.view _ _ _ []).trans ?_
                         simp only [dvS]
                         rw [if_pos hc3]
                         first | rw [if_pos hc0] | rw [if_neg hc0]
                         try simp only [c12, c13, e3, e4, e5, e6, e7, e8, e12, e13]
                         try rfl
     isplitl [HS0]; · iexists _; isplitr; swap
                      · iexact HS0
                      · ipureintro
                        sl_unfold_run_names
                        refine (View.read_writes_full arg12.view _ _ _ _).trans ?_
                        simp only [dkS, dsT]
                        first | rw [if_pos hc0] | rw [if_neg hc0]
                        try simp only [c12, c13, e3, e4, e5, e6, e7, e8, e12, e13]
                        try rfl
     iexists _; isplitr; swap
     · iexact HS1
     · ipureintro
       sl_unfold_run_names
       refine (View.read_writes_full arg13.view _ _ _ _).trans ?_
       simp only [dvS]
       first | rw [if_pos hc0] | rw [if_neg hc0]
       try simp only [c12, c13, e3, e4, e5, e6, e7, e8, e12, e13]
       try rfl)

end Cert.MlaIdeal.Bwd

end
-- ==== Proof.MlaRun.lean ====
/-
  The run of the latent attention's backward call over its 256 points, at any float arithmetic: the two scratch sums in closed
  form by recursion over the points, the relation between what a point finds in an output's window and what it leaves,
  and the launch. The frame is read off it.
-/
module

public import proofs.«01_k».proof.Proof.MlaBody
public import Idealize.ShloMosaic.Lib.WordCmp
public import Idealize.ShloMosaic.Lib.Pipeline.ArrRel

@[expose] public section

set_option maxRecDepth 16384

noncomputable section

namespace Cert.MlaIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.MlaIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's conditions over the points -/

theorem isFirst_iff (t : Fin cfg0.N) : isFirst (grid0.coords t) ↔ t.val % 4 = 0 :=
  (fun t => by
    have ht : t.val < 256 := Nat.lt_of_lt_of_eq t.isLt N_0
    have e2 : (grid0.coords t 2).val = t.val / 1 % 4 := Pipeline.Grid.coords_val t 2 (by decide) rfl
    simp only [isFirst, e2]
    word_cmp : ∀ t : Fin grid0.N, isFirst (grid0.coords t) ↔ t.val % 4 = 0) t

theorem cond2_iff (t : Fin cfg0.N) : k0_cond2 (grid0.coords t) = 1#1 ↔ t.val / 4 % 8 = 0 :=
  (fun t => by
    have ht : t.val < 256 := Nat.lt_of_lt_of_eq t.isLt N_0
    have e1 : (grid0.coords t 1).val = t.val / 4 % 8 := Pipeline.Grid.coords_val t 1 (by decide) rfl
    simp only [k0_cond2, e1]
    word_cmp : ∀ t : Fin grid0.N, k0_cond2 (grid0.coords t) = 1#1 ↔ t.val / 4 % 8 = 0) t

theorem cond3_iff (t : Fin cfg0.N) : k0_cond3 (grid0.coords t) = 1#1 ↔ ¬ k0_cond2 (grid0.coords t) = 1#1 :=
  (by decide +kernel : ∀ t : Fin grid0.N, k0_cond3 (grid0.coords t) = 1#1 ↔ ¬ k0_cond2 (grid0.coords t) = 1#1) t

theorem cond4_iff (t : Fin cfg0.N) : k0_cond4 (grid0.coords t) = 1#1 ↔ t.val % 4 = 3 :=
  (fun t => by
    have ht : t.val < 256 := Nat.lt_of_lt_of_eq t.isLt N_0
    have e2 : (grid0.coords t 2).val = t.val / 1 % 4 := Pipeline.Grid.coords_val t 2 (by decide) rfl
    simp only [k0_cond4, e2]
    word_cmp : ∀ t : Fin grid0.N, k0_cond4 (grid0.coords t) = 1#1 ↔ t.val % 4 = 3) t

theorem off1_eq (t : Fin cfg0.N) : k0_off1 (grid0.coords t) = ![0, 2048 * (grid0.coords t 2).val, 0] :=
  (by decide +kernel : ∀ t : Fin grid0.N, k0_off1 (grid0.coords t) = ![0, 2048 * (grid0.coords t 2).val, 0]) t

theorem off2_eq (t : Fin cfg0.N) : k0_off2 (grid0.coords t) = ![0, 2048 * (grid0.coords t 2).val, 0] :=
  (by decide +kernel : ∀ t : Fin grid0.N, k0_off2 (grid0.coords t) = ![0, 2048 * (grid0.coords t 2).val, 0]) t

/-! ## The windows' contents over the points -/

abbrev xb0 (c : Dev nD) (t : Fin cfg0.N) : Vec F S1x2048x256 .bf16 := iblk m c 0 t
abbrev xb1 (c : Dev nD) (t : Fin cfg0.N) : Vec F S1x1024x256 .bf16 := iblk m c 1 t
abbrev xb2 (c : Dev nD) (t : Fin cfg0.N) : Vec F S1x1024x128 .bf16 := iblk m c 2 t
abbrev xb3 (c : Dev nD) (t : Fin cfg0.N) : Vec F S2048x128 .bf16 := iblk m c 3 t
abbrev xb4 (c : Dev nD) (t : Fin cfg0.N) : Vec F S1x2048x1 .f32 := iblk m c 4 t
abbrev xb5 (c : Dev nD) (t : Fin cfg0.N) : Vec F S1x2048x1 .f32 := iblk m c 5 t

/-- What point `t` makes of the sum of dk it finds. -/
def dkP (c : Dev nD) (t : Fin cfg0.N) (s : Vec F S1024x256 .f32) : Vec F S1024x256 .f32 :=
  dkS (grid0.coords t) (xb0 m c t) (xb1 m c t) (xb2 m c t) (xb3 m c t) (xb4 m c t) (xb5 m c t) s
/-- What point `t` makes of the sum of dv it finds. -/
def dvP (c : Dev nD) (t : Fin cfg0.N) (s : Vec F S1024x128 .f32) : Vec F S1024x128 .f32 :=
  dvS (grid0.coords t) (xb0 m c t) (xb1 m c t) (xb3 m c t) (xb4 m c t) s
/-- What point `t` makes of dq's window. -/
def dqP (c : Dev nD) (t : Fin cfg0.N) (y : Vec F S1x8192x256 .f32) : Vec F S1x8192x256 .f32 :=
  dqW (grid0.coords t) (xb0 m c t) (xb1 m c t) (xb2 m c t) (xb3 m c t) (xb4 m c t) (xb5 m c t) y

/-- The sum of dk before point `n`. -/
def skA (c : Dev nD) : ℕ → Vec F S1024x256 .f32
  | 0 => k0_pay7
  | n + 1 => if h : n < cfg0.N then dkP m c ⟨n, h⟩ (skA c n) else skA c n
/-- The sum of dv before point `n`. -/
def svA (c : Dev nD) : ℕ → Vec F S1024x128 .f32
  | 0 => k0_pay8
  | n + 1 => if h : n < cfg0.N then dvP m c ⟨n, h⟩ (svA c n) else svA c n

theorem skA_succ (c : Dev nD) (t : Fin cfg0.N) : skA m c (t.val + 1) = dkP m c t (skA m c t.val) := dif_pos t.isLt
theorem svA_succ (c : Dev nD) (t : Fin cfg0.N) : svA m c (t.val + 1) = dvP m c t (svA m c t.val) := dif_pos t.isLt

/-- A point that starts the sums over does not read what it finds in them. -/
theorem dkP_congr (c : Dev nD) (t : Fin cfg0.N) (s s' : Vec F S1024x256 .f32) (h : t.val % 4 ≠ 0 → s = s') : dkP m c t s = dkP m c t s' := by
  unfold dkP dkS
  by_cases h0 : t.val % 4 = 0
  · rw [if_pos ((isFirst_iff t).mpr h0), if_pos ((isFirst_iff t).mpr h0)]
  · rw [h h0]
theorem dvP_congr (c : Dev nD) (t : Fin cfg0.N) (s s' : Vec F S1024x128 .f32) (h : t.val % 4 ≠ 0 → s = s') : dvP m c t s = dvP m c t s' := by
  unfold dvP dvS
  by_cases h0 : t.val % 4 = 0
  · rw [if_pos ((isFirst_iff t).mpr h0), if_pos ((isFirst_iff t).mpr h0)]
  · rw [h h0]

attribute [irreducible] skA svA

/-! ## The proof data -/

abbrev scr0 : Memref sig .tc .vmem S1024x256 .f32 := Memref.whole cc0_scratch0
abbrev scr1 : Memref sig .tc .vmem S1024x128 .f32 := Memref.whole cc0_scratch1

/-- The launch's invariant with the two scratch sums as memrefs owned at some contents. -/
theorem PhiA_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- Before point `n` the two scratch sums hold what the points before it made (before the first, anything). -/
def PhiT (c : Dev nD) (n : ℕ) : sProp 𝕄 :=
  iprop((∃ d, ⌜n ≠ 0 → d = skA m c n⌝ ∗ owns (c : Thread nD τ) scr0 fullShare d) ∗ (∃ d, ⌜n ≠ 0 → d = svA m c n⌝ ∗ owns (c : Thread nD τ) scr1 fullShare d) ∗ (∃ r, prngReg c r))

/-- What a point leaves in a window, from what it finds there. -/
def leaves (c : Dev nD) (w : Fin cfg0.W) (t : Fin cfg0.N) : (Y X : (cfg0.win w).block.Idx → Elt F (cfg0.win w).elt) → Prop := match w with
  | ⟨0, _⟩ => fun Y X => X = Y
  | ⟨1, _⟩ => fun Y X => X = Y
  | ⟨2, _⟩ => fun Y X => X = Y
  | ⟨3, _⟩ => fun Y X => X = Y
  | ⟨4, _⟩ => fun Y X => X = Y
  | ⟨5, _⟩ => fun Y X => X = Y
  | ⟨6, _⟩ => fun Y X => X = dqP m c t Y
  | ⟨7, _⟩ => fun Y X => X = if k0_cond4 (grid0.coords t) = 1#1 then k0_pay5 (skA m c (t.val + 1)) else Y
  | ⟨8, _⟩ => fun Y X => X = if k0_cond4 (grid0.coords t) = 1#1 then k0_pay6 (svA m c (t.val + 1)) else Y

/-- The relational proof data of the call. -/
def rdat (c : Dev nD) : RDat τ (Elt F) Unit ℕ (UR sig nD τ) ℕ cfg0 c where
  A w := V m c (Pipeline.arrRef spec0 w)
  after := leaves m c
  Φ t := PhiT m c t.val
  q _ := fullShare
  owed _ := 0

theorem A_eq (c : Dev nD) (w : Fin cfg0.W) : (rdat m c).A w = V m c (Pipeline.arrRef spec0 w) := by dsimp only [rdat]
theorem after_eq (c : Dev nD) : (rdat m c).after = leaves m c := by dsimp only [rdat]
theorem Phi_castSucc (c : Dev nD) (t : Fin cfg0.N) : (rdat m c).Φ t.castSucc = PhiT m c t.val := by dsimp only [rdat]; rfl
theorem Phi_succ (c : Dev nD) (t : Fin cfg0.N) : (rdat m c).Φ t.succ = PhiT m c (t.val + 1) := by dsimp only [rdat]; rfl
theorem owesAt_eq (c : Dev nD) (t : Fin cfg0.N) : (rdat m c).owesAt () t.castSucc = (rdat m c).owesAt () t.succ := by
  dsimp only [RDat.owesAt, RDat.bound, rdat]

/-- An input's window holds its block at every point. -/
theorem finds_in (c : Dev nD) (w : Fin cfg0.W) (hw : (cfg0.win w).isOut = false) (hk : ∀ t Y X, leaves m c w t Y X → X = Y)
    (hclip : ∀ (t t' : Fin cfg0.N), (cfg0.win w).clip (cfg0.grid.coords t) = (cfg0.win w).clip (cfg0.grid.coords t'))
    (t : Fin cfg0.N) (Y) (h : (rdat m c).Finds w t Y) : ∃ d, Y = (cfg0.win w).fill (cfg0.grid.coords t) d (iblk m c w t) := by
  obtain ⟨d, hd⟩ := RDat.finds_in_eq_fetched (rdat m c) w hw (fun t t' _ => hclip t t') (fun t Y X h => hk t Y X (by rw [after_eq] at h; exact h)) t Y h
  refine ⟨d, hd.trans ?_⟩
  unfold RDat.fetched RDat.blockOf iblk; rw [A_eq]

theorem finds0 (c : Dev nD) (t : Fin cfg0.N) (Y) (h : (rdat m c).Finds 0 t Y) : Y = xb0 m c t := by
  obtain ⟨d, hd⟩ := finds_in m c 0 rfl (fun _ _ _ h => h) (fun _ _ => rfl) t Y h; exact hd
theorem finds1 (c : Dev nD) (t : Fin cfg0.N) (Y) (h : (rdat m c).Finds 1 t Y) : Y = xb1 m c t := by
  obtain ⟨d, hd⟩ := finds_in m c 1 rfl (fun _ _ _ h => h) (fun _ _ => rfl) t Y h; exact hd
theorem finds2 (c : Dev nD) (t : Fin cfg0.N) (Y) (h : (rdat m c).Finds 2 t Y) : Y = xb2 m c t := by
  obtain ⟨d, hd⟩ := finds_in m c 2 rfl (fun _ _ _ h => h) (fun _ _ => rfl) t Y h; exact hd
theorem finds3 (c : Dev nD) (t : Fin cfg0.N) (Y) (h : (rdat m c).Finds 3 t Y) : Y = xb3 m c t := by
  obtain ⟨d, hd⟩ := finds_in m c 3 rfl (fun _ _ _ h => h) (fun _ _ => rfl) t Y h; exact hd
theorem finds4 (c : Dev nD) (t : Fin cfg0.N) (Y) (h : (rdat m c).Finds 4 t Y) : Y = xb4 m c t := by
  obtain ⟨d, hd⟩ := finds_in m c 4 rfl (fun _ _ _ h => h) (fun _ _ => rfl) t Y h; exact hd
theorem finds5 (c : Dev nD) (t : Fin cfg0.N) (Y) (h : (rdat m c).Finds 5 t Y) : Y = xb5 m c t := by
  obtain ⟨d, hd⟩ := finds_in m c 5 rfl (fun _ _ _ h => h) (fun _ _ => rfl) t Y h; exact hd

/-! ## The body at a point -/

theorem body_row (t : Fin cfg0.N) : defs₀ (F := F) .tc cfg0.body (cfg0.bodyArgs t (cfg0.slots t)) = bodyAt0 t := by
  unfold defs₀; rw [Defs.onTc_tc]

theorem sound_body (c : Dev nD) (t : Fin cfg0.N) (y6 : Vec F S1x8192x256 .f32) (y7 : Vec F S1x1024x256 .f32) (y8 : Vec F S1x1024x128 .f32) (R : sProp 𝕄) :
    iprop(PhiT m c t.val ∗ R ∗ owns (c : Thread nD τ) (st0_0 t) fullShare (xb0 m c t) ∗ owns (c : Thread nD τ) (st0_1 t) fullShare (xb1 m c t) ∗ owns (c : Thread nD τ) (st0_2 t) fullShare (xb2 m c t) ∗ owns (c : Thread nD τ) (st0_3 t) fullShare (xb3 m c t) ∗ owns (c : Thread nD τ) (st0_4 t) fullShare (xb4 m c t) ∗ owns (c : Thread nD τ) (st0_5 t) fullShare (xb5 m c t)
        ∗ owns (c : Thread nD τ) (st0_6 t) fullShare y6 ∗ owns (c : Thread nD τ) (st0_7 t) fullShare y7 ∗ owns (c : Thread nD τ) (st0_8 t) fullShare y8)
      ⊢ wp frame (wpE (defs₀ (F := F)) Variants.none c none) Set.univ (bodyAt0 t) fun _ =>
        iprop(PhiT m c (t.val + 1) ∗ R ∗ (∃ X, ⌜X = xb0 m c t⌝ ∗ owns (c : Thread nD τ) (st0_0 t) fullShare X) ∗ (∃ X, ⌜X = xb1 m c t⌝ ∗ owns (c : Thread nD τ) (st0_1 t) fullShare X) ∗ (∃ X, ⌜X = xb2 m c t⌝ ∗ owns (c : Thread nD τ) (st0_2 t) fullShare X) ∗ (∃ X, ⌜X = xb3 m c t⌝ ∗ owns (c : Thread nD τ) (st0_3 t) fullShare X) ∗ (∃ X, ⌜X = xb4 m c t⌝ ∗ owns (c : Thread nD τ) (st0_4 t) fullShare X) ∗ (∃ X, ⌜X = xb5 m c t⌝ ∗ owns (c : Thread nD τ) (st0_5 t) fullShare X)
          ∗ (∃ X, ⌜X = dqP m c t y6⌝ ∗ owns (c : Thread nD τ) (st0_6 t) fullShare X)
          ∗ (∃ X, ⌜X = if k0_cond4 (grid0.coords t) = 1#1 then k0_pay5 (skA m c (t.val + 1)) else y7⌝ ∗ owns (c : Thread nD τ) (st0_7 t) fullShare X)
          ∗ (∃ X, ⌜X = if k0_cond4 (grid0.coords t) = 1#1 then k0_pay6 (svA m c (t.val + 1)) else y8⌝ ∗ owns (c : Thread nD τ) (st0_8 t) fullShare X)) := by
  unfold PhiT
  iintro ⟨⟨⟨%s0, %hs0, HS0⟩, ⟨%s1, %hs1, HS1⟩, Hg⟩, HR, H0, H1, H2, H3, H4, H5, H6, H7, H8⟩
  have k0 : dkP m c t s0 = skA m c (t.val + 1) := by
    rw [skA_succ]; exact dkP_congr m c t _ _ fun h => hs0 (by omega)
  have k1 : dvP m c t s1 = svA m c (t.val + 1) := by
    rw [svA_succ]; exact dvP_congr m c t _ _ fun h => hs1 (by omega)
  iapply (body_run c (grid0.coords t) _ _ _ _ _ _ _ _ _ _ _ _ _ _ _ _ _ _ _ _ _ _ (off1_eq t) (off2_eq t) (cond3_iff t) (xb0 m c t) (xb1 m c t) (xb2 m c t) (xb3 m c t) (xb4 m c t) (xb5 m c t) y6 y7 y8 s0 s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0]
    · iexists _; isplitr; swap; · iexact HS0
      ipureintro; exact fun _ => k0
    isplitl [HS1]
    · iexists _; isplitr; swap; · iexact HS1
      ipureintro; exact fun _ => k1
    iexact Hg
  isplitl [HR]; · iexact HR
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]; · iexists _; isplitr; swap; · iexact H7
                  ipureintro; rw [← k0]; rfl
  iexists _; isplitr; swap; · iexact H8
  ipureintro; rw [← k1]; rfl

theorem body_obligation (c : Dev nD) : (rdat (F := F) m c).BodyObligation (defs₀ (F := F)) Variants.none () Set.univ := fun t Y hY => by
  rw [bigSep_W0, bigSep_W0, body_row, Phi_castSucc, Phi_succ, after_eq, owesAt_eq, finds0 m c t _ (hY 0), finds1 m c t _ (hY 1), finds2 m c t _ (hY 2), finds3 m c t _ (hY 3), finds4 m c t _ (hY 4), finds5 m c t _ (hY 5)]
  exact triple_restated (sound_body m c t (Y 6) (Y 7) (Y 8) _) rfl .rfl fun _ => .rfl

theorem hin (c : Dev nD) : Pipeline.ΦA spec0 c ⊢ PhiT m c 0 := by
  rw [PhiA_eq]; unfold PhiT
  iintro ⟨⟨⟨%d0, H0⟩, ⟨%d1, H1⟩⟩, Hg⟩
  isplitl [H0]
  · iexists d0; isplitr; · ipureintro; exact fun h => absurd rfl h
    iexact H0
  isplitl [H1]
  · iexists d1; isplitr; · ipureintro; exact fun h => absurd rfl h
    iexact H1
  iexact Hg

theorem hout (c : Dev nD) (n : ℕ) : PhiT m c n ⊢ Pipeline.ΦA spec0 c := by
  rw [PhiA_eq]; unfold PhiT
  iintro ⟨⟨%d0, %h0, H0⟩, ⟨%d1, %h1, H1⟩, Hg⟩
  isplitl [H0 H1]
  · isplitl [H0]
    · iexists _; iexact H0
    iexists _; iexact H1
  iexact Hg

theorem Phi_eq (c : Dev nD) (t : Fin (cfg0.N + 1)) : (rdat m c).Φ t = PhiT m c t.val := by dsimp only [rdat]

set_option backward.isDefEq.respectTransparency.types false in
/-- The launch: every array of the call ends as the relation allows, and every counter ends at zero. -/
theorem run_main : θ_run defs (onTc (τ := τ) (main (F := F))) (s₀ m ρ) (fun r => (RDat.FramePost (cfgs 0) (fun c => rdat m c) (V m)) r ∧ r.2.sem = fun _ => 0) :=
  RDat.θ_run_frame_track (Q' := _) cfgs (0 : Fin 1) launch0 defs₀ Variants.none (fun c => rdat m c) m ρ main
    (hbody := fun c => body_obligation m c) (hshare := fun c w => by unfold RDat.share; dsimp only [rdat]; exact ite_self _)
    (howed := fun _ _ => rfl) (V := V m) (hmain := hmain m Variants.none) (hA := A_eq m)
    (hin := fun c => by rw [Phi_eq]; exact hin m c) (hout := fun c => by rw [Phi_eq]; exact hout m c _)
    (hQ' := fun _ h => h)

/-- The argument arrays end unchanged. -/
theorem args_post {r : PUnit × MemSt nD τ sig (Elt F)} (h : (RDat.FramePost (cfgs 0) (fun c => rdat m c) (V m)) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(RDat.FramePost.arr_in h c 0 rfl).trans ((A_eq m c 0).trans (V_main_arg0 m c)),
    (RDat.FramePost.arr_in h c 1 rfl).trans ((A_eq m c 1).trans (V_main_arg1 m c)),
    (RDat.FramePost.arr_in h c 2 rfl).trans ((A_eq m c 2).trans (V_main_arg2 m c)),
    ((h c).2 main_arg3 (Pipeline.mem_restRefs_of main_arg3 (by decide) (by decide))).trans (V_main_arg3 m c),
    (RDat.FramePost.arr_in h c 3 rfl).trans ((A_eq m c 3).trans (V_main_arg4 m c))⟩

/-- The argument arrays end unchanged and every counter ends at zero. -/
theorem frame_run : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_post m h.1, h.2⟩) (run_main m ρ)

end Cert.MlaIdeal.Bwd

end
-- ==== Proof.Attn.lean ====
/-
  The mathematics of one head of softmax attention and its gradients over the real numbers, at any number of query
  positions `N`, key positions `K`, width `D` of the queries and keys and width `E` of the values; and the laws by which
  the extended reals agree with it on finite numbers.
-/
module

public import Idealize.ShloMosaic.Lib.Pointwise
public import Mathlib.Analysis.SpecialFunctions.Log.Basic

@[expose] public section

noncomputable section

namespace Cert.Attn

open scoped BigOperators
open Idealize.ShloMosaic

variable {N K D E : ℕ}

/-! ## Over the reals -/

/-- The score of query position `i` at key position `j`. -/
def sc (q : Fin N → Fin D → ℝ) (k : Fin K → Fin D → ℝ) (i : Fin N) (j : Fin K) : ℝ := ∑ d, q i d * k j d
/-- The softmax's denominator. -/
def dn (q : Fin N → Fin D → ℝ) (k : Fin K → Fin D → ℝ) (i : Fin N) : ℝ := ∑ j, Real.exp (sc q k i j)
/-- The probability. -/
def pr (q : Fin N → Fin D → ℝ) (k : Fin K → Fin D → ℝ) (i : Fin N) (j : Fin K) : ℝ := Real.exp (sc q k i j) / dn q k i
/-- The cotangent of the probability: the cotangent of the output against the value. -/
def dp (g : Fin N → Fin E → ℝ) (v : Fin K → Fin E → ℝ) (i : Fin N) (j : Fin K) : ℝ := ∑ d, g i d * v j d
/-- The softmax gradient's row correction. -/
def de (q : Fin N → Fin D → ℝ) (k : Fin K → Fin D → ℝ) (v : Fin K → Fin E → ℝ) (g : Fin N → Fin E → ℝ) (i : Fin N) : ℝ :=
  ∑ j, pr q k i j * dp g v i j
/-- The cotangent of the score. -/
def ds (q : Fin N → Fin D → ℝ) (k : Fin K → Fin D → ℝ) (v : Fin K → Fin E → ℝ) (g : Fin N → Fin E → ℝ) (i : Fin N) (j : Fin K) : ℝ :=
  pr q k i j * (dp g v i j - de q k v g i)
/-- The output. -/
def ou (q : Fin N → Fin D → ℝ) (k : Fin K → Fin D → ℝ) (v : Fin K → Fin E → ℝ) (i : Fin N) (d : Fin E) : ℝ := ∑ j, pr q k i j * v j d
/-- The gradient of the queries. -/
def dq (q : Fin N → Fin D → ℝ) (k : Fin K → Fin D → ℝ) (v : Fin K → Fin E → ℝ) (g : Fin N → Fin E → ℝ) (i : Fin N) (d : Fin D) : ℝ :=
  ∑ j, ds q k v g i j * k j d
/-- The gradient of the keys. -/
def dk (q : Fin N → Fin D → ℝ) (k : Fin K → Fin D → ℝ) (v : Fin K → Fin E → ℝ) (g : Fin N → Fin E → ℝ) (j : Fin K) (d : Fin D) : ℝ :=
  ∑ i, ds q k v g i j * q i d
/-- The gradient of the values. -/
def dv (q : Fin N → Fin D → ℝ) (k : Fin K → Fin D → ℝ) (g : Fin N → Fin E → ℝ) (j : Fin K) (d : Fin E) : ℝ :=
  ∑ i, pr q k i j * g i d

section laws

variable (q : Fin N → Fin D → ℝ) (k : Fin K → Fin D → ℝ) (v : Fin K → Fin E → ℝ) (g : Fin N → Fin E → ℝ) (i : Fin N) (j : Fin K)

theorem dn_pos [NeZero K] : 0 < dn q k i := by
  unfold dn
  exact Finset.sum_pos (fun _ _ => Real.exp_pos _) ⟨0, Finset.mem_univ _⟩

/-- The denominator of the scores less a number. -/
theorem dn_shift (M : ℝ) : ∑ j, Real.exp (sc q k i j - M) = dn q k i * Real.exp (-M) := by
  unfold dn
  rw [Finset.sum_mul]
  exact Finset.sum_congr rfl fun j _ => by rw [← Real.exp_add, sub_eq_add_neg]

theorem dn_shift_pos [NeZero K] (M : ℝ) : 0 < ∑ j, Real.exp (sc q k i j - M) := by
  rw [dn_shift]; exact mul_pos (dn_pos q k i) (Real.exp_pos _)

/-- The softmax of the scores less a number is the softmax. -/
theorem pr_shift (M : ℝ) : Real.exp (sc q k i j - M) / ∑ j, Real.exp (sc q k i j - M) = pr q k i j := by
  rw [dn_shift, sub_eq_add_neg, Real.exp_add]
  exact mul_div_mul_right _ _ (Real.exp_pos _).ne'

/-- The saved log of the sum gives the probability back. -/
theorem pr_of_lse [NeZero K] (M : ℝ) : Real.exp (sc q k i j - (M + Real.log (∑ j, Real.exp (sc q k i j - M)))) = pr q k i j := by
  rw [← pr_shift q k i j M, ← sub_sub, Real.exp_sub, Real.exp_log (dn_shift_pos q k i M)]

/-- The output's row against its cotangent is the softmax gradient's row correction. -/
theorem de_of_out : ∑ d, g i d * ou q k v i d = de q k v g i := by
  unfold de ou dp
  simp only [Finset.mul_sum]
  rw [Finset.sum_comm]
  exact Finset.sum_congr rfl fun j _ => Finset.sum_congr rfl fun d _ => by ring

/-- The score's cotangent as differentiating the quotient `exp / sum` writes it. -/
theorem ds_of_quotient [NeZero K] (M : ℝ) :
    (dp g v i j / (∑ j, Real.exp (sc q k i j - M))
      + -(∑ j', dp g v i j' * (1 / ((∑ j, Real.exp (sc q k i j - M)) * ∑ j, Real.exp (sc q k i j - M))) * Real.exp (sc q k i j' - M)))
        * Real.exp (sc q k i j - M) = ds q k v g i j := by
  have hL := (dn_shift_pos q k i M).ne'
  unfold ds de
  rw [← pr_shift q k i j M]
  have e : ∀ j', pr q k i j' * dp g v i j' = (dp g v i j' * (1 / ((∑ j, Real.exp (sc q k i j - M)) * ∑ j, Real.exp (sc q k i j - M))) * Real.exp (sc q k i j' - M)) * ∑ j, Real.exp (sc q k i j - M) := by
    intro j'
    rw [← pr_shift q k i j' M]
    generalize (∑ j, Real.exp (sc q k i j - M)) = L at hL ⊢
    field_simp
  rw [Finset.sum_congr rfl fun j' _ => e j', ← Finset.sum_mul]
  generalize (∑ j, Real.exp (sc q k i j - M)) = L at hL ⊢
  generalize (∑ j', dp g v i j' * (1 / (L * L)) * Real.exp (sc q k i j' - M)) = T
  field_simp
  ring

end laws

/-! ## On finite extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_coe {ι : Type*} [Fintype ι] (f : ι → EReal) (r : ι → ℝ) (h : ∀ i, f i = (r i : EReal)) : ∑ i, f i = ((∑ i, r i : ℝ) : EReal) := by
  rw [coe_sum]; exact Finset.sum_congr rfl fun i _ => h i

theorem sum_mul_coe {ι : Type*} [Fintype ι] (f g : ι → EReal) (r s : ι → ℝ) (hf : ∀ i, f i = (r i : EReal)) (hg : ∀ i, g i = (s i : EReal)) :
    ∑ i, f i * g i = ((∑ i, r i * s i : ℝ) : EReal) :=
  sum_coe _ _ fun i => by rw [hf, hg, EReal.coe_mul]

theorem div_coe_coe {y : ℝ} (h : y ≠ 0) (x : ℝ) : Ideal.div (x : EReal) (y : EReal) = ((x / y : ℝ) : EReal) := by
  rw [Ideal.div_coe h, ← EReal.coe_mul, mul_one_div]

theorem log_coe_pos {r : ℝ} (h : 0 < r) : Ideal.log (r : EReal) = ((Real.log r : ℝ) : EReal) := by
  rw [Ideal.log_coe, if_neg (not_le.mpr h)]

/-- The greatest of finitely many (and at least one) reals, from −∞ up, is a real. -/
theorem fold_max_coe {n : ℕ} [NeZero n] (f : Fin n → EReal) (hf : ∀ i, ∃ r : ℝ, f i = (r : EReal)) :
    ∃ r : ℝ, Finset.univ.fold max (⊥ : EReal) f = (r : EReal) := by
  have key : ∀ s : Finset (Fin n), s.fold max (⊥ : EReal) f = ⊥ ∧ s = ∅ ∨ ∃ r : ℝ, s.fold max (⊥ : EReal) f = (r : EReal) := by
    intro s
    induction s using Finset.induction_on with
    | empty => exact Or.inl ⟨Finset.fold_empty, rfl⟩
    | insert a s ha ih =>
      obtain ⟨r, hr⟩ := hf a
      rw [Finset.fold_insert ha, hr]
      rcases ih with ⟨h, -⟩ | ⟨r', h⟩
      · rw [h]; exact Or.inr ⟨r, max_eq_left bot_le⟩
      · rw [h]; exact Or.inr ⟨max r r', (EReal.coe_strictMono.monotone.map_max).symm⟩
  rcases key Finset.univ with ⟨-, h⟩ | h
  · exact absurd (Finset.mem_univ (0 : Fin n)) (by rw [h]; exact Finset.notMem_empty _)
  · exact h

/-! ## Sums taken a block at a time -/

/-- The sum over the positions before `p`. -/
def part {n : ℕ} (f : Fin n → ℝ) (p : ℕ) : ℝ := ∑ x ∈ Finset.range p, if h : x < n then f ⟨x, h⟩ else 0

theorem part_zero {n : ℕ} (f : Fin n → ℝ) : part f 0 = 0 := Finset.sum_range_zero _

theorem part_all {n : ℕ} (f : Fin n → ℝ) : part f n = ∑ i, f i := by
  unfold part
  rw [← Fin.sum_univ_eq_sum_range (fun x => if h : x < n then f ⟨x, h⟩ else 0) n]
  exact Finset.sum_congr rfl fun i _ => dif_pos i.isLt

/-- One block further. -/
theorem part_add {n : ℕ} (f : Fin n → ℝ) (p s : ℕ) (h : p + s ≤ n) : part f (p + s) = part f p + ∑ r : Fin s, f ⟨p + r.val, by omega⟩ := by
  unfold part
  rw [Finset.sum_range_add, ← Fin.sum_univ_eq_sum_range (fun x => if h : p + x < n then f ⟨p + x, h⟩ else 0) s]
  exact congrArg _ (Finset.sum_congr rfl fun r _ => dif_pos (by omega))

/-! ## The arrays of the grid attention's gradient, as real arrays per query head -/

/-- An array by query heads: the queries. -/
def qR {n : ℕ} (x : (⟨3, ![8, 8192, n]⟩ : Shape).Idx → EReal) (h : Fin 8) (i : Fin 8192) (d : Fin n) : ℝ := (x (ix3 h i d)).toReal
/-- The keys or the values: query head `h` reads key head `h / 4`. -/
def kR (x : (⟨3, ![2, 8192, 128]⟩ : Shape).Idx → EReal) (h : Fin 8) (i : Fin 8192) (d : Fin 128) : ℝ := (x (ix3 ⟨h.val / 4, by omega⟩ i d)).toReal
/-- The cotangent of the output: the second half of the merged array's columns, 128 to a head. -/
def gR (x : (⟨2, ![8192, 2048]⟩ : Shape).Idx → EReal) (h : Fin 8) (i : Fin 8192) (d : Fin 128) : ℝ := (x (ix2 i ⟨1024 + (h.val * 128 + d.val), by omega⟩)).toReal

/-- Every query, key, value and cotangent is a finite number. -/
structure Finite (x0 : (⟨3, ![8, 8192, 128]⟩ : Shape).Idx → EReal) (x1 x2 : (⟨3, ![2, 8192, 128]⟩ : Shape).Idx → EReal) (x4 : (⟨2, ![8192, 2048]⟩ : Shape).Idx → EReal) : Prop where
  q : ∀ h i d, x0 (ix3 h i d) = (qR x0 h i d : EReal)
  k : ∀ (h : Fin 8) i d, x1 (ix3 ⟨h.val / 4, by omega⟩ i d) = (kR x1 h i d : EReal)
  v : ∀ (h : Fin 8) i d, x2 (ix3 ⟨h.val / 4, by omega⟩ i d) = (kR x2 h i d : EReal)
  g : ∀ (h : Fin 8) i (d : Fin 128), x4 (ix2 i ⟨1024 + (h.val * 128 + d.val), by omega⟩) = (gR x4 h i d : EReal)

/-! ## The arrays of the latent attention's gradient: every query head has its own keys and values -/

/-- The cotangent of the output: the first half of the merged array's columns, 128 to a head. -/
def gL (x : (⟨2, ![8192, 2048]⟩ : Shape).Idx → EReal) (h : Fin 8) (i : Fin 8192) (d : Fin 128) : ℝ := (x (ix2 i ⟨h.val * 128 + d.val, by omega⟩)).toReal

/-- Every query, key, value and cotangent is a finite number. -/
structure FiniteL (x0 x1 : (⟨3, ![8, 8192, 256]⟩ : Shape).Idx → EReal) (x2 : (⟨3, ![8, 8192, 128]⟩ : Shape).Idx → EReal) (x4 : (⟨2, ![8192, 2048]⟩ : Shape).Idx → EReal) : Prop where
  q : ∀ h i d, x0 (ix3 h i d) = (qR x0 h i d : EReal)
  k : ∀ h i d, x1 (ix3 h i d) = (qR x1 h i d : EReal)
  v : ∀ h i d, x2 (ix3 h i d) = (qR x2 h i d : EReal)
  g : ∀ (h : Fin 8) i (d : Fin 128), x4 (ix2 i ⟨h.val * 128 + d.val, by omega⟩) = (gL x4 h i d : EReal)

theorem ofBits_neg_inf : Ideal.ofBits .f32 0xFF800000#32 = ⊥ := by simp [Ideal.ofBits, Ideal.ieee]

end Cert.Attn

end
-- ==== Proof.MlaTile.lean ====
/-
  The arithmetic of the latent attention's body at an index, over the extended reals.
-/
module

public import proofs.«01_k».proof.Proof.MlaRun
public import proofs.«01_k».proof.Proof.Attn

@[expose] public section

set_option maxRecDepth 16384

noncomputable section

namespace Cert.MlaIdeal.Bwd

open Idealize.ShloMosaic Idealize.ShloMosaic.TcCoe
open Cert.MlaIdeal.Gen
open scoped BigOperators

/-! ## The body's arithmetic at an index -/

theorem pay11_at (x0 : Vec Ideal S1x2048x256 .bf16) (x1 : Vec Ideal S1x1024x256 .bf16) (x4 : Vec Ideal S1x2048x1 .f32) (r : Fin 2048) (k : Fin 1024) :
    k0_pay11 x0 x1 x4 (ix2 r k) = Ideal.exp ((∑ d : Fin 256, x0 (ix3 0 r d) * x1 (ix3 0 k d)) - x4 (ix3 0 r 0)) := by
  pointwise [k0_pay11, k0_pay9, k0_pay10]

theorem dsT_at (x0 : Vec Ideal S1x2048x256 .bf16) (x1 : Vec Ideal S1x1024x256 .bf16) (x2 : Vec Ideal S1x1024x128 .bf16) (x3 : Vec Ideal S2048x128 .bf16) (x4 x5 : Vec Ideal S1x2048x1 .f32) (r : Fin 2048) (k : Fin 1024) :
    dsT x0 x1 x2 x3 x4 x5 (ix2 r k) = k0_pay11 x0 x1 x4 (ix2 r k) * ((∑ d : Fin 128, x3 (ix2 r d) * x2 (ix3 0 k d)) - x5 (ix3 0 r 0)) := by
  pointwise [dsT, k0_pay12]

theorem pay13_at (x0 : Vec Ideal S1x2048x256 .bf16) (x1 : Vec Ideal S1x1024x256 .bf16) (x3 : Vec Ideal S2048x128 .bf16) (x4 : Vec Ideal S1x2048x1 .f32) (s : Vec Ideal S1024x128 .f32) (k : Fin 1024) (d : Fin 128) :
    k0_pay13 x0 x1 x3 x4 s (ix2 k d) = s (ix2 k d) + ∑ r : Fin 2048, k0_pay11 x0 x1 x4 (ix2 r k) * x3 (ix2 r d) := by
  pointwise [k0_pay13]

theorem pay1_at (x0 : Vec Ideal S1x2048x256 .bf16) (p : FVec Ideal S2048x1024 .bf16) (s : Vec Ideal S1024x256 .f32) (k : Fin 1024) (d : Fin 256) :
    k0_pay1 (k0_pay9 x0) p s (ix2 k d) = s (ix2 k d) + ∑ r : Fin 2048, p (ix2 r k) * x0 (ix3 0 r d) := by
  pointwise [k0_pay1, k0_pay9]

theorem pay3_at (x1 : Vec Ideal S1x1024x256 .bf16) (p : FVec Ideal S2048x1024 .bf16) (r : Fin 2048) (d : Fin 256) :
    k0_pay3 (k0_pay10 x1) p (ix3 0 r d) = ∑ k : Fin 1024, p (ix2 r k) * x1 (ix3 0 k d) := by
  pointwise [k0_pay3, k0_pay2, k0_pay10]

theorem pay4_at (x1 : Vec Ideal S1x1024x256 .bf16) (p : FVec Ideal S2048x1024 .bf16) (s : Vec Ideal S1x2048x256 .f32) (r : Fin 2048) (d : Fin 256) :
    k0_pay4 (k0_pay10 x1) p s (ix3 0 r d) = s (ix3 0 r d) + ∑ k : Fin 1024, p (ix2 r k) * x1 (ix3 0 k d) := by
  pointwise [k0_pay4, k0_pay2, k0_pay10]

theorem pay5_at (s : Vec Ideal S1024x256 .f32) (k : Fin 1024) (d : Fin 256) : k0_pay5 s (ix3 0 k d) = s (ix2 k d) := by
  pointwise [k0_pay5]
theorem pay6_at (s : Vec Ideal S1024x128 .f32) (k : Fin 1024) (d : Fin 128) : k0_pay6 s (ix3 0 k d) = s (ix2 k d) := by
  pointwise [k0_pay6]
theorem pay7_at (k : Fin 1024) (d : Fin 256) : k0_pay7 (F := Ideal) (ix2 k d) = 0 := by
  pointwise [k0_pay7]
theorem pay8_at (k : Fin 1024) (d : Fin 128) : k0_pay8 (F := Ideal) (ix2 k d) = 0 := by
  pointwise [k0_pay8]

end Cert.MlaIdeal.Bwd

end
-- ==== Proof.MlaHost.lean ====
/-
  What the host lines before the latent attention's backward call make of the arguments, read at an index: the softmax's row
  logarithm of the exponentials' sum, and the row sum of cotangent times output.
-/
module

public import proofs.«01_k».proof.Proof.MlaTile

@[expose] public section

set_option maxRecDepth 16384

noncomputable section

namespace Cert.MlaIdeal.Bwd

open Idealize.ShloMosaic Idealize.ShloMosaic.TcCoe Idealize.ShloMosaic.Tactic
open Cert.MlaIdeal.Gen
open Cert.Attn
open scoped BigOperators

/-! ## The host's stages as functions of the arguments -/

abbrev CQ := FVec Ideal S8x8192x256 .bf16
abbrev CV := FVec Ideal S8x8192x128 .bf16
abbrev CO := FVec Ideal S8192x1024 .bf16
abbrev CM := FVec Ideal S8192x2048 .bf16

/-- The scores. -/
def hSc (x0 x1 : CQ) : FVec Ideal S8x8192x8192 .f32 :=
  Host.dotGeneral dot_S8x8192x256_S8x8192x256_S8x8192x8192_2_2_1_1_0_0 none (extf .f32 x0 bitsLt_bf16_f32) (extf .f32 x1 bitsLt_bf16_f32)
/-- Each row's greatest score. -/
def hMax (x0 x1 : CQ) : FVec Ideal S8x8192 .f32 :=
  Host.reduce FloatOps.maximumf (hSc x0 x1) (constant S_ .f32 0xFF800000#32) reducesTo_S8x8192x8192_S8x8192_d2 h_S_
/-- The greatest score as a column. -/
def hMaxC (x0 x1 : CQ) : FVec Ideal S8x8192x1 .f32 :=
  broadcastInDim S8x8192x1 ![0, 1] bcast_S8x8192_S8x8192x1_0_1 (hMax x0 x1)
/-- The exponentials. -/
def hExp (x0 x1 : CQ) : FVec Ideal S8x8192x8192 .f32 :=
  Host.exp (subf (hSc x0 x1) (broadcastInDim S8x8192x8192 ![0, 1, 2] bcast_S8x8192x1_S8x8192x8192_0_1_2 (hMaxC x0 x1)))
/-- The exponentials' row sums. -/
def hSum (x0 x1 : CQ) : FVec Ideal S8x8192 .f32 :=
  Host.reduceAdd (hExp x0 x1) (constant S_ .f32 0x00000000#32) reducesTo_S8x8192x8192_S8x8192_d2 h_S_
/-- The row sums as a column. -/
def hSumC (x0 x1 : CQ) : FVec Ideal S8x8192x1 .f32 :=
  broadcastInDim S8x8192x1 ![0, 1] bcast_S8x8192_S8x8192x1_0_1 (hSum x0 x1)
/-- The rows' logarithms of the exponentials' sum. -/
def hLse (x0 x1 : CQ) : FVec Ideal S8x8192x1 .f32 :=
  addf (hMaxC x0 x1) (Host.log (hSumC x0 x1))
/-- The probabilities. -/
def hPr (x0 x1 : CQ) : FVec Ideal S8x8192x8192 .f32 :=
  Host.divf (hExp x0 x1) (broadcastInDim S8x8192x8192 ![0, 1, 2] bcast_S8x8192x1_S8x8192x8192_0_1_2 (hSumC x0 x1))
/-- The output. -/
def hOut (x0 x1 : CQ) (x2 : CV) : FVec Ideal S8x8192x128 .f32 :=
  Host.dotGeneral dot_S8x8192x8192_S8x8192x128_S8x8192x128_2_1_1_2_0_0 none (hPr x0 x1) (extf .f32 x2 bitsLt_bf16_f32)
/-- The output with the heads side by side. -/
def hOutM (x0 x1 : CQ) (x2 : CV) : CO :=
  truncf .bf16 (shapeCast S8192x1024 (transpose S8192x8x128 [1, 0, 2] (hOut x0 x1 x2) transposes_S8x8192x128_S8192x8x128_1_0_2) shapeCasts_S8192x8x128_S8192x1024) bitsLt_bf16_f32
/-- Two arrays side by side. -/
def hCat (a b : CO) : CM :=
  concatenate S8192x2048 1 [⟨S8192x1024, a⟩, ⟨S8192x1024, b⟩] concatenates_S8192x1024_S8192x1024_S8192x2048_d1
/-- Cotangent times output, entry by entry, split into heads. -/
def hProd (x3 : CO) (x4 : CM) (o : CO) : FVec Ideal S8192x16x128 .f32 :=
  shapeCast S8192x16x128 (mulf (extf .f32 x4 bitsLt_bf16_f32) (extf .f32 (hCat o x3) bitsLt_bf16_f32)) shapeCasts_S8192x2048_S8192x16x128
/-- The row sums of cotangent times output, a column to a head. -/
def hDel (x3 : CO) (x4 : CM) (o : CO) : FVec Ideal S16x8192x1 .f32 :=
  broadcastInDim S16x8192x1 ![0, 1] bcast_S16x8192_S16x8192x1_0_1 (transpose S16x8192 [1, 0]
    (Host.reduceAdd (hProd x3 x4 o) (constant S_ .f32 0x00000000#32) reducesTo_S8192x16x128_S8192x16_d2 h_S_) transposes_S8192x16_S16x8192_1_0)

variable (m : (ℓ : Loc nD τ sig) → Buf (Elt Ideal) ℓ)

theorem V_lse (c : Dev nD) : V m c main_v12 = hLse (m ((c.tc : Thread nD τ).loc main_arg0)) (m ((c.tc : Thread nD τ).loc main_arg1)) := by
  unfold V; after_results_simp; rfl

theorem V_del (c : Dev nD) : V m c main_v26 = hDel (m ((c.tc : Thread nD τ).loc main_arg3)) (m ((c.tc : Thread nD τ).loc main_arg4))
    (hOutM (m ((c.tc : Thread nD τ).loc main_arg0)) (m ((c.tc : Thread nD τ).loc main_arg1)) (m ((c.tc : Thread nD τ).loc main_arg2))) := by
  have e : ∀ a b : CO, concatenate S8192x2048 1 [⟨S8192x1024, a⟩, ⟨S8192x1024, b⟩] concatenates_S8192x1024_S8192x1024_S8192x2048_d1 = hCat a b := fun _ _ => rfl
  unfold V hostOps0; simp only [e]; after_results_simp; rfl

/-! ## The stages at an index -/

variable {x0 x1 : CQ} {x2 : CV} {x3 : CO} {x4 : CM} (H : FiniteL x0 x1 x2 x4)

theorem hSc_read (x0 x1 : CQ) (h : Fin 8) (i j : Fin 8192) : hSc x0 x1 (ix3 h i j) = ∑ d : Fin 256, x0 (ix3 h i d) * x1 (ix3 h j d) := by
  pointwise [hSc]

theorem hMax_read (x0 x1 : CQ) (h : Fin 8) (i : Fin 8192) : hMax x0 x1 (ix2 h i) = Finset.univ.fold max (Ideal.ofBits .f32 0xFF800000#32) (fun j : Fin 8192 => hSc x0 x1 (ix3 h i j)) := by
  unfold hMax
  generalize hSc x0 x1 = a
  pointwise

theorem hMaxC_read (x0 x1 : CQ) (h : Fin 8) (i : Fin 8192) : hMaxC x0 x1 (ix3 h i 0) = hMax x0 x1 (ix2 h i) := by
  unfold hMaxC
  generalize hMax x0 x1 = a
  pointwise

theorem hExp_read (x0 x1 : CQ) (h : Fin 8) (i j : Fin 8192) : hExp x0 x1 (ix3 h i j) = Ideal.exp (hSc x0 x1 (ix3 h i j) - hMaxC x0 x1 (ix3 h i 0)) := by
  unfold hExp
  generalize hSc x0 x1 = a
  generalize hMaxC x0 x1 = b
  pointwise

theorem hSum_read (x0 x1 : CQ) (h : Fin 8) (i : Fin 8192) : hSum x0 x1 (ix2 h i) = ∑ j : Fin 8192, hExp x0 x1 (ix3 h i j) := by
  unfold hSum
  generalize hExp x0 x1 = a
  pointwise

theorem hSumC_read (x0 x1 : CQ) (h : Fin 8) (i : Fin 8192) : hSumC x0 x1 (ix3 h i 0) = hSum x0 x1 (ix2 h i) := by
  unfold hSumC
  generalize hSum x0 x1 = a
  pointwise

theorem add_log_read (a b : FVec Ideal S8x8192x1 .f32) (j : S8x8192x1.Idx) : addf a (Host.log b) j = a j + Ideal.log (b j) := rfl

theorem hLse_read (x0 x1 : CQ) (h : Fin 8) (i : Fin 8192) : hLse x0 x1 (ix3 h i 0) = hMaxC x0 x1 (ix3 h i 0) + Ideal.log (hSumC x0 x1 (ix3 h i 0)) := by
  unfold hLse
  exact add_log_read _ _ _

theorem hPr_read (x0 x1 : CQ) (h : Fin 8) (i j : Fin 8192) : hPr x0 x1 (ix3 h i j) = Ideal.div (hExp x0 x1 (ix3 h i j)) (hSumC x0 x1 (ix3 h i 0)) := by
  unfold hPr
  generalize hExp x0 x1 = a
  generalize hSumC x0 x1 = b
  pointwise

theorem hOut_read (x0 x1 : CQ) (x2 : CV) (h : Fin 8) (i : Fin 8192) (d : Fin 128) : hOut x0 x1 x2 (ix3 h i d) = ∑ j : Fin 8192, hPr x0 x1 (ix3 h i j) * x2 (ix3 h j d) := by
  unfold hOut
  generalize hPr x0 x1 = a
  pointwise

theorem hOutM_read (x0 x1 : CQ) (x2 : CV) (h : Fin 8) (i : Fin 8192) (d : Fin 128) : hOutM x0 x1 x2 (ix2 i ⟨h.val * 128 + d.val, by omega⟩) = hOut x0 x1 x2 (ix3 h i d) := by
  unfold hOutM
  generalize hOut x0 x1 x2 = a
  pointwise

theorem hCat_left (a b : CO) (i : Fin 8192) (y : Fin 1024) : hCat a b (ix2 i ⟨y.val, by omega⟩) = a (ix2 i y) := by
  unfold hCat
  pointwise

theorem hProd_read (x3 : CO) (x4 : CM) (o : CO) (h : Fin 8) (i : Fin 8192) (d : Fin 128) :
    hProd x3 x4 o (ix3 i ⟨h.val, by omega⟩ d) = x4 (ix2 i ⟨h.val * 128 + d.val, by omega⟩) * o (ix2 i ⟨h.val * 128 + d.val, by omega⟩) := by
  rw [← hCat_left o x3]
  unfold hProd
  generalize hCat o x3 = a
  pointwise

theorem hDel_read (x3 : CO) (x4 : CM) (o : CO) (h : Fin 16) (i : Fin 8192) : hDel x3 x4 o (ix3 h i 0) = ∑ d : Fin 128, hProd x3 x4 o (ix3 i h d) := by
  unfold hDel
  generalize hProd x3 x4 o = a
  pointwise

/-! ## The stages on finite arguments -/

include H

theorem hSc_at (h : Fin 8) (i j : Fin 8192) : hSc x0 x1 (ix3 h i j) = (sc (qR x0 h) (qR x1 h) i j : EReal) := by
  rw [hSc_read]; exact sum_mul_coe _ _ _ _ (H.q h i) (H.k h j)

omit H in
/-- The row's greatest score. -/
def mx (x0 x1 : CQ) (h : Fin 8) (i : Fin 8192) : ℝ := (hMax x0 x1 (ix2 h i)).toReal

theorem hMaxC_at (h : Fin 8) (i : Fin 8192) : hMaxC x0 x1 (ix3 h i 0) = (mx x0 x1 h i : EReal) := by
  have e := hMax_read x0 x1 h i
  obtain ⟨r, hr⟩ := fold_max_coe (fun j : Fin 8192 => hSc x0 x1 (ix3 h i j)) fun j => ⟨_, hSc_at H h i j⟩
  rw [ofBits_neg_inf, hr] at e
  rw [hMaxC_read]; unfold mx; rw [e, EReal.toReal_coe]

theorem hExp_at (h : Fin 8) (i j : Fin 8192) : hExp x0 x1 (ix3 h i j) = (Real.exp (sc (qR x0 h) (qR x1 h) i j - mx x0 x1 h i) : EReal) := by
  rw [hExp_read, hSc_at H, hMaxC_at H, ← EReal.coe_sub, Ideal.exp_coe]

theorem hSumC_at (h : Fin 8) (i : Fin 8192) : hSumC x0 x1 (ix3 h i 0) = ((∑ j, Real.exp (sc (qR x0 h) (qR x1 h) i j - mx x0 x1 h i) : ℝ) : EReal) := by
  rw [hSumC_read, hSum_read]; exact sum_coe _ _ (hExp_at H h i)

/-- The row's logarithm of the exponentials' sum. -/
theorem hLse_at (h : Fin 8) (i : Fin 8192) :
    hLse x0 x1 (ix3 h i 0) = ((mx x0 x1 h i + Real.log (∑ j, Real.exp (sc (qR x0 h) (qR x1 h) i j - mx x0 x1 h i)) : ℝ) : EReal) := by
  rw [hLse_read, hMaxC_at H, hSumC_at H, log_coe_pos (dn_shift_pos _ _ _ _), ← EReal.coe_add]

theorem hOut_at (h : Fin 8) (i : Fin 8192) (d : Fin 128) : hOut x0 x1 x2 (ix3 h i d) = (ou (qR x0 h) (qR x1 h) (qR x2 h) i d : EReal) := by
  rw [hOut_read]
  refine sum_mul_coe _ _ _ _ (fun j => ?_) fun j => H.v h j d
  rw [hPr_read, hExp_at H, hSumC_at H, div_coe_coe (dn_shift_pos _ _ _ _).ne', pr_shift]

/-- The row sum of cotangent times output, in the columns of the first half of the heads. -/
theorem hDel_at (x3 : CO) (h : Fin 8) (i : Fin 8192) :
    hDel x3 x4 (hOutM x0 x1 x2) (ix3 ⟨h.val, by omega⟩ i 0) = (de (qR x0 h) (qR x1 h) (qR x2 h) (gL x4 h) i : EReal) := by
  rw [hDel_read, ← de_of_out]
  refine sum_coe _ _ fun d => ?_
  rw [hProd_read, hOutM_read, hOut_at H, H.g h i d, ← EReal.coe_mul]

end Cert.MlaIdeal.Bwd

end
-- ==== Proof.MlaBlocks.lean ====
/-
  The operands of the latent attention's backward call at a point, read at an index of the whole arrays.
-/
module

public import proofs.«01_k».proof.Proof.MlaHost
public import Idealize.ShloMosaic.Lib.Pipeline.ValueKit.Geometry

@[expose] public section

set_option maxRecDepth 16384

noncomputable section

namespace Cert.MlaIdeal.Bwd

open Idealize.ShloMosaic Idealize.ShloMosaic.TcCoe Idealize.ShloMosaic.Tactic
open Idealize.ShloMosaic.Pipeline (RDat)
open Cert.MlaIdeal.Gen
open Cert.Attn
open scoped BigOperators

variable (m : (ℓ : Loc nD τ sig) → Buf (Elt Ideal) ℓ) (c : Dev nD)

/-! ## The blocks at an index -/

theorem idx (t : Fin cfg0.N) : win0_0.index t = ![t.val / 32, t.val % 4, 0] ∧ win0_1.index t = ![t.val / 32, t.val / 4 % 8, 0] ∧ win0_2.index t = ![t.val / 32, t.val / 4 % 8, 0]
    ∧ win0_3.index t = ![t.val % 4, t.val / 32] ∧ win0_4.index t = ![t.val / 32, t.val % 4, 0] ∧ win0_5.index t = ![t.val / 32, t.val % 4, 0]
    ∧ win0_6.index t = ![t.val / 32, 0, 0] ∧ win0_7.index t = ![t.val / 32, t.val / 4 % 8, 0] ∧ win0_8.index t = ![t.val / 32, t.val / 4 % 8, 0] :=
  (by decide +kernel : ∀ t : Fin grid0.N, win0_0.index t = ![t.val / 32, t.val % 4, 0] ∧ win0_1.index t = ![t.val / 32, t.val / 4 % 8, 0] ∧ win0_2.index t = ![t.val / 32, t.val / 4 % 8, 0]
    ∧ win0_3.index t = ![t.val % 4, t.val / 32] ∧ win0_4.index t = ![t.val / 32, t.val % 4, 0] ∧ win0_5.index t = ![t.val / 32, t.val % 4, 0]
    ∧ win0_6.index t = ![t.val / 32, 0, 0] ∧ win0_7.index t = ![t.val / 32, t.val / 4 % 8, 0] ∧ win0_8.index t = ![t.val / 32, t.val / 4 % 8, 0]) t

theorem lt256 (t : Fin cfg0.N) : t.val < 256 := Nat.lt_of_lt_of_eq t.isLt N_0

/-- The head of point `t`. -/
def hd (t : Fin cfg0.N) : Fin 8 := ⟨t.val / 32, by have := lt256 t; omega⟩
/-- The query position of row `r` of point `t`'s query block. -/
def row (t : Fin cfg0.N) (r : Fin 2048) : Fin 8192 := ⟨2048 * (t.val % 4) + r.val, by omega⟩
/-- The key position of row `k` of point `t`'s key block. -/
def col (t : Fin cfg0.N) (k : Fin 1024) : Fin 8192 := ⟨1024 * (t.val / 4 % 8) + k.val, by omega⟩

abbrev X0 : CQ := m ((c.tc : Thread nD τ).loc main_arg0)
abbrev X1 : CQ := m ((c.tc : Thread nD τ).loc main_arg1)
abbrev X2 : CV := m ((c.tc : Thread nD τ).loc main_arg2)
abbrev X3 : CO := m ((c.tc : Thread nD τ).loc main_arg3)
abbrev X4 : CM := m ((c.tc : Thread nD τ).loc main_arg4)

theorem xb0_emb (t : Fin cfg0.N) (r : Fin 2048) (d : Fin 256) : (((cfg0.win 0).blk t).view.emb (ix3 0 r d) : S8x8192x256.Idx) = ix3 (hd t) (row t r) d := by
  have hh := lt256 t
  blk_ext [hd, row, idx t]
theorem xb0_of (t : Fin cfg0.N) (x : S1x2048x256.Idx) (L : FVec Ideal S8x8192x256 .bf16) : (((cfg0.win 0).blk t).view.read (Elt Ideal) L : Vec Ideal S1x2048x256 .bf16) x = L (((cfg0.win 0).blk t).view.emb x) := rfl
theorem xb0_read (t : Fin cfg0.N) (r : Fin 2048) (d : Fin 256) (L : FVec Ideal S8x8192x256 .bf16) (hL : V m c main_arg0 = L) : xb0 m c t (ix3 0 r d) = L (ix3 (hd t) (row t r) d) := by
  have e : V m c (Pipeline.arrRef spec0 0) = L := hL
  unfold xb0 iblk
  rw [e, ← xb0_emb]
  exact xb0_of t _ L

theorem xb1_emb (t : Fin cfg0.N) (k : Fin 1024) (d : Fin 256) : (((cfg0.win 1).blk t).view.emb (ix3 0 k d) : S8x8192x256.Idx) = ix3 (hd t) (col t k) d := by
  have hh := lt256 t
  blk_ext [hd, col, idx t]
theorem xb1_of (t : Fin cfg0.N) (x : S1x1024x256.Idx) (L : FVec Ideal S8x8192x256 .bf16) : (((cfg0.win 1).blk t).view.read (Elt Ideal) L : Vec Ideal S1x1024x256 .bf16) x = L (((cfg0.win 1).blk t).view.emb x) := rfl
theorem xb1_read (t : Fin cfg0.N) (k : Fin 1024) (d : Fin 256) (L : FVec Ideal S8x8192x256 .bf16) (hL : V m c main_arg1 = L) : xb1 m c t (ix3 0 k d) = L (ix3 (hd t) (col t k) d) := by
  have e : V m c (Pipeline.arrRef spec0 1) = L := hL
  unfold xb1 iblk
  rw [e, ← xb1_emb]
  exact xb1_of t _ L

theorem xb2_emb (t : Fin cfg0.N) (k : Fin 1024) (d : Fin 128) : (((cfg0.win 2).blk t).view.emb (ix3 0 k d) : S8x8192x128.Idx) = ix3 (hd t) (col t k) d := by
  have hh := lt256 t
  blk_ext [hd, col, idx t]
theorem xb2_of (t : Fin cfg0.N) (x : S1x1024x128.Idx) (L : FVec Ideal S8x8192x128 .bf16) : (((cfg0.win 2).blk t).view.read (Elt Ideal) L : Vec Ideal S1x1024x128 .bf16) x = L (((cfg0.win 2).blk t).view.emb x) := rfl
theorem xb2_read (t : Fin cfg0.N) (k : Fin 1024) (d : Fin 128) (L : FVec Ideal S8x8192x128 .bf16) (hL : V m c main_arg2 = L) : xb2 m c t (ix3 0 k d) = L (ix3 (hd t) (col t k) d) := by
  have e : V m c (Pipeline.arrRef spec0 2) = L := hL
  unfold xb2 iblk
  rw [e, ← xb2_emb]
  exact xb2_of t _ L

theorem xb3_emb (t : Fin cfg0.N) (r : Fin 2048) (d : Fin 128) : (((cfg0.win 3).blk t).view.emb (ix2 r d) : S8192x2048.Idx) = ix2 (row t r) ⟨(hd t).val * 128 + d.val, by omega⟩ := by
  have hh := lt256 t
  blk_ext [hd, row, idx t]
theorem xb3_of (t : Fin cfg0.N) (x : S2048x128.Idx) (L : FVec Ideal S8192x2048 .bf16) : (((cfg0.win 3).blk t).view.read (Elt Ideal) L : Vec Ideal S2048x128 .bf16) x = L (((cfg0.win 3).blk t).view.emb x) := rfl
theorem xb3_read (t : Fin cfg0.N) (r : Fin 2048) (d : Fin 128) (L : FVec Ideal S8192x2048 .bf16) (hL : V m c main_arg4 = L) : xb3 m c t (ix2 r d) = L (ix2 (row t r) ⟨(hd t).val * 128 + d.val, by omega⟩) := by
  have e : V m c (Pipeline.arrRef spec0 3) = L := hL
  unfold xb3 iblk
  rw [e, ← xb3_emb]
  exact xb3_of t _ L

theorem xb4_emb (t : Fin cfg0.N) (r : Fin 2048) : (((cfg0.win 4).blk t).view.emb (ix3 0 r 0) : S8x8192x1.Idx) = ix3 (hd t) (row t r) 0 := by
  have hh := lt256 t
  blk_ext [hd, row, idx t]
theorem xb4_of (t : Fin cfg0.N) (x : S1x2048x1.Idx) (L : FVec Ideal S8x8192x1 .f32) : (((cfg0.win 4).blk t).view.read (Elt Ideal) L : Vec Ideal S1x2048x1 .f32) x = L (((cfg0.win 4).blk t).view.emb x) := rfl
theorem xb4_read (t : Fin cfg0.N) (r : Fin 2048) (L : FVec Ideal S8x8192x1 .f32) (hL : V m c main_v12 = L) : xb4 m c t (ix3 0 r 0) = L (ix3 (hd t) (row t r) 0) := by
  have e : V m c (Pipeline.arrRef spec0 4) = L := hL
  unfold xb4 iblk
  rw [e, ← xb4_emb]
  exact xb4_of t _ L

theorem xb5_emb (t : Fin cfg0.N) (r : Fin 2048) : (((cfg0.win 5).blk t).view.emb (ix3 0 r 0) : S16x8192x1.Idx) = ix3 ⟨(hd t).val, by omega⟩ (row t r) 0 := by
  have hh := lt256 t
  blk_ext [hd, row, idx t]
theorem xb5_of (t : Fin cfg0.N) (x : S1x2048x1.Idx) (L : FVec Ideal S16x8192x1 .f32) : (((cfg0.win 5).blk t).view.read (Elt Ideal) L : Vec Ideal S1x2048x1 .f32) x = L (((cfg0.win 5).blk t).view.emb x) := rfl
theorem xb5_read (t : Fin cfg0.N) (r : Fin 2048) (L : FVec Ideal S16x8192x1 .f32) (hL : V m c main_v26 = L) : xb5 m c t (ix3 0 r 0) = L (ix3 ⟨(hd t).val, by omega⟩ (row t r) 0) := by
  have e : V m c (Pipeline.arrRef spec0 5) = L := hL
  unfold xb5 iblk
  rw [e, ← xb5_emb]
  exact xb5_of t _ L

end Cert.MlaIdeal.Bwd

end
-- ==== Proof.MlaOut.lean ====
/-
  The three results of the latent attention's backward call on finite arguments: point by point, the sums of dk and dv over the
  query blocks so far and the rows of dq over the key blocks so far; at the end, the gradients of `Attn`.
-/
module

public import proofs.«01_k».proof.Proof.MlaBlocks

@[expose] public section

set_option maxRecDepth 16384

noncomputable section

namespace Cert.MlaIdeal.Bwd

open Idealize.ShloMosaic Idealize.ShloMosaic.TcCoe Idealize.ShloMosaic.Tactic
open Idealize.ShloMosaic.Pipeline (RDat)
open Cert.MlaIdeal.Gen
open Cert.Attn
open scoped BigOperators

variable (m : (ℓ : Loc nD τ sig) → Buf (Elt Ideal) ℓ) (c : Dev nD)
variable (H : FiniteL (X0 m c) (X1 m c) (X2 m c) (X4 m c))

/-- The score's cotangent at a head. -/
abbrev dsH (h : Fin 8) (i j : Fin 8192) : ℝ := ds (qR (X0 m c) h) (qR (X1 m c) h) (qR (X2 m c) h) (gL (X4 m c) h) i j
/-- The probability at a head. -/
abbrev prH (h : Fin 8) (i j : Fin 8192) : ℝ := pr (qR (X0 m c) h) (qR (X1 m c) h) i j

section Tiles
include H

theorem xb0_at (t : Fin cfg0.N) (r : Fin 2048) (d : Fin 256) : xb0 m c t (ix3 0 r d) = (qR (X0 m c) (hd t) (row t r) d : EReal) := by
  rw [xb0_read m c t r d _ (V_main_arg0 m c)]; exact H.q _ _ _
theorem xb1_at (t : Fin cfg0.N) (k : Fin 1024) (d : Fin 256) : xb1 m c t (ix3 0 k d) = (qR (X1 m c) (hd t) (col t k) d : EReal) := by
  rw [xb1_read m c t k d _ (V_main_arg1 m c)]; exact H.k _ _ _
theorem xb2_at (t : Fin cfg0.N) (k : Fin 1024) (d : Fin 128) : xb2 m c t (ix3 0 k d) = (qR (X2 m c) (hd t) (col t k) d : EReal) := by
  rw [xb2_read m c t k d _ (V_main_arg2 m c)]; exact H.v _ _ _
theorem xb3_at (t : Fin cfg0.N) (r : Fin 2048) (d : Fin 128) : xb3 m c t (ix2 r d) = (gL (X4 m c) (hd t) (row t r) d : EReal) := by
  rw [xb3_read m c t r d _ (V_main_arg4 m c)]; exact H.g _ _ _

/-- A point's probabilities. -/
theorem prT_at (t : Fin cfg0.N) (r : Fin 2048) (k : Fin 1024) : k0_pay11 (xb0 m c t) (xb1 m c t) (xb4 m c t) (ix2 r k) = (prH m c (hd t) (row t r) (col t k) : EReal) := by
  rw [pay11_at, xb4_read m c t r _ (V_lse m c), hLse_at H, sum_mul_coe _ _ _ _ (xb0_at m c H t r) (xb1_at m c H t k), ← EReal.coe_sub, Ideal.exp_coe]
  exact congrArg _ (pr_of_lse _ _ _ _ _)

/-- A point's score cotangents. -/
theorem dsT_val (t : Fin cfg0.N) (r : Fin 2048) (k : Fin 1024) :
    dsT (xb0 m c t) (xb1 m c t) (xb2 m c t) (xb3 m c t) (xb4 m c t) (xb5 m c t) (ix2 r k) = (dsH m c (hd t) (row t r) (col t k) : EReal) := by
  rw [dsT_at, prT_at m c H, xb5_read m c t r _ (V_del m c), hDel_at H, sum_mul_coe _ _ _ _ (xb3_at m c H t r) (xb2_at m c H t k), ← EReal.coe_sub, ← EReal.coe_mul]
  rfl

/-! ## The sums of dk and dv -/

/-- What a point makes of the sum of dk, when it finds the sum over the query blocks before. -/
theorem dkP_at (t : Fin cfg0.N) (s : Vec Ideal S1024x256 .f32) (k : Fin 1024) (d : Fin 256)
    (hs : t.val % 4 ≠ 0 → s (ix2 k d) = (part (fun x => dsH m c (hd t) x (col t k) * qR (X0 m c) (hd t) x d) (2048 * (t.val % 4)) : EReal)) :
    dkP m c t s (ix2 k d) = (part (fun x => dsH m c (hd t) x (col t k) * qR (X0 m c) (hd t) x d) (2048 * (t.val % 4) + 2048) : EReal) := by
  have e : (if isFirst (grid0.coords t) then k0_pay7 (F := Ideal) else s) (ix2 k d) = (part (fun x => dsH m c (hd t) x (col t k) * qR (X0 m c) (hd t) x d) (2048 * (t.val % 4)) : EReal) := by
    by_cases h : t.val % 4 = 0
    · rw [if_pos ((isFirst_iff t).mpr h), pay7_at, h, Nat.mul_zero, part_zero, EReal.coe_zero]
    · rw [if_neg (fun h' => h ((isFirst_iff t).mp h')), hs h]
  unfold dkP dkS
  rw [pay1_at, e, sum_mul_coe _ _ _ _ (fun r => dsT_val m c H t r k) (fun r => xb0_at m c H t r d), ← EReal.coe_add, part_add _ _ _ (by omega)]
  rfl

/-- The same of the sum of dv. -/
theorem dvP_at (t : Fin cfg0.N) (s : Vec Ideal S1024x128 .f32) (k : Fin 1024) (d : Fin 128)
    (hs : t.val % 4 ≠ 0 → s (ix2 k d) = (part (fun x => prH m c (hd t) x (col t k) * gL (X4 m c) (hd t) x d) (2048 * (t.val % 4)) : EReal)) :
    dvP m c t s (ix2 k d) = (part (fun x => prH m c (hd t) x (col t k) * gL (X4 m c) (hd t) x d) (2048 * (t.val % 4) + 2048) : EReal) := by
  have e : (if isFirst (grid0.coords t) then k0_pay8 (F := Ideal) else s) (ix2 k d) = (part (fun x => prH m c (hd t) x (col t k) * gL (X4 m c) (hd t) x d) (2048 * (t.val % 4)) : EReal) := by
    by_cases h : t.val % 4 = 0
    · rw [if_pos ((isFirst_iff t).mpr h), pay8_at, h, Nat.mul_zero, part_zero, EReal.coe_zero]
    · rw [if_neg (fun h' => h ((isFirst_iff t).mp h')), hs h]
  unfold dvP dvS
  rw [pay13_at, e, sum_mul_coe _ _ _ _ (fun r => prT_at m c H t r k) (fun r => xb3_at m c H t r d), ← EReal.coe_add, part_add _ _ _ (by omega)]
  rfl

omit H in
/-- The point before a point that is not a block's first: the same head and key block, the query block before. -/
theorem before_hd (t : Fin cfg0.N) (h : t.val % 4 ≠ 0) : ∃ t' : Fin cfg0.N, t'.val + 1 = t.val ∧ hd t' = hd t ∧ (∀ k, col t' k = col t k) ∧ 2048 * (t'.val % 4) + 2048 = 2048 * (t.val % 4) :=
  ⟨⟨t.val - 1, by omega⟩, by show t.val - 1 + 1 = t.val; omega, Fin.ext (by show (t.val - 1) / 32 = t.val / 32; omega),
    fun k => Fin.ext (by show 1024 * ((t.val - 1) / 4 % 8) + k.val = 1024 * (t.val / 4 % 8) + k.val; omega), by show 2048 * ((t.val - 1) % 4) + 2048 = 2048 * (t.val % 4); omega⟩

theorem sk_at (t : Fin cfg0.N) (k : Fin 1024) (d : Fin 256) (e : Fin 128) :
    skA m c (t.val + 1) (ix2 k d) = (part (fun x => dsH m c (hd t) x (col t k) * qR (X0 m c) (hd t) x d) (2048 * (t.val % 4) + 2048) : EReal)
    ∧ svA m c (t.val + 1) (ix2 k e) = (part (fun x => prH m c (hd t) x (col t k) * gL (X4 m c) (hd t) x e) (2048 * (t.val % 4) + 2048) : EReal) := by
  have key : ∀ n, ∀ t : Fin cfg0.N, t.val = n →
      skA m c (t.val + 1) (ix2 k d) = (part (fun x => dsH m c (hd t) x (col t k) * qR (X0 m c) (hd t) x d) (2048 * (t.val % 4) + 2048) : EReal)
      ∧ svA m c (t.val + 1) (ix2 k e) = (part (fun x => prH m c (hd t) x (col t k) * gL (X4 m c) (hd t) x e) (2048 * (t.val % 4) + 2048) : EReal) := by
    intro n
    induction n using Nat.strong_induction_on with
    | _ n ih =>
      intro t ht
      rw [skA_succ, svA_succ]
      refine ⟨dkP_at m c H t _ k d fun h => ?_, dvP_at m c H t _ k e fun h => ?_⟩
      all_goals
        obtain ⟨t', h1, h2, h3, h4⟩ := before_hd t h
        have := ih t'.val (by omega) t' rfl
        rw [h1, h2, h3, h4] at this
      · exact this.1
      · exact this.2
  exact key t.val t rfl

/-! ## The rows of dq -/

omit H in
/-- How many key positions the row at query position `x` has had before point `t`. -/
def had (t : Fin cfg0.N) (x : Fin 8192) : ℕ := if x.val < 2048 * (t.val % 4) then 1024 * (t.val / 4 % 8) + 1024 else 1024 * (t.val / 4 % 8)

omit H in
theorem rowsPut_in (q : Fin 4) (w : Vec Ideal S1x2048x256 .f32) (y : Vec Ideal S1x8192x256 .f32) (r : Fin 2048) (d : Fin 256) :
    rowsPut q w y (ix3 0 ⟨2048 * q.val + r.val, by omega⟩ d) = w (ix3 0 r d) := by
  have h := congrFun (VecWindow.window_put_same y ![0, 2048 * q.val, 0] S1x2048x256.size (rows_inb q) w) (ix3 0 r d)
  refine Eq.trans (congrArg (rowsPut q w y) ?_) h
  funext a; apply Fin.ext
  match a with
  | ⟨0, _⟩ => rfl
  | ⟨1, _⟩ => show 2048 * q.val + r.val = 2048 * q.val + 1 * r.val; omega
  | ⟨2, _⟩ => show d.val = 0 + 1 * d.val; omega

omit H in
theorem rowsPut_out (q : Fin 4) (w : Vec Ideal S1x2048x256 .f32) (y : Vec Ideal S1x8192x256 .f32) (x : Fin 8192) (d : Fin 256)
    (hx : ¬ (2048 * q.val ≤ x.val ∧ x.val < 2048 * q.val + 2048)) : rowsPut q w y (ix3 0 x d) = y (ix3 0 x d) :=
  dif_neg fun h => hx (h 1)

omit H in
theorem rowsGet_at (q : Fin 4) (y : Vec Ideal S1x8192x256 .f32) (r : Fin 2048) (d : Fin 256) :
    rowsGet q y (ix3 0 r d) = y (ix3 0 ⟨2048 * q.val + r.val, by omega⟩ d) := by
  refine congrArg y ?_
  funext a; apply Fin.ext
  match a with
  | ⟨0, _⟩ => rfl
  | ⟨1, _⟩ => show 2048 * q.val + 1 * r.val = 2048 * q.val + r.val; omega
  | ⟨2, _⟩ => show 0 + 1 * d.val = d.val; omega

/-- What a point makes of a row of dq that holds the sum over the key blocks before. -/
theorem dqP_at (t : Fin cfg0.N) (y : Vec Ideal S1x8192x256 .f32) (x : Fin 8192) (d : Fin 256)
    (hy : had t x ≠ 0 → y (ix3 0 x d) = (part (fun j => dsH m c (hd t) x j * qR (X1 m c) (hd t) j d) (had t x) : EReal))
    (hx : x.val < 2048 * (t.val % 4) + 2048 ∨ had t x ≠ 0) :
    dqP m c t y (ix3 0 x d) = (part (fun j => dsH m c (hd t) x j * qR (X1 m c) (hd t) j d) (if x.val < 2048 * (t.val % 4) + 2048 then 1024 * (t.val / 4 % 8) + 1024 else 1024 * (t.val / 4 % 8)) : EReal) := by
  have e2 : (grid0.coords t 2).val = t.val % 4 := (Pipeline.Grid.coords_val t 2 (by decide) rfl : (grid0.coords t 2).val = t.val / 1 % 4).trans (by rw [Nat.div_one])
  unfold dqP dqW
  by_cases h : 2048 * (t.val % 4) ≤ x.val ∧ x.val < 2048 * (t.val % 4) + 2048
  · obtain ⟨r, hr⟩ : ∃ r : Fin 2048, x = row t r := ⟨⟨x.val - 2048 * (t.val % 4), by omega⟩, Fin.ext (by show x.val = 2048 * (t.val % 4) + (x.val - 2048 * (t.val % 4)); omega)⟩
    have hr' : x = ⟨2048 * (grid0.coords t 2).val + r.val, by have := x.isLt; have := r.isLt; rw [e2]; omega⟩ := hr.trans (Fin.ext (by show 2048 * (t.val % 4) + r.val = 2048 * (grid0.coords t 2).val + r.val; rw [e2]))
    have hh : had t x = 1024 * (t.val / 4 % 8) := if_neg (by omega)
    rw [if_pos h.2, part_add _ _ _ (by omega)]
    rw [hh] at hy
    have es : ∑ k : Fin 1024, dsT (xb0 m c t) (xb1 m c t) (xb2 m c t) (xb3 m c t) (xb4 m c t) (xb5 m c t) (ix2 r k) * xb1 m c t (ix3 0 k d)
        = ((∑ k : Fin 1024, dsH m c (hd t) x (col t k) * qR (X1 m c) (hd t) (col t k) d : ℝ) : EReal) :=
      sum_mul_coe _ _ _ _ (fun k => by rw [hr]; exact dsT_val m c H t r k) (fun k => xb1_at m c H t k d)
    conv_lhs => rw [hr']
    refine (rowsPut_in (grid0.coords t 2) _ y r d).trans ?_
    by_cases h2 : t.val / 4 % 8 = 0
    · have hz : ∀ f : Fin 8192 → ℝ, part f (1024 * (t.val / 4 % 8)) = 0 := fun f => by rw [h2, Nat.mul_zero, part_zero]
      rw [if_pos ((cond2_iff t).mpr h2), pay3_at, es, hz, zero_add]
      rfl
    · rw [if_neg (fun h' => h2 ((cond2_iff t).mp h')), pay4_at, es, EReal.coe_add, ← hy (by omega)]
      refine congrArg₂ (· + ·) ?_ rfl
      refine (rowsGet_at (grid0.coords t 2) y r d).trans ?_
      rw [← hr']
  · refine (rowsPut_out (grid0.coords t 2) _ y x d (by rw [e2]; exact h)).trans ?_
    have hh : had t x = (if x.val < 2048 * (t.val % 4) + 2048 then 1024 * (t.val / 4 % 8) + 1024 else 1024 * (t.val / 4 % 8)) := by
      unfold had; split <;> split <;> omega
    rw [← hh]
    refine hy ?_
    rcases hx with hx | hx
    · rw [hh, if_pos hx]; omega
    · exact hx

omit H in
theorem fetch0_6 (t : Fin cfg0.N) : (cfg0.win 6).fetch t = false := rfl

theorem leaves6 (t : Fin cfg0.N) : ∀ X, (rdat m c).Leaves 6 t X → ∀ (x : Fin 8192) (d : Fin 256), (x.val < 2048 * (t.val % 4) + 2048 ∨ t.val / 4 % 8 ≠ 0) →
    X (ix3 0 x d) = (part (fun j => dsH m c (hd t) x j * qR (X1 m c) (hd t) j d) (if x.val < 2048 * (t.val % 4) + 2048 then 1024 * (t.val / 4 % 8) + 1024 else 1024 * (t.val / 4 % 8)) : EReal) := by
  have key : ∀ n, ∀ t : Fin cfg0.N, t.val = n → ∀ X, (rdat m c).Leaves 6 t X → ∀ (x : Fin 8192) (d : Fin 256), (x.val < 2048 * (t.val % 4) + 2048 ∨ t.val / 4 % 8 ≠ 0) →
      X (ix3 0 x d) = (part (fun j => dsH m c (hd t) x j * qR (X1 m c) (hd t) j d) (if x.val < 2048 * (t.val % 4) + 2048 then 1024 * (t.val / 4 % 8) + 1024 else 1024 * (t.val / 4 % 8)) : EReal) := by
    intro n
    induction n using Nat.strong_induction_on with
    | _ n ih =>
      intro t ht X hX x d hx
      obtain ⟨Y, hY, hXY⟩ := hX
      rw [after_eq] at hXY
      have hXY : X = dqP m c t Y := hXY
      rw [hXY]
      refine dqP_at m c H t Y x d (fun hne => ?_) (hx.imp id fun h => by unfold had; split <;> omega)
      have h32 : t.val % 32 ≠ 0 := by
        intro h0; apply hne; unfold had; rw [if_neg (by omega)]; omega
      rcases (RDat.finds_of_pos (rdat m c) (fetch0_6 t) (by omega) Y).mp hY with hf | hL
      · have := (flush0_6 _).mp hf
        have : (t.val - 1) % 32 = 31 := this
        omega
      · have hv : ((⟨t.val - 1, Nat.lt_of_le_of_lt (Nat.sub_le _ _) t.isLt⟩ : Fin cfg0.N)).val = t.val - 1 := rfl
        generalize (⟨t.val - 1, Nat.lt_of_le_of_lt (Nat.sub_le _ _) t.isLt⟩ : Fin cfg0.N) = t' at hL hv
        have hh : hd t' = hd t := Fin.ext (by show t'.val / 32 = t.val / 32; omega)
        have e := ih t'.val (by omega) t' rfl Y hL x d (by unfold had at hne; have := x.isLt; split at hne <;> omega)
        have hp : (if x.val < 2048 * (t'.val % 4) + 2048 then 1024 * (t'.val / 4 % 8) + 1024 else 1024 * (t'.val / 4 % 8)) = had t x := by
          unfold had; have := x.isLt; split <;> split <;> omega
        rw [hh, hp] at e
        exact e
  exact key t.val t rfl

/-! ## What the launch leaves in the three result arrays -/

theorem leaves7 (t : Fin cfg0.N) (ht : t.val % 4 = 3) (X) (hX : (rdat m c).Leaves 7 t X) (k : Fin 1024) (d : Fin 256) :
    X (ix3 0 k d) = (dk (qR (X0 m c) (hd t)) (qR (X1 m c) (hd t)) (qR (X2 m c) (hd t)) (gL (X4 m c) (hd t)) (col t k) d : EReal) := by
  obtain ⟨Y, -, hXY⟩ := hX
  rw [after_eq] at hXY
  have hXY : X = if k0_cond4 (grid0.coords t) = 1#1 then k0_pay5 (skA m c (t.val + 1)) else Y := hXY
  rw [hXY, if_pos ((cond4_iff t).mpr ht), pay5_at, (sk_at m c H t k d 0).1, ht]
  exact congrArg _ (part_all _)

theorem leaves8 (t : Fin cfg0.N) (ht : t.val % 4 = 3) (X) (hX : (rdat m c).Leaves 8 t X) (k : Fin 1024) (d : Fin 128) :
    X (ix3 0 k d) = (dv (qR (X0 m c) (hd t)) (qR (X1 m c) (hd t)) (gL (X4 m c) (hd t)) (col t k) d : EReal) := by
  obtain ⟨Y, -, hXY⟩ := hX
  rw [after_eq] at hXY
  have hXY : X = if k0_cond4 (grid0.coords t) = 1#1 then k0_pay6 (svA m c (t.val + 1)) else Y := hXY
  rw [hXY, if_pos ((cond4_iff t).mpr ht), pay6_at, (sk_at m c H t k 0 d).2, ht]
  exact congrArg _ (part_all _)

theorem leaves6_last (t : Fin cfg0.N) (ht : t.val % 32 = 31) (X) (hX : (rdat m c).Leaves 6 t X) (x : Fin 8192) (d : Fin 256) :
    X (ix3 0 x d) = (dq (qR (X0 m c) (hd t)) (qR (X1 m c) (hd t)) (qR (X2 m c) (hd t)) (gL (X4 m c) (hd t)) x d : EReal) := by
  have := x.isLt
  rw [leaves6 m c H t X hX x d (by omega), if_pos (by omega), show 1024 * (t.val / 4 % 8) + 1024 = 8192 by omega]
  exact congrArg _ (part_all _)

omit H in
theorem emb6 (t : Fin cfg0.N) (y : S1x8192x256.Idx) : (((cfg0.win 6).blk t).view.emb y : S8x8192x256.Idx) = ix3 (hd t) (y 1) (y 2) := by
  have hh := lt256 t
  blk_ext [hd, idx t]
omit H in
theorem emb7 (t : Fin cfg0.N) (y : S1x1024x256.Idx) : (((cfg0.win 7).blk t).view.emb y : S8x8192x256.Idx) = ix3 (hd t) (col t (y 1)) (y 2) := by
  have hh := lt256 t
  blk_ext [hd, col, idx t]
omit H in
theorem emb8 (t : Fin cfg0.N) (y : S1x1024x128.Idx) : (((cfg0.win 8).blk t).view.emb y : S8x8192x128.Idx) = ix3 (hd t) (col t (y 1)) (y 2) := by
  have hh := lt256 t
  blk_ext [hd, col, idx t]

omit H in
theorem ix_of (n e : ℕ) (y : (⟨3, ![1, n, e]⟩ : Shape).Idx) : y = ix3 0 (y 1) (y 2) :=
  funext fun a => match a with
  | ⟨0, _⟩ => Fin.ext (by have : (y 0).val < 1 := (y 0).isLt; show (y 0).val = 0; omega)
  | ⟨1, _⟩ => rfl
  | ⟨2, _⟩ => rfl

/-- A gradient by heads as an array. -/
abbrev arr {n : ℕ} (f : Fin 8 → Fin 8192 → Fin n → ℝ) : (⟨3, ![8, 8192, n]⟩ : Shape).Idx → EReal := fun i => (f (i 0) (i 1) (i 2) : EReal)

omit H in
theorem arr6 (after : (w : Fin cfg0.W) → Fin cfg0.N → (cfg0.win w).block.Idx → Elt Ideal (cfg0.win w).elt) (D : Fin 8 → Fin 8192 → Fin 256 → ℝ)
    (hD : ∀ t : Fin cfg0.N, (cfg0.win 6).flush t = true → ∀ (x : Fin 8192) (d : Fin 256), (after 6 t : S1x8192x256.Idx → EReal) (ix3 0 x d) = (D (hd t) x d : EReal)) (i : S8x8192x256.Idx) :
    (((rdat m c).withAfter after).arrAt 6 cfg0.N : S8x8192x256.Idx → EReal) i = arr D i := by
  refine ((rdat m c).withAfter after).arrAt_forall_of_covers 6 (fun i v => v = arr D i) (by decide +kernel) (fun t hf y => ?_) i
  rw [RDat.withAfter_after]
  have e1 : (after 6 t : S1x8192x256.Idx → EReal) y = (D (hd t) (y 1) (y 2) : EReal) := (congrArg (after 6 t : S1x8192x256.Idx → EReal) (ix_of 8192 256 y)).trans (hD t hf (y 1) (y 2))
  have e2 : arr D (((cfg0.win 6).blk t).view.emb y : S8x8192x256.Idx) = (D (hd t) (y 1) (y 2) : EReal) := congrArg (arr D) (emb6 t y)
  exact Eq.trans e1 e2.symm

omit H in
theorem arr7 (after : (w : Fin cfg0.W) → Fin cfg0.N → (cfg0.win w).block.Idx → Elt Ideal (cfg0.win w).elt) (D : Fin 8 → Fin 8192 → Fin 256 → ℝ)
    (hD : ∀ t : Fin cfg0.N, (cfg0.win 7).flush t = true → ∀ (k : Fin 1024) (d : Fin 256), (after 7 t : S1x1024x256.Idx → EReal) (ix3 0 k d) = (D (hd t) (col t k) d : EReal)) (i : S8x8192x256.Idx) :
    (((rdat m c).withAfter after).arrAt 7 cfg0.N : S8x8192x256.Idx → EReal) i = arr D i := by
  refine ((rdat m c).withAfter after).arrAt_forall_of_covers 7 (fun i v => v = arr D i) (by decide +kernel) (fun t hf y => ?_) i
  rw [RDat.withAfter_after]
  have e1 : (after 7 t : S1x1024x256.Idx → EReal) y = (D (hd t) (col t (y 1)) (y 2) : EReal) := (congrArg (after 7 t : S1x1024x256.Idx → EReal) (ix_of 1024 256 y)).trans (hD t hf (y 1) (y 2))
  have e2 : arr D (((cfg0.win 7).blk t).view.emb y : S8x8192x256.Idx) = (D (hd t) (col t (y 1)) (y 2) : EReal) := congrArg (arr D) (emb7 t y)
  exact Eq.trans e1 e2.symm

omit H in
theorem arr8 (after : (w : Fin cfg0.W) → Fin cfg0.N → (cfg0.win w).block.Idx → Elt Ideal (cfg0.win w).elt) (D : Fin 8 → Fin 8192 → Fin 128 → ℝ)
    (hD : ∀ t : Fin cfg0.N, (cfg0.win 8).flush t = true → ∀ (k : Fin 1024) (d : Fin 128), (after 8 t : S1x1024x128.Idx → EReal) (ix3 0 k d) = (D (hd t) (col t k) d : EReal)) (i : S8x8192x128.Idx) :
    (((rdat m c).withAfter after).arrAt 8 cfg0.N : S8x8192x128.Idx → EReal) i = arr D i := by
  refine ((rdat m c).withAfter after).arrAt_forall_of_covers 8 (fun i v => v = arr D i) (by decide +kernel) (fun t hf y => ?_) i
  rw [RDat.withAfter_after]
  have e1 : (after 8 t : S1x1024x128.Idx → EReal) y = (D (hd t) (col t (y 1)) (y 2) : EReal) := (congrArg (after 8 t : S1x1024x128.Idx → EReal) (ix_of 1024 128 y)).trans (hD t hf (y 1) (y 2))
  have e2 : arr D (((cfg0.win 8).blk t).view.emb y : S8x8192x128.Idx) = (D (hd t) (col t (y 1)) (y 2) : EReal) := congrArg (arr D) (emb8 t y)
  exact Eq.trans e1 e2.symm

/-- The results of the launch: each array is the gradient of `Attn`, at every head. -/
theorem arrays (r : PUnit × MemSt nD τ sig (Elt Ideal)) (h : RDat.FramePost (cfgs 0) (fun c => rdat m c) (V m) r) :
    r.2.mem ((c.tc : Thread nD τ).loc main_v27_0) = arr (fun h => dq (qR (X0 m c) h) (qR (X1 m c) h) (qR (X2 m c) h) (gL (X4 m c) h))
    ∧ r.2.mem ((c.tc : Thread nD τ).loc main_v27_1) = arr (fun h => dk (qR (X0 m c) h) (qR (X1 m c) h) (qR (X2 m c) h) (gL (X4 m c) h))
    ∧ r.2.mem ((c.tc : Thread nD τ).loc main_v27_2) = arr (fun h => dv (qR (X0 m c) h) (qR (X1 m c) h) (gL (X4 m c) h)) := by
  obtain ⟨after, ha, hm⟩ := RDat.FramePost.exists_exact h c
  refine ⟨(hm 6).trans (funext fun i => ?_), (hm 7).trans (funext fun i => ?_), (hm 8).trans (funext fun i => ?_)⟩
  · exact arr6 m c after _ (fun t hf => leaves6_last m c H t ((flush0_6 t).mp hf) _ (ha 6 t hf)) i
  · exact arr7 m c after _ (fun t hf => leaves7 m c H t ((flush0_7 t).mp hf) _ (ha 7 t hf)) i
  · exact arr8 m c after _ (fun t hf => leaves8 m c H t ((flush0_8 t).mp hf) _ (ha 8 t hf)) i

end Tiles

end Cert.MlaIdeal.Bwd

end
-- ==== Proof.MlaRef.lean ====
/-
  The latent attention's reference read at an index: on finite arguments its three results are the gradients of softmax attention of
  `Attn`, head by head.
-/
module

public import proofs.«01_k».proof.Proof.Attn
public import proofs.«01_k».proof.Proof.Gen.MlaRefIdeal.Read

@[expose] public section

set_option maxRecDepth 16384

noncomputable section

namespace Cert.MlaRefIdeal.Bwd

open Idealize.ShloMosaic Idealize.ShloMosaic.TcCoe
open Cert.MlaRefIdeal Cert.MlaRefIdeal.Gen Cert.MlaRefIdeal.Read
open Cert.Attn
open scoped BigOperators

variable {x0 x1 : (⟨S8x8192x256, .bf16⟩ : BufTy).Contents (Elt Ideal)} {x2 : (⟨S8x8192x128, .bf16⟩ : BufTy).Contents (Elt Ideal)} {x4 : (⟨S8192x2048, .bf16⟩ : BufTy).Contents (Elt Ideal)}

/-- An exponential is of a score less the row's greatest. -/
theorem e28 (x0 x1 : (⟨S8x8192x256, .bf16⟩ : BufTy).Contents (Elt Ideal)) (h : Fin 8) (i j : Fin 8192) : val_main_v28 (F := Ideal) x0 x1 (ix3 h i j) = Ideal.exp (val_main_v7 (F := Ideal) x0 x1 (ix3 h i j) - val_main_v15 (F := Ideal) x0 x1 (ix2 h i)) := by
  unfold val_main_v28 val_main_v27 val_main_v26 val_main_v25
  generalize val_main_v7 (F := Ideal) x0 x1 = a
  generalize val_main_v15 (F := Ideal) x0 x1 = b
  pointwise

/-- The row's greatest score, after its maximum with minus infinity. -/
theorem e15 (x0 x1 : (⟨S8x8192x256, .bf16⟩ : BufTy).Contents (Elt Ideal)) (h : Fin 8) (i : Fin 8192) : val_main_v15 (F := Ideal) x0 x1 (ix2 h i) = max (Ideal.ofBits .f32 0xFF800000#32) (val_main_v8 (F := Ideal) x0 x1 (ix2 h i)) := by
  rw [val_main_v15_apply, val_main_v14_apply, val_main_cst_1_apply]
  generalize val_main_v8 (F := Ideal) x0 x1 (ix2 h i) = b
  rfl

variable (H : FiniteL x0 x1 x2 x4)
include H

theorem v5_at (h : Fin 8) (i : Fin 8192) (d : Fin 256) : val_main_v5 (F := Ideal) x1 (ix3 h i d) = (qR x1 h i d : EReal) := by
  rw [← H.k]; pointwise [val_main_v5]

theorem v6_at (h : Fin 8) (i : Fin 8192) (d : Fin 128) : val_main_v6 (F := Ideal) x2 (ix3 h i d) = (qR x2 h i d : EReal) := by
  rw [← H.v]; pointwise [val_main_v6]

theorem v3_at (h : Fin 8) (i : Fin 8192) (d : Fin 128) : val_main_v3 (F := Ideal) x4 (ix3 h i d) = (gL x4 h i d : EReal) := by
  rw [← H.g]; pointwise [val_main_v3, val_main_v2, val_main_v1, val_main_v0]

theorem v7_at (h : Fin 8) (i j : Fin 8192) : val_main_v7 (F := Ideal) x0 x1 (ix3 h i j) = (sc (qR x0 h) (qR x1 h) i j : EReal) := by
  have e : val_main_v7 (F := Ideal) x0 x1 (ix3 h i j) = ∑ d : Fin 256, x0 (ix3 h i d) * val_main_v5 (F := Ideal) x1 (ix3 h j d) := by
    pointwise [val_main_v7, val_main_v4]
  rw [e]; exact sum_mul_coe _ _ _ _ (H.q h i) (v5_at H h j)

theorem v39_at (h : Fin 8) (i j : Fin 8192) : val_main_v39 (F := Ideal) x2 x4 (ix3 h i j) = (dp (gL x4 h) (qR x2 h) i j : EReal) := by
  have e : val_main_v39 (F := Ideal) x2 x4 (ix3 h i j) = ∑ d : Fin 128, val_main_v3 (F := Ideal) x4 (ix3 h i d) * val_main_v6 (F := Ideal) x2 (ix3 h j d) := by
    pointwise [val_main_v39]
  rw [e]; exact sum_mul_coe _ _ _ _ (v3_at H h i) (v6_at H h j)

/-- The row's greatest score. -/
def mx (x0 x1 : (⟨S8x8192x256, .bf16⟩ : BufTy).Contents (Elt Ideal)) (h : Fin 8) (i : Fin 8192) : ℝ :=
  (val_main_v8 (F := Ideal) x0 x1 (ix2 h i)).toReal

theorem v8_at (h : Fin 8) (i : Fin 8192) : val_main_v8 (F := Ideal) x0 x1 (ix2 h i) = (mx x0 x1 h i : EReal) := by
  have e : val_main_v8 (F := Ideal) x0 x1 (ix2 h i) = Finset.univ.fold max (Ideal.ofBits .f32 0xFF800000#32) (fun j : Fin 8192 => val_main_v7 (F := Ideal) x0 x1 (ix3 h i j)) := by
    unfold val_main_v8
    generalize val_main_v7 (F := Ideal) x0 x1 = a
    pointwise [val_main_cst]
  obtain ⟨r, hr⟩ := fold_max_coe (fun j : Fin 8192 => val_main_v7 (F := Ideal) x0 x1 (ix3 h i j)) fun j => ⟨_, v7_at H h i j⟩
  rw [ofBits_neg_inf, hr] at e
  unfold mx; rw [e, EReal.toReal_coe]

theorem v28_at (h : Fin 8) (i j : Fin 8192) : val_main_v28 (F := Ideal) x0 x1 (ix3 h i j) = (Real.exp (sc (qR x0 h) (qR x1 h) i j - mx x0 x1 h i) : EReal) := by
  rw [e28, e15, v7_at H, v8_at H, ofBits_neg_inf, max_eq_right bot_le, ← EReal.coe_sub, Ideal.exp_coe]

theorem v29_at (h : Fin 8) (i : Fin 8192) : val_main_v29 (F := Ideal) x0 x1 (ix2 h i) = ((∑ j, Real.exp (sc (qR x0 h) (qR x1 h) i j - mx x0 x1 h i) : ℝ) : EReal) := by
  rw [val_main_v29_apply, val_main_cst_7_apply]
  have e : ∀ j : Fin 8192, idx_main_v29 (ix2 h i) j = ix3 h i j := fun j => funext fun a => match a with | ⟨0, _⟩ => rfl | ⟨1, _⟩ => rfl | ⟨2, _⟩ => rfl
  rw [show FloatOps.ofBits (F := Ideal) .f32 0x00000000#32 = (0 : EReal) from Ideal.ofBits_zero_f32, zero_add]
  exact sum_coe _ _ fun j => by rw [e, v28_at H]

theorem den_ne (h : Fin 8) (i : Fin 8192) : (∑ j, Real.exp (sc (qR x0 h) (qR x1 h) i j - mx x0 x1 h i)) ≠ 0 := (dn_shift_pos (qR x0 h) (qR x1 h) i (mx x0 x1 h i)).ne'

theorem v32_at (h : Fin 8) (i j : Fin 8192) : val_main_v32 (F := Ideal) x0 x1 (ix3 h i j) = (pr (qR x0 h) (qR x1 h) i j : EReal) := by
  have e : val_main_v32 (F := Ideal) x0 x1 (ix3 h i j) = Ideal.div (val_main_v28 (F := Ideal) x0 x1 (ix3 h i j)) (val_main_v29 (F := Ideal) x0 x1 (ix2 h i)) := by
    unfold val_main_v32 val_main_v31 val_main_v30
    generalize val_main_v28 (F := Ideal) x0 x1 = a
    generalize val_main_v29 (F := Ideal) x0 x1 = b
    pointwise
  rw [e, v28_at H, v29_at H, div_coe_coe (den_ne H h i), pr_shift]

theorem v43_at (h : Fin 8) (i : Fin 8192) : val_main_v43 (F := Ideal) x0 x1 x2 x4 (ix2 h i)
    = ((∑ j, dp (gL x4 h) (qR x2 h) i j * (1 / ((∑ j, Real.exp (sc (qR x0 h) (qR x1 h) i j - mx x0 x1 h i)) * ∑ j, Real.exp (sc (qR x0 h) (qR x1 h) i j - mx x0 x1 h i)))
        * Real.exp (sc (qR x0 h) (qR x1 h) i j - mx x0 x1 h i) : ℝ) : EReal) := by
  rw [val_main_v43_apply, val_main_cst_9_apply]
  have e : ∀ j : Fin 8192, idx_main_v43 (ix2 h i) j = ix3 h i j := fun j => funext fun a => match a with | ⟨0, _⟩ => rfl | ⟨1, _⟩ => rfl | ⟨2, _⟩ => rfl
  rw [show FloatOps.ofBits (F := Ideal) .f32 0x00000000#32 = (0 : EReal) from Ideal.ofBits_zero_f32, zero_add]
  refine sum_coe _ _ fun j => ?_
  have e' : val_main_v42 (F := Ideal) x0 x1 x2 x4 (ix3 h i j) = val_main_v39 (F := Ideal) x2 x4 (ix3 h i j)
      * Ideal.div 1 (val_main_v29 (F := Ideal) x0 x1 (ix2 h i) * val_main_v29 (F := Ideal) x0 x1 (ix2 h i)) * val_main_v28 (F := Ideal) x0 x1 (ix3 h i j) := by
    have h1 : ∀ u, val_main_v34 (F := Ideal) u = 1 := fun u => by rw [val_main_v34_apply, val_main_cst_8_apply]; exact Ideal.ofBits_one_f32
    unfold val_main_v42 val_main_v41 val_main_v40 val_main_v35 val_main_v33 val_main_v30
    generalize val_main_v39 (F := Ideal) x2 x4 = a
    generalize val_main_v29 (F := Ideal) x0 x1 = b
    generalize val_main_v28 (F := Ideal) x0 x1 = c
    generalize val_main_v34 (F := Ideal) = w at h1 ⊢
    pointwise
    rw [h1]
  rw [e, e', v39_at H, v29_at H, v28_at H, ← EReal.coe_mul, ← EReal.coe_one, div_coe_coe (mul_ne_zero (den_ne H h i) (den_ne H h i)), ← EReal.coe_mul, ← EReal.coe_mul]

theorem v48_at (h : Fin 8) (i : Fin 8192) : val_main_v48 (F := Ideal) x0 x1 x2 x4 (ix2 h i) = - val_main_v43 (F := Ideal) x0 x1 x2 x4 (ix2 h i) := by
  rw [val_main_v48_apply, val_main_cst_10_apply]
  rw [show FloatOps.ofBits (F := Ideal) .f32 0x00000000#32 = (0 : EReal) from Ideal.ofBits_zero_f32, zero_add, Fin.sum_univ_one]
  have e : idx_main_v48 (ix2 h i) 0 = ix3 h i 0 := funext fun a => match a with | ⟨0, _⟩ => rfl | ⟨1, _⟩ => rfl | ⟨2, _⟩ => rfl
  rw [e]
  unfold val_main_v45 val_main_v44
  generalize val_main_v43 (F := Ideal) x0 x1 x2 x4 = a
  pointwise

theorem v51_at (h : Fin 8) (i j : Fin 8192) : val_main_v51 (F := Ideal) x0 x1 x2 x4 (ix3 h i j) = (ds (qR x0 h) (qR x1 h) (qR x2 h) (gL x4 h) i j : EReal) := by
  have e : val_main_v51 (F := Ideal) x0 x1 x2 x4 (ix3 h i j) = (Ideal.div (val_main_v39 (F := Ideal) x2 x4 (ix3 h i j)) (val_main_v29 (F := Ideal) x0 x1 (ix2 h i))
      + val_main_v48 (F := Ideal) x0 x1 x2 x4 (ix2 h i)) * val_main_v28 (F := Ideal) x0 x1 (ix3 h i j) := by
    unfold val_main_v51 val_main_v50 val_main_v49 val_main_v47 val_main_v46 val_main_v30
    generalize val_main_v39 (F := Ideal) x2 x4 = a
    generalize val_main_v29 (F := Ideal) x0 x1 = b
    generalize val_main_v48 (F := Ideal) x0 x1 x2 x4 = c
    generalize val_main_v28 (F := Ideal) x0 x1 = f
    pointwise
  rw [e, v48_at H, v43_at H, v39_at H, v29_at H, v28_at H, div_coe_coe (den_ne H h i), ← EReal.coe_neg, ← EReal.coe_add, ← EReal.coe_mul, ds_of_quotient]

/-- The gradient of the queries. -/
theorem dq_at (h : Fin 8) (i : Fin 8192) (d : Fin 256) : val_main_v53 (F := Ideal) x0 x1 x2 x4 (ix3 h i d) = (dq (qR x0 h) (qR x1 h) (qR x2 h) (gL x4 h) i d : EReal) := by
  have e : val_main_v53 (F := Ideal) x0 x1 x2 x4 (ix3 h i d) = ∑ j : Fin 8192, val_main_v51 (F := Ideal) x0 x1 x2 x4 (ix3 h i j) * val_main_v5 (F := Ideal) x1 (ix3 h j d) := by
    unfold val_main_v53
    generalize val_main_v51 (F := Ideal) x0 x1 x2 x4 = a
    generalize val_main_v5 (F := Ideal) x1 = b
    pointwise
  rw [e]; exact sum_mul_coe _ _ _ _ (v51_at H h i) fun j => v5_at H h j d

/-- The gradient of the keys. -/
theorem dk_at (h : Fin 8) (j : Fin 8192) (d : Fin 256) : val_main_v52 (F := Ideal) x0 x1 x2 x4 (ix3 h j d) = (dk (qR x0 h) (qR x1 h) (qR x2 h) (gL x4 h) j d : EReal) := by
  have e : val_main_v52 (F := Ideal) x0 x1 x2 x4 (ix3 h j d) = ∑ i : Fin 8192, val_main_v51 (F := Ideal) x0 x1 x2 x4 (ix3 h i j) * x0 (ix3 h i d) := by
    unfold val_main_v52
    generalize val_main_v51 (F := Ideal) x0 x1 x2 x4 = a
    pointwise [val_main_v4]
  rw [e]; exact sum_mul_coe _ _ _ _ (fun i => v51_at H h i j) fun i => H.q h i d

/-- The gradient of the values. -/
theorem dv_at (h : Fin 8) (j : Fin 8192) (d : Fin 128) : val_main_v38 (F := Ideal) x0 x1 x4 (ix3 h j d) = (dv (qR x0 h) (qR x1 h) (gL x4 h) j d : EReal) := by
  have e : val_main_v38 (F := Ideal) x0 x1 x4 (ix3 h j d) = ∑ i : Fin 8192, val_main_v3 (F := Ideal) x4 (ix3 h i d) * val_main_v32 (F := Ideal) x0 x1 (ix3 h i j) := by
    unfold val_main_v38 val_main_v37
    generalize val_main_v3 (F := Ideal) x4 = a
    generalize val_main_v32 (F := Ideal) x0 x1 = b
    pointwise
  rw [e, Finset.sum_congr rfl fun i _ => mul_comm (val_main_v3 (F := Ideal) x4 (ix3 h i d)) _]
  exact sum_mul_coe _ _ _ _ (fun i => v32_at H h i j) fun i => v3_at H h i d

end Cert.MlaRefIdeal.Bwd

end
-- ==== Proof.Pre.lean ====
/-
  The precondition read: where `finite` is all ones, every query, key, value and cotangent of the grid heads is a
  finite number.
-/
module

public import proofs.«01_k».proof.Proof.Attn
public import proofs.«01_k».proof.Proof.Gen.Pre_finite
public import Idealize.ShloMosaic.Lib.ReduceAll

@[expose] public section

set_option maxRecDepth 16384

noncomputable section

namespace Cert.Pre_finite.Bwd

open Idealize.ShloMosaic
open Cert.Pre_finite Cert.Attn

theorem ofBits_inf : Ideal.ofBits .f32 0x7F800000#32 = ⊤ := by simp [Ideal.ofBits, Ideal.ieee]

/-- A number whose absolute value is below infinity is a real. -/
theorem coe_of_abs_lt (x : EReal) (h : Ideal.cmp .olt (max x (-x)) (Ideal.ofBits .f32 0x7F800000#32) = 1#1) : x = (x.toReal : EReal) := by
  rw [ofBits_inf] at h
  have h' : max x (-x) < ⊤ := by
    by_contra hn
    rw [Ideal.cmp, decide_eq_false hn] at h
    exact absurd h (by decide)
  refine (EReal.coe_toReal (fun e => ?_) (fun e => ?_)).symm
  · rw [e] at h'; simp at h'
  · rw [e] at h'; simp at h'

/-- The scalar's one index. -/
theorem sub (i j : S_.Idx) : i = j := funext fun a => a.elim0

/-- One array's test, all ones: every element is a real. -/
theorem coe_of_all {s : Shape} {axes : List (Fin s.rank)} (x : FVec Ideal s .bf16) (dims : Fin 0 → Fin s.rank) (hb : S_.BroadcastsInDim s dims) (hlt : FTy.bits .bf16 < FTy.bits .f32)
    (h : s.ReducesTo axes S_) (hu : 0 < S_.numel) (j : S_.Idx)
    (e : Host.reduce IntOp.andi (cmpf .olt (Host.absf (extf .f32 x hlt)) (broadcastInDim s dims hb (constant (F := Ideal) S_ .f32 0x7F800000#32))) (constantI S_ 1 1#1) h hu j = 1#1) (i : s.Idx) :
    x i = ((x i).toReal : EReal) :=
  haveI : Subsingleton S_.Idx := ⟨sub⟩
  coe_of_abs_lt (x i) (Host.reduce_andi_all _ _ h hu j e i)

theorem and_split (a b : IVec S_ 1) (j : S_.Idx) (h : andi a b j = 1#1) : a j = 1#1 ∧ b j = 1#1 := IntOp.andi_eq_one.mp h

/-- The precondition gives finite arguments. -/
theorem finite_of_pre (x0 : FVec Ideal S8x8192x128 .bf16) (x1 x2 : FVec Ideal S2x8192x128 .bf16) (x3 : FVec Ideal S8192x1024 .bf16) (x4 : FVec Ideal S8192x2048 .bf16)
    (h : Cert.Pre_finite.fn (F := Ideal) x0 x1 x2 x3 x4 = fun _ => 1#1) : Finite x0 x1 x2 x4 := by
  have hj := congrFun h (Shape.Idx.first Facts.h_S_)
  obtain ⟨hj, h4⟩ := and_split _ _ _ hj
  obtain ⟨hj, h2⟩ := and_split _ _ _ hj
  obtain ⟨h0, h1⟩ := and_split _ _ _ hj
  refine ⟨fun h i d => coe_of_all x0 _ Facts.bcast_S_S8x8192x128 Facts.bitsLt_bf16_f32 Facts.reducesTo_S8x8192x128_S_d0_1_2 Facts.h_S_ (Shape.Idx.first Facts.h_S_) h0 _, fun h i d => coe_of_all x1 _ Facts.bcast_S_S2x8192x128 Facts.bitsLt_bf16_f32 Facts.reducesTo_S2x8192x128_S_d0_1_2 Facts.h_S_ (Shape.Idx.first Facts.h_S_) h1 _, fun h i d => coe_of_all x2 _ Facts.bcast_S_S2x8192x128 Facts.bitsLt_bf16_f32 Facts.reducesTo_S2x8192x128_S_d0_1_2 Facts.h_S_ (Shape.Idx.first Facts.h_S_) h2 _, fun h i d => ?_⟩
  have hg := coe_of_all _ _ Facts.bcast_S_S8192x1024 Facts.bitsLt_bf16_f32 Facts.reducesTo_S8192x1024_S_d0_1 Facts.h_S_ (Shape.Idx.first Facts.h_S_) h4 (ix2 i ⟨h.val * 128 + d.val, by omega⟩)
  have he : extractStridedSlice S8192x1024 ![0, 1024] x4 Facts.slices_S8192x2048_S8192x1024_0_1024 (ix2 i ⟨h.val * 128 + d.val, by omega⟩) = x4 (ix2 i ⟨1024 + (h.val * 128 + d.val), by omega⟩) := by
    pointwise
  beta_reduce at hg
  rw [he] at hg
  exact hg

end Cert.Pre_finite.Bwd

end
-- ==== Proof.MlaPre.lean ====
/-
  The latent attention's precondition read: where `finite_mla` is all ones, every query, key, value and cotangent of its
  heads is a finite number.
-/
module

public import proofs.«01_k».proof.Proof.Pre
public import proofs.«01_k».proof.Proof.Gen.Pre_finite_mla

@[expose] public section

set_option maxRecDepth 16384

noncomputable section

namespace Cert.Pre_finite_mla.Bwd

open Idealize.ShloMosaic
open Cert.Pre_finite_mla Cert.Attn Cert.Pre_finite.Bwd

/-- The precondition gives finite arguments. -/
theorem finite_of_pre (x0 x1 : FVec Ideal S8x8192x256 .bf16) (x2 : FVec Ideal S8x8192x128 .bf16) (x3 : FVec Ideal S8192x1024 .bf16) (x4 : FVec Ideal S8192x2048 .bf16)
    (h : Cert.Pre_finite_mla.fn (F := Ideal) x0 x1 x2 x3 x4 = fun _ => 1#1) : FiniteL x0 x1 x2 x4 := by
  have hj := congrFun h (Shape.Idx.first Facts.h_S_)
  obtain ⟨hj, h4⟩ := and_split _ _ _ hj
  obtain ⟨hj, h2⟩ := and_split _ _ _ hj
  obtain ⟨h0, h1⟩ := and_split _ _ _ hj
  have big : ∀ (x : FVec Ideal S8x8192x256 .bf16), _ → ∀ h i d, x (ix3 h i d) = ((x (ix3 h i d)).toReal : EReal) :=
    fun x e h i d => coe_of_all x _ Facts.bcast_S_S8x8192x256 Facts.bitsLt_bf16_f32 Facts.reducesTo_S8x8192x256_S_d0_1_2 Facts.h_S_ (Shape.Idx.first Facts.h_S_) e _
  refine ⟨big x0 h0, big x1 h1, fun h i d => coe_of_all x2 _ Facts.bcast_S_S8x8192x128 Facts.bitsLt_bf16_f32 Facts.reducesTo_S8x8192x128_S_d0_1_2 Facts.h_S_ (Shape.Idx.first Facts.h_S_) h2 _, fun h i d => ?_⟩
  have hg := coe_of_all _ _ Facts.bcast_S_S8192x1024 Facts.bitsLt_bf16_f32 Facts.reducesTo_S8192x1024_S_d0_1 Facts.h_S_ (Shape.Idx.first Facts.h_S_) h4 (ix2 i ⟨h.val * 128 + d.val, by omega⟩)
  have he : extractStridedSlice S8192x1024 ![0, 0] x4 Facts.slices_S8192x2048_S8192x1024_0_0 (ix2 i ⟨h.val * 128 + d.val, by omega⟩) = x4 (ix2 i ⟨h.val * 128 + d.val, by omega⟩) := by
    pointwise
  beta_reduce at hg
  rw [he] at hg
  exact hg

end Cert.Pre_finite_mla.Bwd

end
-- ==== Proof.MlaValue.lean ====
/-
  The frames and the value of the latent attention's backward call, with its idealization and its reference. The run of
  the call is `Bwd.run_main`, once for any float arithmetic.
-/
module

public import proofs.«01_k».proof.Defs
public import proofs.«01_k».proof.Proof.MlaSame
public import proofs.«01_k».proof.Proof.MlaOut
public import proofs.«01_k».proof.Proof.MlaRef
public import proofs.«01_k».proof.Proof.MlaPre
public import Idealize.ShloMosaic.Lib.Quiescent
public import Idealize.ShloMosaic.Adequacy
public import Idealize.ShloMosaic.Init

@[expose] public section

noncomputable section

namespace Cert.Proof.MlaValue

open Idealize.ShloMosaic Idealize.SL.Sem
open Cert.Attn
open Cert.MlaIdeal.Bwd (X0 X1 X2 X4 arr arrays run_main frame_run)

/-- The two programs are one text (`MlaSame`), so the kernel's frame is the same run, at the machine's floats. -/
theorem frame_kernel : Cert.quiescent_Mla := fun m ρ _ => MlaSame.run_of _ _ (frame_run (F := Bits) m ρ)

theorem frame_ideal : Cert.quiescent_MlaIdeal := fun m ρ _ => frame_run (F := Ideal) m ρ

/-- The reference declares no semaphore, so its counters are zero at any state. -/
theorem frame_reference : Cert.quiescent_MlaRefIdeal := fun m ρ _ =>
  (θ_run Cert.MlaRefIdeal.defs _ _).mono (fun r h => ⟨fun c => (h c).2.2.2, sem_eq_zero_of_no_sems (by decide) r.2⟩)
    (Cert.MlaRefIdeal.Value.run (F := Ideal) m ρ)

/-- An index of a result array by its coordinates. -/
theorem ix_eta {n : ℕ} (i : (⟨3, ![8, 8192, n]⟩ : Shape).Idx) : i = ix3 (i 0) (i 1) (i 2) :=
  funext fun a => match a with
  | ⟨0, _⟩ => rfl
  | ⟨1, _⟩ => rfl
  | ⟨2, _⟩ => rfl

/-- An array known at its coordinates. -/
theorem arr_of {n : ℕ} (f : (⟨3, ![8, 8192, n]⟩ : Shape).Idx → EReal) (D : Fin 8 → Fin 8192 → Fin n → ℝ) (hf : ∀ h i d, f (ix3 h i d) = (D h i d : EReal)) : f = arr D :=
  funext fun i => (congrArg f (ix_eta i)).trans (hf _ _ _)

/-- The call's three results are the reference's, on finite arguments. -/
theorem algebraic : Cert.algebraic_MlaIdeal_MlaRefIdeal_pre_finite_mla := by
  intro m ρ m' ρ' hpre hag
  have H : ∀ c, FiniteL (X0 m c) (X1 m c) (X2 m c) (X4 m c) := fun c => Cert.Pre_finite_mla.Bwd.finite_of_pre _ _ _ _ _ (hpre c)
  refine ⟨fun c => arr (fun h => dq (qR (X0 m c) h) (qR (X1 m c) h) (qR (X2 m c) h) (gL (X4 m c) h)),
    fun c => arr (fun h => dk (qR (X0 m c) h) (qR (X1 m c) h) (qR (X2 m c) h) (gL (X4 m c) h)),
    fun c => arr (fun h => dv (qR (X0 m c) h) (qR (X1 m c) h) (gL (X4 m c) h)), ?_, ?_⟩
  · refine (θ_run Cert.MlaIdeal.defs _ _).mono (fun r h c => ?_) (run_main (F := Ideal) m ρ)
    obtain ⟨h0, h1, h2⟩ := arrays m c (H c) r h.1
    exact ⟨h0, h1, h2, Cert.MlaIdeal.Bwd.args_post m h.1 c⟩
  · refine (θ_run Cert.MlaRefIdeal.defs _ _).mono (fun r h c => ?_) (Cert.MlaRefIdeal.Value.run (F := Ideal) m' ρ')
    obtain ⟨h0, h1, h2, hargs⟩ := h c
    obtain ⟨e0, e1, e2, -, e4⟩ := hag c
    refine ⟨h0.trans ?_, h1.trans ?_, h2.trans ?_, hargs⟩
    · rw [Cert.MlaRefIdeal.Read.val_main_v53_eq, e0, e1, e2, e4]
      exact arr_of _ _ (Cert.MlaRefIdeal.Bwd.dq_at (H c))
    · rw [Cert.MlaRefIdeal.Read.val_main_v52_eq, e0, e1, e2, e4]
      exact arr_of _ _ (Cert.MlaRefIdeal.Bwd.dk_at (H c))
    · rw [e0, e1, e4]
      exact (Cert.MlaRefIdeal.Read.val_main_v38_eq (F := Ideal) _ _ _).trans (arr_of _ _ (Cert.MlaRefIdeal.Bwd.dv_at (H c)))

end Cert.Proof.MlaValue

end
-- ==== Proof.UpValue.lean ====
/-
  The call that makes the hidden layer: its two results are the square of the positive part of the product of the
  layer's input with the up weights, and that positive part.
-/
module

public import proofs.«01_k».proof.Defs
public import proofs.«01_k».proof.Proof.Hidden
public import proofs.«01_k».proof.Proof.Gen.Up.Frame
public import proofs.«01_k».proof.Proof.Gen.UpIdeal.Value
public import proofs.«01_k».proof.Proof.Gen.UpRefIdeal.Run
public import Idealize.ShloMosaic.Lib.VecWindow
public import Idealize.ShloMosaic.Lib.Pipeline.ValueKit.Geometry

@[expose] public section

set_option maxRecDepth 16384

noncomputable section

namespace Cert.UpIdeal

open Idealize.ShloMosaic Idealize.ShloMosaic.TcCoe Idealize.ShloMosaic.Tactic Idealize.SL.Sem
open Cert.UpIdeal.Gen Cert.UpIdeal.Value
open Cert.Mlp
open scoped BigOperators

theorem hz : (![0, 0] : Fin 2 → Nat) = fun _ => 0 := funext fun a => by fin_cases a <;> rfl

abbrev W := FVec Ideal S8192x2048 .bf16
abbrev R := FVec Ideal S8192x8192 .bf16

/-- The positive part of the product of the first factor with the transposed second, entry by entry. -/
def pos (h w : W) : R := fun i => max (∑ k : Fin 2048, h (ix2 (i 0) k) * w (ix2 (i 1) k)) 0
/-- Its square. -/
def sq (h w : W) : R := fun i => pos h w i * pos h w i

/-! ## One tile -/

theorem pos_eq (x0 x1 : Vec Ideal S1024x2048 .bf16) : out0_3 x0 x1 = k0_pay3 x0 x1 := by
  unfold out0_3
  rw [View.canon_unit_zero hz]
  simp only [View.ld_unit_zero (S := S1024x2048) hz]
theorem sq_eq (x0 x1 : Vec Ideal S1024x2048 .bf16) : out0_2 x0 x1 = k0_pay2 x0 x1 := by
  unfold out0_2
  rw [View.canon_unit_zero hz]
  simp only [View.ld_unit_zero (S := S1024x2048) hz]

theorem pay1_at (x0 x1 : Vec Ideal S1024x2048 .bf16) (p q : Fin 1024) :
    k0_pay1 x0 x1 (ix2 p q) = max (∑ k : Fin 2048, x0 (ix2 p k) * x1 (ix2 q k)) 0 := by
  pointwise [k0_pay1]
theorem pay2_at (x0 x1 : Vec Ideal S1024x2048 .bf16) (p q : Fin 1024) : k0_pay2 x0 x1 (ix2 p q) = k0_pay1 x0 x1 (ix2 p q) * k0_pay1 x0 x1 (ix2 p q) := by
  pointwise [k0_pay2]
theorem pay3_at (x0 x1 : Vec Ideal S1024x2048 .bf16) (p q : Fin 1024) : k0_pay3 x0 x1 (ix2 p q) = k0_pay1 x0 x1 (ix2 p q) := by
  pointwise [k0_pay3]

variable (m : (ℓ : Loc nD τ sig) → Buf (Elt Ideal) ℓ) (c : Dev nD)

theorem lt64 (t : Fin cfg0.N) : t.val < 64 := Nat.lt_of_lt_of_eq t.isLt N_0

theorem idx (t : Fin cfg0.N) : win0_0.index t = ![t.val / 8, 0] ∧ win0_1.index t = ![t.val % 8, 0] ∧ win0_2.index t = ![t.val / 8, t.val % 8] ∧ win0_3.index t = ![t.val / 8, t.val % 8] :=
  (by decide +kernel : ∀ t : Fin grid0.N, win0_0.index t = ![t.val / 8, 0] ∧ win0_1.index t = ![t.val % 8, 0] ∧ win0_2.index t = ![t.val / 8, t.val % 8] ∧ win0_3.index t = ![t.val / 8, t.val % 8]) t

/-- Row `p` of point `t`'s tile. -/
def row (t : Fin cfg0.N) (p : Fin 1024) : Fin 8192 := ⟨1024 * (t.val / 8) + p.val, by have := lt64 t; omega⟩
/-- Column `q` of point `t`'s tile. -/
def col (t : Fin cfg0.N) (q : Fin 1024) : Fin 8192 := ⟨1024 * (t.val % 8) + q.val, by omega⟩

theorem emb0 (t : Fin cfg0.N) (p : Fin 1024) (k : Fin 2048) : (((cfg0.win 0).blk t).view.emb (ix2 p k) : S8192x2048.Idx) = ix2 (row t p) k := by
  have hh := lt64 t
  blk_ext [row, idx t]
theorem emb1 (t : Fin cfg0.N) (q : Fin 1024) (k : Fin 2048) : (((cfg0.win 1).blk t).view.emb (ix2 q k) : S8192x2048.Idx) = ix2 (col t q) k := by
  have hh := lt64 t
  blk_ext [col, idx t]
theorem emb2 (t : Fin cfg0.N) (p q : Fin 1024) : (((cfg0.win 2).blk t).view.emb (ix2 p q) : S8192x8192.Idx) = ix2 (row t p) (col t q) := by
  have hh := lt64 t
  blk_ext [row, col, idx t]
theorem emb3 (t : Fin cfg0.N) (p q : Fin 1024) : (((cfg0.win 3).blk t).view.emb (ix2 p q) : S8192x8192.Idx) = ix2 (row t p) (col t q) := by
  have hh := lt64 t
  blk_ext [row, col, idx t]

theorem of0 (t : Fin cfg0.N) (x : S1024x2048.Idx) (L : W) : (((cfg0.win 0).blk t).view.read (Elt Ideal) L : Vec Ideal S1024x2048 .bf16) x = L (((cfg0.win 0).blk t).view.emb x) := rfl
theorem of1 (t : Fin cfg0.N) (x : S1024x2048.Idx) (L : W) : (((cfg0.win 1).blk t).view.read (Elt Ideal) L : Vec Ideal S1024x2048 .bf16) x = L (((cfg0.win 1).blk t).view.emb x) := rfl

theorem tile_at (t : Fin cfg0.N) (p q : Fin 1024) (h w : W) (hh : V m c (Pipeline.arrRef spec0 0) = h) (hw : V m c (Pipeline.arrRef spec0 1) = w) :
    k0_pay1 (iblk m c 0 t) (iblk m c 1 t) (ix2 p q) = pos h w (ix2 (row t p) (col t q)) := by
  rw [pay1_at]
  unfold iblk pos
  rw [hh, hw]
  refine congrArg₂ _ (Finset.sum_congr rfl fun k _ => ?_) rfl
  exact congrArg₂ _ ((of0 t _ h).trans (congrArg h (emb0 t p k))) ((of1 t _ w).trans (congrArg w (emb1 t q k)))

/-! ## The whole arrays -/

theorem flushed_pos (h w : W) (hh : V m c (Pipeline.arrRef spec0 0) = h) (hw : V m c (Pipeline.arrRef spec0 1) = w) (t : Fin cfg0.N) :
    (dats m 0 c).flushed 3 t = ((cfg0.win 3).blk t).view.read (Elt Ideal) (pos h w) := by
  rw [flushed3, pos_eq]
  refine eq_of_at (n := 1024) (k := 1024) (α := EReal) _ _ fun p q => ?_
  refine (pay3_at _ _ p q).trans ?_
  exact (tile_at m c t p q h w hh hw).trans (congrArg (pos h w) (emb3 t p q).symm)

theorem flushed_sq (h w : W) (hh : V m c (Pipeline.arrRef spec0 0) = h) (hw : V m c (Pipeline.arrRef spec0 1) = w) (t : Fin cfg0.N) :
    (dats m 0 c).flushed 2 t = ((cfg0.win 2).blk t).view.read (Elt Ideal) (sq h w) := by
  rw [flushed2, sq_eq]
  refine eq_of_at (n := 1024) (k := 1024) (α := EReal) _ _ fun p q => ?_
  refine (pay2_at _ _ p q).trans ?_
  rw [tile_at m c t p q h w hh hw]
  exact congrArg (sq h w) (emb2 t p q).symm

theorem covered (i : S8192x8192.Idx) : ∃ t : Fin cfg0.N, (cfg0.win 3).flush t = true ∧ i ∈ ((cfg0.win 3).blk t).view.set := by
  have h0 : (i 0).val < 8192 := (i 0).isLt
  have h1 : (i 1).val < 8192 := (i 1).isLt
  have hN : 8 * ((i 0).val / 1024) + (i 1).val / 1024 < cfg0.N := Nat.lt_of_lt_of_eq (by omega : _ < 64) N_0.symm
  refine ⟨⟨8 * ((i 0).val / 1024) + (i 1).val / 1024, hN⟩, flush0_3 _, ?_⟩
  have e := emb3 ⟨8 * ((i 0).val / 1024) + (i 1).val / 1024, hN⟩ ⟨(i 0).val % 1024, Nat.mod_lt _ (by decide)⟩ ⟨(i 1).val % 1024, Nat.mod_lt _ (by decide)⟩
  have hi : i = ix2 (row ⟨8 * ((i 0).val / 1024) + (i 1).val / 1024, hN⟩ ⟨(i 0).val % 1024, Nat.mod_lt _ (by decide)⟩) (col ⟨8 * ((i 0).val / 1024) + (i 1).val / 1024, hN⟩ ⟨(i 1).val % 1024, Nat.mod_lt _ (by decide)⟩) :=
    funext fun a => match a with
      | ⟨0, _⟩ => Fin.ext (by show (i 0).val = 1024 * ((8 * ((i 0).val / 1024) + (i 1).val / 1024) / 8) + (i 0).val % 1024; omega)
      | ⟨1, _⟩ => Fin.ext (by show (i 1).val = 1024 * ((8 * ((i 0).val / 1024) + (i 1).val / 1024) % 8) + (i 1).val % 1024; omega)
  exact (congrArg (· ∈ _) (e.trans hi.symm)).mp (View.emb_mem_set _ _)

theorem covered_sq (i : S8192x8192.Idx) : ∃ t : Fin cfg0.N, (cfg0.win 2).flush t = true ∧ i ∈ ((cfg0.win 2).blk t).view.set := by
  obtain ⟨t, -, h⟩ := covered i
  exact ⟨t, flush0_2 t, h⟩

theorem result_pos (h w : W) (hh : V m c (Pipeline.arrRef spec0 0) = h) (hw : V m c (Pipeline.arrRef spec0 1) = w) : (dats m 0 c).arrAt 3 cfg0.N = pos h w :=
  (dats m 0 c).arrAt_eq_of_cover 3 _ (fun t _ => flushed_pos m c h w hh hw t) covered
theorem result_sq (h w : W) (hh : V m c (Pipeline.arrRef spec0 0) = h) (hw : V m c (Pipeline.arrRef spec0 1) = w) : (dats m 0 c).arrAt 2 cfg0.N = sq h w :=
  (dats m 0 c).arrAt_eq_of_cover 2 _ (fun t _ => flushed_sq m c h w hh hw t) covered_sq

/-! ## The host's lines before the call, and the reference -/

/-- The transposed up weights, as the call takes them. -/
def hUp (w : FVec Ideal S2048x8192 .f32) : W :=
  truncf .bf16 (transpose S8192x2048 [1, 0] w Facts₀.transposes_S2048x8192_S8192x2048_1_0) Facts₀.bitsLt_bf16_f32

theorem V_up : V m c (Pipeline.arrRef spec0 1) = hUp (m ((c.tc : Thread nD τ).loc main_arg1)) := by
  show V m c main_v1 = _
  unfold V; after_results_simp; rfl

/-- The reference's hidden layer, entry by entry. -/
theorem reference_at (h : FVec Ideal UpRefIdeal.S8192x2048 .bf16) (w : FVec Ideal UpRefIdeal.S2048x8192 .f32) (i j : Fin 8192) :
    maximumf (Host.dotGeneral UpRefIdeal.dot_S8192x2048_S2048x8192_S8192x8192_1_0_0_1_n_n none (extf .f32 h UpRefIdeal.Facts₀.bitsLt_bf16_f32) w)
      (broadcastInDim UpRefIdeal.S8192x8192 ![] UpRefIdeal.Facts₀.bcast_S_S8192x8192 (constant UpRefIdeal.S_ .f32 0x00000000#32)) (ix2 i j) = pos h (hUp w) (ix2 i j) := by
  pointwise [pos, hUp]

/-- The call's two results are the reference's. -/
theorem algebraic : Cert.algebraic_UpIdeal_UpRefIdeal := by
  intro m ρ m' ρ' _ hag
  refine ⟨fun c => sq (m ((c.tc : Thread nD τ).loc main_arg0)) (hUp (m ((c.tc : Thread nD τ).loc main_arg1))), fun c => pos (m ((c.tc : Thread nD τ).loc main_arg0)) (hUp (m ((c.tc : Thread nD τ).loc main_arg1))), ?_, ?_⟩
  · refine (θ_run Cert.UpIdeal.defs _ _).mono (fun r h c => ?_) (Cert.UpIdeal.Value.run_blocks (F := Ideal) m ρ)
    exact ⟨(h c).1.trans (result_sq m c _ _ (V_main_arg0 m c) (V_up m c)), (h c).2.1.trans (result_pos m c _ _ (V_main_arg0 m c) (V_up m c)), (h c).2.2⟩
  · refine (θ_run Cert.UpRefIdeal.defs _ _).mono (fun r h c => ?_) (Cert.UpRefIdeal.Value.run (F := Ideal) m' ρ')
    obtain ⟨e0, e1⟩ := hag c
    refine ⟨(h c).1.trans ?_, (h c).2.1.trans ?_, (h c).2.2⟩
    · rw [e0, e1]
      exact eq_of_at _ _ fun i j => congrArg₂ (fun a b : EReal => a * b) (reference_at _ _ i j) (reference_at _ _ i j)
    · rw [e0, e1]
      exact eq_of_at _ _ fun i j => reference_at _ _ i j

end Cert.UpIdeal

end
-- ==== Proof.DownValue.lean ====
/-
  The call that makes the layer's output: its result is the residual plus the product of the hidden layer with the
  down weights, over all 8192 hidden places.
-/
module

public import proofs.«01_k».proof.Defs
public import proofs.«01_k».proof.Proof.Blocked
public import proofs.«01_k».proof.Proof.Gen.Down.Frame
public import proofs.«01_k».proof.Proof.Gen.DownIdeal.Value
public import proofs.«01_k».proof.Proof.Gen.DownRefIdeal.Run
public import Idealize.ShloMosaic.Lib.VecWindow
public import Idealize.ShloMosaic.Lib.Pipeline.ValueKit.Geometry

@[expose] public section

set_option maxRecDepth 16384

noncomputable section

namespace Cert.DownIdeal.Mm

open Idealize.ShloMosaic Idealize.ShloMosaic.TcCoe Idealize.ShloMosaic.Tactic
open Cert.DownIdeal Cert.DownIdeal.Gen Cert.DownIdeal.Value
open Cert.Mlp
open scoped BigOperators

theorem hz : (![0, 0] : Fin 2 → Nat) = fun _ => 0 := funext fun a => by fin_cases a <;> rfl

/-! ## The body in its three cases -/

/-- The first block of the sum is stored. -/
theorem first (c : Dev nD) (i : grid0.Coords) (a3 h3 a4 h4 a5 h5 a6 h6 a7 h7 hc0 hc1 hc2) (x0 : Vec Ideal S1024x2048 .bf16) (x1 : Vec Ideal S2048x1024 .bf16) (x2 : Vec Ideal S1024x1024 .f32) :
    sout0_A_0 (F := Ideal) c i a3 h3 a4 h4 a5 h5 a6 h6 a7 h7 hc0 hc1 hc2 x0 x1 x2 = k0_pay2 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  sl_unfold_words
  rw [View.canon_unit_zero hz]
  simp only [View.readAt_eq_ld, h3.read_unread, h4.read_unread, View.ld_unit_zero (S := S1024x2048) hz, View.ld_unit_zero (S := S2048x1024) hz]

/-- A middle block is added. -/
theorem middle (c : Dev nD) (i : grid0.Coords) (a3 h3 a4 h4 a5 h5 a6 h6 a7) (h7 : a7.IsWhole) (hc0 hc1 hc2) (x0 : Vec Ideal S1024x2048 .bf16) (x1 : Vec Ideal S2048x1024 .bf16) (x2 s : Vec Ideal S1024x1024 .f32) :
    sout0_B_0 (F := Ideal) c i a3 h3 a4 h4 a5 h5 a6 h6 a7 h7 hc0 hc1 hc2 x0 x1 x2 s = k0_pay3 x0 x1 s := by
  unfold sout0_B_0
  rw [View.read_writes_eq_canon _ _ _ (scover0_B_0 c i a3 h3 a4 h4 a5 h5 a6 h6 a7 h7 hc0 hc1 hc2 x0 x1 x2 s)]
  unfold kernelRun0_B
  dsimp only
  sl_unfold_words
  rw [View.canon_unit_zero hz]
  simp only [View.readAt_eq_ld, h3.read_unread, h4.read_unread, h7.read_unread, View.ld_unit_zero (S := S1024x2048) hz, View.ld_unit_zero (S := S2048x1024) hz, View.ld_unit_zero (S := S1024x1024) hz]

/-- The last block is added, then the residual, and the sum written. -/
theorem last (c : Dev nD) (i : grid0.Coords) (a3 h3 a4 h4 a5 h5 a6 h6 a7) (h7 : a7.IsWhole) (hc0 hc1 hc2) (x0 : Vec Ideal S1024x2048 .bf16) (x1 : Vec Ideal S2048x1024 .bf16) (x2 s : Vec Ideal S1024x1024 .f32) :
    out0_C_3 (F := Ideal) c i a3 h3 a4 h4 a5 h5 a6 h6 a7 h7 hc0 hc1 hc2 x0 x1 x2 s = k0_pay4 x0 x1 s x2 := by
  unfold out0_C_3
  rw [View.read_writes_eq_canon _ _ _ (cover0_C_3 c i a3 h3 a4 h4 a5 h5 a6 h6 a7 h7 hc0 hc1 hc2 x0 x1 x2 s)]
  unfold kernelRun0_C
  dsimp only
  sl_unfold_words
  rw [View.canon_unit_zero hz]
  simp only [View.readAt_eq_ld, h3.read_unread, h4.read_unread, h5.read_unread, h7.read_unread, View.ld_unit_zero (S := S1024x2048) hz, View.ld_unit_zero (S := S2048x1024) hz, View.ld_unit_zero (S := S1024x1024) hz]

theorem pay1_at (x0 : Vec Ideal S1024x2048 .bf16) (x1 : Vec Ideal S2048x1024 .bf16) (p q : Fin 1024) : k0_pay1 x0 x1 (ix2 p q) = ∑ k : Fin 2048, x0 (ix2 p k) * x1 (ix2 k q) := by
  pointwise [k0_pay1]
theorem pay2_at (x0 : Vec Ideal S1024x2048 .bf16) (x1 : Vec Ideal S2048x1024 .bf16) (p q : Fin 1024) : k0_pay2 x0 x1 (ix2 p q) = k0_pay1 x0 x1 (ix2 p q) := by
  pointwise [k0_pay2]
theorem pay3_at (x0 : Vec Ideal S1024x2048 .bf16) (x1 : Vec Ideal S2048x1024 .bf16) (s : Vec Ideal S1024x1024 .f32) (p q : Fin 1024) : k0_pay3 x0 x1 s (ix2 p q) = s (ix2 p q) + k0_pay1 x0 x1 (ix2 p q) := by
  pointwise [k0_pay3]
theorem pay4_at (x0 : Vec Ideal S1024x2048 .bf16) (x1 : Vec Ideal S2048x1024 .bf16) (s x2 : Vec Ideal S1024x1024 .f32) (p q : Fin 1024) : k0_pay4 x0 x1 s x2 (ix2 p q) = (s (ix2 p q) + k0_pay1 x0 x1 (ix2 p q)) + x2 (ix2 p q) := by
  pointwise [k0_pay4]

/-! ## The four points of a tile -/

variable (m : (ℓ : Loc nD τ sig) → Buf (Elt Ideal) ℓ) (c : Dev nD)

theorem lt64 (t : Fin cfg0.N) : t.val < 64 := Nat.lt_of_lt_of_eq t.isLt N_0

/-- The product of the two blocks of point `t`. -/
def part (t : Fin cfg0.N) (p q : Fin 1024) : EReal := k0_pay1 (iblk m c 0 t) (iblk m c 1 t) (ix2 p q)

theorem at_first (t : Fin cfg0.N) (h : t.val % 4 = 0) (p q : Fin 1024) : (outsAt0 m c t.val t.isLt).2 (ix2 p q) = part m c t p q := by
  rw [outsAt0_A m c t h (by omega) (by omega)]
  dsimp only
  rw [first, pay2_at]
  rfl

theorem at_middle (t : Fin cfg0.N) (h : 1 ≤ t.val % 4 ∧ t.val % 4 ≤ 2) (p q : Fin 1024) :
    (outsAt0 m c t.val t.isLt).2 (ix2 p q) = (outsAt0 m c (t.val - 1) (Nat.lt_of_le_of_lt (Nat.sub_le _ _) t.isLt)).2 (ix2 p q) + part m c t p q := by
  rw [outsAt0_B m c t (by omega) h (by omega)]
  dsimp only
  rw [middle, pay3_at]
  rfl

theorem at_last (t : Fin cfg0.N) (h : t.val % 4 = 3) (p q : Fin 1024) :
    (outsAt0 m c t.val t.isLt).1 (ix2 p q) = (outsAt0 m c (t.val - 1) (Nat.lt_of_le_of_lt (Nat.sub_le _ _) t.isLt)).2 (ix2 p q) + part m c t p q + (iblk m c 2 t : Vec Ideal S1024x1024 .f32) (ix2 p q) := by
  rw [outsAt0_C m c t (by omega) (by omega) h]
  dsimp only
  rw [last, pay4_at]
  rfl

/-- Point `b` of tile `r`. -/
def pt (r b : ℕ) (hr : r < 16) (hb : b < 4) : Fin cfg0.N := ⟨4 * r + b, Nat.lt_of_lt_of_eq (by omega) N_0.symm⟩

theorem tile (r : ℕ) (hr : r < 16) (p q : Fin 1024) :
    (outsAt0 m c (pt r 3 hr (by decide)).val (pt r 3 hr (by decide)).isLt).1 (ix2 p q)
      = ((part m c (pt r 0 hr (by decide)) p q + part m c (pt r 1 hr (by decide)) p q) + part m c (pt r 2 hr (by decide)) p q) + part m c (pt r 3 hr (by decide)) p q
        + (iblk m c 2 (pt r 3 hr (by decide)) : Vec Ideal S1024x1024 .f32) (ix2 p q) := by
  rw [at_last m c (pt r 3 hr _) (by show (4 * r + 3) % 4 = 3; omega),
    show (outsAt0 m c ((pt r 3 hr (by decide)).val - 1) _).2 (ix2 p q) = _ from at_middle m c (pt r 2 hr (by decide)) (by show 1 ≤ (4 * r + 2) % 4 ∧ (4 * r + 2) % 4 ≤ 2; omega) p q,
    show (outsAt0 m c ((pt r 2 hr (by decide)).val - 1) _).2 (ix2 p q) = _ from at_middle m c (pt r 1 hr (by decide)) (by show 1 ≤ (4 * r + 1) % 4 ∧ (4 * r + 1) % 4 ≤ 2; omega) p q,
    show (outsAt0 m c ((pt r 1 hr (by decide)).val - 1) _).2 (ix2 p q) = _ from at_first m c (pt r 0 hr (by decide)) (by show (4 * r + 0) % 4 = 0; omega) p q]

/-! ## The blocks at an index -/

abbrev A := FVec Ideal S8192x8192 .bf16
abbrev B := FVec Ideal S8192x2048 .bf16
abbrev O := FVec Ideal S8192x2048 .f32

theorem idx (t : Fin cfg0.N) : win0_0.index t = ![t.val / 8, t.val % 4] ∧ win0_1.index t = ![t.val % 4, t.val / 4 % 2] ∧ win0_2.index t = ![t.val / 8, t.val / 4 % 2] :=
  (by decide +kernel : ∀ t : Fin grid0.N, win0_0.index t = ![t.val / 8, t.val % 4] ∧ win0_1.index t = ![t.val % 4, t.val / 4 % 2] ∧ win0_2.index t = ![t.val / 8, t.val / 4 % 2]) t

theorem emb0 (t : Fin cfg0.N) (p : Fin 1024) (k : Fin 2048) :
    (((cfg0.win 0).blk t).view.emb (ix2 p k) : S8192x8192.Idx) = ix2 ⟨1024 * (t.val / 8) + p.val, by have := lt64 t; omega⟩ (at4 (t.val % 4) (Nat.mod_lt _ (by decide)) k) := by
  have hh := lt64 t
  blk_ext [at4, idx t]
theorem emb1 (t : Fin cfg0.N) (k : Fin 2048) (q : Fin 1024) :
    (((cfg0.win 1).blk t).view.emb (ix2 k q) : S8192x2048.Idx) = ix2 (at4 (t.val % 4) (Nat.mod_lt _ (by decide)) k) ⟨1024 * (t.val / 4 % 2) + q.val, by omega⟩ := by
  have hh := lt64 t
  blk_ext [at4, idx t]

theorem emb2 (t : Fin cfg0.N) (p q : Fin 1024) :
    (((cfg0.win 2).blk t).view.emb (ix2 p q) : S8192x2048.Idx) = ix2 ⟨1024 * (t.val / 8) + p.val, by have := lt64 t; omega⟩ ⟨1024 * (t.val / 4 % 2) + q.val, by omega⟩ := by
  have hh := lt64 t
  blk_ext [idx t]

theorem of0 (t : Fin cfg0.N) (x : S1024x2048.Idx) (L : A) : (((cfg0.win 0).blk t).view.read (Elt Ideal) L : Vec Ideal S1024x2048 .bf16) x = L (((cfg0.win 0).blk t).view.emb x) := rfl
theorem of1 (t : Fin cfg0.N) (x : S2048x1024.Idx) (L : B) : (((cfg0.win 1).blk t).view.read (Elt Ideal) L : Vec Ideal S2048x1024 .bf16) x = L (((cfg0.win 1).blk t).view.emb x) := rfl

theorem of2 (t : Fin cfg0.N) (x : S1024x1024.Idx) (L : O) : (((cfg0.win 2).blk t).view.read (Elt Ideal) L : Vec Ideal S1024x1024 .f32) x = L (((cfg0.win 2).blk t).view.emb x) := rfl

theorem extra_at (t : Fin cfg0.N) (p q : Fin 1024) (x : O) (hx : V m c (Pipeline.arrRef spec0 2) = x) :
    (iblk m c 2 t : Vec Ideal S1024x1024 .f32) (ix2 p q) = x (ix2 ⟨1024 * (t.val / 8) + p.val, by have := lt64 t; omega⟩ ⟨1024 * (t.val / 4 % 2) + q.val, by omega⟩) := by
  unfold iblk
  rw [hx, ← emb2]
  exact of2 t _ x

theorem part_at (t : Fin cfg0.N) (p q : Fin 1024) (a : A) (b : B) (ha : V m c (Pipeline.arrRef spec0 0) = a) (hb : V m c (Pipeline.arrRef spec0 1) = b) :
    part m c t p q = ∑ k : Fin 2048, a (ix2 ⟨1024 * (t.val / 8) + p.val, by have := lt64 t; omega⟩ (at4 (t.val % 4) (Nat.mod_lt _ (by decide)) k))
      * b (ix2 (at4 (t.val % 4) (Nat.mod_lt _ (by decide)) k) ⟨1024 * (t.val / 4 % 2) + q.val, by omega⟩) := by
  unfold part
  rw [pay1_at]
  refine Finset.sum_congr rfl fun k _ => ?_
  unfold iblk
  rw [ha, hb, ← emb0, ← emb1]
  exact congrArg₂ _ (of0 t _ a) (of1 t _ b)

/-! ## The result -/

/-- The product of the two factors plus the residual. -/
def prod (a : A) (b : B) (x : O) : O := fun i => (∑ k : Fin 8192, a (ix2 (i 0) k) * b (ix2 k (i 1))) + x i

theorem result (a : A) (b : B) (x : O) (ha : V m c (Pipeline.arrRef spec0 0) = a) (hb : V m c (Pipeline.arrRef spec0 1) = b) (hx : V m c (Pipeline.arrRef spec0 2) = x) : G3 m c = prod a b x := by
  funext i
  have h0 : (i 0).val < 8192 := (i 0).isLt
  have h1 : (i 1).val < 2048 := (i 1).isLt
  have hr : 2 * ((i 0).val / 1024 - 0) + 1 * ((i 1).val / 1024 - 0) < 16 := by omega
  have hp : pt3Of i < cfg0.N := Nat.lt_of_lt_of_eq (by show 4 * (2 * ((i 0).val / 1024 - 0) + 1 * ((i 1).val / 1024 - 0)) + 3 < 64; omega) N_0.symm
  have hl : loc3Of i = ix2 ⟨(i 0).val % 1024, Nat.mod_lt _ (by decide)⟩ ⟨(i 1).val % 1024, Nat.mod_lt _ (by decide)⟩ := funext fun a => match a with
    | ⟨0, _⟩ => rfl
    | ⟨1, _⟩ => rfl
  have e : G3 m c i = (outsAt0 m c (pt3Of i) hp).1 (loc3Of i) := by
    unfold G3; rw [dif_pos hp, outsAt0_sweep]
  rw [e, hl]
  refine (tile m c _ hr _ _).trans ?_
  refine congrArg₂ (fun u v : EReal => u + v) ?_ ?_
  · rw [← sum_blocks]
    have hpart : ∀ (b' : ℕ) (hb' : b' < 4), part m c (pt _ b' hr hb') ⟨(i 0).val % 1024, Nat.mod_lt _ (by decide)⟩ ⟨(i 1).val % 1024, Nat.mod_lt _ (by decide)⟩
        = ∑ k : Fin 2048, a (ix2 (i 0) (at4 b' hb' k)) * b (ix2 (at4 b' hb' k) (i 1)) := fun b' hb' => by
      rw [part_at m c _ _ _ a b ha hb]
      refine Finset.sum_congr rfl fun k _ => congrArg₂ _ (congrArg a ?_) (congrArg b ?_)
      · refine congrArg₂ ix2 (Fin.ext ?_) (Fin.ext ?_)
        · simp only [pt]; omega
        · simp only [at4, pt]; omega
      · refine congrArg₂ ix2 (Fin.ext ?_) (Fin.ext ?_)
        · simp only [at4, pt]; omega
        · simp only [pt]; omega
    rw [hpart 0, hpart 1, hpart 2, hpart 3]
  · rw [extra_at m c _ _ _ x hx]
    refine congrArg x (Eq.trans (congrArg₂ ix2 (Fin.ext ?_) (Fin.ext ?_)) (show ix2 (i 0) (i 1) = i from funext fun a => match a with
      | ⟨0, _⟩ => rfl
      | ⟨1, _⟩ => rfl))
    · simp only [pt]; omega
    · simp only [pt]; omega

end Cert.DownIdeal.Mm

namespace Cert.DownIdeal

open Idealize.ShloMosaic Idealize.ShloMosaic.TcCoe Idealize.ShloMosaic.Tactic Idealize.SL.Sem
open Cert.Mlp

/-- The down weights, as the call takes them. -/
def hDown (w : FVec Ideal S8192x2048 .f32) : Mm.B := truncf .bf16 w Facts₀.bitsLt_bf16_f32

theorem V_down (m : (ℓ : Loc nD τ sig) → Buf (Elt Ideal) ℓ) (c : Dev nD) : Gen.V m c (Pipeline.arrRef spec0 1) = hDown (m ((c.tc : Thread nD τ).loc main_arg1)) := by
  show Gen.V m c main_v0 = _
  unfold Gen.V; after_results_simp; rfl

/-- The reference's result, entry by entry: the same two terms in the other order. -/
theorem reference (a : FVec Ideal DownRefIdeal.S8192x8192 .bf16) (w x : FVec Ideal DownRefIdeal.S8192x2048 .f32) :
    addf x (Host.dotGeneral DownRefIdeal.dot_S8192x8192_S8192x2048_S8192x2048_1_0_0_1_n_n none (extf .f32 a DownRefIdeal.Facts₀.bitsLt_bf16_f32) w) = Mm.prod a (hDown w) x :=
  eq_of_at _ _ fun i j => by
    have r : Mm.prod a (hDown w) x (ix2 i j) = x (ix2 i j) + ∑ k : Fin 8192, a (ix2 i k) * w (ix2 k j) := add_comm _ _
    rw [r]
    pointwise

/-- The call's result is the reference's. -/
theorem algebraic : Cert.algebraic_DownIdeal_DownRefIdeal := by
  intro m ρ m' ρ' _ hag
  refine ⟨fun c => Mm.prod (m ((c.tc : Thread nD τ).loc main_arg0)) (hDown (m ((c.tc : Thread nD τ).loc main_arg1))) (m ((c.tc : Thread nD τ).loc main_arg2)), ?_, ?_⟩
  · refine (θ_run Cert.DownIdeal.defs _ _).mono (fun r h c => ?_) (Cert.DownIdeal.Value.run (F := Ideal) m ρ)
    exact ⟨(h c).1.trans (Mm.result m c _ _ _ (Gen.V_main_arg0 m c) (V_down m c) (Gen.V_main_arg2 m c)), (h c).2⟩
  · refine (θ_run Cert.DownRefIdeal.defs _ _).mono (fun r h c => ?_) (Cert.DownRefIdeal.Value.run (F := Ideal) m' ρ')
    obtain ⟨e0, e1, e2⟩ := hag c
    refine ⟨(h c).1.trans ?_, (h c).2⟩
    rw [e0, e1, e2]
    exact reference _ _ _

end Cert.DownIdeal

end
-- ==== Proof.Softmax.lean ====
/-
  Softmax attention's forward row: what one pass over all keys gives, from the scores less the row's greatest, when the
  queries and keys are finite and the values are anything; and the two result arrays.
-/
module

public import proofs.«01_k».proof.Proof.Attn

@[expose] public section

noncomputable section

namespace Cert.Attn

open scoped BigOperators
open Idealize.ShloMosaic

/-- A finite number that is not negative goes into a sum of any numbers. -/
theorem mul_sum_coe {ι : Type*} (s : Finset ι) {c : ℝ} (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- Dividing a weighted sum is dividing its weights, whatever the terms. -/
theorem div_sum {K : ℕ} (e : Fin K → ℝ) (v : Fin K → EReal) {L : ℝ} (hL : 0 < L) :
    Ideal.div (∑ j, (e j : EReal) * v j) (L : EReal) = ∑ j, ((e j / L : ℝ) : EReal) * v j := by
  rw [Ideal.div_coe hL.ne', mul_comm, mul_sum_coe _ (one_div_nonneg.mpr hL.le)]
  refine Finset.sum_congr rfl fun j _ => ?_
  rw [← mul_assoc, ← EReal.coe_mul, one_div_mul_eq_div]

variable {N K D : ℕ} [NeZero K] (q : Fin N → Fin D → ℝ) (k : Fin K → Fin D → ℝ) (i : Fin N)

/-- The row's output: the exponentials against the values, over the exponentials' sum. -/
theorem row_out (M : ℝ) (v : Fin K → EReal) :
    Ideal.div (∑ j, (Real.exp (sc q k i j - M) : EReal) * v j) ((∑ j, Real.exp (sc q k i j - M) : ℝ) : EReal) = ∑ j, (pr q k i j : EReal) * v j := by
  rw [div_sum _ _ (dn_shift_pos q k i M)]
  exact Finset.sum_congr rfl fun j _ => by rw [pr_shift]

/-- The row's log of the sum: the greatest score plus the log of the shifted sum. -/
theorem row_lse (M : ℝ) : (M : EReal) + Ideal.log ((∑ j, Real.exp (sc q k i j - M) : ℝ) : EReal) = (Real.log (dn q k i) : EReal) := by
  rw [log_coe_pos (dn_shift_pos q k i M), ← EReal.coe_add, dn_shift, Real.log_mul (dn_pos q k i).ne' (Real.exp_pos _).ne', Real.log_exp]
  exact congrArg _ (by ring)

/-- A block's rows are the array's rows. -/
theorem dn_row {P : ℕ} (f : Fin P → Fin N) (p : Fin P) : dn (fun p => q (f p)) k p = dn q k (f p) := rfl

/-- A row's greatest entry, by columns. -/
theorem rowmax_at {n m : ℕ} (a : FVec Ideal ⟨2, ![n, m]⟩ .f32) (h : (⟨2, ![n, m]⟩ : Shape).Reduces [1] ⟨1, ![n]⟩) (hφ hacc) (p : Fin n) :
    multiReduction .maximumf [1] ⟨1, ![n]⟩ a 0xFF800000#32 h hφ hacc (ix1 p) = Finset.univ.fold max (Ideal.ofBits .f32 0xFF800000#32) fun j : Fin m => a (ix2 p j) := by
  refine (Ideal.multiReduction_maximumf_single a _ h hφ hacc (ix1 p)).trans ?_
  refine congrArg (fun f => Finset.fold max (Ideal.ofBits .f32 0xFF800000#32) f (Finset.univ : Finset (Fin m))) (funext fun j => congrArg a ?_)
  funext c
  apply Fin.ext
  fin_cases c <;> rfl

/-! ## The two arrays -/

/-- The key head that query head `h` reads. -/
def kh (h : Fin 8) : Fin 2 := ⟨h.val / 4, by omega⟩

/-- The output array: 128 columns to a head. -/
def outArr (P : Fin 8 → Fin 8192 → Fin 8192 → ℝ) (v : Fin 8 → Fin 8192 → Fin 128 → EReal) : (⟨2, ![8192, 1024]⟩ : Shape).Idx → EReal := fun i =>
  ∑ j, (P ⟨(i 1).val / 128, Nat.div_lt_of_lt_mul (i 1).isLt⟩ (i 0) j : EReal) * v ⟨(i 1).val / 128, Nat.div_lt_of_lt_mul (i 1).isLt⟩ j ⟨(i 1).val % 128, Nat.mod_lt _ (by decide)⟩

theorem outArr_at (P : Fin 8 → Fin 8192 → Fin 8192 → ℝ) (v : Fin 8 → Fin 8192 → Fin 128 → EReal) (h : Fin 8) (i : Fin 8192) (d : Fin 128) (x : Fin 1024) (hx : x.val = 128 * h.val + d.val) :
    outArr P v (ix2 i x) = ∑ j, (P h i j : EReal) * v h j d := by
  have e : ∀ (h' : Fin 8) (d' : Fin 128), h' = h → d' = d → ∑ j, (P h' i j : EReal) * v h' j d' = ∑ j, (P h i j : EReal) * v h j d := by
    rintro _ _ rfl rfl; rfl
  exact e _ _ (Fin.ext (by show x.val / 128 = h.val; omega)) (Fin.ext (by show x.val % 128 = d.val; omega))

/-- The saved logs. -/
def lseArr (L : Fin 8 → Fin 8192 → ℝ) : (⟨3, ![8, 8192, 1]⟩ : Shape).Idx → EReal := fun i => (L (i 0) (i 1) : EReal)

/-- Two blocks of one column that agree at all rows are one. -/
theorem eq_of_col {n : ℕ} {α : Type} (f g : (⟨3, ![1, n, 1]⟩ : Shape).Idx → α) (h : ∀ p : Fin n, f (ix3 0 p 0) = g (ix3 0 p 0)) : f = g :=
  funext fun x => by
    have e : x = ix3 0 (x 1) 0 := funext fun a => match a with
      | ⟨0, _⟩ => Subsingleton.elim (α := Fin 1) _ _
      | ⟨1, _⟩ => rfl
      | ⟨2, _⟩ => Subsingleton.elim (α := Fin 1) _ _
    rw [e]; exact h _

/-- An array of saved logs known at its rows. -/
theorem eq_lseArr (f : (⟨3, ![8, 8192, 1]⟩ : Shape).Idx → EReal) (L : Fin 8 → Fin 8192 → ℝ) (h : ∀ b i, f (ix3 b i 0) = (L b i : EReal)) : f = lseArr L :=
  funext fun x => by
    have e : x = ix3 (x 0) (x 1) 0 := funext fun a => match a with
      | ⟨0, _⟩ => rfl
      | ⟨1, _⟩ => rfl
      | ⟨2, _⟩ => Subsingleton.elim (α := Fin 1) _ _
    exact (congrArg f e).trans (h _ _)

end Cert.Attn

end
-- ==== Proof.FwdRef.lean ====
/-
  The reference of the grouped attention's forward call read at an index: on finite queries and keys, its results are
  the softmax's weighted sums of the values and the logs of the softmax's denominators.
-/
module

public import proofs.«01_k».proof.Proof.Blocked
public import proofs.«01_k».proof.Proof.Softmax
public import proofs.«01_k».proof.Proof.Gen.FwdRefIdeal.Read

@[expose] public section

set_option maxRecDepth 16384

noncomputable section

namespace Cert.FwdRefIdeal.Row

open Idealize.ShloMosaic Idealize.ShloMosaic.TcCoe
open Cert.FwdRefIdeal Cert.FwdRefIdeal.Gen Cert.FwdRefIdeal.Read
open Cert.Attn
open scoped BigOperators

abbrev Q := (⟨S8x8192x128, .bf16⟩ : BufTy).Contents (Elt Ideal)
abbrev K := (⟨S2x8192x128, .bf16⟩ : BufTy).Contents (Elt Ideal)
abbrev V := (⟨S2x8192x128, .bf16⟩ : BufTy).Contents (Elt Ideal)

/-- An exponential is of a score less the row's greatest. -/
theorem e_exp (x0 : Q) (x1 : K) (h : Fin 8) (i j : Fin 8192) : val_main_v14 (F := Ideal) x0 x1 (ix3 h i j) = Ideal.exp (val_main_v7 (F := Ideal) x0 x1 (ix3 h i j) - val_main_v10 (F := Ideal) x0 x1 (ix2 h i)) := by
  unfold val_main_v14 val_main_v13 val_main_v12 val_main_v11
  generalize val_main_v7 (F := Ideal) x0 x1 = a
  generalize val_main_v10 (F := Ideal) x0 x1 = b
  pointwise

/-- The row's greatest score, after its maximum with minus infinity. -/
theorem e_max (x0 : Q) (x1 : K) (h : Fin 8) (i : Fin 8192) : val_main_v10 (F := Ideal) x0 x1 (ix2 h i) = max (Ideal.ofBits .f32 0xFF800000#32) (val_main_v8 (F := Ideal) x0 x1 (ix2 h i)) := by
  rw [val_main_v10_apply, val_main_v9_apply, val_main_cst_0_apply]
  generalize val_main_v8 (F := Ideal) x0 x1 (ix2 h i) = b
  rfl

variable {x0 : Q} {x1 : K} (Hq : ∀ h i d, x0 (ix3 h i d) = (qR x0 h i d : EReal)) (Hk : ∀ (h : Fin 8) i d, x1 (ix3 (kh h) i d) = (kR x1 h i d : EReal))
include Hq Hk

theorem s_at (h : Fin 8) (i j : Fin 8192) : val_main_v7 (F := Ideal) x0 x1 (ix3 h i j) = (sc (qR x0 h) (kR x1 h) i j : EReal) := by
  have e : val_main_v7 (F := Ideal) x0 x1 (ix3 h i j) = ∑ d : Fin 128, x0 (ix3 h i d) * x1 (ix3 (kh h) j d) := by
    pointwise [val_main_v7, val_main_v6, val_main_v2, val_main_v1, val_main_v0, kh]
  rw [e]; exact sum_mul_coe _ _ _ _ (Hq h i) (Hk h j)

theorem m_at (h : Fin 8) (i : Fin 8192) : ∃ M : ℝ, val_main_v8 (F := Ideal) x0 x1 (ix2 h i) = (M : EReal) := by
  have e : val_main_v8 (F := Ideal) x0 x1 (ix2 h i) = Finset.univ.fold max (Ideal.ofBits .f32 0xFF800000#32) (fun j : Fin 8192 => val_main_v7 (F := Ideal) x0 x1 (ix3 h i j)) := by
    unfold val_main_v8
    generalize val_main_v7 (F := Ideal) x0 x1 = a
    pointwise [val_main_cst]
  rw [e, ofBits_neg_inf]
  exact fold_max_coe _ fun j => ⟨_, s_at Hq Hk h i j⟩

/-- The probabilities. -/
theorem p_at (h : Fin 8) (i j : Fin 8192) : val_main_v18 (F := Ideal) x0 x1 (ix3 h i j) = (pr (qR x0 h) (kR x1 h) i j : EReal) := by
  obtain ⟨M, hM⟩ := m_at Hq Hk h i
  have ee : ∀ j, val_main_v14 (F := Ideal) x0 x1 (ix3 h i j) = (Real.exp (sc (qR x0 h) (kR x1 h) i j - M) : EReal) := fun j => by
    rw [e_exp, e_max, s_at Hq Hk, hM, ofBits_neg_inf, max_eq_right bot_le, ← EReal.coe_sub, Ideal.exp_coe]
  have es : val_main_v15 (F := Ideal) x0 x1 (ix2 h i) = ((∑ j, Real.exp (sc (qR x0 h) (kR x1 h) i j - M) : ℝ) : EReal) := by
    rw [val_main_v15_apply, val_main_cst_1_apply]
    have e : ∀ j : Fin 8192, idx_main_v15 (ix2 h i) j = ix3 h i j := fun j => funext fun a => match a with | ⟨0, _⟩ => rfl | ⟨1, _⟩ => rfl | ⟨2, _⟩ => rfl
    rw [show FloatOps.ofBits (F := Ideal) .f32 0x00000000#32 = (0 : EReal) from Ideal.ofBits_zero_f32, zero_add]
    exact sum_coe _ _ fun j => by rw [e, ee]
  have e : val_main_v18 (F := Ideal) x0 x1 (ix3 h i j) = Ideal.div (val_main_v14 (F := Ideal) x0 x1 (ix3 h i j)) (val_main_v15 (F := Ideal) x0 x1 (ix2 h i)) := by
    unfold val_main_v18 val_main_v17 val_main_v16
    generalize val_main_v14 (F := Ideal) x0 x1 = a
    generalize val_main_v15 (F := Ideal) x0 x1 = b
    pointwise
  rw [e, ee, es, div_coe_coe (dn_shift_pos _ _ i M).ne', pr_shift]

/-- The output, whatever the values. -/
theorem o_eq (x2 : V) : val_main_v22 (F := Ideal) x0 x1 x2 = outArr (fun h => pr (qR x0 h) (kR x1 h)) fun h j d => x2 (ix3 (kh h) j d) := by
  have e1 : ∀ (i : Fin 8192) (y : Fin 1024), val_main_v22 (F := Ideal) x0 x1 x2 (ix2 i y) = val_main_v19 (F := Ideal) x0 x1 x2 (ix3 ⟨y.val / 128, by omega⟩ i ⟨y.val % 128, by omega⟩) := fun i y => by
    unfold val_main_v22 val_main_v21 val_main_v20
    generalize val_main_v19 (F := Ideal) x0 x1 x2 = a
    pointwise
  have e2 : ∀ h i d, val_main_v19 (F := Ideal) x0 x1 x2 (ix3 h i d) = ∑ j : Fin 8192, val_main_v18 (F := Ideal) x0 x1 (ix3 h i j) * x2 (ix3 (kh h) j d) := fun h i d => by
    unfold val_main_v19
    generalize val_main_v18 (F := Ideal) x0 x1 = a
    pointwise [val_main_v5, val_main_v4, val_main_v3, kh]
  refine Mlp.eq_of_at (n := 8192) (k := 1024) (α := EReal) _ _ fun i y => (e1 i y).trans ((e2 _ i _).trans ?_)
  exact Finset.sum_congr rfl fun j _ => congrArg (· * _) (p_at Hq Hk _ _ j)

/-- The saved logs. -/
theorem l_eq : val_main_v27 (F := Ideal) x0 x1 = lseArr fun h i => Real.log (dn (qR x0 h) (kR x1 h) i) := by
  refine eq_lseArr _ _ fun h i => ?_
  have e1 : val_main_v27 (F := Ideal) x0 x1 (ix3 h i 0) = Ideal.log (val_main_v25 (F := Ideal) x0 x1 (ix2 h i)) := by
    unfold val_main_v27 val_main_v26
    generalize val_main_v25 (F := Ideal) x0 x1 = a
    pointwise
  have es : val_main_v25 (F := Ideal) x0 x1 (ix2 h i) = (dn (qR x0 h) (kR x1 h) i : EReal) := by
    rw [val_main_v25_apply, val_main_cst_2_apply]
    have e : ∀ j : Fin 8192, idx_main_v25 (ix2 h i) j = ix3 h i j := fun j => funext fun a => match a with | ⟨0, _⟩ => rfl | ⟨1, _⟩ => rfl | ⟨2, _⟩ => rfl
    have e2 : ∀ j : Fin 8192, val_main_v24 (F := Ideal) x0 x1 (ix3 h i j) = Ideal.exp (val_main_v7 (F := Ideal) x0 x1 (ix3 h i j)) := fun j => rfl
    rw [show FloatOps.ofBits (F := Ideal) .f32 0x00000000#32 = (0 : EReal) from Ideal.ofBits_zero_f32, zero_add]
    exact sum_coe _ _ fun j => by rw [e, e2, s_at Hq Hk, Ideal.exp_coe]
  rw [e1, es, log_coe_pos (dn_pos _ _ i)]

end Cert.FwdRefIdeal.Row

end
-- ==== Proof.FwdValue.lean ====
/-
  The grouped attention's forward call: on finite queries and keys, and any values, its two results are the softmax's
  weighted sums of the values and the logs of the softmax's denominators, as the reference's are.
-/
module

public import proofs.«01_k».proof.Defs
public import proofs.«01_k».proof.Proof.Blocked
public import proofs.«01_k».proof.Proof.Pre
public import proofs.«01_k».proof.Proof.FwdRef
public import proofs.«01_k».proof.Proof.Gen.Pre_finite_fwd
public import proofs.«01_k».proof.Proof.Gen.Fwd.Frame
public import proofs.«01_k».proof.Proof.Gen.FwdIdeal.Value
public import proofs.«01_k».proof.Proof.Gen.FwdRefIdeal.Run
public import Idealize.ShloMosaic.Lib.VecWindow
public import Idealize.ShloMosaic.Lib.Pipeline.ValueKit.Geometry

@[expose] public section

set_option maxRecDepth 16384

noncomputable section

namespace Cert.FwdIdeal

open Idealize.ShloMosaic Idealize.ShloMosaic.TcCoe Idealize.ShloMosaic.Tactic Idealize.SL.Sem
open Cert.FwdIdeal.Gen Cert.FwdIdeal.Value
open Cert.Attn
open scoped BigOperators

theorem hz : (![0, 0] : Fin 2 → Nat) = fun _ => 0 := funext fun a => by fin_cases a <;> rfl
theorem hz3 : (![0, 0, 0] : Fin 3 → Nat) = fun _ => 0 := funext fun a => by fin_cases a <;> rfl

/-! ## What a grid point writes -/

theorem out_eq (c : Dev nD) (i : grid0.Coords) (a3 h3 a4 h4 a5 h5 a6 h6 a7 h7 a8) (h8 : a8.IsWhole) (a9) (h9 : a9.IsWhole) (a10) (h10 : a10.IsWhole) (hc0 hc1) (x0 : Vec Ideal S1x1024x128 .bf16) (x1 : Vec Ideal S1x8192x128 .bf16) (x2 : Vec Ideal S1x8192x128 .bf16) :
    out0_A_3 (F := Ideal) c i a3 h3 a4 h4 a5 h5 a6 h6 a7 h7 a8 h8 a9 h9 a10 h10 hc0 hc1 x0 x1 x2
      = k0_pay3 (k0_pay1 (k0_pay13 x0 x1 (k0_pay5 (F := Ideal)) (k0_pay5 (F := Ideal)) (k0_pay7 (F := Ideal))) (k0_pay14 x0 x1 (k0_pay5 (F := Ideal))) x2) (k0_pay12 x0 x1 (k0_pay5 (F := Ideal)) (k0_pay5 (F := Ideal)) (k0_pay6 (F := Ideal))) := by
  unfold out0_A_3
  rw [View.read_writes_eq_canon _ _ _ (cover0_A_3 c i a3 h3 a4 h4 a5 h5 a6 h6 a7 h7 a8 h8 a9 h9 a10 h10 hc0 hc1 x0 x1 x2)]
  unfold kernelRun0_A
  dsimp only
  sl_unfold_words
  rw [View.canon_unit_zero hz]
  simp only [View.readAt_eq_ld, h3.read_unread, h4.read_unread, h5.read_unread, View.ld_unit_zero (S := S1x1024x128) hz3, View.ld_unit_zero (S := S1x8192x128) hz3, View.ld_unit_zero (S := S1x8192x128) hz3, View.readCov_cons_toLoadRect]

theorem lse_eq (c : Dev nD) (i : grid0.Coords) (a3 h3 a4 h4 a5 h5 a6 h6 a7 h7 a8) (h8 : a8.IsWhole) (a9) (h9 : a9.IsWhole) (a10) (h10 : a10.IsWhole) (hc0 hc1) (x0 : Vec Ideal S1x1024x128 .bf16) (x1 : Vec Ideal S1x8192x128 .bf16) (x2 : Vec Ideal S1x8192x128 .bf16) :
    out0_A_4 (F := Ideal) c i a3 h3 a4 h4 a5 h5 a6 h6 a7 h7 a8 h8 a9 h9 a10 h10 hc0 hc1 x0 x1 x2
      = k0_pay4 (k0_pay2 (k0_pay9 x0 x1 (k0_pay5 (F := Ideal)))) (k0_pay12 x0 x1 (k0_pay5 (F := Ideal)) (k0_pay5 (F := Ideal)) (k0_pay6 (F := Ideal))) := by
  unfold out0_A_4
  rw [View.read_writes_eq_canon _ _ _ (cover0_A_4 c i a3 h3 a4 h4 a5 h5 a6 h6 a7 h7 a8 h8 a9 h9 a10 h10 hc0 hc1 x0 x1 x2)]
  unfold kernelRun0_A
  dsimp only
  sl_unfold_words
  rw [View.canon_unit_zero hz3]
  simp only [View.readAt_eq_ld, h3.read_unread, h4.read_unread, h5.read_unread, View.ld_unit_zero (S := S1x1024x128) hz3, View.ld_unit_zero (S := S1x8192x128) hz3, View.ld_unit_zero (S := S1x8192x128) hz3, View.readCov_cons_toLoadRect]

/-! ## Its words, entry by entry -/

section Words

variable (x0 : Vec Ideal S1x1024x128 .bf16) (x1 : Vec Ideal S1x8192x128 .bf16) (x2 : Vec Ideal S1x8192x128 .bf16) (s : Vec Ideal S1024x1 .f32)

theorem pay8_at (p : Fin 1024) (j : Fin 8192) : k0_pay8 x0 x1 (ix2 p j) = ∑ d : Fin 128, x0 (ix3 0 p d) * x1 (ix3 0 j d) := by
  pointwise [k0_pay8]

theorem max_col (s : Vec Ideal S1024x1 .f32) (r : Vec Ideal S1024 .f32) (p : Fin 1024) : (maximumf (F := Ideal) (φ := .f32) s (shapeCast S1024x1 r shapeCasts_S1024_S1024x1)) (ix2 p 0) = max (s (ix2 p 0)) (r (ix1 p)) := by
  pointwise

theorem pay9_at (p : Fin 1024) : k0_pay9 x0 x1 s (ix2 p 0) = max (s (ix2 p 0)) (Finset.univ.fold max (Ideal.ofBits .f32 0xFF800000#32) fun j : Fin 8192 => k0_pay8 x0 x1 (ix2 p j)) :=
  (max_col s _ p).trans (congrArg (max (s (ix2 p 0))) (rowmax_at (k0_pay8 x0 x1) reduces_S1024x8192_S1024 (.inl rfl) rfl p))

theorem pay11_at (p : Fin 1024) (j : Fin 8192) : k0_pay11 x0 x1 s (ix2 p j) = Ideal.exp (k0_pay8 x0 x1 (ix2 p j) - k0_pay9 x0 x1 s (ix2 p 0)) := by
  unfold k0_pay11
  generalize k0_pay8 x0 x1 = a
  generalize k0_pay9 x0 x1 s = b
  pointwise

/-- The sum starts from zero, so it is the exponentials' sum. -/
theorem pay12_at (p : Fin 1024) : k0_pay12 x0 x1 s s (k0_pay6 (F := Ideal)) (ix2 p 0) = ∑ j : Fin 8192, k0_pay11 x0 x1 s (ix2 p j) := by
  have e : ∀ y, k0_pay6 (F := Ideal) y = 0 := fun y => Ideal.ofBits_zero_f32
  have e' : k0_pay12 x0 x1 s s (k0_pay6 (F := Ideal)) (ix2 p 0) = k0_pay10 x0 x1 s s (ix2 p 0) * k0_pay6 (F := Ideal) (ix2 p 0) + ∑ j : Fin 8192, k0_pay11 x0 x1 s (ix2 p j) := by
    unfold k0_pay12
    generalize k0_pay10 x0 x1 s s = a
    generalize k0_pay11 x0 x1 s = b
    generalize k0_pay6 (F := Ideal) = z
    pointwise
  rw [e', e, mul_zero, zero_add]

/-- So does the weighted sum of the values. -/
theorem pay1_at (p : Fin 1024) (d : Fin 128) : k0_pay1 (k0_pay13 x0 x1 s s (k0_pay7 (F := Ideal))) (k0_pay14 x0 x1 s) x2 (ix2 p d) = ∑ j : Fin 8192, k0_pay11 x0 x1 s (ix2 p j) * x2 (ix3 0 j d) := by
  have e : ∀ y, k0_pay7 (F := Ideal) y = 0 := fun y => Ideal.ofBits_zero_f32
  have e' : k0_pay1 (k0_pay13 x0 x1 s s (k0_pay7 (F := Ideal))) (k0_pay14 x0 x1 s) x2 (ix2 p d) = k0_pay10 x0 x1 s s (ix2 p 0) * k0_pay7 (F := Ideal) (ix2 p d) + ∑ j : Fin 8192, k0_pay11 x0 x1 s (ix2 p j) * x2 (ix3 0 j d) := by
    unfold k0_pay1 k0_pay13 k0_pay14
    generalize k0_pay10 x0 x1 s s = a
    generalize k0_pay11 x0 x1 s = b
    generalize k0_pay7 (F := Ideal) = z
    pointwise
  rw [e', e, mul_zero, zero_add]

theorem pay3_at (a : Vec Ideal S1024x128 .f32) (l : Vec Ideal S1024x1 .f32) (p : Fin 1024) (d : Fin 128) : k0_pay3 a l (ix2 p d) = Ideal.div (a (ix2 p d)) (l (ix2 p 0)) := by
  pointwise [k0_pay3]
theorem pay2_at (a : Vec Ideal S1024x1 .f32) (p : Fin 1024) : k0_pay2 (F := Ideal) a (ix2 p 0) = a (ix2 p 0) := by
  pointwise [k0_pay2]
theorem pay4_at (a l : Vec Ideal S1024x1 .f32) (p : Fin 1024) : k0_pay4 a l (ix3 0 p 0) = a (ix2 p 0) + Ideal.log (l (ix2 p 0)) := by
  pointwise [k0_pay4]

/-! ## One block, on finite queries and keys -/

variable {x0 x1} (q : Fin 1024 → Fin 128 → ℝ) (k : Fin 8192 → Fin 128 → ℝ) (hq : ∀ p d, x0 (ix3 0 p d) = (q p d : EReal)) (hk : ∀ j d, x1 (ix3 0 j d) = (k j d : EReal))
include hq hk

theorem sc_at (p : Fin 1024) (j : Fin 8192) : k0_pay8 x0 x1 (ix2 p j) = (sc q k p j : EReal) :=
  (pay8_at x0 x1 p j).trans (sum_mul_coe _ _ _ _ (hq p) (hk j))

/-- The row's greatest score is a number, and the exponentials are of the scores less it. -/
theorem max_at (p : Fin 1024) : ∃ M : ℝ, k0_pay9 x0 x1 (k0_pay5 (F := Ideal)) (ix2 p 0) = (M : EReal) ∧ ∀ j : Fin 8192, k0_pay11 x0 x1 (k0_pay5 (F := Ideal)) (ix2 p j) = (Real.exp (sc q k p j - M) : EReal) := by
  obtain ⟨M, hM⟩ := fold_max_coe (fun j : Fin 8192 => k0_pay8 x0 x1 (ix2 p j)) fun j => ⟨_, sc_at q k hq hk p j⟩
  have h5 : k0_pay5 (F := Ideal) (ix2 p 0) = ⊥ := ofBits_neg_inf
  have h9 : k0_pay9 x0 x1 (k0_pay5 (F := Ideal)) (ix2 p 0) = (M : EReal) := by
    rw [pay9_at, h5, ofBits_neg_inf, hM, max_eq_right bot_le]
  refine ⟨M, h9, fun j => ?_⟩
  rw [pay11_at, h9, sc_at q k hq hk, ← EReal.coe_sub, Ideal.exp_coe]

theorem out_at (p : Fin 1024) (d : Fin 128) :
    k0_pay3 (k0_pay1 (k0_pay13 x0 x1 (k0_pay5 (F := Ideal)) (k0_pay5 (F := Ideal)) (k0_pay7 (F := Ideal))) (k0_pay14 x0 x1 (k0_pay5 (F := Ideal))) x2) (k0_pay12 x0 x1 (k0_pay5 (F := Ideal)) (k0_pay5 (F := Ideal)) (k0_pay6 (F := Ideal))) (ix2 p d)
      = ∑ j, (pr q k p j : EReal) * x2 (ix3 0 j d) := by
  obtain ⟨M, -, hE⟩ := max_at q k hq hk p
  rw [pay3_at, pay1_at, pay12_at, sum_coe _ _ hE, Finset.sum_congr rfl fun j _ => congrArg (· * x2 (ix3 0 j d)) (hE j)]
  exact row_out q k p M _

theorem lse_at (p : Fin 1024) :
    k0_pay4 (k0_pay2 (k0_pay9 x0 x1 (k0_pay5 (F := Ideal)))) (k0_pay12 x0 x1 (k0_pay5 (F := Ideal)) (k0_pay5 (F := Ideal)) (k0_pay6 (F := Ideal))) (ix3 0 p 0) = (Real.log (dn q k p) : EReal) := by
  obtain ⟨M, hM, hE⟩ := max_at q k hq hk p
  rw [pay4_at, pay2_at, pay12_at, sum_coe _ _ hE, hM]
  exact row_lse q k p M

end Words

/-! ## Which blocks -/

variable (m : (ℓ : Loc nD τ sig) → Buf (Elt Ideal) ℓ) (c : Dev nD)

abbrev Q := FVec Ideal S8x8192x128 .bf16
abbrev K := FVec Ideal S2x8192x128 .bf16
abbrev VV := FVec Ideal S2x8192x128 .bf16

theorem lt64 (t : Fin cfg0.N) : t.val < 64 := Nat.lt_of_lt_of_eq t.isLt N_0

theorem idx (t : Fin cfg0.N) : win0_0.index t = ![t.val / 8, t.val % 8, 0] ∧ win0_1.index t = ![t.val / 8 / 4, 0, 0] ∧ win0_2.index t = ![t.val / 8 / 4, 0, 0] ∧ win0_3.index t = ![t.val % 8, t.val / 8] ∧ win0_4.index t = ![t.val / 8, t.val % 8, 0] :=
  (by decide +kernel : ∀ t : Fin grid0.N, win0_0.index t = ![t.val / 8, t.val % 8, 0] ∧ win0_1.index t = ![t.val / 8 / 4, 0, 0] ∧ win0_2.index t = ![t.val / 8 / 4, 0, 0] ∧ win0_3.index t = ![t.val % 8, t.val / 8] ∧ win0_4.index t = ![t.val / 8, t.val % 8, 0]) t

/-- Point `t`'s head. -/
def hd (t : Fin cfg0.N) : Fin 8 := ⟨t.val / 8, by have := lt64 t; omega⟩
/-- Row `p` of point `t`'s block. -/
def row (t : Fin cfg0.N) (p : Fin 1024) : Fin 8192 := ⟨1024 * (t.val % 8) + p.val, by omega⟩
/-- Column `d` of point `t`'s output block. -/
def col (t : Fin cfg0.N) (d : Fin 128) : Fin 1024 := ⟨128 * (t.val / 8) + d.val, by have := lt64 t; omega⟩

theorem emb0 (t : Fin cfg0.N) (p : Fin 1024) (d : Fin 128) : (((cfg0.win 0).blk t).view.emb (ix3 0 p d) : S8x8192x128.Idx) = ix3 (hd t) (row t p) d := by
  have hh := lt64 t
  blk_ext [hd, row, idx t]
theorem emb1 (t : Fin cfg0.N) (j : Fin 8192) (d : Fin 128) : (((cfg0.win 1).blk t).view.emb (ix3 0 j d) : S2x8192x128.Idx) = ix3 (kh (hd t)) j d := by
  have hh := lt64 t
  blk_ext [hd, kh, idx t]
theorem emb2 (t : Fin cfg0.N) (j : Fin 8192) (d : Fin 128) : (((cfg0.win 2).blk t).view.emb (ix3 0 j d) : S2x8192x128.Idx) = ix3 (kh (hd t)) j d := by
  have hh := lt64 t
  blk_ext [hd, kh, idx t]
theorem emb3 (t : Fin cfg0.N) (p : Fin 1024) (d : Fin 128) : (((cfg0.win 3).blk t).view.emb (ix2 p d) : S8192x1024.Idx) = ix2 (row t p) (col t d) := by
  have hh := lt64 t
  blk_ext [row, col, idx t]
theorem emb4 (t : Fin cfg0.N) (p : Fin 1024) : (((cfg0.win 4).blk t).view.emb (ix3 0 p 0) : S8x8192x1.Idx) = ix3 (hd t) (row t p) 0 := by
  have hh := lt64 t
  blk_ext [hd, row, idx t]

theorem of0 (t : Fin cfg0.N) (x : S1x1024x128.Idx) (L : Q) : (((cfg0.win 0).blk t).view.read (Elt Ideal) L : Vec Ideal S1x1024x128 .bf16) x = L (((cfg0.win 0).blk t).view.emb x) := rfl
theorem of1 (t : Fin cfg0.N) (x : S1x8192x128.Idx) (L : K) : (((cfg0.win 1).blk t).view.read (Elt Ideal) L : Vec Ideal S1x8192x128 .bf16) x = L (((cfg0.win 1).blk t).view.emb x) := rfl
theorem of2 (t : Fin cfg0.N) (x : S1x8192x128.Idx) (L : VV) : (((cfg0.win 2).blk t).view.read (Elt Ideal) L : Vec Ideal S1x8192x128 .bf16) x = L (((cfg0.win 2).blk t).view.emb x) := rfl

variable (X0 : Q) (X1 : K) (X2 : VV) (E0 : V m c (Pipeline.arrRef spec0 0) = X0) (E1 : V m c (Pipeline.arrRef spec0 1) = X1) (E2 : V m c (Pipeline.arrRef spec0 2) = X2)

theorem blk0 (E0 : V m c (Pipeline.arrRef spec0 0) = X0) (t : Fin cfg0.N) (p : Fin 1024) (d : Fin 128) : (iblk m c 0 t : Vec Ideal S1x1024x128 .bf16) (ix3 0 p d) = X0 (ix3 (hd t) (row t p) d) := by
  unfold iblk; rw [E0]
  exact (of0 t _ X0).trans (congrArg X0 (emb0 t p d))
theorem blk1 (E1 : V m c (Pipeline.arrRef spec0 1) = X1) (t : Fin cfg0.N) (j : Fin 8192) (d : Fin 128) : (iblk m c 1 t : Vec Ideal S1x8192x128 .bf16) (ix3 0 j d) = X1 (ix3 (kh (hd t)) j d) := by
  unfold iblk; rw [E1]
  exact (of1 t _ X1).trans (congrArg X1 (emb1 t j d))
theorem blk2 (E2 : V m c (Pipeline.arrRef spec0 2) = X2) (t : Fin cfg0.N) (j : Fin 8192) (d : Fin 128) : (iblk m c 2 t : Vec Ideal S1x8192x128 .bf16) (ix3 0 j d) = X2 (ix3 (kh (hd t)) j d) := by
  unfold iblk; rw [E2]
  exact (of2 t _ X2).trans (congrArg X2 (emb2 t j d))

/-- The output, as one array. -/
def oArr : FVec Ideal S8192x1024 .bf16 := outArr (fun h => pr (qR X0 h) (kR X1 h)) fun h j d => X2 (ix3 (kh h) j d)
theorem oArr_at (h : Fin 8) (i : Fin 8192) (d : Fin 128) (x : Fin 1024) (hx : x.val = 128 * h.val + d.val) : oArr X0 X1 X2 (ix2 i x) = ∑ j, (pr (qR X0 h) (kR X1 h) i j : EReal) * X2 (ix3 (kh h) j d) :=
  outArr_at _ _ h i d x hx
/-- The saved logs, as one array. -/
def lArr : FVec Ideal S8x8192x1 .f32 := lseArr fun h i => Real.log (dn (qR X0 h) (kR X1 h) i)
theorem lArr_at (h : Fin 8) (i : Fin 8192) : lArr X0 X1 (ix3 h i 0) = (Real.log (dn (qR X0 h) (kR X1 h) i) : EReal) := rfl

variable {X0 X1} (Hq : ∀ h i d, X0 (ix3 h i d) = (qR X0 h i d : EReal)) (Hk : ∀ (h : Fin 8) i d, X1 (ix3 (kh h) i d) = (kR X1 h i d : EReal))
include E0 E1 Hq Hk

theorem flushed_l (t : Fin cfg0.N) : (dats m 0 c).flushed 4 t = ((cfg0.win 4).blk t).view.read (Elt Ideal) (lArr X0 X1) := by
  rw [flushed4_A, lse_eq]
  refine eq_of_col (n := 1024) (α := EReal) _ _ fun p => ?_
  refine (lse_at (fun p => qR X0 (hd t) (row t p)) (kR X1 (hd t)) (fun p d => (blk0 m c X0 E0 t p d).trans (Hq _ _ _)) (fun j d => (blk1 m c X1 E1 t j d).trans (Hk _ _ _)) p).trans ?_
  refine Eq.trans ?_ (congrArg (lArr X0 X1) (emb4 t p).symm)
  exact (congrArg (fun r : ℝ => (Real.log r : EReal)) (dn_row (qR X0 (hd t)) (kR X1 (hd t)) (row t) p)).trans (lArr_at X0 X1 (hd t) (row t p)).symm

include E2 in
theorem flushed_o (t : Fin cfg0.N) : (dats m 0 c).flushed 3 t = ((cfg0.win 3).blk t).view.read (Elt Ideal) (oArr X0 X1 X2) := by
  rw [flushed3_A, out_eq]
  refine Mlp.eq_of_at (n := 1024) (k := 128) (α := EReal) _ _ fun p d => ?_
  refine (out_at _ (fun p => qR X0 (hd t) (row t p)) (kR X1 (hd t)) (fun p d => (blk0 m c X0 E0 t p d).trans (Hq _ _ _)) (fun j d => (blk1 m c X1 E1 t j d).trans (Hk _ _ _)) p d).trans ?_
  refine Eq.trans ?_ (congrArg (oArr X0 X1 X2) (emb3 t p d).symm)
  refine Eq.trans ?_ (oArr_at X0 X1 X2 (hd t) (row t p) d (col t d) rfl).symm
  exact Finset.sum_congr rfl fun j _ => congrArg _ (blk2 m c X2 E2 t j d)

omit E0 E1 Hq Hk

theorem covered3 (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  have hN : 8 * ((i 1).val / 128) + (i 0).val / 1024 < cfg0.N := Nat.lt_of_lt_of_eq (by omega : _ < 64) N_0.symm
  refine ⟨⟨8 * ((i 1).val / 128) + (i 0).val / 1024, hN⟩, flush0_3 _, ?_⟩
  have e := emb3 ⟨8 * ((i 1).val / 128) + (i 0).val / 1024, hN⟩ ⟨(i 0).val % 1024, Nat.mod_lt _ (by decide)⟩ ⟨(i 1).val % 128, Nat.mod_lt _ (by decide)⟩
  have hi : i = ix2 (row ⟨8 * ((i 1).val / 128) + (i 0).val / 1024, hN⟩ ⟨(i 0).val % 1024, Nat.mod_lt _ (by decide)⟩) (col ⟨8 * ((i 1).val / 128) + (i 0).val / 1024, hN⟩ ⟨(i 1).val % 128, Nat.mod_lt _ (by decide)⟩) :=
    funext fun a => match a with
      | ⟨0, _⟩ => Fin.ext (by show (i 0).val = 1024 * ((8 * ((i 1).val / 128) + (i 0).val / 1024) % 8) + (i 0).val % 1024; omega)
      | ⟨1, _⟩ => Fin.ext (by show (i 1).val = 128 * ((8 * ((i 1).val / 128) + (i 0).val / 1024) / 8) + (i 1).val % 128; omega)
  exact (congrArg (· ∈ _) (e.trans hi.symm)).mp (View.emb_mem_set _ _)

theorem covered4 (i : S8x8192x1.Idx) : ∃ t : Fin cfg0.N, (cfg0.win 4).flush t = true ∧ i ∈ ((cfg0.win 4).blk t).view.set := by
  have h0 : (i 0).val < 8 := (i 0).isLt
  have h1 : (i 1).val < 8192 := (i 1).isLt
  have hN : 8 * (i 0).val + (i 1).val / 1024 < cfg0.N := Nat.lt_of_lt_of_eq (by omega : _ < 64) N_0.symm
  refine ⟨⟨8 * (i 0).val + (i 1).val / 1024, hN⟩, flush0_4 _, ?_⟩
  have e := emb4 ⟨8 * (i 0).val + (i 1).val / 1024, hN⟩ ⟨(i 1).val % 1024, Nat.mod_lt _ (by decide)⟩
  have hi : i = ix3 (hd ⟨8 * (i 0).val + (i 1).val / 1024, hN⟩) (row ⟨8 * (i 0).val + (i 1).val / 1024, hN⟩ ⟨(i 1).val % 1024, Nat.mod_lt _ (by decide)⟩) 0 :=
    funext fun a => match a with
      | ⟨0, _⟩ => Fin.ext (by show (i 0).val = (8 * (i 0).val + (i 1).val / 1024) / 8; omega)
      | ⟨1, _⟩ => Fin.ext (by show (i 1).val = 1024 * ((8 * (i 0).val + (i 1).val / 1024) % 8) + (i 1).val % 1024; omega)
      | ⟨2, _⟩ => Subsingleton.elim (α := Fin 1) _ _
  exact (congrArg (· ∈ _) (e.trans hi.symm)).mp (View.emb_mem_set _ _)

/-! ## The call against the reference -/

/-- The precondition gives finite queries and keys. -/
theorem finite_of_pre (x0 : Q) (x1 : K) (x2 : VV) (h : Cert.Pre_finite_fwd.fn (F := Ideal) x0 x1 x2 = fun _ => 1#1) :
    (∀ h i d, x0 (ix3 h i d) = (qR x0 h i d : EReal)) ∧ ∀ (h : Fin 8) i d, x1 (ix3 (kh h) i d) = (kR x1 h i d : EReal) := by
  obtain ⟨h0, h1⟩ := Pre_finite.Bwd.and_split _ _ _ (congrFun h (Shape.Idx.first Cert.Pre_finite_fwd.Facts.h_S_))
  exact ⟨fun h i d => Pre_finite.Bwd.coe_of_all x0 _ Cert.Pre_finite_fwd.Facts.bcast_S_S8x8192x128 Cert.Pre_finite_fwd.Facts.bitsLt_bf16_f32 Cert.Pre_finite_fwd.Facts.reducesTo_S8x8192x128_S_d0_1_2 Cert.Pre_finite_fwd.Facts.h_S_ _ h0 _,
    fun h i d => Pre_finite.Bwd.coe_of_all x1 _ Cert.Pre_finite_fwd.Facts.bcast_S_S2x8192x128 Cert.Pre_finite_fwd.Facts.bitsLt_bf16_f32 Cert.Pre_finite_fwd.Facts.reducesTo_S2x8192x128_S_d0_1_2 Cert.Pre_finite_fwd.Facts.h_S_ _ h1 _⟩

/-- The call's two results are the reference's. -/
theorem algebraic : Cert.algebraic_FwdIdeal_FwdRefIdeal_pre_finite_fwd := by
  intro m ρ m' ρ' hpre hag
  have H := fun c => finite_of_pre _ _ _ (hpre c)
  refine ⟨fun c => oArr (m ((c.tc : Thread nD τ).loc main_arg0)) (m ((c.tc : Thread nD τ).loc main_arg1)) (m ((c.tc : Thread nD τ).loc main_arg2)),
    fun c => lArr (m ((c.tc : Thread nD τ).loc main_arg0)) (m ((c.tc : Thread nD τ).loc main_arg1)), ?_, ?_⟩
  · refine (θ_run Cert.FwdIdeal.defs _ _).mono (fun r h c => ?_) (Cert.FwdIdeal.Value.run_blocks (F := Ideal) m ρ)
    exact ⟨(h c).1.trans ((dats m 0 c).arrAt_eq_of_cover 3 _ (fun t _ => flushed_o m c _ rfl rfl rfl (H c).1 (H c).2 t) covered3),
      (h c).2.1.trans ((dats m 0 c).arrAt_eq_of_cover 4 _ (fun t _ => flushed_l m c rfl rfl (H c).1 (H c).2 t) covered4), (h c).2.2⟩
  · refine (θ_run Cert.FwdRefIdeal.defs _ _).mono (fun r h c => ?_) (Cert.FwdRefIdeal.Value.run (F := Ideal) m' ρ')
    obtain ⟨h0, h1, hargs⟩ := h c
    obtain ⟨e0, e1, e2⟩ := hag c
    refine ⟨h0.trans ?_, h1.trans ?_, hargs⟩
    · rw [Cert.FwdRefIdeal.Read.val_main_v22_eq, e0, e1, e2]
      exact Cert.FwdRefIdeal.Row.o_eq (H c).1 (H c).2 _
    · rw [Cert.FwdRefIdeal.Read.val_main_v27_eq, e0, e1]
      exact Cert.FwdRefIdeal.Row.l_eq (H c).1 (H c).2

end Cert.FwdIdeal

end
-- ==== Proof.MlaFwdRef.lean ====
/-
  The reference of the latent attention's forward call read at an index: on finite queries and keys, its results are
  the softmax's weighted sums of the values and the logs of the softmax's denominators.
-/
module

public import proofs.«01_k».proof.Proof.Blocked
public import proofs.«01_k».proof.Proof.Softmax
public import proofs.«01_k».proof.Proof.Gen.MlaFwdRefIdeal.Read

@[expose] public section

set_option maxRecDepth 16384

noncomputable section

namespace Cert.MlaFwdRefIdeal.Row

open Idealize.ShloMosaic Idealize.ShloMosaic.TcCoe
open Cert.MlaFwdRefIdeal Cert.MlaFwdRefIdeal.Gen Cert.MlaFwdRefIdeal.Read
open Cert.Attn
open scoped BigOperators

abbrev Q := (⟨S8x8192x256, .bf16⟩ : BufTy).Contents (Elt Ideal)
abbrev K := (⟨S8x8192x256, .bf16⟩ : BufTy).Contents (Elt Ideal)
abbrev V := (⟨S8x8192x128, .bf16⟩ : BufTy).Contents (Elt Ideal)

/-- An exponential is of a score less the row's greatest. -/
theorem e_exp (x0 : Q) (x1 : K) (h : Fin 8) (i j : Fin 8192) : val_main_v10 (F := Ideal) x0 x1 (ix3 h i j) = Ideal.exp (val_main_v3 (F := Ideal) x0 x1 (ix3 h i j) - val_main_v6 (F := Ideal) x0 x1 (ix2 h i)) := by
  unfold val_main_v10 val_main_v9 val_main_v8 val_main_v7
  generalize val_main_v3 (F := Ideal) x0 x1 = a
  generalize val_main_v6 (F := Ideal) x0 x1 = b
  pointwise

/-- The row's greatest score, after its maximum with minus infinity. -/
theorem e_max (x0 : Q) (x1 : K) (h : Fin 8) (i : Fin 8192) : val_main_v6 (F := Ideal) x0 x1 (ix2 h i) = max (Ideal.ofBits .f32 0xFF800000#32) (val_main_v4 (F := Ideal) x0 x1 (ix2 h i)) := by
  rw [val_main_v6_apply, val_main_v5_apply, val_main_cst_0_apply]
  generalize val_main_v4 (F := Ideal) x0 x1 (ix2 h i) = b
  rfl

variable {x0 : Q} {x1 : K} (Hq : ∀ h i d, x0 (ix3 h i d) = (qR x0 h i d : EReal)) (Hk : ∀ (h : Fin 8) i d, x1 (ix3 h i d) = (qR x1 h i d : EReal))
include Hq Hk

theorem s_at (h : Fin 8) (i j : Fin 8192) : val_main_v3 (F := Ideal) x0 x1 (ix3 h i j) = (sc (qR x0 h) (qR x1 h) i j : EReal) := by
  have e : val_main_v3 (F := Ideal) x0 x1 (ix3 h i j) = ∑ d : Fin 256, x0 (ix3 h i d) * x1 (ix3 h j d) := by
    pointwise [val_main_v3, val_main_v0, val_main_v1]
  rw [e]; exact sum_mul_coe _ _ _ _ (Hq h i) (Hk h j)

theorem m_at (h : Fin 8) (i : Fin 8192) : ∃ M : ℝ, val_main_v4 (F := Ideal) x0 x1 (ix2 h i) = (M : EReal) := by
  have e : val_main_v4 (F := Ideal) x0 x1 (ix2 h i) = Finset.univ.fold max (Ideal.ofBits .f32 0xFF800000#32) (fun j : Fin 8192 => val_main_v3 (F := Ideal) x0 x1 (ix3 h i j)) := by
    unfold val_main_v4
    generalize val_main_v3 (F := Ideal) x0 x1 = a
    pointwise [val_main_cst]
  rw [e, ofBits_neg_inf]
  exact fold_max_coe _ fun j => ⟨_, s_at Hq Hk h i j⟩

/-- The probabilities. -/
theorem p_at (h : Fin 8) (i j : Fin 8192) : val_main_v14 (F := Ideal) x0 x1 (ix3 h i j) = (pr (qR x0 h) (qR x1 h) i j : EReal) := by
  obtain ⟨M, hM⟩ := m_at Hq Hk h i
  have ee : ∀ j, val_main_v10 (F := Ideal) x0 x1 (ix3 h i j) = (Real.exp (sc (qR x0 h) (qR x1 h) i j - M) : EReal) := fun j => by
    rw [e_exp, e_max, s_at Hq Hk, hM, ofBits_neg_inf, max_eq_right bot_le, ← EReal.coe_sub, Ideal.exp_coe]
  have es : val_main_v11 (F := Ideal) x0 x1 (ix2 h i) = ((∑ j, Real.exp (sc (qR x0 h) (qR x1 h) i j - M) : ℝ) : EReal) := by
    rw [val_main_v11_apply, val_main_cst_1_apply]
    have e : ∀ j : Fin 8192, idx_main_v11 (ix2 h i) j = ix3 h i j := fun j => funext fun a => match a with | ⟨0, _⟩ => rfl | ⟨1, _⟩ => rfl | ⟨2, _⟩ => rfl
    rw [show FloatOps.ofBits (F := Ideal) .f32 0x00000000#32 = (0 : EReal) from Ideal.ofBits_zero_f32, zero_add]
    exact sum_coe _ _ fun j => by rw [e, ee]
  have e : val_main_v14 (F := Ideal) x0 x1 (ix3 h i j) = Ideal.div (val_main_v10 (F := Ideal) x0 x1 (ix3 h i j)) (val_main_v11 (F := Ideal) x0 x1 (ix2 h i)) := by
    unfold val_main_v14 val_main_v13 val_main_v12
    generalize val_main_v10 (F := Ideal) x0 x1 = a
    generalize val_main_v11 (F := Ideal) x0 x1 = b
    pointwise
  rw [e, ee, es, div_coe_coe (dn_shift_pos _ _ i M).ne', pr_shift]

/-- The output, whatever the values. -/
theorem o_eq (x2 : V) : val_main_v18 (F := Ideal) x0 x1 x2 = outArr (fun h => pr (qR x0 h) (qR x1 h)) fun h j d => x2 (ix3 h j d) := by
  have e1 : ∀ (i : Fin 8192) (y : Fin 1024), val_main_v18 (F := Ideal) x0 x1 x2 (ix2 i y) = val_main_v15 (F := Ideal) x0 x1 x2 (ix3 ⟨y.val / 128, by omega⟩ i ⟨y.val % 128, by omega⟩) := fun i y => by
    unfold val_main_v18 val_main_v17 val_main_v16
    generalize val_main_v15 (F := Ideal) x0 x1 x2 = a
    pointwise
  have e2 : ∀ h i d, val_main_v15 (F := Ideal) x0 x1 x2 (ix3 h i d) = ∑ j : Fin 8192, val_main_v14 (F := Ideal) x0 x1 (ix3 h i j) * x2 (ix3 h j d) := fun h i d => by
    unfold val_main_v15
    generalize val_main_v14 (F := Ideal) x0 x1 = a
    pointwise [val_main_v2]
  refine Mlp.eq_of_at (n := 8192) (k := 1024) (α := EReal) _ _ fun i y => (e1 i y).trans ((e2 _ i _).trans ?_)
  exact Finset.sum_congr rfl fun j _ => congrArg (· * _) (p_at Hq Hk _ _ j)

/-- The saved logs. -/
theorem l_eq : val_main_v23 (F := Ideal) x0 x1 = lseArr fun h i => Real.log (dn (qR x0 h) (qR x1 h) i) := by
  refine eq_lseArr _ _ fun h i => ?_
  have e1 : val_main_v23 (F := Ideal) x0 x1 (ix3 h i 0) = Ideal.log (val_main_v21 (F := Ideal) x0 x1 (ix2 h i)) := by
    unfold val_main_v23 val_main_v22
    generalize val_main_v21 (F := Ideal) x0 x1 = a
    pointwise
  have es : val_main_v21 (F := Ideal) x0 x1 (ix2 h i) = (dn (qR x0 h) (qR x1 h) i : EReal) := by
    rw [val_main_v21_apply, val_main_cst_2_apply]
    have e : ∀ j : Fin 8192, idx_main_v21 (ix2 h i) j = ix3 h i j := fun j => funext fun a => match a with | ⟨0, _⟩ => rfl | ⟨1, _⟩ => rfl | ⟨2, _⟩ => rfl
    have e2 : ∀ j : Fin 8192, val_main_v20 (F := Ideal) x0 x1 (ix3 h i j) = Ideal.exp (val_main_v3 (F := Ideal) x0 x1 (ix3 h i j)) := fun j => rfl
    rw [show FloatOps.ofBits (F := Ideal) .f32 0x00000000#32 = (0 : EReal) from Ideal.ofBits_zero_f32, zero_add]
    exact sum_coe _ _ fun j => by rw [e, e2, s_at Hq Hk, Ideal.exp_coe]
  rw [e1, es, log_coe_pos (dn_pos _ _ i)]

end Cert.MlaFwdRefIdeal.Row

end
-- ==== Proof.MlaFwdValue.lean ====
/-
  The latent attention's forward call: on finite queries and keys, and any values, its two results are the softmax's
  weighted sums of the values and the logs of the softmax's denominators, as the reference's are.
-/
module

public import proofs.«01_k».proof.Defs
public import proofs.«01_k».proof.Proof.Blocked
public import proofs.«01_k».proof.Proof.Pre
public import proofs.«01_k».proof.Proof.MlaFwdRef
public import proofs.«01_k».proof.Proof.Gen.Pre_finite_mla_fwd
public import proofs.«01_k».proof.Proof.Gen.MlaFwd.Frame
public import proofs.«01_k».proof.Proof.Gen.MlaFwdIdeal.Value
public import proofs.«01_k».proof.Proof.Gen.MlaFwdRefIdeal.Run
public import Idealize.ShloMosaic.Lib.VecWindow
public import Idealize.ShloMosaic.Lib.Pipeline.ValueKit.Geometry

@[expose] public section

set_option maxRecDepth 16384

noncomputable section

namespace Cert.MlaFwdIdeal

open Idealize.ShloMosaic Idealize.ShloMosaic.TcCoe Idealize.ShloMosaic.Tactic Idealize.SL.Sem
open Cert.MlaFwdIdeal.Gen Cert.MlaFwdIdeal.Value
open Cert.Attn
open scoped BigOperators

theorem hz : (![0, 0] : Fin 2 → Nat) = fun _ => 0 := funext fun a => by fin_cases a <;> rfl
theorem hz3 : (![0, 0, 0] : Fin 3 → Nat) = fun _ => 0 := funext fun a => by fin_cases a <;> rfl

/-! ## What a grid point writes -/

theorem out_eq (c : Dev nD) (i : grid0.Coords) (a3 h3 a4 h4 a5 h5 a6 h6 a7 h7 a8) (h8 : a8.IsWhole) (a9) (h9 : a9.IsWhole) (a10) (h10 : a10.IsWhole) (hc0 hc1) (x0 : Vec Ideal S1x1024x256 .bf16) (x1 : Vec Ideal S1x8192x256 .bf16) (x2 : Vec Ideal S1x8192x128 .bf16) :
    out0_A_3 (F := Ideal) c i a3 h3 a4 h4 a5 h5 a6 h6 a7 h7 a8 h8 a9 h9 a10 h10 hc0 hc1 x0 x1 x2
      = k0_pay3 (k0_pay1 (k0_pay13 x0 x1 (k0_pay5 (F := Ideal)) (k0_pay5 (F := Ideal)) (k0_pay7 (F := Ideal))) (k0_pay14 x0 x1 (k0_pay5 (F := Ideal))) x2) (k0_pay12 x0 x1 (k0_pay5 (F := Ideal)) (k0_pay5 (F := Ideal)) (k0_pay6 (F := Ideal))) := by
  unfold out0_A_3
  rw [View.read_writes_eq_canon _ _ _ (cover0_A_3 c i a3 h3 a4 h4 a5 h5 a6 h6 a7 h7 a8 h8 a9 h9 a10 h10 hc0 hc1 x0 x1 x2)]
  unfold kernelRun0_A
  dsimp only
  sl_unfold_words
  rw [View.canon_unit_zero hz]
  simp only [View.readAt_eq_ld, h3.read_unread, h4.read_unread, h5.read_unread, View.ld_unit_zero (S := S1x1024x256) hz3, View.ld_unit_zero (S := S1x8192x256) hz3, View.ld_unit_zero (S := S1x8192x128) hz3, View.readCov_cons_toLoadRect]

theorem lse_eq (c : Dev nD) (i : grid0.Coords) (a3 h3 a4 h4 a5 h5 a6 h6 a7 h7 a8) (h8 : a8.IsWhole) (a9) (h9 : a9.IsWhole) (a10) (h10 : a10.IsWhole) (hc0 hc1) (x0 : Vec Ideal S1x1024x256 .bf16) (x1 : Vec Ideal S1x8192x256 .bf16) (x2 : Vec Ideal S1x8192x128 .bf16) :
    out0_A_4 (F := Ideal) c i a3 h3 a4 h4 a5 h5 a6 h6 a7 h7 a8 h8 a9 h9 a10 h10 hc0 hc1 x0 x1 x2
      = k0_pay4 (k0_pay2 (k0_pay9 x0 x1 (k0_pay5 (F := Ideal)))) (k0_pay12 x0 x1 (k0_pay5 (F := Ideal)) (k0_pay5 (F := Ideal)) (k0_pay6 (F := Ideal))) := by
  unfold out0_A_4
  rw [View.read_writes_eq_canon _ _ _ (cover0_A_4 c i a3 h3 a4 h4 a5 h5 a6 h6 a7 h7 a8 h8 a9 h9 a10 h10 hc0 hc1 x0 x1 x2)]
  unfold kernelRun0_A
  dsimp only
  sl_unfold_words
  rw [View.canon_unit_zero hz3]
  simp only [View.readAt_eq_ld, h3.read_unread, h4.read_unread, h5.read_unread, View.ld_unit_zero (S := S1x1024x256) hz3, View.ld_unit_zero (S := S1x8192x256) hz3, View.ld_unit_zero (S := S1x8192x128) hz3, View.readCov_cons_toLoadRect]

/-! ## Its words, entry by entry -/

section Words

variable (x0 : Vec Ideal S1x1024x256 .bf16) (x1 : Vec Ideal S1x8192x256 .bf16) (x2 : Vec Ideal S1x8192x128 .bf16) (s : Vec Ideal S1024x1 .f32)

theorem pay8_at (p : Fin 1024) (j : Fin 8192) : k0_pay8 x0 x1 (ix2 p j) = ∑ d : Fin 256, x0 (ix3 0 p d) * x1 (ix3 0 j d) := by
  pointwise [k0_pay8]

theorem max_col (s : Vec Ideal S1024x1 .f32) (r : Vec Ideal S1024 .f32) (p : Fin 1024) : (maximumf (F := Ideal) (φ := .f32) s (shapeCast S1024x1 r shapeCasts_S1024_S1024x1)) (ix2 p 0) = max (s (ix2 p 0)) (r (ix1 p)) := by
  pointwise

theorem pay9_at (p : Fin 1024) : k0_pay9 x0 x1 s (ix2 p 0) = max (s (ix2 p 0)) (Finset.univ.fold max (Ideal.ofBits .f32 0xFF800000#32) fun j : Fin 8192 => k0_pay8 x0 x1 (ix2 p j)) :=
  (max_col s _ p).trans (congrArg (max (s (ix2 p 0))) (rowmax_at (k0_pay8 x0 x1) reduces_S1024x8192_S1024 (.inl rfl) rfl p))

theorem pay11_at (p : Fin 1024) (j : Fin 8192) : k0_pay11 x0 x1 s (ix2 p j) = Ideal.exp (k0_pay8 x0 x1 (ix2 p j) - k0_pay9 x0 x1 s (ix2 p 0)) := by
  unfold k0_pay11
  generalize k0_pay8 x0 x1 = a
  generalize k0_pay9 x0 x1 s = b
  pointwise

/-- The sum starts from zero, so it is the exponentials' sum. -/
theorem pay12_at (p : Fin 1024) : k0_pay12 x0 x1 s s (k0_pay6 (F := Ideal)) (ix2 p 0) = ∑ j : Fin 8192, k0_pay11 x0 x1 s (ix2 p j) := by
  have e : ∀ y, k0_pay6 (F := Ideal) y = 0 := fun y => Ideal.ofBits_zero_f32
  have e' : k0_pay12 x0 x1 s s (k0_pay6 (F := Ideal)) (ix2 p 0) = k0_pay10 x0 x1 s s (ix2 p 0) * k0_pay6 (F := Ideal) (ix2 p 0) + ∑ j : Fin 8192, k0_pay11 x0 x1 s (ix2 p j) := by
    unfold k0_pay12
    generalize k0_pay10 x0 x1 s s = a
    generalize k0_pay11 x0 x1 s = b
    generalize k0_pay6 (F := Ideal) = z
    pointwise
  rw [e', e, mul_zero, zero_add]

/-- So does the weighted sum of the values. -/
theorem pay1_at (p : Fin 1024) (d : Fin 128) : k0_pay1 (k0_pay13 x0 x1 s s (k0_pay7 (F := Ideal))) (k0_pay14 x0 x1 s) x2 (ix2 p d) = ∑ j : Fin 8192, k0_pay11 x0 x1 s (ix2 p j) * x2 (ix3 0 j d) := by
  have e : ∀ y, k0_pay7 (F := Ideal) y = 0 := fun y => Ideal.ofBits_zero_f32
  have e' : k0_pay1 (k0_pay13 x0 x1 s s (k0_pay7 (F := Ideal))) (k0_pay14 x0 x1 s) x2 (ix2 p d) = k0_pay10 x0 x1 s s (ix2 p 0) * k0_pay7 (F := Ideal) (ix2 p d) + ∑ j : Fin 8192, k0_pay11 x0 x1 s (ix2 p j) * x2 (ix3 0 j d) := by
    unfold k0_pay1 k0_pay13 k0_pay14
    generalize k0_pay10 x0 x1 s s = a
    generalize k0_pay11 x0 x1 s = b
    generalize k0_pay7 (F := Ideal) = z
    pointwise
  rw [e', e, mul_zero, zero_add]

theorem pay3_at (a : Vec Ideal S1024x128 .f32) (l : Vec Ideal S1024x1 .f32) (p : Fin 1024) (d : Fin 128) : k0_pay3 a l (ix2 p d) = Ideal.div (a (ix2 p d)) (l (ix2 p 0)) := by
  pointwise [k0_pay3]
theorem pay2_at (a : Vec Ideal S1024x1 .f32) (p : Fin 1024) : k0_pay2 (F := Ideal) a (ix2 p 0) = a (ix2 p 0) := by
  pointwise [k0_pay2]
theorem pay4_at (a l : Vec Ideal S1024x1 .f32) (p : Fin 1024) : k0_pay4 a l (ix3 0 p 0) = a (ix2 p 0) + Ideal.log (l (ix2 p 0)) := by
  pointwise [k0_pay4]

/-! ## One block, on finite queries and keys -/

variable {x0 x1} (q : Fin 1024 → Fin 256 → ℝ) (k : Fin 8192 → Fin 256 → ℝ) (hq : ∀ p d, x0 (ix3 0 p d) = (q p d : EReal)) (hk : ∀ j d, x1 (ix3 0 j d) = (k j d : EReal))
include hq hk

theorem sc_at (p : Fin 1024) (j : Fin 8192) : k0_pay8 x0 x1 (ix2 p j) = (sc q k p j : EReal) :=
  (pay8_at x0 x1 p j).trans (sum_mul_coe _ _ _ _ (hq p) (hk j))

/-- The row's greatest score is a number, and the exponentials are of the scores less it. -/
theorem max_at (p : Fin 1024) : ∃ M : ℝ, k0_pay9 x0 x1 (k0_pay5 (F := Ideal)) (ix2 p 0) = (M : EReal) ∧ ∀ j : Fin 8192, k0_pay11 x0 x1 (k0_pay5 (F := Ideal)) (ix2 p j) = (Real.exp (sc q k p j - M) : EReal) := by
  obtain ⟨M, hM⟩ := fold_max_coe (fun j : Fin 8192 => k0_pay8 x0 x1 (ix2 p j)) fun j => ⟨_, sc_at q k hq hk p j⟩
  have h5 : k0_pay5 (F := Ideal) (ix2 p 0) = ⊥ := ofBits_neg_inf
  have h9 : k0_pay9 x0 x1 (k0_pay5 (F := Ideal)) (ix2 p 0) = (M : EReal) := by
    rw [pay9_at, h5, ofBits_neg_inf, hM, max_eq_right bot_le]
  refine ⟨M, h9, fun j => ?_⟩
  rw [pay11_at, h9, sc_at q k hq hk, ← EReal.coe_sub, Ideal.exp_coe]

theorem out_at (p : Fin 1024) (d : Fin 128) :
    k0_pay3 (k0_pay1 (k0_pay13 x0 x1 (k0_pay5 (F := Ideal)) (k0_pay5 (F := Ideal)) (k0_pay7 (F := Ideal))) (k0_pay14 x0 x1 (k0_pay5 (F := Ideal))) x2) (k0_pay12 x0 x1 (k0_pay5 (F := Ideal)) (k0_pay5 (F := Ideal)) (k0_pay6 (F := Ideal))) (ix2 p d)
      = ∑ j, (pr q k p j : EReal) * x2 (ix3 0 j d) := by
  obtain ⟨M, -, hE⟩ := max_at q k hq hk p
  rw [pay3_at, pay1_at, pay12_at, sum_coe _ _ hE, Finset.sum_congr rfl fun j _ => congrArg (· * x2 (ix3 0 j d)) (hE j)]
  exact row_out q k p M _

theorem lse_at (p : Fin 1024) :
    k0_pay4 (k0_pay2 (k0_pay9 x0 x1 (k0_pay5 (F := Ideal)))) (k0_pay12 x0 x1 (k0_pay5 (F := Ideal)) (k0_pay5 (F := Ideal)) (k0_pay6 (F := Ideal))) (ix3 0 p 0) = (Real.log (dn q k p) : EReal) := by
  obtain ⟨M, hM, hE⟩ := max_at q k hq hk p
  rw [pay4_at, pay2_at, pay12_at, sum_coe _ _ hE, hM]
  exact row_lse q k p M

end Words

/-! ## Which blocks -/

variable (m : (ℓ : Loc nD τ sig) → Buf (Elt Ideal) ℓ) (c : Dev nD)

abbrev Q := FVec Ideal S8x8192x256 .bf16
abbrev K := FVec Ideal S8x8192x256 .bf16
abbrev VV := FVec Ideal S8x8192x128 .bf16

theorem lt64 (t : Fin cfg0.N) : t.val < 64 := Nat.lt_of_lt_of_eq t.isLt N_0

theorem idx (t : Fin cfg0.N) : win0_0.index t = ![t.val / 8, t.val % 8, 0] ∧ win0_1.index t = ![t.val / 8, 0, 0] ∧ win0_2.index t = ![t.val / 8, 0, 0] ∧ win0_3.index t = ![t.val % 8, t.val / 8] ∧ win0_4.index t = ![t.val / 8, t.val % 8, 0] :=
  (by decide +kernel : ∀ t : Fin grid0.N, win0_0.index t = ![t.val / 8, t.val % 8, 0] ∧ win0_1.index t = ![t.val / 8, 0, 0] ∧ win0_2.index t = ![t.val / 8, 0, 0] ∧ win0_3.index t = ![t.val % 8, t.val / 8] ∧ win0_4.index t = ![t.val / 8, t.val % 8, 0]) t

/-- Point `t`'s head. -/
def hd (t : Fin cfg0.N) : Fin 8 := ⟨t.val / 8, by have := lt64 t; omega⟩
/-- Row `p` of point `t`'s block. -/
def row (t : Fin cfg0.N) (p : Fin 1024) : Fin 8192 := ⟨1024 * (t.val % 8) + p.val, by omega⟩
/-- Column `d` of point `t`'s output block. -/
def col (t : Fin cfg0.N) (d : Fin 128) : Fin 1024 := ⟨128 * (t.val / 8) + d.val, by have := lt64 t; omega⟩

theorem emb0 (t : Fin cfg0.N) (p : Fin 1024) (d : Fin 256) : (((cfg0.win 0).blk t).view.emb (ix3 0 p d) : S8x8192x256.Idx) = ix3 (hd t) (row t p) d := by
  have hh := lt64 t
  blk_ext [hd, row, idx t]
theorem emb1 (t : Fin cfg0.N) (j : Fin 8192) (d : Fin 256) : (((cfg0.win 1).blk t).view.emb (ix3 0 j d) : S8x8192x256.Idx) = ix3 (hd t) j d := by
  have hh := lt64 t
  blk_ext [hd, idx t]
theorem emb2 (t : Fin cfg0.N) (j : Fin 8192) (d : Fin 128) : (((cfg0.win 2).blk t).view.emb (ix3 0 j d) : S8x8192x128.Idx) = ix3 (hd t) j d := by
  have hh := lt64 t
  blk_ext [hd, idx t]
theorem emb3 (t : Fin cfg0.N) (p : Fin 1024) (d : Fin 128) : (((cfg0.win 3).blk t).view.emb (ix2 p d) : S8192x1024.Idx) = ix2 (row t p) (col t d) := by
  have hh := lt64 t
  blk_ext [row, col, idx t]
theorem emb4 (t : Fin cfg0.N) (p : Fin 1024) : (((cfg0.win 4).blk t).view.emb (ix3 0 p 0) : S8x8192x1.Idx) = ix3 (hd t) (row t p) 0 := by
  have hh := lt64 t
  blk_ext [hd, row, idx t]

theorem of0 (t : Fin cfg0.N) (x : S1x1024x256.Idx) (L : Q) : (((cfg0.win 0).blk t).view.read (Elt Ideal) L : Vec Ideal S1x1024x256 .bf16) x = L (((cfg0.win 0).blk t).view.emb x) := rfl
theorem of1 (t : Fin cfg0.N) (x : S1x8192x256.Idx) (L : K) : (((cfg0.win 1).blk t).view.read (Elt Ideal) L : Vec Ideal S1x8192x256 .bf16) x = L (((cfg0.win 1).blk t).view.emb x) := rfl
theorem of2 (t : Fin cfg0.N) (x : S1x8192x128.Idx) (L : VV) : (((cfg0.win 2).blk t).view.read (Elt Ideal) L : Vec Ideal S1x8192x128 .bf16) x = L (((cfg0.win 2).blk t).view.emb x) := rfl

variable (X0 : Q) (X1 : K) (X2 : VV) (E0 : V m c (Pipeline.arrRef spec0 0) = X0) (E1 : V m c (Pipeline.arrRef spec0 1) = X1) (E2 : V m c (Pipeline.arrRef spec0 2) = X2)

theorem blk0 (E0 : V m c (Pipeline.arrRef spec0 0) = X0) (t : Fin cfg0.N) (p : Fin 1024) (d : Fin 256) : (iblk m c 0 t : Vec Ideal S1x1024x256 .bf16) (ix3 0 p d) = X0 (ix3 (hd t) (row t p) d) := by
  unfold iblk; rw [E0]
  exact (of0 t _ X0).trans (congrArg X0 (emb0 t p d))
theorem blk1 (E1 : V m c (Pipeline.arrRef spec0 1) = X1) (t : Fin cfg0.N) (j : Fin 8192) (d : Fin 256) : (iblk m c 1 t : Vec Ideal S1x8192x256 .bf16) (ix3 0 j d) = X1 (ix3 (hd t) j d) := by
  unfold iblk; rw [E1]
  exact (of1 t _ X1).trans (congrArg X1 (emb1 t j d))
theorem blk2 (E2 : V m c (Pipeline.arrRef spec0 2) = X2) (t : Fin cfg0.N) (j : Fin 8192) (d : Fin 128) : (iblk m c 2 t : Vec Ideal S1x8192x128 .bf16) (ix3 0 j d) = X2 (ix3 (hd t) j d) := by
  unfold iblk; rw [E2]
  exact (of2 t _ X2).trans (congrArg X2 (emb2 t j d))

/-- The output, as one array. -/
def oArr : FVec Ideal S8192x1024 .bf16 := outArr (fun h => pr (qR X0 h) (qR X1 h)) fun h j d => X2 (ix3 h j d)
theorem oArr_at (h : Fin 8) (i : Fin 8192) (d : Fin 128) (x : Fin 1024) (hx : x.val = 128 * h.val + d.val) : oArr X0 X1 X2 (ix2 i x) = ∑ j, (pr (qR X0 h) (qR X1 h) i j : EReal) * X2 (ix3 h j d) :=
  outArr_at _ _ h i d x hx
/-- The saved logs, as one array. -/
def lArr : FVec Ideal S8x8192x1 .f32 := lseArr fun h i => Real.log (dn (qR X0 h) (qR X1 h) i)
theorem lArr_at (h : Fin 8) (i : Fin 8192) : lArr X0 X1 (ix3 h i 0) = (Real.log (dn (qR X0 h) (qR X1 h) i) : EReal) := rfl

variable {X0 X1} (Hq : ∀ h i d, X0 (ix3 h i d) = (qR X0 h i d : EReal)) (Hk : ∀ (h : Fin 8) i d, X1 (ix3 h i d) = (qR X1 h i d : EReal))
include E0 E1 Hq Hk

theorem flushed_l (t : Fin cfg0.N) : (dats m 0 c).flushed 4 t = ((cfg0.win 4).blk t).view.read (Elt Ideal) (lArr X0 X1) := by
  rw [flushed4_A, lse_eq]
  refine eq_of_col (n := 1024) (α := EReal) _ _ fun p => ?_
  refine (lse_at (fun p => qR X0 (hd t) (row t p)) (qR X1 (hd t)) (fun p d => (blk0 m c X0 E0 t p d).trans (Hq _ _ _)) (fun j d => (blk1 m c X1 E1 t j d).trans (Hk _ _ _)) p).trans ?_
  refine Eq.trans ?_ (congrArg (lArr X0 X1) (emb4 t p).symm)
  exact (congrArg (fun r : ℝ => (Real.log r : EReal)) (dn_row (qR X0 (hd t)) (qR X1 (hd t)) (row t) p)).trans (lArr_at X0 X1 (hd t) (row t p)).symm

include E2 in
theorem flushed_o (t : Fin cfg0.N) : (dats m 0 c).flushed 3 t = ((cfg0.win 3).blk t).view.read (Elt Ideal) (oArr X0 X1 X2) := by
  rw [flushed3_A, out_eq]
  refine Mlp.eq_of_at (n := 1024) (k := 128) (α := EReal) _ _ fun p d => ?_
  refine (out_at _ (fun p => qR X0 (hd t) (row t p)) (qR X1 (hd t)) (fun p d => (blk0 m c X0 E0 t p d).trans (Hq _ _ _)) (fun j d => (blk1 m c X1 E1 t j d).trans (Hk _ _ _)) p d).trans ?_
  refine Eq.trans ?_ (congrArg (oArr X0 X1 X2) (emb3 t p d).symm)
  refine Eq.trans ?_ (oArr_at X0 X1 X2 (hd t) (row t p) d (col t d) rfl).symm
  exact Finset.sum_congr rfl fun j _ => congrArg _ (blk2 m c X2 E2 t j d)

omit E0 E1 Hq Hk

theorem covered3 (i : S8192x1024.Idx) : ∃ t : Fin cfg0.N, (cfg0.win 3).flush t = true ∧ i ∈ ((cfg0.win 3).blk t).view.set := by
  have h0 : (i 0).val < 8192 := (i 0).isLt
  have h1 : (i 1).val < 1024 := (i 1).isLt
  have hN : 8 * ((i 1).val / 128) + (i 0).val / 1024 < cfg0.N := Nat.lt_of_lt_of_eq (by omega : _ < 64) N_0.symm
  refine ⟨⟨8 * ((i 1).val / 128) + (i 0).val / 1024, hN⟩, flush0_3 _, ?_⟩
  have e := emb3 ⟨8 * ((i 1).val / 128) + (i 0).val / 1024, hN⟩ ⟨(i 0).val % 1024, Nat.mod_lt _ (by decide)⟩ ⟨(i 1).val % 128, Nat.mod_lt _ (by decide)⟩
  have hi : i = ix2 (row ⟨8 * ((i 1).val / 128) + (i 0).val / 1024, hN⟩ ⟨(i 0).val % 1024, Nat.mod_lt _ (by decide)⟩) (col ⟨8 * ((i 1).val / 128) + (i 0).val / 1024, hN⟩ ⟨(i 1).val % 128, Nat.mod_lt _ (by decide)⟩) :=
    funext fun a => match a with
      | ⟨0, _⟩ => Fin.ext (by show (i 0).val = 1024 * ((8 * ((i 1).val / 128) + (i 0).val / 1024) % 8) + (i 0).val % 1024; omega)
      | ⟨1, _⟩ => Fin.ext (by show (i 1).val = 128 * ((8 * ((i 1).val / 128) + (i 0).val / 1024) / 8) + (i 1).val % 128; omega)
  exact (congrArg (· ∈ _) (e.trans hi.symm)).mp (View.emb_mem_set _ _)

theorem covered4 (i : S8x8192x1.Idx) : ∃ t : Fin cfg0.N, (cfg0.win 4).flush t = true ∧ i ∈ ((cfg0.win 4).blk t).view.set := by
  have h0 : (i 0).val < 8 := (i 0).isLt
  have h1 : (i 1).val < 8192 := (i 1).isLt
  have hN : 8 * (i 0).val + (i 1).val / 1024 < cfg0.N := Nat.lt_of_lt_of_eq (by omega : _ < 64) N_0.symm
  refine ⟨⟨8 * (i 0).val + (i 1).val / 1024, hN⟩, flush0_4 _, ?_⟩
  have e := emb4 ⟨8 * (i 0).val + (i 1).val / 1024, hN⟩ ⟨(i 1).val % 1024, Nat.mod_lt _ (by decide)⟩
  have hi : i = ix3 (hd ⟨8 * (i 0).val + (i 1).val / 1024, hN⟩) (row ⟨8 * (i 0).val + (i 1).val / 1024, hN⟩ ⟨(i 1).val % 1024, Nat.mod_lt _ (by decide)⟩) 0 :=
    funext fun a => match a with
      | ⟨0, _⟩ => Fin.ext (by show (i 0).val = (8 * (i 0).val + (i 1).val / 1024) / 8; omega)
      | ⟨1, _⟩ => Fin.ext (by show (i 1).val = 1024 * ((8 * (i 0).val + (i 1).val / 1024) % 8) + (i 1).val % 1024; omega)
      | ⟨2, _⟩ => Subsingleton.elim (α := Fin 1) _ _
  exact (congrArg (· ∈ _) (e.trans hi.symm)).mp (View.emb_mem_set _ _)

/-! ## The call against the reference -/

/-- The precondition gives finite queries and keys. -/
theorem finite_of_pre (x0 : Q) (x1 : K) (x2 : VV) (h : Cert.Pre_finite_mla_fwd.fn (F := Ideal) x0 x1 x2 = fun _ => 1#1) :
    (∀ h i d, x0 (ix3 h i d) = (qR x0 h i d : EReal)) ∧ ∀ (h : Fin 8) i d, x1 (ix3 h i d) = (qR x1 h i d : EReal) := by
  obtain ⟨h0, h1⟩ := Pre_finite.Bwd.and_split _ _ _ (congrFun h (Shape.Idx.first Cert.Pre_finite_mla_fwd.Facts.h_S_))
  exact ⟨fun h i d => Pre_finite.Bwd.coe_of_all x0 _ Cert.Pre_finite_mla_fwd.Facts.bcast_S_S8x8192x256 Cert.Pre_finite_mla_fwd.Facts.bitsLt_bf16_f32 Cert.Pre_finite_mla_fwd.Facts.reducesTo_S8x8192x256_S_d0_1_2 Cert.Pre_finite_mla_fwd.Facts.h_S_ _ h0 _,
    fun h i d => Pre_finite.Bwd.coe_of_all x1 _ Cert.Pre_finite_mla_fwd.Facts.bcast_S_S8x8192x256 Cert.Pre_finite_mla_fwd.Facts.bitsLt_bf16_f32 Cert.Pre_finite_mla_fwd.Facts.reducesTo_S8x8192x256_S_d0_1_2 Cert.Pre_finite_mla_fwd.Facts.h_S_ _ h1 _⟩

/-- The call's two results are the reference's. -/
theorem algebraic : Cert.algebraic_MlaFwdIdeal_MlaFwdRefIdeal_pre_finite_mla_fwd := by
  intro m ρ m' ρ' hpre hag
  have H := fun c => finite_of_pre _ _ _ (hpre c)
  refine ⟨fun c => oArr (m ((c.tc : Thread nD τ).loc main_arg0)) (m ((c.tc : Thread nD τ).loc main_arg1)) (m ((c.tc : Thread nD τ).loc main_arg2)),
    fun c => lArr (m ((c.tc : Thread nD τ).loc main_arg0)) (m ((c.tc : Thread nD τ).loc main_arg1)), ?_, ?_⟩
  · refine (θ_run Cert.MlaFwdIdeal.defs _ _).mono (fun r h c => ?_) (Cert.MlaFwdIdeal.Value.run_blocks (F := Ideal) m ρ)
    exact ⟨(h c).1.trans ((dats m 0 c).arrAt_eq_of_cover 3 _ (fun t _ => flushed_o m c _ rfl rfl rfl (H c).1 (H c).2 t) covered3),
      (h c).2.1.trans ((dats m 0 c).arrAt_eq_of_cover 4 _ (fun t _ => flushed_l m c rfl rfl (H c).1 (H c).2 t) covered4), (h c).2.2⟩
  · refine (θ_run Cert.MlaFwdRefIdeal.defs _ _).mono (fun r h c => ?_) (Cert.MlaFwdRefIdeal.Value.run (F := Ideal) m' ρ')
    obtain ⟨h0, h1, hargs⟩ := h c
    obtain ⟨e0, e1, e2⟩ := hag c
    refine ⟨h0.trans ?_, h1.trans ?_, hargs⟩
    · rw [Cert.MlaFwdRefIdeal.Read.val_main_v18_eq, e0, e1, e2]
      exact Cert.MlaFwdRefIdeal.Row.o_eq (H c).1 (H c).2 _
    · rw [Cert.MlaFwdRefIdeal.Read.val_main_v23_eq, e0, e1]
      exact Cert.MlaFwdRefIdeal.Row.l_eq (H c).1 (H c).2

end Cert.MlaFwdIdeal

end
-- ==== Proof.OutValue.lean ====
/-
  The call that applies the output projection: its result is the residual plus the product of the attention's output
  with the output weights.
-/
module

public import proofs.«01_k».proof.Defs
public import proofs.«01_k».proof.Proof.Blocked
public import proofs.«01_k».proof.Proof.Gen.Out.Frame
public import proofs.«01_k».proof.Proof.Gen.OutIdeal.Value
public import proofs.«01_k».proof.Proof.Gen.OutRefIdeal.Run
public import Idealize.ShloMosaic.Lib.VecWindow
public import Idealize.ShloMosaic.Lib.Pipeline.ValueKit.Geometry

@[expose] public section

set_option maxRecDepth 16384

noncomputable section

namespace Cert.OutIdeal

open Idealize.ShloMosaic Idealize.ShloMosaic.TcCoe Idealize.ShloMosaic.Tactic Idealize.SL.Sem
open Cert.OutIdeal.Gen Cert.OutIdeal.Value
open Cert.Mlp
open scoped BigOperators

theorem hz : (![0, 0] : Fin 2 → Nat) = fun _ => 0 := funext fun a => by fin_cases a <;> rfl

abbrev A := FVec Ideal S8192x2048 .bf16
abbrev B := FVec Ideal S2048x2048 .bf16
abbrev O := FVec Ideal S8192x2048 .f32

/-- The result: the product of the two factors plus the residual, entry by entry. -/
def res (a : A) (b : B) (x : O) : O := fun i => (∑ k : Fin 2048, a (ix2 (i 0) k) * b (ix2 k (i 1))) + x i

/-! ## One tile -/

theorem out_eq (x0 : Vec Ideal S1024x2048 .bf16) (x1 : Vec Ideal S2048x1024 .bf16) (x2 : Vec Ideal S1024x1024 .f32) : out0_3 x0 x1 x2 = k0_pay1 x0 x1 x2 := by
  unfold out0_3
  rw [View.canon_unit_zero hz]
  simp only [View.ld_unit_zero (S := S1024x2048) hz, View.ld_unit_zero (S := S2048x1024) hz, View.ld_unit_zero (S := S1024x1024) hz]

theorem pay1_at (x0 : Vec Ideal S1024x2048 .bf16) (x1 : Vec Ideal S2048x1024 .bf16) (x2 : Vec Ideal S1024x1024 .f32) (p q : Fin 1024) :
    k0_pay1 x0 x1 x2 (ix2 p q) = (∑ k : Fin 2048, x0 (ix2 p k) * x1 (ix2 k q)) + x2 (ix2 p q) := by
  pointwise [k0_pay1]

variable (m : (ℓ : Loc nD τ sig) → Buf (Elt Ideal) ℓ) (c : Dev nD)

theorem lt16 (t : Fin cfg0.N) : t.val < 16 := Nat.lt_of_lt_of_eq t.isLt N_0

theorem idx (t : Fin cfg0.N) : win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, win0_0.index t = ![t.val / 2, 0] ∧ win0_1.index t = ![0, t.val % 2] ∧ win0_2.index t = ![t.val / 2, t.val % 2] ∧ win0_3.index t = ![t.val / 2, t.val % 2]) t

/-- Row `p` of point `t`'s tile. -/
def row (t : Fin cfg0.N) (p : Fin 1024) : Fin 8192 := ⟨1024 * (t.val / 2) + p.val, by have := lt16 t; omega⟩
/-- Column `q` of point `t`'s tile. -/
def col (t : Fin cfg0.N) (q : Fin 1024) : Fin 2048 := ⟨1024 * (t.val % 2) + q.val, by omega⟩

theorem emb0 (t : Fin cfg0.N) (p : Fin 1024) (k : Fin 2048) : (((cfg0.win 0).blk t).view.emb (ix2 p k) : S8192x2048.Idx) = ix2 (row t p) k := by
  have hh := lt16 t
  blk_ext [row, idx t]
theorem emb1 (t : Fin cfg0.N) (k : Fin 2048) (q : Fin 1024) : (((cfg0.win 1).blk t).view.emb (ix2 k q) : S2048x2048.Idx) = ix2 k (col t q) := by
  have hh := lt16 t
  blk_ext [col, idx t]
theorem emb2 (t : Fin cfg0.N) (p q : Fin 1024) : (((cfg0.win 2).blk t).view.emb (ix2 p q) : S8192x2048.Idx) = ix2 (row t p) (col t q) := by
  have hh := lt16 t
  blk_ext [row, col, idx t]
theorem emb3 (t : Fin cfg0.N) (p q : Fin 1024) : (((cfg0.win 3).blk t).view.emb (ix2 p q) : S8192x2048.Idx) = ix2 (row t p) (col t q) := by
  have hh := lt16 t
  blk_ext [row, col, idx t]

theorem of0 (t : Fin cfg0.N) (x : S1024x2048.Idx) (L : A) : (((cfg0.win 0).blk t).view.read (Elt Ideal) L : Vec Ideal S1024x2048 .bf16) x = L (((cfg0.win 0).blk t).view.emb x) := rfl
theorem of1 (t : Fin cfg0.N) (x : S2048x1024.Idx) (L : B) : (((cfg0.win 1).blk t).view.read (Elt Ideal) L : Vec Ideal S2048x1024 .bf16) x = L (((cfg0.win 1).blk t).view.emb x) := rfl
theorem of2 (t : Fin cfg0.N) (x : S1024x1024.Idx) (L : O) : (((cfg0.win 2).blk t).view.read (Elt Ideal) L : Vec Ideal S1024x1024 .f32) x = L (((cfg0.win 2).blk t).view.emb x) := rfl

theorem tile_at (t : Fin cfg0.N) (p q : Fin 1024) (a : A) (b : B) (x : O) (ha : V m c (Pipeline.arrRef spec0 0) = a) (hb : V m c (Pipeline.arrRef spec0 1) = b) (hx : V m c (Pipeline.arrRef spec0 2) = x) :
    out0_3 (iblk m c 0 t) (iblk m c 1 t) (iblk m c 2 t) (ix2 p q) = res a b x (ix2 (row t p) (col t q)) := by
  rw [out_eq, pay1_at]
  unfold iblk res
  rw [ha, hb, hx]
  refine congrArg₂ _ (Finset.sum_congr rfl fun k _ => ?_) ?_
  · exact congrArg₂ _ ((of0 t _ a).trans (congrArg a (emb0 t p k))) ((of1 t _ b).trans (congrArg b (emb1 t k q)))
  · exact (of2 t _ x).trans (congrArg x (emb2 t p q))

/-! ## The whole array -/

theorem flushed_at (a : A) (b : B) (x : O) (ha : V m c (Pipeline.arrRef spec0 0) = a) (hb : V m c (Pipeline.arrRef spec0 1) = b) (hx : V m c (Pipeline.arrRef spec0 2) = x) (t : Fin cfg0.N) :
    (dats m 0 c).flushed 3 t = ((cfg0.win 3).blk t).view.read (Elt Ideal) (res a b x) := by
  rw [flushed3]
  refine eq_of_at (n := 1024) (k := 1024) (α := EReal) _ _ fun p q => ?_
  exact (tile_at m c t p q a b x ha hb hx).trans (congrArg (res a b x) (emb3 t p q).symm)

theorem covered (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  have hN : 2 * ((i 0).val / 1024) + (i 1).val / 1024 < cfg0.N := Nat.lt_of_lt_of_eq (by omega : _ < 16) N_0.symm
  refine ⟨⟨2 * ((i 0).val / 1024) + (i 1).val / 1024, hN⟩, flush0_3 _, ?_⟩
  have e := emb3 ⟨2 * ((i 0).val / 1024) + (i 1).val / 1024, hN⟩ ⟨(i 0).val % 1024, Nat.mod_lt _ (by decide)⟩ ⟨(i 1).val % 1024, Nat.mod_lt _ (by decide)⟩
  have hi : i = ix2 (row ⟨2 * ((i 0).val / 1024) + (i 1).val / 1024, hN⟩ ⟨(i 0).val % 1024, Nat.mod_lt _ (by decide)⟩) (col ⟨2 * ((i 0).val / 1024) + (i 1).val / 1024, hN⟩ ⟨(i 1).val % 1024, Nat.mod_lt _ (by decide)⟩) :=
    funext fun a => match a with
      | ⟨0, _⟩ => Fin.ext (by show (i 0).val = 1024 * ((2 * ((i 0).val / 1024) + (i 1).val / 1024) / 2) + (i 0).val % 1024; omega)
      | ⟨1, _⟩ => Fin.ext (by show (i 1).val = 1024 * ((2 * ((i 0).val / 1024) + (i 1).val / 1024) % 2) + (i 1).val % 1024; omega)
  exact (congrArg (· ∈ _) (e.trans hi.symm)).mp (View.emb_mem_set _ _)

theorem result (a : A) (b : B) (x : O) (ha : V m c (Pipeline.arrRef spec0 0) = a) (hb : V m c (Pipeline.arrRef spec0 1) = b) (hx : V m c (Pipeline.arrRef spec0 2) = x) : (dats m 0 c).arrAt 3 cfg0.N = res a b x :=
  (dats m 0 c).arrAt_eq_of_cover 3 _ (fun t _ => flushed_at m c a b x ha hb hx t) covered

/-! ## The host's line before the call, and the reference -/

/-- The output weights as the call takes them. -/
def hOut (w : FVec Ideal S2048x2048 .f32) : B := truncf .bf16 w Facts₀.bitsLt_bf16_f32

theorem V_out : V m c (Pipeline.arrRef spec0 1) = hOut (m ((c.tc : Thread nD τ).loc main_arg1)) := by
  show V m c main_v0 = _
  unfold V; after_results_simp; rfl

/-- The reference's result, entry by entry: the same two terms in the other order. -/
theorem reference (a : FVec Ideal OutRefIdeal.S8192x2048 .bf16) (w : FVec Ideal OutRefIdeal.S2048x2048 .f32) (x : FVec Ideal OutRefIdeal.S8192x2048 .f32) :
    addf x (Host.dotGeneral OutRefIdeal.dot_S8192x2048_S2048x2048_S8192x2048_1_0_0_1_n_n none (extf .f32 a OutRefIdeal.Facts₀.bitsLt_bf16_f32) w) = res a (hOut w) x :=
  eq_of_at _ _ fun i j => by
    have r : res a (hOut w) x (ix2 i j) = x (ix2 i j) + ∑ k : Fin 2048, a (ix2 i k) * w (ix2 k j) := add_comm _ _
    rw [r]
    pointwise

/-- The call's result is the reference's. -/
theorem algebraic : Cert.algebraic_OutIdeal_OutRefIdeal := by
  intro m ρ m' ρ' _ hag
  refine ⟨fun c => res (m ((c.tc : Thread nD τ).loc main_arg0)) (hOut (m ((c.tc : Thread nD τ).loc main_arg1))) (m ((c.tc : Thread nD τ).loc main_arg2)), ?_, ?_⟩
  · refine (θ_run Cert.OutIdeal.defs _ _).mono (fun r h c => ?_) (Cert.OutIdeal.Value.run_blocks (F := Ideal) m ρ)
    exact ⟨(h c).1.trans (result m c _ _ _ (V_main_arg0 m c) (V_out m c) (V_main_arg2 m c)), (h c).2⟩
  · refine (θ_run Cert.OutRefIdeal.defs _ _).mono (fun r h c => ?_) (Cert.OutRefIdeal.Value.run (F := Ideal) m' ρ')
    obtain ⟨e0, e1, e2⟩ := hag c
    refine ⟨(h c).1.trans ?_, (h c).2⟩
    rw [e0, e1, e2]
    exact reference _ _ _

end Cert.OutIdeal

end
-- ==== Proof.DattnValue.lean ====
/-
  The call that makes the cotangent of the attention's output: its result is the product of the cotangent of the
  layer's output with the transposed output weights.
-/
module

public import proofs.«01_k».proof.Defs
public import proofs.«01_k».proof.Proof.Blocked
public import proofs.«01_k».proof.Proof.Gen.Dattn.Frame
public import proofs.«01_k».proof.Proof.Gen.DattnIdeal.Value
public import proofs.«01_k».proof.Proof.Gen.DattnRefIdeal.Run
public import Idealize.ShloMosaic.Lib.VecWindow
public import Idealize.ShloMosaic.Lib.Pipeline.ValueKit.Geometry

@[expose] public section

set_option maxRecDepth 16384

noncomputable section

namespace Cert.DattnIdeal

open Idealize.ShloMosaic Idealize.ShloMosaic.TcCoe Idealize.ShloMosaic.Tactic Idealize.SL.Sem
open Cert.DattnIdeal.Gen Cert.DattnIdeal.Value
open Cert.Mlp
open scoped BigOperators

theorem hz : (![0, 0] : Fin 2 → Nat) = fun _ => 0 := funext fun a => by fin_cases a <;> rfl

abbrev A := FVec Ideal S8192x2048 .f32
abbrev B := FVec Ideal S2048x2048 .bf16
abbrev O := FVec Ideal S8192x2048 .bf16

/-- The result: the product of the first factor with the transposed second, entry by entry. -/
def res (a : A) (b : B) : O := fun i => ∑ k : Fin 2048, a (ix2 (i 0) k) * b (ix2 (i 1) k)

/-! ## One tile -/

theorem out_eq (x0 : Vec Ideal S1024x2048 .f32) (x1 : Vec Ideal S1024x2048 .bf16) : out0_2 x0 x1 = k0_pay1 x0 x1 := by
  unfold out0_2
  rw [View.canon_unit_zero hz]
  simp only [View.ld_unit_zero (S := S1024x2048) hz]

theorem pay1_at (x0 : Vec Ideal S1024x2048 .f32) (x1 : Vec Ideal S1024x2048 .bf16) (p q : Fin 1024) :
    k0_pay1 x0 x1 (ix2 p q) = ∑ k : Fin 2048, x0 (ix2 p k) * x1 (ix2 q k) := by
  pointwise [k0_pay1]

variable (m : (ℓ : Loc nD τ sig) → Buf (Elt Ideal) ℓ) (c : Dev nD)

theorem lt16 (t : Fin cfg0.N) : t.val < 16 := Nat.lt_of_lt_of_eq t.isLt N_0

theorem idx (t : Fin cfg0.N) : win0_0.index t = ![t.val / 2, 0] ∧ win0_1.index t = ![t.val % 2, 0] ∧ win0_2.index t = ![t.val / 2, t.val % 2] :=
  (by decide +kernel : ∀ t : Fin grid0.N, win0_0.index t = ![t.val / 2, 0] ∧ win0_1.index t = ![t.val % 2, 0] ∧ win0_2.index t = ![t.val / 2, t.val % 2]) t

/-- Row `p` of point `t`'s tile. -/
def row (t : Fin cfg0.N) (p : Fin 1024) : Fin 8192 := ⟨1024 * (t.val / 2) + p.val, by have := lt16 t; omega⟩
/-- Column `q` of point `t`'s tile. -/
def col (t : Fin cfg0.N) (q : Fin 1024) : Fin 2048 := ⟨1024 * (t.val % 2) + q.val, by omega⟩

theorem emb0 (t : Fin cfg0.N) (p : Fin 1024) (k : Fin 2048) : (((cfg0.win 0).blk t).view.emb (ix2 p k) : S8192x2048.Idx) = ix2 (row t p) k := by
  have hh := lt16 t
  blk_ext [row, idx t]
theorem emb1 (t : Fin cfg0.N) (q : Fin 1024) (k : Fin 2048) : (((cfg0.win 1).blk t).view.emb (ix2 q k) : S2048x2048.Idx) = ix2 (col t q) k := by
  have hh := lt16 t
  blk_ext [col, idx t]
theorem emb2 (t : Fin cfg0.N) (p q : Fin 1024) : (((cfg0.win 2).blk t).view.emb (ix2 p q) : S8192x2048.Idx) = ix2 (row t p) (col t q) := by
  have hh := lt16 t
  blk_ext [row, col, idx t]

theorem of0 (t : Fin cfg0.N) (x : S1024x2048.Idx) (L : A) : (((cfg0.win 0).blk t).view.read (Elt Ideal) L : Vec Ideal S1024x2048 .f32) x = L (((cfg0.win 0).blk t).view.emb x) := rfl
theorem of1 (t : Fin cfg0.N) (x : S1024x2048.Idx) (L : B) : (((cfg0.win 1).blk t).view.read (Elt Ideal) L : Vec Ideal S1024x2048 .bf16) x = L (((cfg0.win 1).blk t).view.emb x) := rfl

theorem tile_at (t : Fin cfg0.N) (p q : Fin 1024) (a : A) (b : B) (ha : V m c (Pipeline.arrRef spec0 0) = a) (hb : V m c (Pipeline.arrRef spec0 1) = b) :
    out0_2 (iblk m c 0 t) (iblk m c 1 t) (ix2 p q) = res a b (ix2 (row t p) (col t q)) := by
  rw [out_eq, pay1_at]
  unfold iblk res
  rw [ha, hb]
  refine Finset.sum_congr rfl fun k _ => ?_
  exact congrArg₂ _ ((of0 t _ a).trans (congrArg a (emb0 t p k))) ((of1 t _ b).trans (congrArg b (emb1 t q k)))

/-! ## The whole array -/

theorem flushed_at (a : A) (b : B) (ha : V m c (Pipeline.arrRef spec0 0) = a) (hb : V m c (Pipeline.arrRef spec0 1) = b) (t : Fin cfg0.N) :
    (dats m 0 c).flushed 2 t = ((cfg0.win 2).blk t).view.read (Elt Ideal) (res a b) := by
  rw [flushed2]
  refine eq_of_at (n := 1024) (k := 1024) (α := EReal) _ _ fun p q => ?_
  exact (tile_at m c t p q a b ha hb).trans (congrArg (res a b) (emb2 t p q).symm)

theorem covered (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have hN : 2 * ((i 0).val / 1024) + (i 1).val / 1024 < cfg0.N := Nat.lt_of_lt_of_eq (by omega : _ < 16) N_0.symm
  refine ⟨⟨2 * ((i 0).val / 1024) + (i 1).val / 1024, hN⟩, flush0_2 _, ?_⟩
  have e := emb2 ⟨2 * ((i 0).val / 1024) + (i 1).val / 1024, hN⟩ ⟨(i 0).val % 1024, Nat.mod_lt _ (by decide)⟩ ⟨(i 1).val % 1024, Nat.mod_lt _ (by decide)⟩
  have hi : i = ix2 (row ⟨2 * ((i 0).val / 1024) + (i 1).val / 1024, hN⟩ ⟨(i 0).val % 1024, Nat.mod_lt _ (by decide)⟩) (col ⟨2 * ((i 0).val / 1024) + (i 1).val / 1024, hN⟩ ⟨(i 1).val % 1024, Nat.mod_lt _ (by decide)⟩) :=
    funext fun a => match a with
      | ⟨0, _⟩ => Fin.ext (by show (i 0).val = 1024 * ((2 * ((i 0).val / 1024) + (i 1).val / 1024) / 2) + (i 0).val % 1024; omega)
      | ⟨1, _⟩ => Fin.ext (by show (i 1).val = 1024 * ((2 * ((i 0).val / 1024) + (i 1).val / 1024) % 2) + (i 1).val % 1024; omega)
  exact (congrArg (· ∈ _) (e.trans hi.symm)).mp (View.emb_mem_set _ _)

theorem result (a : A) (b : B) (ha : V m c (Pipeline.arrRef spec0 0) = a) (hb : V m c (Pipeline.arrRef spec0 1) = b) : (dats m 0 c).arrAt 2 cfg0.N = res a b :=
  (dats m 0 c).arrAt_eq_of_cover 2 _ (fun t _ => flushed_at m c a b ha hb t) covered

/-! ## The host's line before the call, and the reference -/

/-- The output weights as the call takes them. -/
def hOut (w : FVec Ideal S2048x2048 .f32) : B := truncf .bf16 w Facts₀.bitsLt_bf16_f32

theorem V_out : V m c (Pipeline.arrRef spec0 1) = hOut (m ((c.tc : Thread nD τ).loc main_arg1)) := by
  show V m c main_v0 = _
  unfold V; after_results_simp; rfl

/-- The reference's result, entry by entry. -/
theorem reference (a : FVec Ideal DattnRefIdeal.S8192x2048 .f32) (w : FVec Ideal DattnRefIdeal.S2048x2048 .f32) :
    truncf .bf16 (Host.dotGeneral DattnRefIdeal.dot_S8192x2048_S2048x2048_S8192x2048_1_1_0_0_n_n none a w) DattnRefIdeal.Facts₀.bitsLt_bf16_f32 = res a (hOut w) :=
  eq_of_at _ _ fun i j => by pointwise [res, hOut]

/-- The call's result is the reference's. -/
theorem algebraic : Cert.algebraic_DattnIdeal_DattnRefIdeal := by
  intro m ρ m' ρ' _ hag
  refine ⟨fun c => res (m ((c.tc : Thread nD τ).loc main_arg0)) (hOut (m ((c.tc : Thread nD τ).loc main_arg1))), ?_, ?_⟩
  · refine (θ_run Cert.DattnIdeal.defs _ _).mono (fun r h c => ?_) (Cert.DattnIdeal.Value.run_blocks (F := Ideal) m ρ)
    exact ⟨(h c).1.trans (result m c _ _ (V_main_arg0 m c) (V_out m c)), (h c).2⟩
  · refine (θ_run Cert.DattnRefIdeal.defs _ _).mono (fun r h c => ?_) (Cert.DattnRefIdeal.Value.run (F := Ideal) m' ρ')
    obtain ⟨e0, e1⟩ := hag c
    refine ⟨(h c).1.trans ?_, (h c).2⟩
    rw [e0, e1]
    exact reference _ _

end Cert.DattnIdeal

end
-- ==== Proof.GoutValue.lean ====
/-
  The call that makes the gradient of the output weights: its result is the product of the transposed attention's
  output with the cotangent of the layer's output, over all 8192 positions.
-/
module

public import proofs.«01_k».proof.Defs
public import proofs.«01_k».proof.Proof.Blocked
public import proofs.«01_k».proof.Proof.Gen.Gout.Frame
public import proofs.«01_k».proof.Proof.Gen.GoutIdeal.Value
public import proofs.«01_k».proof.Proof.Gen.GoutRefIdeal.Run
public import Idealize.ShloMosaic.Lib.VecWindow
public import Idealize.ShloMosaic.Lib.Pipeline.ValueKit.Geometry

@[expose] public section

set_option maxRecDepth 16384

noncomputable section

namespace Cert.GoutIdeal.Mm

open Idealize.ShloMosaic Idealize.ShloMosaic.TcCoe Idealize.ShloMosaic.Tactic
open Cert.GoutIdeal Cert.GoutIdeal.Gen Cert.GoutIdeal.Value
open Cert.Mlp
open scoped BigOperators

theorem hz : (![0, 0] : Fin 2 → Nat) = fun _ => 0 := funext fun a => by fin_cases a <;> rfl

/-! ## The body in its three cases -/

/-- The first block of the sum is stored. -/
theorem first (c : Dev nD) (i : grid0.Coords) (a3 h3 a4 h4 a5 h5 a6 h6 hc0 hc1 hc2) (x0 : Vec Ideal S2048x1024 .bf16) (x1 : Vec Ideal S2048x1024 .f32) :
    sout0_A_0 (F := Ideal) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S2048x1024) hz]

/-- A middle block is added. -/
theorem middle (c : Dev nD) (i : grid0.Coords) (a3 h3 a4 h4 a5 h5 a6) (h6 : a6.IsWhole) (hc0 hc1 hc2) (x0 : Vec Ideal S2048x1024 .bf16) (x1 : Vec Ideal S2048x1024 .f32) (s : Vec Ideal S1024x1024 .f32) :
    sout0_B_0 (F := Ideal) c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S1024x1024) hz]

/-- The last block is added and the sum written. -/
theorem last (c : Dev nD) (i : grid0.Coords) (a3 h3 a4 h4 a5 h5 a6) (h6 : a6.IsWhole) (hc0 hc1 hc2) (x0 : Vec Ideal S2048x1024 .bf16) (x1 : Vec Ideal S2048x1024 .f32) (s : Vec Ideal S1024x1024 .f32) :
    out0_C_2 (F := Ideal) c i a3 h3 a4 h4 a5 h5 a6 h6 hc0 hc1 hc2 x0 x1 s = k0_pay4 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h6.read_unread, View.ld_unit_zero (S := S2048x1024) hz, View.ld_unit_zero (S := S1024x1024) hz]

theorem pay1_at (x0 : Vec Ideal S2048x1024 .bf16) (x1 : Vec Ideal S2048x1024 .f32) (p q : Fin 1024) : k0_pay1 x0 x1 (ix2 p q) = ∑ k : Fin 2048, x0 (ix2 k p) * x1 (ix2 k q) := by
  pointwise [k0_pay1]
theorem pay2_at (x0 : Vec Ideal S2048x1024 .bf16) (x1 : Vec Ideal S2048x1024 .f32) (p q : Fin 1024) : k0_pay2 x0 x1 (ix2 p q) = k0_pay1 x0 x1 (ix2 p q) := by
  pointwise [k0_pay2]
theorem pay3_at (x0 : Vec Ideal S2048x1024 .bf16) (x1 : Vec Ideal S2048x1024 .f32) (s : Vec Ideal S1024x1024 .f32) (p q : Fin 1024) : k0_pay3 x0 x1 s (ix2 p q) = s (ix2 p q) + k0_pay1 x0 x1 (ix2 p q) := by
  pointwise [k0_pay3]
theorem pay4_at (x0 : Vec Ideal S2048x1024 .bf16) (x1 : Vec Ideal S2048x1024 .f32) (s : Vec Ideal S1024x1024 .f32) (p q : Fin 1024) : k0_pay4 x0 x1 s (ix2 p q) = s (ix2 p q) + k0_pay1 x0 x1 (ix2 p q) := by
  pointwise [k0_pay4]

/-! ## The four points of a tile -/

variable (m : (ℓ : Loc nD τ sig) → Buf (Elt Ideal) ℓ) (c : Dev nD)

theorem lt16 (t : Fin cfg0.N) : t.val < 16 := Nat.lt_of_lt_of_eq t.isLt N_0

/-- The product of the two blocks of point `t`. -/
def part (t : Fin cfg0.N) (p q : Fin 1024) : EReal := k0_pay1 (iblk m c 0 t) (iblk m c 1 t) (ix2 p q)

theorem at_first (t : Fin cfg0.N) (h : t.val % 4 = 0) (p q : Fin 1024) : (outsAt0 m c t.val t.isLt).2 (ix2 p q) = part m c t p q := by
  rw [outsAt0_A m c t h (by omega) (by omega)]
  dsimp only
  rw [first, pay2_at]
  rfl

theorem at_middle (t : Fin cfg0.N) (h : 1 ≤ t.val % 4 ∧ t.val % 4 ≤ 2) (p q : Fin 1024) :
    (outsAt0 m c t.val t.isLt).2 (ix2 p q) = (outsAt0 m c (t.val - 1) (Nat.lt_of_le_of_lt (Nat.sub_le _ _) t.isLt)).2 (ix2 p q) + part m c t p q := by
  rw [outsAt0_B m c t (by omega) h (by omega)]
  dsimp only
  rw [middle, pay3_at]
  rfl

theorem at_last (t : Fin cfg0.N) (h : t.val % 4 = 3) (p q : Fin 1024) :
    (outsAt0 m c t.val t.isLt).1 (ix2 p q) = (outsAt0 m c (t.val - 1) (Nat.lt_of_le_of_lt (Nat.sub_le _ _) t.isLt)).2 (ix2 p q) + part m c t p q := by
  rw [outsAt0_C m c t (by omega) (by omega) h]
  dsimp only
  rw [last, pay4_at]
  rfl

/-- Point `b` of tile `r`. -/
def pt (r b : ℕ) (hr : r < 4) (hb : b < 4) : Fin cfg0.N := ⟨4 * r + b, Nat.lt_of_lt_of_eq (by omega) N_0.symm⟩

theorem tile (r : ℕ) (hr : r < 4) (p q : Fin 1024) :
    (outsAt0 m c (pt r 3 hr (by decide)).val (pt r 3 hr (by decide)).isLt).1 (ix2 p q)
      = ((part m c (pt r 0 hr (by decide)) p q + part m c (pt r 1 hr (by decide)) p q) + part m c (pt r 2 hr (by decide)) p q) + part m c (pt r 3 hr (by decide)) p q := by
  rw [at_last m c (pt r 3 hr _) (by show (4 * r + 3) % 4 = 3; omega),
    show (outsAt0 m c ((pt r 3 hr (by decide)).val - 1) _).2 (ix2 p q) = _ from at_middle m c (pt r 2 hr (by decide)) (by show 1 ≤ (4 * r + 2) % 4 ∧ (4 * r + 2) % 4 ≤ 2; omega) p q,
    show (outsAt0 m c ((pt r 2 hr (by decide)).val - 1) _).2 (ix2 p q) = _ from at_middle m c (pt r 1 hr (by decide)) (by show 1 ≤ (4 * r + 1) % 4 ∧ (4 * r + 1) % 4 ≤ 2; omega) p q,
    show (outsAt0 m c ((pt r 1 hr (by decide)).val - 1) _).2 (ix2 p q) = _ from at_first m c (pt r 0 hr (by decide)) (by show (4 * r + 0) % 4 = 0; omega) p q]

/-! ## The blocks at an index -/

abbrev A := FVec Ideal S8192x2048 .bf16
abbrev B := FVec Ideal S8192x2048 .f32
abbrev O := FVec Ideal S2048x2048 .bf16

theorem idx (t : Fin cfg0.N) : win0_0.index t = ![t.val % 4, t.val / 8] ∧ win0_1.index t = ![t.val % 4, t.val / 4 % 2] :=
  (by decide +kernel : ∀ t : Fin grid0.N, win0_0.index t = ![t.val % 4, t.val / 8] ∧ win0_1.index t = ![t.val % 4, t.val / 4 % 2]) t

theorem emb0 (t : Fin cfg0.N) (k : Fin 2048) (p : Fin 1024) :
    (((cfg0.win 0).blk t).view.emb (ix2 k p) : S8192x2048.Idx) = ix2 (at4 (t.val % 4) (Nat.mod_lt _ (by decide)) k) ⟨1024 * (t.val / 8) + p.val, by have := lt16 t; omega⟩ := by
  have hh := lt16 t
  blk_ext [at4, idx t]
theorem emb1 (t : Fin cfg0.N) (k : Fin 2048) (q : Fin 1024) :
    (((cfg0.win 1).blk t).view.emb (ix2 k q) : S8192x2048.Idx) = ix2 (at4 (t.val % 4) (Nat.mod_lt _ (by decide)) k) ⟨1024 * (t.val / 4 % 2) + q.val, by omega⟩ := by
  have hh := lt16 t
  blk_ext [at4, idx t]

theorem of0 (t : Fin cfg0.N) (x : S2048x1024.Idx) (L : A) : (((cfg0.win 0).blk t).view.read (Elt Ideal) L : Vec Ideal S2048x1024 .bf16) x = L (((cfg0.win 0).blk t).view.emb x) := rfl
theorem of1 (t : Fin cfg0.N) (x : S2048x1024.Idx) (L : B) : (((cfg0.win 1).blk t).view.read (Elt Ideal) L : Vec Ideal S2048x1024 .f32) x = L (((cfg0.win 1).blk t).view.emb x) := rfl

theorem part_at (t : Fin cfg0.N) (p q : Fin 1024) (a : A) (b : B) (ha : V m c (Pipeline.arrRef spec0 0) = a) (hb : V m c (Pipeline.arrRef spec0 1) = b) :
    part m c t p q = ∑ k : Fin 2048, a (ix2 (at4 (t.val % 4) (Nat.mod_lt _ (by decide)) k) ⟨1024 * (t.val / 8) + p.val, by have := lt16 t; omega⟩)
      * b (ix2 (at4 (t.val % 4) (Nat.mod_lt _ (by decide)) k) ⟨1024 * (t.val / 4 % 2) + q.val, by omega⟩) := by
  unfold part
  rw [pay1_at]
  refine Finset.sum_congr rfl fun k _ => ?_
  unfold iblk
  rw [ha, hb, ← emb0, ← emb1]
  exact congrArg₂ _ (of0 t _ a) (of1 t _ b)

/-! ## The result -/

/-- The product of the transposed first factor and the second. -/
def prod (a : A) (b : B) : O := fun i => ∑ k : Fin 8192, a (ix2 k (i 0)) * b (ix2 k (i 1))

theorem result (a : A) (b : B) (ha : V m c (Pipeline.arrRef spec0 0) = a) (hb : V m c (Pipeline.arrRef spec0 1) = b) : G2 m c = prod a b := by
  funext i
  have h0 : (i 0).val < 2048 := (i 0).isLt
  have h1 : (i 1).val < 2048 := (i 1).isLt
  have hr : 2 * ((i 0).val / 1024 - 0) + 1 * ((i 1).val / 1024 - 0) < 4 := by omega
  have hp : pt2Of i < cfg0.N := Nat.lt_of_lt_of_eq (by show 4 * (2 * ((i 0).val / 1024 - 0) + 1 * ((i 1).val / 1024 - 0)) + 3 < 16; omega) N_0.symm
  have hl : loc2Of i = ix2 ⟨(i 0).val % 1024, Nat.mod_lt _ (by decide)⟩ ⟨(i 1).val % 1024, Nat.mod_lt _ (by decide)⟩ := funext fun a => match a with
    | ⟨0, _⟩ => rfl
    | ⟨1, _⟩ => rfl
  have e : G2 m c i = (outsAt0 m c (pt2Of i) hp).1 (loc2Of i) := by
    unfold G2; rw [dif_pos hp, outsAt0_sweep]
  rw [e, hl]
  refine (tile m c _ hr _ _).trans ?_
  unfold prod
  rw [← sum_blocks]
  have hpart : ∀ (b' : ℕ) (hb' : b' < 4), part m c (pt _ b' hr hb') ⟨(i 0).val % 1024, Nat.mod_lt _ (by decide)⟩ ⟨(i 1).val % 1024, Nat.mod_lt _ (by decide)⟩
      = ∑ k : Fin 2048, a (ix2 (at4 b' hb' k) (i 0)) * b (ix2 (at4 b' hb' k) (i 1)) := fun b' hb' => by
    rw [part_at m c _ _ _ a b ha hb]
    refine Finset.sum_congr rfl fun k _ => congrArg₂ _ (congrArg a ?_) (congrArg b ?_)
    · refine congrArg₂ ix2 (Fin.ext ?_) (Fin.ext ?_)
      · simp only [at4, pt]; omega
      · simp only [pt]; omega
    · refine congrArg₂ ix2 (Fin.ext ?_) (Fin.ext ?_)
      · simp only [at4, pt]; omega
      · simp only [pt]; omega
  rw [hpart 0, hpart 1, hpart 2, hpart 3]

end Cert.GoutIdeal.Mm

namespace Cert.GoutIdeal

open Idealize.ShloMosaic Idealize.ShloMosaic.TcCoe Idealize.ShloMosaic.Tactic Idealize.SL.Sem
open Cert.Mlp

/-- The reference's result, entry by entry: its terms' factors in the other order. -/
theorem reference (a : FVec Ideal GoutRefIdeal.S8192x2048 .bf16) (d : FVec Ideal GoutRefIdeal.S8192x2048 .f32) :
    truncf .bf16 (transpose GoutRefIdeal.S2048x2048 [1, 0] (Host.dotGeneral GoutRefIdeal.dot_S8192x2048_S8192x2048_S2048x2048_0_0_1_1_n_n none d
      (extf .f32 a GoutRefIdeal.Facts₀.bitsLt_bf16_f32)) GoutRefIdeal.Facts₀.transposes_S2048x2048_S2048x2048_1_0) GoutRefIdeal.Facts₀.bitsLt_bf16_f32
      = Mm.prod a d :=
  eq_of_at _ _ fun i j => by
    have r : Mm.prod a d (ix2 i j) = ∑ k : Fin 8192, d (ix2 k j) * a (ix2 k i) := Finset.sum_congr rfl fun k _ => mul_comm _ _
    rw [r]
    pointwise

/-- The call's result is the reference's. -/
theorem algebraic : Cert.algebraic_GoutIdeal_GoutRefIdeal := by
  intro m ρ m' ρ' _ hag
  refine ⟨fun c => Mm.prod (m ((c.tc : Thread nD τ).loc main_arg0)) (m ((c.tc : Thread nD τ).loc main_arg1)), ?_, ?_⟩
  · refine (θ_run Cert.GoutIdeal.defs _ _).mono (fun r h c => ?_) (Cert.GoutIdeal.Value.run (F := Ideal) m ρ)
    exact ⟨(h c).1.trans (Mm.result m c _ _ rfl rfl), (h c).2⟩
  · refine (θ_run Cert.GoutRefIdeal.defs _ _).mono (fun r h c => ?_) (Cert.GoutRefIdeal.Value.run (F := Ideal) m' ρ')
    obtain ⟨e0, e1⟩ := hag c
    refine ⟨(h c).1.trans ?_, (h c).2⟩
    rw [e0, e1]
    exact reference _ _

end Cert.GoutIdeal

end
-- ==== Proof.OddInValue.lean ====
/-
  The call that makes the queries, keys and values of the odd layer's attention: its result is the product of the normed
  input with the layer's input weights.
-/
module

public import proofs.«01_k».proof.Defs
public import proofs.«01_k».proof.Proof.Blocked
public import proofs.«01_k».proof.Proof.Gen.OddIn.Frame
public import proofs.«01_k».proof.Proof.Gen.OddInIdeal.Value
public import proofs.«01_k».proof.Proof.Gen.OddInRefIdeal.Run
public import Idealize.ShloMosaic.Lib.VecWindow
public import Idealize.ShloMosaic.Lib.Pipeline.ValueKit.Geometry

@[expose] public section

set_option maxRecDepth 16384

noncomputable section

namespace Cert.OddInIdeal

open Idealize.ShloMosaic Idealize.ShloMosaic.TcCoe Idealize.ShloMosaic.Tactic Idealize.SL.Sem
open Cert.OddInIdeal.Gen Cert.OddInIdeal.Value
open Cert.Mlp
open scoped BigOperators

theorem hz : (![0, 0] : Fin 2 → Nat) = fun _ => 0 := funext fun a => by fin_cases a <;> rfl

abbrev A := FVec Ideal S8192x2048 .bf16
abbrev B := FVec Ideal S2560x2048 .bf16
abbrev O := FVec Ideal S8192x2560 .f32

/-- The result: the product of the first factor with the transposed second, entry by entry. -/
def res (a : A) (b : B) : O := fun i => ∑ k : Fin 2048, a (ix2 (i 0) k) * b (ix2 (i 1) k)

/-! ## One tile -/

theorem out_eq (x0 : Vec Ideal S1024x2048 .bf16) (x1 : Vec Ideal S1280x2048 .bf16) : out0_2 x0 x1 = k0_pay1 x0 x1 := by
  unfold out0_2
  rw [View.canon_unit_zero hz]
  simp only [View.ld_unit_zero (S := S1024x2048) hz, View.ld_unit_zero (S := S1280x2048) hz]

theorem pay1_at (x0 : Vec Ideal S1024x2048 .bf16) (x1 : Vec Ideal S1280x2048 .bf16) (p : Fin 1024) (q : Fin 1280) :
    k0_pay1 x0 x1 (ix2 p q) = ∑ k : Fin 2048, x0 (ix2 p k) * x1 (ix2 q k) := by
  pointwise [k0_pay1]

variable (m : (ℓ : Loc nD τ sig) → Buf (Elt Ideal) ℓ) (c : Dev nD)

theorem lt16 (t : Fin cfg0.N) : t.val < 16 := Nat.lt_of_lt_of_eq t.isLt N_0

theorem idx (t : Fin cfg0.N) : win0_0.index t = ![t.val / 2, 0] ∧ win0_1.index t = ![t.val % 2, 0] ∧ win0_2.index t = ![t.val / 2, t.val % 2] :=
  (by decide +kernel : ∀ t : Fin grid0.N, win0_0.index t = ![t.val / 2, 0] ∧ win0_1.index t = ![t.val % 2, 0] ∧ win0_2.index t = ![t.val / 2, t.val % 2]) t

/-- Row `p` of point `t`'s tile. -/
def row (t : Fin cfg0.N) (p : Fin 1024) : Fin 8192 := ⟨1024 * (t.val / 2) + p.val, by have := lt16 t; omega⟩
/-- Column `q` of point `t`'s tile. -/
def col (t : Fin cfg0.N) (q : Fin 1280) : Fin 2560 := ⟨1280 * (t.val % 2) + q.val, by omega⟩

theorem emb0 (t : Fin cfg0.N) (p : Fin 1024) (k : Fin 2048) : (((cfg0.win 0).blk t).view.emb (ix2 p k) : S8192x2048.Idx) = ix2 (row t p) k := by
  have hh := lt16 t
  blk_ext [row, idx t]
theorem emb1 (t : Fin cfg0.N) (q : Fin 1280) (k : Fin 2048) : (((cfg0.win 1).blk t).view.emb (ix2 q k) : S2560x2048.Idx) = ix2 (col t q) k := by
  have hh := lt16 t
  blk_ext [col, idx t]
theorem emb2 (t : Fin cfg0.N) (p : Fin 1024) (q : Fin 1280) : (((cfg0.win 2).blk t).view.emb (ix2 p q) : S8192x2560.Idx) = ix2 (row t p) (col t q) := by
  have hh := lt16 t
  blk_ext [row, col, idx t]

theorem of0 (t : Fin cfg0.N) (x : S1024x2048.Idx) (L : A) : (((cfg0.win 0).blk t).view.read (Elt Ideal) L : Vec Ideal S1024x2048 .bf16) x = L (((cfg0.win 0).blk t).view.emb x) := rfl
theorem of1 (t : Fin cfg0.N) (x : S1280x2048.Idx) (L : B) : (((cfg0.win 1).blk t).view.read (Elt Ideal) L : Vec Ideal S1280x2048 .bf16) x = L (((cfg0.win 1).blk t).view.emb x) := rfl

theorem tile_at (t : Fin cfg0.N) (p : Fin 1024) (q : Fin 1280) (a : A) (b : B) (ha : V m c (Pipeline.arrRef spec0 0) = a) (hb : V m c (Pipeline.arrRef spec0 1) = b) :
    out0_2 (iblk m c 0 t) (iblk m c 1 t) (ix2 p q) = res a b (ix2 (row t p) (col t q)) := by
  rw [out_eq, pay1_at]
  unfold iblk res
  rw [ha, hb]
  refine Finset.sum_congr rfl fun k _ => ?_
  exact congrArg₂ _ ((of0 t _ a).trans (congrArg a (emb0 t p k))) ((of1 t _ b).trans (congrArg b (emb1 t q k)))

/-! ## The whole array -/

theorem flushed_at (a : A) (b : B) (ha : V m c (Pipeline.arrRef spec0 0) = a) (hb : V m c (Pipeline.arrRef spec0 1) = b) (t : Fin cfg0.N) :
    (dats m 0 c).flushed 2 t = ((cfg0.win 2).blk t).view.read (Elt Ideal) (res a b) := by
  rw [flushed2]
  refine eq_of_at (n := 1024) (k := 1280) (α := EReal) _ _ fun p q => ?_
  exact (tile_at m c t p q a b ha hb).trans (congrArg (res a b) (emb2 t p q).symm)

theorem covered (i : S8192x2560.Idx) : ∃ t : Fin cfg0.N, (cfg0.win 2).flush t = true ∧ i ∈ ((cfg0.win 2).blk t).view.set := by
  have h0 : (i 0).val < 8192 := (i 0).isLt
  have h1 : (i 1).val < 2560 := (i 1).isLt
  have hN : 2 * ((i 0).val / 1024) + (i 1).val / 1280 < cfg0.N := Nat.lt_of_lt_of_eq (by omega : _ < 16) N_0.symm
  refine ⟨⟨2 * ((i 0).val / 1024) + (i 1).val / 1280, hN⟩, flush0_2 _, ?_⟩
  have e := emb2 ⟨2 * ((i 0).val / 1024) + (i 1).val / 1280, hN⟩ ⟨(i 0).val % 1024, Nat.mod_lt _ (by decide)⟩ ⟨(i 1).val % 1280, Nat.mod_lt _ (by decide)⟩
  have hi : i = ix2 (row ⟨2 * ((i 0).val / 1024) + (i 1).val / 1280, hN⟩ ⟨(i 0).val % 1024, Nat.mod_lt _ (by decide)⟩) (col ⟨2 * ((i 0).val / 1024) + (i 1).val / 1280, hN⟩ ⟨(i 1).val % 1280, Nat.mod_lt _ (by decide)⟩) :=
    funext fun a => match a with
      | ⟨0, _⟩ => Fin.ext (by show (i 0).val = 1024 * ((2 * ((i 0).val / 1024) + (i 1).val / 1280) / 2) + (i 0).val % 1024; omega)
      | ⟨1, _⟩ => Fin.ext (by show (i 1).val = 1280 * ((2 * ((i 0).val / 1024) + (i 1).val / 1280) % 2) + (i 1).val % 1280; omega)
  exact (congrArg (· ∈ _) (e.trans hi.symm)).mp (View.emb_mem_set _ _)

theorem result (a : A) (b : B) (ha : V m c (Pipeline.arrRef spec0 0) = a) (hb : V m c (Pipeline.arrRef spec0 1) = b) : (dats m 0 c).arrAt 2 cfg0.N = res a b :=
  (dats m 0 c).arrAt_eq_of_cover 2 _ (fun t _ => flushed_at m c a b ha hb t) covered

/-! ## The host's lines before the call, and the reference -/

/-- The transposed weights, as the call takes them. -/
def hW (w : FVec Ideal S2048x2560 .f32) : B :=
  truncf .bf16 (transpose S2560x2048 [1, 0] w Facts₀.transposes_S2048x2560_S2560x2048_1_0) Facts₀.bitsLt_bf16_f32

theorem V_W : V m c (Pipeline.arrRef spec0 1) = hW (m ((c.tc : Thread nD τ).loc main_arg1)) := by
  show V m c main_v1 = _
  unfold V; after_results_simp; rfl

/-- The reference's result, entry by entry. -/
theorem reference (a : FVec Ideal OddInRefIdeal.S8192x2048 .bf16) (w : FVec Ideal OddInRefIdeal.S2048x2560 .f32) :
    Host.dotGeneral OddInRefIdeal.dot_S8192x2048_S2048x2560_S8192x2560_1_0_0_1_n_n none (extf .f32 a OddInRefIdeal.Facts₀.bitsLt_bf16_f32) w = res a (hW w) :=
  eq_of_at _ _ fun i j => by pointwise [res, hW]

/-- The call's result is the reference's. -/
theorem algebraic : Cert.algebraic_OddInIdeal_OddInRefIdeal := by
  intro m ρ m' ρ' _ hag
  refine ⟨fun c => res (m ((c.tc : Thread nD τ).loc main_arg0)) (hW (m ((c.tc : Thread nD τ).loc main_arg1))), ?_, ?_⟩
  · refine (θ_run Cert.OddInIdeal.defs _ _).mono (fun r h c => ?_) (Cert.OddInIdeal.Value.run_blocks (F := Ideal) m ρ)
    exact ⟨(h c).1.trans (result m c _ _ (V_main_arg0 m c) (V_W m c)), (h c).2⟩
  · refine (θ_run Cert.OddInRefIdeal.defs _ _).mono (fun r h c => ?_) (Cert.OddInRefIdeal.Value.run (F := Ideal) m' ρ')
    obtain ⟨e0, e1⟩ := hag c
    refine ⟨(h c).1.trans ?_, (h c).2⟩
    rw [e0, e1]
    exact reference _ _

end Cert.OddInIdeal

end
-- ==== Proof.OddGinValue.lean ====
/-
  The call that makes the gradient of the odd layer's input weights: its result is the product of the transposed
  cotangent of the queries, keys and values with the layer's normed input, over all 8192 positions.
-/
module

public import proofs.«01_k».proof.Defs
public import proofs.«01_k».proof.Proof.Blocked
public import proofs.«01_k».proof.Proof.Gen.OddGin.Frame
public import proofs.«01_k».proof.Proof.Gen.OddGinIdeal.Value
public import proofs.«01_k».proof.Proof.Gen.OddGinRefIdeal.Run
public import Idealize.ShloMosaic.Lib.VecWindow
public import Idealize.ShloMosaic.Lib.Pipeline.ValueKit.Geometry

@[expose] public section

set_option maxRecDepth 16384

noncomputable section

namespace Cert.OddGinIdeal.Mm

open Idealize.ShloMosaic Idealize.ShloMosaic.TcCoe Idealize.ShloMosaic.Tactic
open Cert.OddGinIdeal Cert.OddGinIdeal.Gen Cert.OddGinIdeal.Value
open Cert.Mlp
open scoped BigOperators

theorem hz : (![0, 0] : Fin 2 → Nat) = fun _ => 0 := funext fun a => by fin_cases a <;> rfl

/-! ## The body in its three cases -/

/-- The first block of the sum is stored. -/
theorem first (c : Dev nD) (i : grid0.Coords) (a3 h3 a4 h4 a5 h5 a6 h6 hc0 hc1 hc2) (x0 : Vec Ideal S2048x1280 .bf16) (x1 : Vec Ideal S2048x1024 .bf16) :
    sout0_A_0 (F := Ideal) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S2048x1280) hz, View.ld_unit_zero (S := S2048x1024) hz]

/-- A middle block is added. -/
theorem middle (c : Dev nD) (i : grid0.Coords) (a3 h3 a4 h4 a5 h5 a6) (h6 : a6.IsWhole) (hc0 hc1 hc2) (x0 : Vec Ideal S2048x1280 .bf16) (x1 : Vec Ideal S2048x1024 .bf16) (s : Vec Ideal S1280x1024 .f32) :
    sout0_B_0 (F := Ideal) c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero hz]
  simp only [View.readAt_eq_ld, h3.read_unread, h4.read_unread, h6.read_unread, View.ld_unit_zero (S := S2048x1280) hz, View.ld_unit_zero (S := S2048x1024) hz, View.ld_unit_zero (S := S1280x1024) hz]

/-- The last block is added and the sum written. -/
theorem last (c : Dev nD) (i : grid0.Coords) (a3 h3 a4 h4 a5 h5 a6) (h6 : a6.IsWhole) (hc0 hc1 hc2) (x0 : Vec Ideal S2048x1280 .bf16) (x1 : Vec Ideal S2048x1024 .bf16) (s : Vec Ideal S1280x1024 .f32) :
    out0_C_2 (F := Ideal) c i a3 h3 a4 h4 a5 h5 a6 h6 hc0 hc1 hc2 x0 x1 s = k0_pay4 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h6.read_unread, View.ld_unit_zero (S := S2048x1280) hz, View.ld_unit_zero (S := S2048x1024) hz, View.ld_unit_zero (S := S1280x1024) hz]

theorem pay1_at (x0 : Vec Ideal S2048x1280 .bf16) (x1 : Vec Ideal S2048x1024 .bf16) (p : Fin 1280) (q : Fin 1024) : k0_pay1 x0 x1 (ix2 p q) = ∑ k : Fin 2048, x0 (ix2 k p) * x1 (ix2 k q) := by
  pointwise [k0_pay1]
theorem pay2_at (x0 : Vec Ideal S2048x1280 .bf16) (x1 : Vec Ideal S2048x1024 .bf16) (p : Fin 1280) (q : Fin 1024) : k0_pay2 x0 x1 (ix2 p q) = k0_pay1 x0 x1 (ix2 p q) := by
  pointwise [k0_pay2]
theorem pay3_at (x0 : Vec Ideal S2048x1280 .bf16) (x1 : Vec Ideal S2048x1024 .bf16) (s : Vec Ideal S1280x1024 .f32) (p : Fin 1280) (q : Fin 1024) : k0_pay3 x0 x1 s (ix2 p q) = s (ix2 p q) + k0_pay1 x0 x1 (ix2 p q) := by
  pointwise [k0_pay3]
theorem pay4_at (x0 : Vec Ideal S2048x1280 .bf16) (x1 : Vec Ideal S2048x1024 .bf16) (s : Vec Ideal S1280x1024 .f32) (p : Fin 1280) (q : Fin 1024) : k0_pay4 x0 x1 s (ix2 p q) = s (ix2 p q) + k0_pay1 x0 x1 (ix2 p q) := by
  pointwise [k0_pay4]

/-! ## The four points of a tile -/

variable (m : (ℓ : Loc nD τ sig) → Buf (Elt Ideal) ℓ) (c : Dev nD)

theorem lt16 (t : Fin cfg0.N) : t.val < 16 := Nat.lt_of_lt_of_eq t.isLt N_0

/-- The product of the two blocks of point `t`. -/
def part (t : Fin cfg0.N) (p : Fin 1280) (q : Fin 1024) : EReal := k0_pay1 (iblk m c 0 t) (iblk m c 1 t) (ix2 p q)

theorem at_first (t : Fin cfg0.N) (h : t.val % 4 = 0) (p : Fin 1280) (q : Fin 1024) : (outsAt0 m c t.val t.isLt).2 (ix2 p q) = part m c t p q := by
  rw [outsAt0_A m c t h (by omega) (by omega)]
  dsimp only
  rw [first, pay2_at]
  rfl

theorem at_middle (t : Fin cfg0.N) (h : 1 ≤ t.val % 4 ∧ t.val % 4 ≤ 2) (p : Fin 1280) (q : Fin 1024) :
    (outsAt0 m c t.val t.isLt).2 (ix2 p q) = (outsAt0 m c (t.val - 1) (Nat.lt_of_le_of_lt (Nat.sub_le _ _) t.isLt)).2 (ix2 p q) + part m c t p q := by
  rw [outsAt0_B m c t (by omega) h (by omega)]
  dsimp only
  rw [middle, pay3_at]
  rfl

theorem at_last (t : Fin cfg0.N) (h : t.val % 4 = 3) (p : Fin 1280) (q : Fin 1024) :
    (outsAt0 m c t.val t.isLt).1 (ix2 p q) = (outsAt0 m c (t.val - 1) (Nat.lt_of_le_of_lt (Nat.sub_le _ _) t.isLt)).2 (ix2 p q) + part m c t p q := by
  rw [outsAt0_C m c t (by omega) (by omega) h]
  dsimp only
  rw [last, pay4_at]
  rfl

/-- Point `b` of tile `r`. -/
def pt (r b : ℕ) (hr : r < 4) (hb : b < 4) : Fin cfg0.N := ⟨4 * r + b, Nat.lt_of_lt_of_eq (by omega) N_0.symm⟩

theorem tile (r : ℕ) (hr : r < 4) (p : Fin 1280) (q : Fin 1024) :
    (outsAt0 m c (pt r 3 hr (by decide)).val (pt r 3 hr (by decide)).isLt).1 (ix2 p q)
      = ((part m c (pt r 0 hr (by decide)) p q + part m c (pt r 1 hr (by decide)) p q) + part m c (pt r 2 hr (by decide)) p q) + part m c (pt r 3 hr (by decide)) p q := by
  rw [at_last m c (pt r 3 hr _) (by show (4 * r + 3) % 4 = 3; omega),
    show (outsAt0 m c ((pt r 3 hr (by decide)).val - 1) _).2 (ix2 p q) = _ from at_middle m c (pt r 2 hr (by decide)) (by show 1 ≤ (4 * r + 2) % 4 ∧ (4 * r + 2) % 4 ≤ 2; omega) p q,
    show (outsAt0 m c ((pt r 2 hr (by decide)).val - 1) _).2 (ix2 p q) = _ from at_middle m c (pt r 1 hr (by decide)) (by show 1 ≤ (4 * r + 1) % 4 ∧ (4 * r + 1) % 4 ≤ 2; omega) p q,
    show (outsAt0 m c ((pt r 1 hr (by decide)).val - 1) _).2 (ix2 p q) = _ from at_first m c (pt r 0 hr (by decide)) (by show (4 * r + 0) % 4 = 0; omega) p q]

/-! ## The blocks at an index -/

abbrev A := FVec Ideal S8192x2560 .bf16
abbrev B := FVec Ideal S8192x2048 .bf16
abbrev O := FVec Ideal S2560x2048 .bf16

theorem idx (t : Fin cfg0.N) : win0_0.index t = ![t.val % 4, t.val / 8] ∧ win0_1.index t = ![t.val % 4, t.val / 4 % 2] :=
  (by decide +kernel : ∀ t : Fin grid0.N, win0_0.index t = ![t.val % 4, t.val / 8] ∧ win0_1.index t = ![t.val % 4, t.val / 4 % 2]) t

theorem emb0 (t : Fin cfg0.N) (k : Fin 2048) (p : Fin 1280) :
    (((cfg0.win 0).blk t).view.emb (ix2 k p) : S8192x2560.Idx) = ix2 (at4 (t.val % 4) (Nat.mod_lt _ (by decide)) k) ⟨1280 * (t.val / 8) + p.val, by have := lt16 t; omega⟩ := by
  have hh := lt16 t
  blk_ext [at4, idx t]
theorem emb1 (t : Fin cfg0.N) (k : Fin 2048) (q : Fin 1024) :
    (((cfg0.win 1).blk t).view.emb (ix2 k q) : S8192x2048.Idx) = ix2 (at4 (t.val % 4) (Nat.mod_lt _ (by decide)) k) ⟨1024 * (t.val / 4 % 2) + q.val, by omega⟩ := by
  have hh := lt16 t
  blk_ext [at4, idx t]

theorem of0 (t : Fin cfg0.N) (x : S2048x1280.Idx) (L : A) : (((cfg0.win 0).blk t).view.read (Elt Ideal) L : Vec Ideal S2048x1280 .bf16) x = L (((cfg0.win 0).blk t).view.emb x) := rfl
theorem of1 (t : Fin cfg0.N) (x : S2048x1024.Idx) (L : B) : (((cfg0.win 1).blk t).view.read (Elt Ideal) L : Vec Ideal S2048x1024 .bf16) x = L (((cfg0.win 1).blk t).view.emb x) := rfl

theorem part_at (t : Fin cfg0.N) (p : Fin 1280) (q : Fin 1024) (a : A) (b : B) (ha : V m c (Pipeline.arrRef spec0 0) = a) (hb : V m c (Pipeline.arrRef spec0 1) = b) :
    part m c t p q = ∑ k : Fin 2048, a (ix2 (at4 (t.val % 4) (Nat.mod_lt _ (by decide)) k) ⟨1280 * (t.val / 8) + p.val, by have := lt16 t; omega⟩)
      * b (ix2 (at4 (t.val % 4) (Nat.mod_lt _ (by decide)) k) ⟨1024 * (t.val / 4 % 2) + q.val, by omega⟩) := by
  unfold part
  rw [pay1_at]
  refine Finset.sum_congr rfl fun k _ => ?_
  unfold iblk
  rw [ha, hb, ← emb0, ← emb1]
  exact congrArg₂ _ (of0 t _ a) (of1 t _ b)

/-! ## The result -/

/-- The product of the transposed first factor and the second. -/
def prod (a : A) (b : B) : O := fun i => ∑ k : Fin 8192, a (ix2 k (i 0)) * b (ix2 k (i 1))

theorem result (a : A) (b : B) (ha : V m c (Pipeline.arrRef spec0 0) = a) (hb : V m c (Pipeline.arrRef spec0 1) = b) : G2 m c = prod a b := by
  funext i
  have h0 : (i 0).val < 2560 := (i 0).isLt
  have h1 : (i 1).val < 2048 := (i 1).isLt
  have hr : 2 * ((i 0).val / 1280 - 0) + 1 * ((i 1).val / 1024 - 0) < 4 := by omega
  have hp : pt2Of i < cfg0.N := Nat.lt_of_lt_of_eq (by show 4 * (2 * ((i 0).val / 1280 - 0) + 1 * ((i 1).val / 1024 - 0)) + 3 < 16; omega) N_0.symm
  have hl : loc2Of i = ix2 ⟨(i 0).val % 1280, Nat.mod_lt _ (by decide)⟩ ⟨(i 1).val % 1024, Nat.mod_lt _ (by decide)⟩ := funext fun a => match a with
    | ⟨0, _⟩ => rfl
    | ⟨1, _⟩ => rfl
  have e : G2 m c i = (outsAt0 m c (pt2Of i) hp).1 (loc2Of i) := by
    unfold G2; rw [dif_pos hp, outsAt0_sweep]
  rw [e, hl]
  refine (tile m c _ hr _ _).trans ?_
  unfold prod
  rw [← sum_blocks]
  have hpart : ∀ (b' : ℕ) (hb' : b' < 4), part m c (pt _ b' hr hb') ⟨(i 0).val % 1280, Nat.mod_lt _ (by decide)⟩ ⟨(i 1).val % 1024, Nat.mod_lt _ (by decide)⟩
      = ∑ k : Fin 2048, a (ix2 (at4 b' hb' k) (i 0)) * b (ix2 (at4 b' hb' k) (i 1)) := fun b' hb' => by
    rw [part_at m c _ _ _ a b ha hb]
    refine Finset.sum_congr rfl fun k _ => congrArg₂ _ (congrArg a ?_) (congrArg b ?_)
    · refine congrArg₂ ix2 (Fin.ext ?_) (Fin.ext ?_)
      · simp only [at4, pt]; omega
      · simp only [pt]; omega
    · refine congrArg₂ ix2 (Fin.ext ?_) (Fin.ext ?_)
      · simp only [at4, pt]; omega
      · simp only [pt]; omega
  rw [hpart 0, hpart 1, hpart 2, hpart 3]

end Cert.OddGinIdeal.Mm

namespace Cert.OddGinIdeal

open Idealize.ShloMosaic Idealize.ShloMosaic.TcCoe Idealize.SL.Sem
open Cert.Mlp

/-- The reference's result is the product, entry by entry. -/
theorem reference (a : FVec Ideal OddGinRefIdeal.S8192x2560 .bf16) (b : FVec Ideal OddGinRefIdeal.S8192x2048 .bf16) :
    truncf .bf16 (transpose OddGinRefIdeal.S2560x2048 [1, 0] (transpose OddGinRefIdeal.S2048x2560 [1, 0] (Host.dotGeneral OddGinRefIdeal.dot_S8192x2560_S8192x2048_S2560x2048_0_0_1_1_n_n none (extf .f32 a OddGinRefIdeal.Facts₀.bitsLt_bf16_f32) (extf .f32 b OddGinRefIdeal.Facts₀.bitsLt_bf16_f32)) OddGinRefIdeal.Facts₀.transposes_S2560x2048_S2048x2560_1_0) OddGinRefIdeal.Facts₀.transposes_S2048x2560_S2560x2048_1_0) OddGinRefIdeal.Facts₀.bitsLt_bf16_f32
      = Mm.prod a b :=
  eq_of_at _ _ fun i j => by pointwise [Mm.prod]

/-- The call's result is the reference's. -/
theorem algebraic : Cert.algebraic_OddGinIdeal_OddGinRefIdeal := by
  intro m ρ m' ρ' _ hag
  refine ⟨fun c => Mm.prod (m ((c.tc : Thread nD τ).loc main_arg0)) (m ((c.tc : Thread nD τ).loc main_arg1)), ?_, ?_⟩
  · refine (θ_run Cert.OddGinIdeal.defs _ _).mono (fun r h c => ?_) (Cert.OddGinIdeal.Value.run (F := Ideal) m ρ)
    exact ⟨(h c).1.trans (Mm.result m c _ _ rfl rfl), (h c).2⟩
  · refine (θ_run Cert.OddGinRefIdeal.defs _ _).mono (fun r h c => ?_) (Cert.OddGinRefIdeal.Value.run (F := Ideal) m' ρ')
    obtain ⟨e0, e1⟩ := hag c
    refine ⟨(h c).1.trans ?_, (h c).2⟩
    rw [e0, e1]
    exact reference _ _

end Cert.OddGinIdeal

end
-- ==== Proof.OddDnormValue.lean ====
/-
  The call that makes the cotangent of the odd layer's normed input: its result is the product of the cotangent of the
  queries, keys and values with the layer's transposed input weights.
-/
module

public import proofs.«01_k».proof.Defs
public import proofs.«01_k».proof.Proof.Blocked
public import proofs.«01_k».proof.Proof.Gen.OddDnorm.Frame
public import proofs.«01_k».proof.Proof.Gen.OddDnormIdeal.Value
public import proofs.«01_k».proof.Proof.Gen.OddDnormRefIdeal.Run
public import Idealize.ShloMosaic.Lib.VecWindow
public import Idealize.ShloMosaic.Lib.Pipeline.ValueKit.Geometry

@[expose] public section

set_option maxRecDepth 16384

noncomputable section

namespace Cert.OddDnormIdeal

open Idealize.ShloMosaic Idealize.ShloMosaic.TcCoe Idealize.ShloMosaic.Tactic Idealize.SL.Sem
open Cert.OddDnormIdeal.Gen Cert.OddDnormIdeal.Value
open Cert.Mlp
open scoped BigOperators

theorem hz : (![0, 0] : Fin 2 → Nat) = fun _ => 0 := funext fun a => by fin_cases a <;> rfl

abbrev A := FVec Ideal S8192x2560 .bf16
abbrev B := FVec Ideal S2560x2048 .bf16
abbrev O := FVec Ideal S8192x2048 .f32

/-- The result: the product of the two factors, entry by entry. -/
def res (a : A) (b : B) : O := fun i => ∑ k : Fin 2560, a (ix2 (i 0) k) * b (ix2 k (i 1))

/-! ## One tile -/

theorem out_eq (x0 : Vec Ideal S1024x2560 .bf16) (x1 : Vec Ideal S2560x1024 .bf16) : out0_2 x0 x1 = k0_pay1 x0 x1 := by
  unfold out0_2
  rw [View.canon_unit_zero hz]
  simp only [View.ld_unit_zero (S := S1024x2560) hz, View.ld_unit_zero (S := S2560x1024) hz]

theorem pay1_at (x0 : Vec Ideal S1024x2560 .bf16) (x1 : Vec Ideal S2560x1024 .bf16) (p : Fin 1024) (q : Fin 1024) :
    k0_pay1 x0 x1 (ix2 p q) = ∑ k : Fin 2560, x0 (ix2 p k) * x1 (ix2 k q) := by
  pointwise [k0_pay1]

variable (m : (ℓ : Loc nD τ sig) → Buf (Elt Ideal) ℓ) (c : Dev nD)

theorem lt16 (t : Fin cfg0.N) : t.val < 16 := Nat.lt_of_lt_of_eq t.isLt N_0

theorem idx (t : Fin cfg0.N) : win0_0.index t = ![t.val / 2, 0] ∧ win0_1.index t = ![0, t.val % 2] ∧ win0_2.index t = ![t.val / 2, t.val % 2] :=
  (by decide +kernel : ∀ t : Fin grid0.N, win0_0.index t = ![t.val / 2, 0] ∧ win0_1.index t = ![0, t.val % 2] ∧ win0_2.index t = ![t.val / 2, t.val % 2]) t

/-- Row `p` of point `t`'s tile. -/
def row (t : Fin cfg0.N) (p : Fin 1024) : Fin 8192 := ⟨1024 * (t.val / 2) + p.val, by have := lt16 t; omega⟩
/-- Column `q` of point `t`'s tile. -/
def col (t : Fin cfg0.N) (q : Fin 1024) : Fin 2048 := ⟨1024 * (t.val % 2) + q.val, by omega⟩

theorem emb0 (t : Fin cfg0.N) (p : Fin 1024) (k : Fin 2560) : (((cfg0.win 0).blk t).view.emb (ix2 p k) : S8192x2560.Idx) = ix2 (row t p) k := by
  have hh := lt16 t
  blk_ext [row, idx t]
theorem emb1 (t : Fin cfg0.N) (k : Fin 2560) (q : Fin 1024) : (((cfg0.win 1).blk t).view.emb (ix2 k q) : S2560x2048.Idx) = ix2 k (col t q) := by
  have hh := lt16 t
  blk_ext [col, idx t]
theorem emb2 (t : Fin cfg0.N) (p : Fin 1024) (q : Fin 1024) : (((cfg0.win 2).blk t).view.emb (ix2 p q) : S8192x2048.Idx) = ix2 (row t p) (col t q) := by
  have hh := lt16 t
  blk_ext [row, col, idx t]

theorem of0 (t : Fin cfg0.N) (x : S1024x2560.Idx) (L : A) : (((cfg0.win 0).blk t).view.read (Elt Ideal) L : Vec Ideal S1024x2560 .bf16) x = L (((cfg0.win 0).blk t).view.emb x) := rfl
theorem of1 (t : Fin cfg0.N) (x : S2560x1024.Idx) (L : B) : (((cfg0.win 1).blk t).view.read (Elt Ideal) L : Vec Ideal S2560x1024 .bf16) x = L (((cfg0.win 1).blk t).view.emb x) := rfl

theorem tile_at (t : Fin cfg0.N) (p : Fin 1024) (q : Fin 1024) (a : A) (b : B) (ha : V m c (Pipeline.arrRef spec0 0) = a) (hb : V m c (Pipeline.arrRef spec0 1) = b) :
    out0_2 (iblk m c 0 t) (iblk m c 1 t) (ix2 p q) = res a b (ix2 (row t p) (col t q)) := by
  rw [out_eq, pay1_at]
  unfold iblk res
  rw [ha, hb]
  refine Finset.sum_congr rfl fun k _ => ?_
  exact congrArg₂ _ ((of0 t _ a).trans (congrArg a (emb0 t p k))) ((of1 t _ b).trans (congrArg b (emb1 t k q)))

/-! ## The whole array -/

theorem flushed_at (a : A) (b : B) (ha : V m c (Pipeline.arrRef spec0 0) = a) (hb : V m c (Pipeline.arrRef spec0 1) = b) (t : Fin cfg0.N) :
    (dats m 0 c).flushed 2 t = ((cfg0.win 2).blk t).view.read (Elt Ideal) (res a b) := by
  rw [flushed2]
  refine eq_of_at (n := 1024) (k := 1024) (α := EReal) _ _ fun p q => ?_
  exact (tile_at m c t p q a b ha hb).trans (congrArg (res a b) (emb2 t p q).symm)

theorem covered (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have hN : 2 * ((i 0).val / 1024) + (i 1).val / 1024 < cfg0.N := Nat.lt_of_lt_of_eq (by omega : _ < 16) N_0.symm
  refine ⟨⟨2 * ((i 0).val / 1024) + (i 1).val / 1024, hN⟩, flush0_2 _, ?_⟩
  have e := emb2 ⟨2 * ((i 0).val / 1024) + (i 1).val / 1024, hN⟩ ⟨(i 0).val % 1024, Nat.mod_lt _ (by decide)⟩ ⟨(i 1).val % 1024, Nat.mod_lt _ (by decide)⟩
  have hi : i = ix2 (row ⟨2 * ((i 0).val / 1024) + (i 1).val / 1024, hN⟩ ⟨(i 0).val % 1024, Nat.mod_lt _ (by decide)⟩) (col ⟨2 * ((i 0).val / 1024) + (i 1).val / 1024, hN⟩ ⟨(i 1).val % 1024, Nat.mod_lt _ (by decide)⟩) :=
    funext fun a => match a with
      | ⟨0, _⟩ => Fin.ext (by show (i 0).val = 1024 * ((2 * ((i 0).val / 1024) + (i 1).val / 1024) / 2) + (i 0).val % 1024; omega)
      | ⟨1, _⟩ => Fin.ext (by show (i 1).val = 1024 * ((2 * ((i 0).val / 1024) + (i 1).val / 1024) % 2) + (i 1).val % 1024; omega)
  exact (congrArg (· ∈ _) (e.trans hi.symm)).mp (View.emb_mem_set _ _)

theorem result (a : A) (b : B) (ha : V m c (Pipeline.arrRef spec0 0) = a) (hb : V m c (Pipeline.arrRef spec0 1) = b) : (dats m 0 c).arrAt 2 cfg0.N = res a b :=
  (dats m 0 c).arrAt_eq_of_cover 2 _ (fun t _ => flushed_at m c a b ha hb t) covered

/-! ## The host's lines before the call, and the reference -/

/-- The transposed weights, as the call takes them. -/
def hW (w : FVec Ideal S2048x2560 .f32) : B :=
  truncf .bf16 (transpose S2560x2048 [1, 0] w Facts₀.transposes_S2048x2560_S2560x2048_1_0) Facts₀.bitsLt_bf16_f32

theorem V_W : V m c (Pipeline.arrRef spec0 1) = hW (m ((c.tc : Thread nD τ).loc main_arg1)) := by
  show V m c main_v1 = _
  unfold V; after_results_simp; rfl

/-- The reference's result, entry by entry. -/
theorem reference (a : FVec Ideal OddDnormRefIdeal.S8192x2560 .bf16) (w : FVec Ideal OddDnormRefIdeal.S2048x2560 .f32) :
    Host.dotGeneral OddDnormRefIdeal.dot_S8192x2560_S2048x2560_S8192x2048_1_1_0_0_n_n none (extf .f32 a OddDnormRefIdeal.Facts₀.bitsLt_bf16_f32) w = res a (hW w) :=
  eq_of_at _ _ fun i j => by pointwise [res, hW]

/-- The call's result is the reference's. -/
theorem algebraic : Cert.algebraic_OddDnormIdeal_OddDnormRefIdeal := by
  intro m ρ m' ρ' _ hag
  refine ⟨fun c => res (m ((c.tc : Thread nD τ).loc main_arg0)) (hW (m ((c.tc : Thread nD τ).loc main_arg1))), ?_, ?_⟩
  · refine (θ_run Cert.OddDnormIdeal.defs _ _).mono (fun r h c => ?_) (Cert.OddDnormIdeal.Value.run_blocks (F := Ideal) m ρ)
    exact ⟨(h c).1.trans (result m c _ _ (V_main_arg0 m c) (V_W m c)), (h c).2⟩
  · refine (θ_run Cert.OddDnormRefIdeal.defs _ _).mono (fun r h c => ?_) (Cert.OddDnormRefIdeal.Value.run (F := Ideal) m' ρ')
    obtain ⟨e0, e1⟩ := hag c
    refine ⟨(h c).1.trans ?_, (h c).2⟩
    rw [e0, e1]
    exact reference _ _

end Cert.OddDnormIdeal

end
-- ==== Proof.Padded.lean ====
/-
  The even layer's input weights with 64 rows of zeros put between the rotary key's columns and the grid attention's,
  as the calls take them, and a sum over the padded places.
-/
module

public import Idealize.ShloMosaic.Lib.Pointwise

@[expose] public section

noncomputable section

namespace Cert.Mlp

open scoped BigOperators
open Idealize.ShloMosaic

/-- Where place `j` of the weights lies after the padding. -/
def lift (j : Fin 2368) : Fin 2432 := ⟨if j.val < 832 then j.val else j.val + 64, by split <;> omega⟩

/-- The place of the weights that lies at place `n`, where `n` is not padding. -/
def drop (n : Fin 2432) : Fin 2368 := ⟨if n.val < 832 then n.val else n.val - 64, by split <;> omega⟩

/-- The padding: zero at the 64 places, else the weights' own values. -/
def padded (f : Fin 2368 → EReal) (n : Fin 2432) : EReal := if 832 ≤ n.val ∧ n.val < 896 then 0 else f (drop n)

/-- The padding, piece by piece. -/
theorem pieces (f : Fin 2368 → EReal) (n : Fin 2432) :
    (if h : n.val < 832 then f ⟨n.val, by omega⟩ else if h : n.val - 832 < 64 then 0 else f ⟨832 + (n.val - 832 - 64), by omega⟩) = padded f n := by
  unfold padded
  by_cases h1 : n.val < 832
  · rw [dif_pos h1, if_neg (by omega)]
    exact congrArg f (Fin.ext (if_pos h1).symm)
  · by_cases h2 : n.val < 896
    · rw [dif_neg h1, dif_pos (by omega), if_pos (by omega)]
    · rw [dif_neg h1, dif_neg (by omega), if_neg (by omega)]
      refine congrArg f (Fin.ext ?_)
      show 832 + (n.val - 832 - 64) = if n.val < 832 then n.val else n.val - 64
      rw [if_neg h1]; omega

/-- A product with a padded factor is the padding of the product. -/
theorem sum_padded {K : ℕ} (a : Fin K → EReal) (f : Fin K → Fin 2368 → EReal) (n : Fin 2432) :
    ∑ k, a k * padded (f k) n = padded (fun j => ∑ k, a k * f k j) n := by
  unfold padded
  by_cases h : 832 ≤ n.val ∧ n.val < 896
  · rw [if_pos h]
    exact Finset.sum_eq_zero fun k _ => by rw [if_pos h, mul_zero]
  · rw [if_neg h]
    exact Finset.sum_congr rfl fun k _ => by rw [if_neg h]

/-- In a sum of products with a padded factor the padding adds nothing. -/
theorem sum_pad (d : Fin 2432 → EReal) (f : Fin 2368 → EReal) : ∑ n, d n * padded f n = ∑ j, d (lift j) * f j := by
  have e : ∑ n, d n * padded f n = ∑ n : Fin ((832 + 64) + 1536), d n * padded f n := rfl
  have e' : ∑ j, d (lift j) * f j = ∑ j : Fin (832 + 1536), d (lift j) * f j := rfl
  have z : ∑ i : Fin 64, d (Fin.castAdd 1536 (Fin.natAdd 832 i)) * padded f (Fin.castAdd 1536 (Fin.natAdd 832 i)) = 0 :=
    Finset.sum_eq_zero fun i _ => by
      have h : padded f (Fin.castAdd 1536 (Fin.natAdd 832 i)) = 0 := if_pos (by simp; omega)
      rw [h, mul_zero]
  rw [e, e', Fin.sum_univ_add, Fin.sum_univ_add, Fin.sum_univ_add, z, add_zero]
  refine congrArg₂ _ (Finset.sum_congr rfl fun i _ => ?_) (Finset.sum_congr rfl fun i _ => ?_)
  · have hi := i.isLt
    refine congrArg₂ _ (congrArg d (Fin.ext (by simp [lift]))) ?_
    refine (if_neg (by simp)).trans (congrArg f (Fin.ext (by simp [drop])))
  · have hi := i.isLt
    refine congrArg₂ _ (congrArg d (Fin.ext (by simp [lift]; try omega))) ?_
    refine (if_neg (by simp)).trans (congrArg f (Fin.ext ?_))
    show (if 896 + i.val < 832 then 896 + i.val else 896 + i.val - 64) = 832 + i.val
    rw [if_neg (by omega)]; omega

end Cert.Mlp

end
-- ==== Proof.EvenInValue.lean ====
/-
  The call that makes the projections into the even layer's two attentions: its result is the product of the normed
  input with the layer's input weights, with 64 columns of zeros after the rotary key's.
-/
module

public import proofs.«01_k».proof.Defs
public import proofs.«01_k».proof.Proof.Blocked
public import proofs.«01_k».proof.Proof.Padded
public import proofs.«01_k».proof.Proof.Gen.EvenIn.Frame
public import proofs.«01_k».proof.Proof.Gen.EvenInIdeal.Value
public import proofs.«01_k».proof.Proof.Gen.EvenInRefIdeal.Run
public import Idealize.ShloMosaic.Lib.VecWindow
public import Idealize.ShloMosaic.Lib.Pipeline.ValueKit.Geometry

@[expose] public section

set_option maxRecDepth 16384

noncomputable section

namespace Cert.EvenInIdeal

open Idealize.ShloMosaic Idealize.ShloMosaic.TcCoe Idealize.ShloMosaic.Tactic Idealize.SL.Sem
open Cert.EvenInIdeal.Gen Cert.EvenInIdeal.Value
open Cert.Mlp
open scoped BigOperators

theorem hz : (![0, 0] : Fin 2 → Nat) = fun _ => 0 := funext fun a => by fin_cases a <;> rfl

abbrev A := FVec Ideal S8192x2048 .bf16
abbrev B := FVec Ideal S2432x2048 .bf16
abbrev O := FVec Ideal S8192x2432 .f32

/-- The result: the product of the first factor with the transposed second, entry by entry. -/
def res (a : A) (b : B) : O := fun i => ∑ k : Fin 2048, a (ix2 (i 0) k) * b (ix2 (i 1) k)

/-! ## One tile -/

theorem out_eq (x0 : Vec Ideal S512x2048 .bf16) (x1 : Vec Ideal S2432x2048 .bf16) : out0_2 x0 x1 = k0_pay1 x0 x1 := by
  unfold out0_2
  rw [View.canon_unit_zero hz]
  simp only [View.ld_unit_zero (S := S512x2048) hz, View.ld_unit_zero (S := S2432x2048) hz]

theorem pay1_at (x0 : Vec Ideal S512x2048 .bf16) (x1 : Vec Ideal S2432x2048 .bf16) (p : Fin 512) (q : Fin 2432) :
    k0_pay1 x0 x1 (ix2 p q) = ∑ k : Fin 2048, x0 (ix2 p k) * x1 (ix2 q k) := by
  pointwise [k0_pay1]

variable (m : (ℓ : Loc nD τ sig) → Buf (Elt Ideal) ℓ) (c : Dev nD)

theorem lt16 (t : Fin cfg0.N) : t.val < 16 := Nat.lt_of_lt_of_eq t.isLt N_0

theorem idx (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

/-- Row `p` of point `t`'s tile. -/
def row (t : Fin cfg0.N) (p : Fin 512) : Fin 8192 := ⟨512 * (t.val) + p.val, by have := lt16 t; omega⟩
/-- Column `q` of point `t`'s tile. -/
def col (_t : Fin cfg0.N) (q : Fin 2432) : Fin 2432 := q

theorem emb0 (t : Fin cfg0.N) (p : Fin 512) (k : Fin 2048) : (((cfg0.win 0).blk t).view.emb (ix2 p k) : S8192x2048.Idx) = ix2 (row t p) k := by
  have hh := lt16 t
  blk_ext [row, idx t]
theorem emb1 (t : Fin cfg0.N) (q : Fin 2432) (k : Fin 2048) : (((cfg0.win 1).blk t).view.emb (ix2 q k) : S2432x2048.Idx) = ix2 (col t q) k := by
  have hh := lt16 t
  blk_ext [col, idx t]
theorem emb2 (t : Fin cfg0.N) (p : Fin 512) (q : Fin 2432) : (((cfg0.win 2).blk t).view.emb (ix2 p q) : S8192x2432.Idx) = ix2 (row t p) (col t q) := by
  have hh := lt16 t
  blk_ext [row, col, idx t]

theorem of0 (t : Fin cfg0.N) (x : S512x2048.Idx) (L : A) : (((cfg0.win 0).blk t).view.read (Elt Ideal) L : Vec Ideal S512x2048 .bf16) x = L (((cfg0.win 0).blk t).view.emb x) := rfl
theorem of1 (t : Fin cfg0.N) (x : S2432x2048.Idx) (L : B) : (((cfg0.win 1).blk t).view.read (Elt Ideal) L : Vec Ideal S2432x2048 .bf16) x = L (((cfg0.win 1).blk t).view.emb x) := rfl

theorem tile_at (t : Fin cfg0.N) (p : Fin 512) (q : Fin 2432) (a : A) (b : B) (ha : V m c (Pipeline.arrRef spec0 0) = a) (hb : V m c (Pipeline.arrRef spec0 1) = b) :
    out0_2 (iblk m c 0 t) (iblk m c 1 t) (ix2 p q) = res a b (ix2 (row t p) (col t q)) := by
  rw [out_eq, pay1_at]
  unfold iblk res
  rw [ha, hb]
  refine Finset.sum_congr rfl fun k _ => ?_
  exact congrArg₂ _ ((of0 t _ a).trans (congrArg a (emb0 t p k))) ((of1 t _ b).trans (congrArg b (emb1 t q k)))

/-! ## The whole array -/

theorem flushed_at (a : A) (b : B) (ha : V m c (Pipeline.arrRef spec0 0) = a) (hb : V m c (Pipeline.arrRef spec0 1) = b) (t : Fin cfg0.N) :
    (dats m 0 c).flushed 2 t = ((cfg0.win 2).blk t).view.read (Elt Ideal) (res a b) := by
  rw [flushed2]
  refine eq_of_at (n := 512) (k := 2432) (α := EReal) _ _ fun p q => ?_
  exact (tile_at m c t p q a b ha hb).trans (congrArg (res a b) (emb2 t p q).symm)

theorem covered (i : S8192x2432.Idx) : ∃ t : Fin cfg0.N, (cfg0.win 2).flush t = true ∧ i ∈ ((cfg0.win 2).blk t).view.set := by
  have h0 : (i 0).val < 8192 := (i 0).isLt
  have h1 : (i 1).val < 2432 := (i 1).isLt
  have hN : (i 0).val / 512 < cfg0.N := Nat.lt_of_lt_of_eq (by omega : _ < 16) N_0.symm
  refine ⟨⟨(i 0).val / 512, hN⟩, flush0_2 _, ?_⟩
  have e := emb2 ⟨(i 0).val / 512, hN⟩ ⟨(i 0).val % 512, Nat.mod_lt _ (by decide)⟩ ⟨(i 1).val % 2432, Nat.mod_lt _ (by decide)⟩
  have hi : i = ix2 (row ⟨(i 0).val / 512, hN⟩ ⟨(i 0).val % 512, Nat.mod_lt _ (by decide)⟩) (col ⟨(i 0).val / 512, hN⟩ ⟨(i 1).val % 2432, Nat.mod_lt _ (by decide)⟩) :=
    funext fun a => match a with
      | ⟨0, _⟩ => Fin.ext (by show (i 0).val = 512 * ((i 0).val / 512) + (i 0).val % 512; omega)
      | ⟨1, _⟩ => Fin.ext (by show (i 1).val = (i 1).val % 2432; omega)
  exact (congrArg (· ∈ _) (e.trans hi.symm)).mp (View.emb_mem_set _ _)

theorem result (a : A) (b : B) (ha : V m c (Pipeline.arrRef spec0 0) = a) (hb : V m c (Pipeline.arrRef spec0 1) = b) : (dats m 0 c).arrAt 2 cfg0.N = res a b :=
  (dats m 0 c).arrAt_eq_of_cover 2 _ (fun t _ => flushed_at m c a b ha hb t) covered

/-! ## The host's lines before the call, and the reference -/

/-- The transposed weights with the padding's rows of zeros, as the call takes them. -/
def hW (w : FVec Ideal S2048x2368 .f32) : B :=
  concatenate S2432x2048 0 [⟨S832x2048, extractStridedSlice S832x2048 ![0, 0] (truncf .bf16 (transpose S2368x2048 [1, 0] w Facts₀.transposes_S2048x2368_S2368x2048_1_0) Facts₀.bitsLt_bf16_f32) Facts₀.slices_S2368x2048_S832x2048_0_0⟩,
    ⟨S64x2048, broadcastInDim S64x2048 ![] Facts₀.bcast_S_S64x2048 (constant S_ .bf16 0x0000#16)⟩,
    ⟨S1536x2048, extractStridedSlice S1536x2048 ![832, 0] (truncf .bf16 (transpose S2368x2048 [1, 0] w Facts₀.transposes_S2048x2368_S2368x2048_1_0) Facts₀.bitsLt_bf16_f32) Facts₀.slices_S2368x2048_S1536x2048_832_0⟩]
    Facts₀.concatenates_S832x2048_S64x2048_S1536x2048_S2432x2048_d0

theorem V_W : V m c (Pipeline.arrRef spec0 1) = hW (m ((c.tc : Thread nD τ).loc main_arg1)) := by
  show V m c main_v5 = _
  unfold V; after_results_simp; rfl

/-- The padded weights, entry by entry. -/
theorem hW_at (w : FVec Ideal S2048x2368 .f32) (n : Fin 2432) (k : Fin 2048) : hW w (ix2 n k) = padded (fun j => w (ix2 k j)) n := by
  pointwise [hW]
  exact pieces (fun j => w (ix2 k j)) n

/-- The reference's result, entry by entry: the product, with zeros at the padding. -/
theorem reference (a : FVec Ideal EvenInRefIdeal.S8192x2048 .bf16) (w : FVec Ideal EvenInRefIdeal.S2048x2368 .f32) :
    (concatenate EvenInRefIdeal.S8192x2432 1 [⟨EvenInRefIdeal.S8192x832, extractStridedSlice EvenInRefIdeal.S8192x832 ![0, 0] (Host.dotGeneral EvenInRefIdeal.dot_S8192x2048_S2048x2368_S8192x2368_1_0_0_1_n_n none (extf .f32 a EvenInRefIdeal.Facts₀.bitsLt_bf16_f32) w) EvenInRefIdeal.Facts₀.slices_S8192x2368_S8192x832_0_0⟩,
      ⟨EvenInRefIdeal.S8192x64, broadcastInDim EvenInRefIdeal.S8192x64 ![] EvenInRefIdeal.Facts₀.bcast_S_S8192x64 (constant EvenInRefIdeal.S_ .f32 0x00000000#32)⟩,
      ⟨EvenInRefIdeal.S8192x1536, extractStridedSlice EvenInRefIdeal.S8192x1536 ![0, 832] (Host.dotGeneral EvenInRefIdeal.dot_S8192x2048_S2048x2368_S8192x2368_1_0_0_1_n_n none (extf .f32 a EvenInRefIdeal.Facts₀.bitsLt_bf16_f32) w) EvenInRefIdeal.Facts₀.slices_S8192x2368_S8192x1536_0_832⟩]
      EvenInRefIdeal.Facts₀.concatenates_S8192x832_S8192x64_S8192x1536_S8192x2432_d1 : FVec Ideal EvenInRefIdeal.S8192x2432 .f32) = res a (hW w) :=
  eq_of_at _ _ fun i j => by
    have r : res a (hW w) (ix2 i j) = ∑ k : Fin 2048, a (ix2 i k) * padded (fun j' => w (ix2 k j')) j := Finset.sum_congr rfl fun k _ => congrArg _ (hW_at w j k)
    rw [r, sum_padded (fun k => a (ix2 i k))]
    pointwise
    exact pieces (fun j => ∑ k, a (ix2 i k) * w (ix2 k j)) j

/-- The call's result is the reference's. -/
theorem algebraic : Cert.algebraic_EvenInIdeal_EvenInRefIdeal := by
  intro m ρ m' ρ' _ hag
  refine ⟨fun c => res (m ((c.tc : Thread nD τ).loc main_arg0)) (hW (m ((c.tc : Thread nD τ).loc main_arg1))), ?_, ?_⟩
  · refine (θ_run Cert.EvenInIdeal.defs _ _).mono (fun r h c => ?_) (Cert.EvenInIdeal.Value.run_blocks (F := Ideal) m ρ)
    exact ⟨(h c).1.trans (result m c _ _ (V_main_arg0 m c) (V_W m c)), (h c).2⟩
  · refine (θ_run Cert.EvenInRefIdeal.defs _ _).mono (fun r h c => ?_) (Cert.EvenInRefIdeal.Value.run (F := Ideal) m' ρ')
    obtain ⟨e0, e1⟩ := hag c
    refine ⟨(h c).1.trans ?_, (h c).2⟩
    rw [e0, e1]
    exact reference _ _

end Cert.EvenInIdeal

end
-- ==== Proof.EvenGinValue.lean ====
/-
  The call that makes the gradient of the even layer's input weights: its result is the product of the transposed
  cotangent of the projections, padded, with the layer's normed input, over all 8192 positions, in eight steps.
-/
module

public import proofs.«01_k».proof.Defs
public import proofs.«01_k».proof.Proof.Blocked
public import proofs.«01_k».proof.Proof.Gen.EvenGin.Frame
public import proofs.«01_k».proof.Proof.Gen.EvenGinIdeal.Value
public import proofs.«01_k».proof.Proof.Gen.EvenGinRefIdeal.Run
public import Idealize.ShloMosaic.Lib.VecWindow
public import Idealize.ShloMosaic.Lib.Pipeline.ValueKit.Geometry

@[expose] public section

set_option maxRecDepth 16384

noncomputable section

namespace Cert.EvenGinIdeal.Mm

open Idealize.ShloMosaic Idealize.ShloMosaic.TcCoe Idealize.ShloMosaic.Tactic
open Cert.EvenGinIdeal Cert.EvenGinIdeal.Gen Cert.EvenGinIdeal.Value
open Cert.Mlp
open scoped BigOperators

theorem hz : (![0, 0] : Fin 2 → Nat) = fun _ => 0 := funext fun a => by fin_cases a <;> rfl

/-! ## The body in its three cases -/

/-- The first block of the sum is stored. -/
theorem first (c : Dev nD) (i : grid0.Coords) (a3 h3 a4 h4 a5 h5 a6 h6 hc0 hc1 hc2) (x0 : Vec Ideal S1024x2432 .bf16) (x1 : Vec Ideal S1024x1024 .bf16) :
    sout0_A_0 (F := Ideal) c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S1024x2432) hz, View.ld_unit_zero (S := S1024x1024) hz]

/-- A middle block is added. -/
theorem middle (c : Dev nD) (i : grid0.Coords) (a3 h3 a4 h4 a5 h5 a6) (h6 : a6.IsWhole) (hc0 hc1 hc2) (x0 : Vec Ideal S1024x2432 .bf16) (x1 : Vec Ideal S1024x1024 .bf16) (s : Vec Ideal S2432x1024 .f32) :
    sout0_B_0 (F := Ideal) c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero hz]
  simp only [View.readAt_eq_ld, h3.read_unread, h4.read_unread, h6.read_unread, View.ld_unit_zero (S := S1024x2432) hz, View.ld_unit_zero (S := S1024x1024) hz, View.ld_unit_zero (S := S2432x1024) hz]

/-- The last block is added and the sum written. -/
theorem last (c : Dev nD) (i : grid0.Coords) (a3 h3 a4 h4 a5 h5 a6) (h6 : a6.IsWhole) (hc0 hc1 hc2) (x0 : Vec Ideal S1024x2432 .bf16) (x1 : Vec Ideal S1024x1024 .bf16) (s : Vec Ideal S2432x1024 .f32) :
    out0_C_2 (F := Ideal) c i a3 h3 a4 h4 a5 h5 a6 h6 hc0 hc1 hc2 x0 x1 s = k0_pay4 x0 x1 s := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h6.read_unread, View.ld_unit_zero (S := S1024x2432) hz, View.ld_unit_zero (S := S1024x1024) hz, View.ld_unit_zero (S := S2432x1024) hz]

theorem pay1_at (x0 : Vec Ideal S1024x2432 .bf16) (x1 : Vec Ideal S1024x1024 .bf16) (p : Fin 2432) (q : Fin 1024) : k0_pay1 x0 x1 (ix2 p q) = ∑ k : Fin 1024, x0 (ix2 k p) * x1 (ix2 k q) := by
  pointwise [k0_pay1]
theorem pay2_at (x0 : Vec Ideal S1024x2432 .bf16) (x1 : Vec Ideal S1024x1024 .bf16) (p : Fin 2432) (q : Fin 1024) : k0_pay2 x0 x1 (ix2 p q) = k0_pay1 x0 x1 (ix2 p q) := by
  pointwise [k0_pay2]
theorem pay3_at (x0 : Vec Ideal S1024x2432 .bf16) (x1 : Vec Ideal S1024x1024 .bf16) (s : Vec Ideal S2432x1024 .f32) (p : Fin 2432) (q : Fin 1024) : k0_pay3 x0 x1 s (ix2 p q) = s (ix2 p q) + k0_pay1 x0 x1 (ix2 p q) := by
  pointwise [k0_pay3]
theorem pay4_at (x0 : Vec Ideal S1024x2432 .bf16) (x1 : Vec Ideal S1024x1024 .bf16) (s : Vec Ideal S2432x1024 .f32) (p : Fin 2432) (q : Fin 1024) : k0_pay4 x0 x1 s (ix2 p q) = s (ix2 p q) + k0_pay1 x0 x1 (ix2 p q) := by
  pointwise [k0_pay4]

/-! ## The eight points of a tile -/

variable (m : (ℓ : Loc nD τ sig) → Buf (Elt Ideal) ℓ) (c : Dev nD)

theorem lt16 (t : Fin cfg0.N) : t.val < 16 := Nat.lt_of_lt_of_eq t.isLt N_0

/-- The product of the two blocks of point `t`. -/
def part (t : Fin cfg0.N) (p : Fin 2432) (q : Fin 1024) : EReal := k0_pay1 (iblk m c 0 t) (iblk m c 1 t) (ix2 p q)

theorem at_first (t : Fin cfg0.N) (h : t.val % 8 = 0) (p : Fin 2432) (q : Fin 1024) : (outsAt0 m c t.val t.isLt).2 (ix2 p q) = part m c t p q := by
  rw [outsAt0_A m c t h (by omega) (by omega)]
  dsimp only
  rw [first, pay2_at]
  rfl

theorem at_middle (t : Fin cfg0.N) (h : 1 ≤ t.val % 8 ∧ t.val % 8 ≤ 6) (p : Fin 2432) (q : Fin 1024) :
    (outsAt0 m c t.val t.isLt).2 (ix2 p q) = (outsAt0 m c (t.val - 1) (Nat.lt_of_le_of_lt (Nat.sub_le _ _) t.isLt)).2 (ix2 p q) + part m c t p q := by
  rw [outsAt0_B m c t (by omega) h (by omega)]
  dsimp only
  rw [middle, pay3_at]
  rfl

theorem at_last (t : Fin cfg0.N) (h : t.val % 8 = 7) (p : Fin 2432) (q : Fin 1024) :
    (outsAt0 m c t.val t.isLt).1 (ix2 p q) = (outsAt0 m c (t.val - 1) (Nat.lt_of_le_of_lt (Nat.sub_le _ _) t.isLt)).2 (ix2 p q) + part m c t p q := by
  rw [outsAt0_C m c t (by omega) (by omega) h]
  dsimp only
  rw [last, pay4_at]
  rfl

/-- Point `b` of tile `r`. -/
def pt (r b : ℕ) (hr : r < 2) (hb : b < 8) : Fin cfg0.N := ⟨8 * r + b, Nat.lt_of_lt_of_eq (by omega) N_0.symm⟩

theorem tile (r : ℕ) (hr : r < 2) (p : Fin 2432) (q : Fin 1024) :
    (outsAt0 m c (pt r 7 hr (by decide)).val (pt r 7 hr (by decide)).isLt).1 (ix2 p q)
      = ((((((part m c (pt r 0 hr (by decide)) p q + part m c (pt r 1 hr (by decide)) p q) + part m c (pt r 2 hr (by decide)) p q) + part m c (pt r 3 hr (by decide)) p q) + part m c (pt r 4 hr (by decide)) p q) + part m c (pt r 5 hr (by decide)) p q) + part m c (pt r 6 hr (by decide)) p q) + part m c (pt r 7 hr (by decide)) p q := by
  rw [at_last m c (pt r 7 hr _) (by show (8 * r + 7) % 8 = 7; omega),
    show (outsAt0 m c ((pt r 7 hr (by decide)).val - 1) _).2 (ix2 p q) = _ from at_middle m c (pt r 6 hr (by decide)) (by show 1 ≤ (8 * r + 6) % 8 ∧ (8 * r + 6) % 8 ≤ 6; omega) p q,
    show (outsAt0 m c ((pt r 6 hr (by decide)).val - 1) _).2 (ix2 p q) = _ from at_middle m c (pt r 5 hr (by decide)) (by show 1 ≤ (8 * r + 5) % 8 ∧ (8 * r + 5) % 8 ≤ 6; omega) p q,
    show (outsAt0 m c ((pt r 5 hr (by decide)).val - 1) _).2 (ix2 p q) = _ from at_middle m c (pt r 4 hr (by decide)) (by show 1 ≤ (8 * r + 4) % 8 ∧ (8 * r + 4) % 8 ≤ 6; omega) p q,
    show (outsAt0 m c ((pt r 4 hr (by decide)).val - 1) _).2 (ix2 p q) = _ from at_middle m c (pt r 3 hr (by decide)) (by show 1 ≤ (8 * r + 3) % 8 ∧ (8 * r + 3) % 8 ≤ 6; omega) p q,
    show (outsAt0 m c ((pt r 3 hr (by decide)).val - 1) _).2 (ix2 p q) = _ from at_middle m c (pt r 2 hr (by decide)) (by show 1 ≤ (8 * r + 2) % 8 ∧ (8 * r + 2) % 8 ≤ 6; omega) p q,
    show (outsAt0 m c ((pt r 2 hr (by decide)).val - 1) _).2 (ix2 p q) = _ from at_middle m c (pt r 1 hr (by decide)) (by show 1 ≤ (8 * r + 1) % 8 ∧ (8 * r + 1) % 8 ≤ 6; omega) p q,
    show (outsAt0 m c ((pt r 1 hr (by decide)).val - 1) _).2 (ix2 p q) = _ from at_first m c (pt r 0 hr (by decide)) (by show (8 * r + 0) % 8 = 0; omega) p q]

/-! ## The blocks at an index -/

abbrev A := FVec Ideal S8192x2432 .bf16
abbrev B := FVec Ideal S8192x2048 .bf16
abbrev O := FVec Ideal S2432x2048 .bf16

theorem idx (t : Fin cfg0.N) : win0_0.index t = ![t.val % 8, 0] ∧ win0_1.index t = ![t.val % 8, t.val / 8 % 2] :=
  (by decide +kernel : ∀ t : Fin grid0.N, win0_0.index t = ![t.val % 8, 0] ∧ win0_1.index t = ![t.val % 8, t.val / 8 % 2]) t

theorem emb0 (t : Fin cfg0.N) (k : Fin 1024) (p : Fin 2432) :
    (((cfg0.win 0).blk t).view.emb (ix2 k p) : S8192x2432.Idx) = ix2 (at8 (t.val % 8) (Nat.mod_lt _ (by decide)) k) p := by
  have hh := lt16 t
  blk_ext [at8, idx t]
theorem emb1 (t : Fin cfg0.N) (k : Fin 1024) (q : Fin 1024) :
    (((cfg0.win 1).blk t).view.emb (ix2 k q) : S8192x2048.Idx) = ix2 (at8 (t.val % 8) (Nat.mod_lt _ (by decide)) k) ⟨1024 * (t.val / 8 % 2) + q.val, by omega⟩ := by
  have hh := lt16 t
  blk_ext [at8, idx t]

theorem of0 (t : Fin cfg0.N) (x : S1024x2432.Idx) (L : A) : (((cfg0.win 0).blk t).view.read (Elt Ideal) L : Vec Ideal S1024x2432 .bf16) x = L (((cfg0.win 0).blk t).view.emb x) := rfl
theorem of1 (t : Fin cfg0.N) (x : S1024x1024.Idx) (L : B) : (((cfg0.win 1).blk t).view.read (Elt Ideal) L : Vec Ideal S1024x1024 .bf16) x = L (((cfg0.win 1).blk t).view.emb x) := rfl

theorem part_at (t : Fin cfg0.N) (p : Fin 2432) (q : Fin 1024) (a : A) (b : B) (ha : V m c (Pipeline.arrRef spec0 0) = a) (hb : V m c (Pipeline.arrRef spec0 1) = b) :
    part m c t p q = ∑ k : Fin 1024, a (ix2 (at8 (t.val % 8) (Nat.mod_lt _ (by decide)) k) p)
      * b (ix2 (at8 (t.val % 8) (Nat.mod_lt _ (by decide)) k) ⟨1024 * (t.val / 8 % 2) + q.val, by omega⟩) := by
  unfold part
  rw [pay1_at]
  refine Finset.sum_congr rfl fun k _ => ?_
  unfold iblk
  rw [ha, hb, ← emb0, ← emb1]
  exact congrArg₂ _ (of0 t _ a) (of1 t _ b)

/-! ## The result -/

/-- The product of the transposed first factor and the second. -/
def prod (a : A) (b : B) : O := fun i => ∑ k : Fin 8192, a (ix2 k (i 0)) * b (ix2 k (i 1))

theorem result (a : A) (b : B) (ha : V m c (Pipeline.arrRef spec0 0) = a) (hb : V m c (Pipeline.arrRef spec0 1) = b) : G2 m c = prod a b := by
  funext i
  have h0 : (i 0).val < 2432 := (i 0).isLt
  have h1 : (i 1).val < 2048 := (i 1).isLt
  have hr : 2 * ((i 0).val / 2432 - 0) + 1 * ((i 1).val / 1024 - 0) < 2 := by omega
  have hp : pt2Of i < cfg0.N := Nat.lt_of_lt_of_eq (by show 8 * (2 * ((i 0).val / 2432 - 0) + 1 * ((i 1).val / 1024 - 0)) + 7 < 16; omega) N_0.symm
  have hl : loc2Of i = ix2 ⟨(i 0).val % 2432, Nat.mod_lt _ (by decide)⟩ ⟨(i 1).val % 1024, Nat.mod_lt _ (by decide)⟩ := funext fun a => match a with
    | ⟨0, _⟩ => rfl
    | ⟨1, _⟩ => rfl
  have e : G2 m c i = (outsAt0 m c (pt2Of i) hp).1 (loc2Of i) := by
    unfold G2; rw [dif_pos hp, outsAt0_sweep]
  rw [e, hl]
  refine (tile m c _ hr _ _).trans ?_
  unfold prod
  rw [← sum_blocks8]
  have hpart : ∀ (b' : ℕ) (hb' : b' < 8), part m c (pt _ b' hr hb') ⟨(i 0).val % 2432, Nat.mod_lt _ (by decide)⟩ ⟨(i 1).val % 1024, Nat.mod_lt _ (by decide)⟩
      = ∑ k : Fin 1024, a (ix2 (at8 b' hb' k) (i 0)) * b (ix2 (at8 b' hb' k) (i 1)) := fun b' hb' => by
    rw [part_at m c _ _ _ a b ha hb]
    refine Finset.sum_congr rfl fun k _ => congrArg₂ _ (congrArg a ?_) (congrArg b ?_)
    · refine congrArg₂ ix2 (Fin.ext ?_) (Fin.ext ?_)
      · simp only [at8, pt]; omega
      · simp only [pt]; omega
    · refine congrArg₂ ix2 (Fin.ext ?_) (Fin.ext ?_)
      · simp only [at8, pt]; omega
      · simp only [pt]; omega
  rw [hpart 0, hpart 1, hpart 2, hpart 3, hpart 4, hpart 5, hpart 6, hpart 7]

end Cert.EvenGinIdeal.Mm

namespace Cert.EvenGinIdeal

open Idealize.ShloMosaic Idealize.ShloMosaic.TcCoe Idealize.SL.Sem
open Cert.Mlp

/-- The reference's result is the product, entry by entry. -/
theorem reference (a : FVec Ideal EvenGinRefIdeal.S8192x2432 .bf16) (b : FVec Ideal EvenGinRefIdeal.S8192x2048 .bf16) :
    truncf .bf16 (transpose EvenGinRefIdeal.S2432x2048 [1, 0] (transpose EvenGinRefIdeal.S2048x2432 [1, 0] (Host.dotGeneral EvenGinRefIdeal.dot_S8192x2432_S8192x2048_S2432x2048_0_0_1_1_n_n none (extf .f32 a EvenGinRefIdeal.Facts₀.bitsLt_bf16_f32) (extf .f32 b EvenGinRefIdeal.Facts₀.bitsLt_bf16_f32)) EvenGinRefIdeal.Facts₀.transposes_S2432x2048_S2048x2432_1_0) EvenGinRefIdeal.Facts₀.transposes_S2048x2432_S2432x2048_1_0) EvenGinRefIdeal.Facts₀.bitsLt_bf16_f32
      = Mm.prod a b :=
  eq_of_at _ _ fun i j => by pointwise [Mm.prod]

/-- The call's result is the reference's. -/
theorem algebraic : Cert.algebraic_EvenGinIdeal_EvenGinRefIdeal := by
  intro m ρ m' ρ' _ hag
  refine ⟨fun c => Mm.prod (m ((c.tc : Thread nD τ).loc main_arg0)) (m ((c.tc : Thread nD τ).loc main_arg1)), ?_, ?_⟩
  · refine (θ_run Cert.EvenGinIdeal.defs _ _).mono (fun r h c => ?_) (Cert.EvenGinIdeal.Value.run (F := Ideal) m ρ)
    exact ⟨(h c).1.trans (Mm.result m c _ _ rfl rfl), (h c).2⟩
  · refine (θ_run Cert.EvenGinRefIdeal.defs _ _).mono (fun r h c => ?_) (Cert.EvenGinRefIdeal.Value.run (F := Ideal) m' ρ')
    obtain ⟨e0, e1⟩ := hag c
    refine ⟨(h c).1.trans ?_, (h c).2⟩
    rw [e0, e1]
    exact reference _ _

end Cert.EvenGinIdeal

end
-- ==== Proof.EvenDnormValue.lean ====
/-
  The call that makes the cotangent of the even layer's normed input: its result is the product of the cotangent of the
  projections with the layer's transposed input weights, to which the padding adds nothing.
-/
module

public import proofs.«01_k».proof.Defs
public import proofs.«01_k».proof.Proof.Blocked
public import proofs.«01_k».proof.Proof.Padded
public import proofs.«01_k».proof.Proof.Gen.EvenDnorm.Frame
public import proofs.«01_k».proof.Proof.Gen.EvenDnormIdeal.Value
public import proofs.«01_k».proof.Proof.Gen.EvenDnormRefIdeal.Run
public import Idealize.ShloMosaic.Lib.VecWindow
public import Idealize.ShloMosaic.Lib.Pipeline.ValueKit.Geometry

@[expose] public section

set_option maxRecDepth 16384

noncomputable section

namespace Cert.EvenDnormIdeal

open Idealize.ShloMosaic Idealize.ShloMosaic.TcCoe Idealize.ShloMosaic.Tactic Idealize.SL.Sem
open Cert.EvenDnormIdeal.Gen Cert.EvenDnormIdeal.Value
open Cert.Mlp
open scoped BigOperators

theorem hz : (![0, 0] : Fin 2 → Nat) = fun _ => 0 := funext fun a => by fin_cases a <;> rfl

abbrev A := FVec Ideal S8192x2432 .bf16
abbrev B := FVec Ideal S2432x2048 .bf16
abbrev O := FVec Ideal S8192x2048 .f32

/-- The result: the product of the two factors, entry by entry. -/
def res (a : A) (b : B) : O := fun i => ∑ k : Fin 2432, a (ix2 (i 0) k) * b (ix2 k (i 1))

/-! ## One tile -/

theorem out_eq (x0 : Vec Ideal S1024x2432 .bf16) (x1 : Vec Ideal S2432x1024 .bf16) : out0_2 x0 x1 = k0_pay1 x0 x1 := by
  unfold out0_2
  rw [View.canon_unit_zero hz]
  simp only [View.ld_unit_zero (S := S1024x2432) hz, View.ld_unit_zero (S := S2432x1024) hz]

theorem pay1_at (x0 : Vec Ideal S1024x2432 .bf16) (x1 : Vec Ideal S2432x1024 .bf16) (p : Fin 1024) (q : Fin 1024) :
    k0_pay1 x0 x1 (ix2 p q) = ∑ k : Fin 2432, x0 (ix2 p k) * x1 (ix2 k q) := by
  pointwise [k0_pay1]

variable (m : (ℓ : Loc nD τ sig) → Buf (Elt Ideal) ℓ) (c : Dev nD)

theorem lt16 (t : Fin cfg0.N) : t.val < 16 := Nat.lt_of_lt_of_eq t.isLt N_0

theorem idx (t : Fin cfg0.N) : win0_0.index t = ![t.val / 2, 0] ∧ win0_1.index t = ![0, t.val % 2] ∧ win0_2.index t = ![t.val / 2, t.val % 2] :=
  (by decide +kernel : ∀ t : Fin grid0.N, win0_0.index t = ![t.val / 2, 0] ∧ win0_1.index t = ![0, t.val % 2] ∧ win0_2.index t = ![t.val / 2, t.val % 2]) t

/-- Row `p` of point `t`'s tile. -/
def row (t : Fin cfg0.N) (p : Fin 1024) : Fin 8192 := ⟨1024 * (t.val / 2) + p.val, by have := lt16 t; omega⟩
/-- Column `q` of point `t`'s tile. -/
def col (t : Fin cfg0.N) (q : Fin 1024) : Fin 2048 := ⟨1024 * (t.val % 2) + q.val, by omega⟩

theorem emb0 (t : Fin cfg0.N) (p : Fin 1024) (k : Fin 2432) : (((cfg0.win 0).blk t).view.emb (ix2 p k) : S8192x2432.Idx) = ix2 (row t p) k := by
  have hh := lt16 t
  blk_ext [row, idx t]
theorem emb1 (t : Fin cfg0.N) (k : Fin 2432) (q : Fin 1024) : (((cfg0.win 1).blk t).view.emb (ix2 k q) : S2432x2048.Idx) = ix2 k (col t q) := by
  have hh := lt16 t
  blk_ext [col, idx t]
theorem emb2 (t : Fin cfg0.N) (p : Fin 1024) (q : Fin 1024) : (((cfg0.win 2).blk t).view.emb (ix2 p q) : S8192x2048.Idx) = ix2 (row t p) (col t q) := by
  have hh := lt16 t
  blk_ext [row, col, idx t]

theorem of0 (t : Fin cfg0.N) (x : S1024x2432.Idx) (L : A) : (((cfg0.win 0).blk t).view.read (Elt Ideal) L : Vec Ideal S1024x2432 .bf16) x = L (((cfg0.win 0).blk t).view.emb x) := rfl
theorem of1 (t : Fin cfg0.N) (x : S2432x1024.Idx) (L : B) : (((cfg0.win 1).blk t).view.read (Elt Ideal) L : Vec Ideal S2432x1024 .bf16) x = L (((cfg0.win 1).blk t).view.emb x) := rfl

theorem tile_at (t : Fin cfg0.N) (p : Fin 1024) (q : Fin 1024) (a : A) (b : B) (ha : V m c (Pipeline.arrRef spec0 0) = a) (hb : V m c (Pipeline.arrRef spec0 1) = b) :
    out0_2 (iblk m c 0 t) (iblk m c 1 t) (ix2 p q) = res a b (ix2 (row t p) (col t q)) := by
  rw [out_eq, pay1_at]
  unfold iblk res
  rw [ha, hb]
  refine Finset.sum_congr rfl fun k _ => ?_
  exact congrArg₂ _ ((of0 t _ a).trans (congrArg a (emb0 t p k))) ((of1 t _ b).trans (congrArg b (emb1 t k q)))

/-! ## The whole array -/

theorem flushed_at (a : A) (b : B) (ha : V m c (Pipeline.arrRef spec0 0) = a) (hb : V m c (Pipeline.arrRef spec0 1) = b) (t : Fin cfg0.N) :
    (dats m 0 c).flushed 2 t = ((cfg0.win 2).blk t).view.read (Elt Ideal) (res a b) := by
  rw [flushed2]
  refine eq_of_at (n := 1024) (k := 1024) (α := EReal) _ _ fun p q => ?_
  exact (tile_at m c t p q a b ha hb).trans (congrArg (res a b) (emb2 t p q).symm)

theorem covered (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have hN : 2 * ((i 0).val / 1024) + (i 1).val / 1024 < cfg0.N := Nat.lt_of_lt_of_eq (by omega : _ < 16) N_0.symm
  refine ⟨⟨2 * ((i 0).val / 1024) + (i 1).val / 1024, hN⟩, flush0_2 _, ?_⟩
  have e := emb2 ⟨2 * ((i 0).val / 1024) + (i 1).val / 1024, hN⟩ ⟨(i 0).val % 1024, Nat.mod_lt _ (by decide)⟩ ⟨(i 1).val % 1024, Nat.mod_lt _ (by decide)⟩
  have hi : i = ix2 (row ⟨2 * ((i 0).val / 1024) + (i 1).val / 1024, hN⟩ ⟨(i 0).val % 1024, Nat.mod_lt _ (by decide)⟩) (col ⟨2 * ((i 0).val / 1024) + (i 1).val / 1024, hN⟩ ⟨(i 1).val % 1024, Nat.mod_lt _ (by decide)⟩) :=
    funext fun a => match a with
      | ⟨0, _⟩ => Fin.ext (by show (i 0).val = 1024 * ((2 * ((i 0).val / 1024) + (i 1).val / 1024) / 2) + (i 0).val % 1024; omega)
      | ⟨1, _⟩ => Fin.ext (by show (i 1).val = 1024 * ((2 * ((i 0).val / 1024) + (i 1).val / 1024) % 2) + (i 1).val % 1024; omega)
  exact (congrArg (· ∈ _) (e.trans hi.symm)).mp (View.emb_mem_set _ _)

theorem result (a : A) (b : B) (ha : V m c (Pipeline.arrRef spec0 0) = a) (hb : V m c (Pipeline.arrRef spec0 1) = b) : (dats m 0 c).arrAt 2 cfg0.N = res a b :=
  (dats m 0 c).arrAt_eq_of_cover 2 _ (fun t _ => flushed_at m c a b ha hb t) covered

/-! ## The host's lines before the call, and the reference -/

/-- The transposed weights with the padding's rows of zeros, as the call takes them. -/
def hW (w : FVec Ideal S2048x2368 .f32) : B :=
  concatenate S2432x2048 0 [⟨S832x2048, extractStridedSlice S832x2048 ![0, 0] (truncf .bf16 (transpose S2368x2048 [1, 0] w Facts₀.transposes_S2048x2368_S2368x2048_1_0) Facts₀.bitsLt_bf16_f32) Facts₀.slices_S2368x2048_S832x2048_0_0⟩,
    ⟨S64x2048, broadcastInDim S64x2048 ![] Facts₀.bcast_S_S64x2048 (constant S_ .bf16 0x0000#16)⟩,
    ⟨S1536x2048, extractStridedSlice S1536x2048 ![832, 0] (truncf .bf16 (transpose S2368x2048 [1, 0] w Facts₀.transposes_S2048x2368_S2368x2048_1_0) Facts₀.bitsLt_bf16_f32) Facts₀.slices_S2368x2048_S1536x2048_832_0⟩]
    Facts₀.concatenates_S832x2048_S64x2048_S1536x2048_S2432x2048_d0

theorem V_W : V m c (Pipeline.arrRef spec0 1) = hW (m ((c.tc : Thread nD τ).loc main_arg1)) := by
  show V m c main_v5 = _
  unfold V; after_results_simp; rfl

/-- The padded weights, entry by entry. -/
theorem hW_at (w : FVec Ideal S2048x2368 .f32) (n : Fin 2432) (k : Fin 2048) : hW w (ix2 n k) = padded (fun j => w (ix2 k j)) n := by
  pointwise [hW]
  exact pieces (fun j => w (ix2 k j)) n

/-- The reference's cotangent, without the padding's columns. -/
theorem cut_at (a : FVec Ideal EvenDnormRefIdeal.S8192x2432 .bf16) (i : Fin 8192) (j : Fin 2368) :
    (concatenate EvenDnormRefIdeal.S8192x2368 1 [⟨EvenDnormRefIdeal.S8192x832, extractStridedSlice EvenDnormRefIdeal.S8192x832 ![0, 0] (extf .f32 a EvenDnormRefIdeal.Facts₀.bitsLt_bf16_f32) EvenDnormRefIdeal.Facts₀.slices_S8192x2432_S8192x832_0_0⟩,
      ⟨EvenDnormRefIdeal.S8192x1536, extractStridedSlice EvenDnormRefIdeal.S8192x1536 ![0, 896] (extf .f32 a EvenDnormRefIdeal.Facts₀.bitsLt_bf16_f32) EvenDnormRefIdeal.Facts₀.slices_S8192x2432_S8192x1536_0_896⟩]
      EvenDnormRefIdeal.Facts₀.concatenates_S8192x832_S8192x1536_S8192x2368_d1 : FVec Ideal EvenDnormRefIdeal.S8192x2368 .f32) (ix2 i j) = a (ix2 i (lift j)) := by
  unfold lift
  pointwise
  by_cases h : j.val < 832
  · rw [dif_pos h]
    exact congrArg (fun n => a (ix2 i n)) (Fin.ext (if_pos h).symm)
  · rw [dif_neg h]
    refine congrArg (fun n => a (ix2 i n)) (Fin.ext ?_)
    show 896 + (j.val - 832) = if j.val < 832 then j.val else j.val + 64
    rw [if_neg h]; omega

/-- A product with the transposed weights, entry by entry. -/
theorem dot_at (x : FVec Ideal EvenDnormRefIdeal.S8192x2368 .f32) (w : FVec Ideal EvenDnormRefIdeal.S2048x2368 .f32) (i : Fin 8192) (j : Fin 2048) :
    Host.dotGeneral EvenDnormRefIdeal.dot_S8192x2368_S2048x2368_S8192x2048_1_1_0_0_n_n none x w (ix2 i j) = ∑ n : Fin 2368, x (ix2 i n) * w (ix2 j n) := by
  pointwise

/-- The reference's result, entry by entry. -/
theorem reference (a : FVec Ideal EvenDnormRefIdeal.S8192x2432 .bf16) (w : FVec Ideal EvenDnormRefIdeal.S2048x2368 .f32) :
    Host.dotGeneral EvenDnormRefIdeal.dot_S8192x2368_S2048x2368_S8192x2048_1_1_0_0_n_n none
      (concatenate EvenDnormRefIdeal.S8192x2368 1 [⟨EvenDnormRefIdeal.S8192x832, extractStridedSlice EvenDnormRefIdeal.S8192x832 ![0, 0] (extf .f32 a EvenDnormRefIdeal.Facts₀.bitsLt_bf16_f32) EvenDnormRefIdeal.Facts₀.slices_S8192x2432_S8192x832_0_0⟩,
        ⟨EvenDnormRefIdeal.S8192x1536, extractStridedSlice EvenDnormRefIdeal.S8192x1536 ![0, 896] (extf .f32 a EvenDnormRefIdeal.Facts₀.bitsLt_bf16_f32) EvenDnormRefIdeal.Facts₀.slices_S8192x2432_S8192x1536_0_896⟩]
        EvenDnormRefIdeal.Facts₀.concatenates_S8192x832_S8192x1536_S8192x2368_d1) w = res a (hW w) :=
  eq_of_at _ _ fun i j => by
    have r : res a (hW w) (ix2 i j) = ∑ n : Fin 2432, a (ix2 i n) * padded (fun k => w (ix2 j k)) n := Finset.sum_congr rfl fun n _ => congrArg _ (hW_at w n j)
    rw [r, dot_at, sum_pad (fun n => a (ix2 i n))]
    exact Finset.sum_congr rfl fun n _ => congrArg (· * w (ix2 j n)) (cut_at a i n)

/-- The call's result is the reference's. -/
theorem algebraic : Cert.algebraic_EvenDnormIdeal_EvenDnormRefIdeal := by
  intro m ρ m' ρ' _ hag
  refine ⟨fun c => res (m ((c.tc : Thread nD τ).loc main_arg0)) (hW (m ((c.tc : Thread nD τ).loc main_arg1))), ?_, ?_⟩
  · refine (θ_run Cert.EvenDnormIdeal.defs _ _).mono (fun r h c => ?_) (Cert.EvenDnormIdeal.Value.run_blocks (F := Ideal) m ρ)
    exact ⟨(h c).1.trans (result m c _ _ (V_main_arg0 m c) (V_W m c)), (h c).2⟩
  · refine (θ_run Cert.EvenDnormRefIdeal.defs _ _).mono (fun r h c => ?_) (Cert.EvenDnormRefIdeal.Value.run (F := Ideal) m' ρ')
    obtain ⟨e0, e1⟩ := hag c
    refine ⟨(h c).1.trans ?_, (h c).2⟩
    rw [e0, e1]
    exact reference _ _

end Cert.EvenDnormIdeal

end
-- ==== Proof.LossValue.lean ====
/-
  The call that makes the last layer's output and the loss: its first result is the cotangent of the output, which is the
  output less the target over 2048, its second the sum of the squares of the output less the target.
-/
module

public import proofs.«01_k».proof.Defs
public import proofs.«01_k».proof.Proof.Blocked
public import proofs.«01_k».proof.Proof.Gen.Loss.Frame
public import proofs.«01_k».proof.Proof.Gen.LossIdeal.Value
public import proofs.«01_k».proof.Proof.Gen.LossRefIdeal.Run
public import Idealize.ShloMosaic.Lib.VecWindow
public import Idealize.ShloMosaic.Lib.Pipeline.ValueKit.Geometry

@[expose] public section

set_option maxRecDepth 16384

noncomputable section

namespace Cert.LossIdeal.Mm

open Idealize.ShloMosaic Idealize.ShloMosaic.TcCoe Idealize.ShloMosaic.Tactic
open Cert.LossIdeal Cert.LossIdeal.Gen Cert.LossIdeal.Value
open Cert.Mlp
open scoped BigOperators

/-- The constants 1/2048, 2048, 1/2 and 2, as the reals they are. -/
theorem c_inv : Ideal.ofBits .f32 0x3A000000#32 = (((1 : ℝ) / 2048 : ℝ) : EReal) := by
  simp [Ideal.ofBits, Ideal.ieee, -EReal.coe_mul]; norm_num
theorem c_2048 : Ideal.ofBits .f32 0x45000000#32 = ((2048 : ℝ) : EReal) := by
  simp [Ideal.ofBits, Ideal.ieee, -EReal.coe_mul]; norm_num
theorem c_half : Ideal.ofBits .f32 0x3F000000#32 = (((1 : ℝ) / 2 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num

theorem hz : (![0, 0] : Fin 2 → Nat) = fun _ => 0 := funext fun a => by fin_cases a <;> rfl

/-! ## The body in its four cases -/

/-- The first block of the sum is stored. -/
theorem first (c : Dev nD) (i : grid0.Coords) (a3 h3 a4 h4 a5 h5 a6 h6 a7 h7 a8 h8 a9) (h9 : a9.IsWhole) (hc0 hc1 hc2) (x0 : Vec Ideal S1024x2048 .bf16) (x1 : Vec Ideal S2048x1024 .bf16) (x2 x3 : Vec Ideal S1024x1024 .f32) :
    sout0_A_0 (F := Ideal) c i a3 h3 a4 h4 a5 h5 a6 h6 a7 h7 a8 h8 a9 h9 hc0 hc1 hc2 x0 x1 x2 x3 = k0_pay2 x0 x1 := by
  unfold sout0_A_0
  rw [View.read_writes_eq_canon _ _ _ (scover0_A_0 c i a3 h3 a4 h4 a5 h5 a6 h6 a7 h7 a8 h8 a9 h9 hc0 hc1 hc2 x0 x1 x2 x3)]
  unfold kernelRun0_A
  dsimp only
  sl_unfold_words
  rw [View.canon_unit_zero hz]
  simp only [View.readAt_eq_ld, h3.read_unread, h4.read_unread, View.ld_unit_zero (S := S1024x2048) hz, View.ld_unit_zero (S := S2048x1024) hz, View.ld_unit_zero (S := S1024x1024) hz]

/-- A middle block is added. -/
theorem middle (c : Dev nD) (i : grid0.Coords) (a3 h3 a4 h4 a5 h5 a6 h6 a7 h7 a8 h8 a9) (h9 : a9.IsWhole) (hc0 hc1 hc2) (x0 : Vec Ideal S1024x2048 .bf16) (x1 : Vec Ideal S2048x1024 .bf16) (x2 x3 s : Vec Ideal S1024x1024 .f32) :
    sout0_B_0 (F := Ideal) c i a3 h3 a4 h4 a5 h5 a6 h6 a7 h7 a8 h8 a9 h9 hc0 hc1 hc2 x0 x1 x2 x3 s = k0_pay3 x0 x1 s := by
  unfold sout0_B_0
  rw [View.read_writes_eq_canon _ _ _ (scover0_B_0 c i a3 h3 a4 h4 a5 h5 a6 h6 a7 h7 a8 h8 a9 h9 hc0 hc1 hc2 x0 x1 x2 x3 s)]
  unfold kernelRun0_B
  dsimp only
  sl_unfold_words
  rw [View.canon_unit_zero hz]
  simp only [View.readAt_eq_ld, h3.read_unread, h4.read_unread, h9.read_unread, View.ld_unit_zero (S := S1024x2048) hz, View.ld_unit_zero (S := S2048x1024) hz, View.ld_unit_zero (S := S1024x1024) hz]

/-- The first tile: its cotangents. -/
theorem lastC4 (c : Dev nD) (i : grid0.Coords) (a3 h3 a4 h4 a5 h5 a6 h6 a7 h7 a8 h8 a9) (h9 : a9.IsWhole) (hc0 hc1 hc2 hc3 hc4) (x0 : Vec Ideal S1024x2048 .bf16) (x1 : Vec Ideal S2048x1024 .bf16) (x2 x3 s : Vec Ideal S1024x1024 .f32) :
    out0_C_4 (F := Ideal) c i a3 h3 a4 h4 a5 h5 a6 h6 a7 h7 a8 h8 a9 h9 hc0 hc1 hc2 hc3 hc4 x0 x1 x2 x3 s = k0_pay5 x0 x1 s x2 x3 := by
  unfold out0_C_4
  rw [View.read_writes_eq_canon _ _ _ (cover0_C_4 c i a3 h3 a4 h4 a5 h5 a6 h6 a7 h7 a8 h8 a9 h9 hc0 hc1 hc2 hc3 hc4 x0 x1 x2 x3 s)]
  unfold kernelRun0_C
  dsimp only
  sl_unfold_words
  rw [View.canon_unit_zero hz]
  simp only [View.readAt_eq_ld, h3.read_unread, h4.read_unread, h5.read_unread, h6.read_unread, h9.read_unread, View.ld_unit_zero (S := S1024x2048) hz, View.ld_unit_zero (S := S2048x1024) hz, View.ld_unit_zero (S := S1024x1024) hz]

/-- The first tile: its sum of squares is stored. -/
theorem lastC5 (c : Dev nD) (i : grid0.Coords) (a3 h3 a4 h4 a5 h5 a6 h6 a7 h7 a8 h8 a9) (h9 : a9.IsWhole) (hc0 hc1 hc2 hc3 hc4) (x0 : Vec Ideal S1024x2048 .bf16) (x1 : Vec Ideal S2048x1024 .bf16) (x2 x3 s : Vec Ideal S1024x1024 .f32) :
    out0_C_5 (F := Ideal) c i a3 h3 a4 h4 a5 h5 a6 h6 a7 h7 a8 h8 a9 h9 hc0 hc1 hc2 hc3 hc4 x0 x1 x2 x3 s = k0_pay6 x0 x1 s x2 x3 := by
  unfold out0_C_5
  rw [View.read_writes_eq_canon _ _ _ (cover0_C_5 c i a3 h3 a4 h4 a5 h5 a6 h6 a7 h7 a8 h8 a9 h9 hc0 hc1 hc2 hc3 hc4 x0 x1 x2 x3 s)]
  unfold kernelRun0_C
  dsimp only
  sl_unfold_words
  rw [View.canon_unit_zero hz]
  simp only [View.readAt_eq_ld, h3.read_unread, h4.read_unread, h5.read_unread, h6.read_unread, h9.read_unread, View.ld_unit_zero (S := S1024x2048) hz, View.ld_unit_zero (S := S2048x1024) hz, View.ld_unit_zero (S := S1024x1024) hz]

/-- A later tile: its cotangents. -/
theorem lastD4 (c : Dev nD) (i : grid0.Coords) (a3 h3 a4 h4 a5 h5 a6 h6 a7 h7 a8 h8 a9) (h9 : a9.IsWhole) (hc0 hc1 hc2 hc3 hc4) (x0 : Vec Ideal S1024x2048 .bf16) (x1 : Vec Ideal S2048x1024 .bf16) (x2 x3 : Vec Ideal S1024x1024 .f32) (l : Vec Ideal S1x1 .f32) (s : Vec Ideal S1024x1024 .f32) :
    out0_D_4 (F := Ideal) c i a3 h3 a4 h4 a5 h5 a6 h6 a7 h7 a8 h8 a9 h9 hc0 hc1 hc2 hc3 hc4 x0 x1 x2 x3 l s = k0_pay5 x0 x1 s x2 x3 := by
  unfold out0_D_4
  rw [View.read_writes_eq_canon _ _ _ (cover0_D_4 c i a3 h3 a4 h4 a5 h5 a6 h6 a7 h7 a8 h8 a9 h9 hc0 hc1 hc2 hc3 hc4 x0 x1 x2 x3 l s)]
  unfold kernelRun0_D
  dsimp only
  sl_unfold_words
  rw [View.canon_unit_zero hz]
  simp only [View.readAt_eq_ld, h3.read_unread, h4.read_unread, h5.read_unread, h6.read_unread, h9.read_unread, View.ld_unit_zero (S := S1024x2048) hz, View.ld_unit_zero (S := S2048x1024) hz, View.ld_unit_zero (S := S1024x1024) hz]

/-- A later tile: its sum of squares is added. -/
theorem lastD5 (c : Dev nD) (i : grid0.Coords) (a3 h3 a4 h4 a5 h5 a6 h6 a7 h7 a8 h8 a9) (h9 : a9.IsWhole) (hc0 hc1 hc2 hc3 hc4) (x0 : Vec Ideal S1024x2048 .bf16) (x1 : Vec Ideal S2048x1024 .bf16) (x2 x3 : Vec Ideal S1024x1024 .f32) (l : Vec Ideal S1x1 .f32) (s : Vec Ideal S1024x1024 .f32) :
    out0_D_5 (F := Ideal) c i a3 h3 a4 h4 a5 h5 a6 h6 a7 h7 a8 h8 a9 h9 hc0 hc1 hc2 hc3 hc4 x0 x1 x2 x3 l s = k0_pay7 x0 x1 s x2 x3 l := by
  unfold out0_D_5
  rw [View.read_writes_eq_canon _ _ _ (cover0_D_5 c i a3 h3 a4 h4 a5 h5 a6 h6 a7 h7 a8 h8 a9 h9 hc0 hc1 hc2 hc3 hc4 x0 x1 x2 x3 l s)]
  unfold kernelRun0_D
  dsimp only
  sl_unfold_words
  rw [View.canon_unit_zero hz]
  simp only [View.readAt_eq_ld, h3.read_unread, h4.read_unread, h5.read_unread, h6.read_unread, h9.read_unread, h8.read_unread, View.ld_unit_zero (S := S1024x2048) hz, View.ld_unit_zero (S := S2048x1024) hz, View.ld_unit_zero (S := S1024x1024) hz, View.ld_unit_zero (S := S1x1) hz]

theorem pay1_at (x0 : Vec Ideal S1024x2048 .bf16) (x1 : Vec Ideal S2048x1024 .bf16) (p q : Fin 1024) : k0_pay1 x0 x1 (ix2 p q) = ∑ k : Fin 2048, x0 (ix2 p k) * x1 (ix2 k q) := by
  pointwise [k0_pay1]
theorem pay2_at (x0 : Vec Ideal S1024x2048 .bf16) (x1 : Vec Ideal S2048x1024 .bf16) (p q : Fin 1024) : k0_pay2 x0 x1 (ix2 p q) = k0_pay1 x0 x1 (ix2 p q) := by
  pointwise [k0_pay2]
theorem pay3_at (x0 : Vec Ideal S1024x2048 .bf16) (x1 : Vec Ideal S2048x1024 .bf16) (s : Vec Ideal S1024x1024 .f32) (p q : Fin 1024) : k0_pay3 x0 x1 s (ix2 p q) = s (ix2 p q) + k0_pay1 x0 x1 (ix2 p q) := by
  pointwise [k0_pay3]
theorem pay4_at (x0 : Vec Ideal S1024x2048 .bf16) (x1 : Vec Ideal S2048x1024 .bf16) (s x2 x3 : Vec Ideal S1024x1024 .f32) (p q : Fin 1024) : k0_pay4 x0 x1 s x2 x3 (ix2 p q) = ((s (ix2 p q) + k0_pay1 x0 x1 (ix2 p q)) + x2 (ix2 p q)) - x3 (ix2 p q) := by
  pointwise [k0_pay4]
theorem pay5_at (x0 : Vec Ideal S1024x2048 .bf16) (x1 : Vec Ideal S2048x1024 .bf16) (s x2 x3 : Vec Ideal S1024x1024 .f32) (p q : Fin 1024) : k0_pay5 x0 x1 s x2 x3 (ix2 p q) = k0_pay4 x0 x1 s x2 x3 (ix2 p q) * (((1 : ℝ) / 2048 : ℝ) : EReal) := by
  pointwise [k0_pay5]
  rw [show Ideal.ofBits .f32 973078528#32 = _ from c_inv]
theorem pay6_at (x0 : Vec Ideal S1024x2048 .bf16) (x1 : Vec Ideal S2048x1024 .bf16) (s x2 x3 : Vec Ideal S1024x1024 .f32) : k0_pay6 x0 x1 s x2 x3 (ix2 0 0) = ∑ p : Fin 1024, ∑ q : Fin 1024, k0_pay4 x0 x1 s x2 x3 (ix2 p q) * k0_pay4 x0 x1 s x2 x3 (ix2 p q) := by
  pointwise [k0_pay6]
theorem pay7_at (x0 : Vec Ideal S1024x2048 .bf16) (x1 : Vec Ideal S2048x1024 .bf16) (s x2 x3 : Vec Ideal S1024x1024 .f32) (l : Vec Ideal S1x1 .f32) : k0_pay7 x0 x1 s x2 x3 l (ix2 0 0) = l (ix2 0 0) + k0_pay6 x0 x1 s x2 x3 (ix2 0 0) := by
  pointwise [k0_pay7]

/-! ## The four points of a tile -/

variable (m : (ℓ : Loc nD τ sig) → Buf (Elt Ideal) ℓ) (c : Dev nD)

theorem lt64 (t : Fin cfg0.N) : t.val < 64 := Nat.lt_of_lt_of_eq t.isLt N_0

/-- The product of the two blocks of point `t`. -/
def part (t : Fin cfg0.N) (p q : Fin 1024) : EReal := k0_pay1 (iblk m c 0 t) (iblk m c 1 t) (ix2 p q)

/-- The point before. -/
abbrev prev (t : Fin cfg0.N) : Fin cfg0.N := ⟨t.val - 1, Nat.lt_of_le_of_lt (Nat.sub_le _ _) t.isLt⟩

theorem at_first (t : Fin cfg0.N) (h : t.val % 4 = 0) (p q : Fin 1024) : (outsAt0 m c t.val t.isLt).2.2 (ix2 p q) = part m c t p q := by
  rw [outsAt0_A m c t h (by omega) (by omega)]
  dsimp only
  rw [first, pay2_at]
  rfl

theorem at_middle (t : Fin cfg0.N) (h : 1 ≤ t.val % 4 ∧ t.val % 4 ≤ 2) (p q : Fin 1024) :
    (outsAt0 m c t.val t.isLt).2.2 (ix2 p q) = (outsAt0 m c (t.val - 1) (prev t).isLt).2.2 (ix2 p q) + part m c t p q := by
  rw [outsAt0_B m c t (by omega) h (by omega)]
  dsimp only
  rw [middle, pay3_at]
  rfl

/-- The output less the target, as point `t`'s body has it. -/
def diff (t : Fin cfg0.N) (p q : Fin 1024) : EReal :=
  (((outsAt0 m c (t.val - 1) (prev t).isLt).2.2 (ix2 p q) + part m c t p q) + (iblk m c 2 t : Vec Ideal S1024x1024 .f32) (ix2 p q))
    - (iblk m c 3 t : Vec Ideal S1024x1024 .f32) (ix2 p q)

theorem diff_eq (t : Fin cfg0.N) (p q : Fin 1024) :
    k0_pay4 (iblk m c 0 t) (iblk m c 1 t) (outsAt0 m c (t.val - 1) (prev t).isLt).2.2 (iblk m c 2 t) (iblk m c 3 t) (ix2 p q) = diff m c t p q := by
  rw [pay4_at]
  rfl

/-- The sum of the tile's squares. -/
def sq (t : Fin cfg0.N) : EReal := ∑ p : Fin 1024, ∑ q : Fin 1024, diff m c t p q * diff m c t p q

theorem sq_eq (t : Fin cfg0.N) : k0_pay6 (iblk m c 0 t) (iblk m c 1 t) (outsAt0 m c (t.val - 1) (prev t).isLt).2.2 (iblk m c 2 t) (iblk m c 3 t) (ix2 0 0) = sq m c t := by
  rw [pay6_at]
  exact Finset.sum_congr rfl fun p _ => Finset.sum_congr rfl fun q _ => by rw [diff_eq]

theorem at_last (t : Fin cfg0.N) (h : t.val % 4 = 3) (p q : Fin 1024) :
    (outsAt0 m c t.val t.isLt).1 (ix2 p q) = diff m c t p q * (((1 : ℝ) / 2048 : ℝ) : EReal) := by
  by_cases h3 : t.val < 4
  · rw [outsAt0_C m c t (by omega) (by omega) h h3 (by omega)]
    dsimp only
    rw [lastC4, pay5_at, diff_eq]
  · rw [outsAt0_D m c t (by omega) (by omega) h h3 (by omega)]
    dsimp only
    rw [lastD4, pay5_at, diff_eq]

/-- The sum's block after the points of the first tile. -/
theorem loss_first (t : Fin cfg0.N) (h : t.val = 3) : (outsAt0 m c t.val t.isLt).2.1 (ix2 0 0) = sq m c t := by
  rw [outsAt0_C m c t (by omega) (by omega) (by omega) (by omega) (by omega)]
  dsimp only
  rw [lastC5, sq_eq]

theorem loss_later (t : Fin cfg0.N) (h : t.val % 4 = 3) (h4 : 4 ≤ t.val) :
    (outsAt0 m c t.val t.isLt).2.1 (ix2 0 0) = (outsAt0 m c (t.val - 1) (prev t).isLt).2.1 (ix2 0 0) + sq m c t := by
  rw [outsAt0_D m c t (by omega) (by omega) h (by omega) h4]
  dsimp only
  rw [lastD5, pay7_at, sq_eq]

/-- A point that is not its tile's last leaves the sum as it was. -/
theorem loss_idle (t : Fin cfg0.N) (h : t.val % 4 ≠ 3) : (outsAt0 m c t.val t.isLt).2.1 = (outsAt0 m c (t.val - 1) (prev t).isLt).2.1 := by
  by_cases h0 : t.val % 4 = 0
  · rw [outsAt0_A m c t h0 (by omega) h]
    rfl
  · rw [outsAt0_B m c t h0 (by omega) h]
    rfl

/-- Point `b` of tile `r`. -/
def pt (r b : ℕ) (hr : r < 16) (hb : b < 4) : Fin cfg0.N := ⟨4 * r + b, Nat.lt_of_lt_of_eq (by omega) N_0.symm⟩

theorem tile (r : ℕ) (hr : r < 16) (p q : Fin 1024) :
    diff m c (pt r 3 hr (by decide)) p q
      = (((part m c (pt r 0 hr (by decide)) p q + part m c (pt r 1 hr (by decide)) p q) + part m c (pt r 2 hr (by decide)) p q) + part m c (pt r 3 hr (by decide)) p q
        + (iblk m c 2 (pt r 3 hr (by decide)) : Vec Ideal S1024x1024 .f32) (ix2 p q)) - (iblk m c 3 (pt r 3 hr (by decide)) : Vec Ideal S1024x1024 .f32) (ix2 p q) := by
  unfold diff
  rw [show (outsAt0 m c ((pt r 3 hr (by decide)).val - 1) _).2.2 (ix2 p q) = _ from at_middle m c (pt r 2 hr (by decide)) (by show 1 ≤ (4 * r + 2) % 4 ∧ (4 * r + 2) % 4 ≤ 2; omega) p q,
    show (outsAt0 m c ((pt r 2 hr (by decide)).val - 1) _).2.2 (ix2 p q) = _ from at_middle m c (pt r 1 hr (by decide)) (by show 1 ≤ (4 * r + 1) % 4 ∧ (4 * r + 1) % 4 ≤ 2; omega) p q,
    show (outsAt0 m c ((pt r 1 hr (by decide)).val - 1) _).2.2 (ix2 p q) = _ from at_first m c (pt r 0 hr (by decide)) (by show (4 * r + 0) % 4 = 0; omega) p q]

/-- The sum's block after tile `r`: the squares of the tiles up to it. -/
theorem loss_at : ∀ (r : ℕ) (hr : r < 16), (outsAt0 m c (pt r 3 hr (by decide)).val (pt r 3 hr (by decide)).isLt).2.1 (ix2 0 0)
    = ∑ r' : Fin (r + 1), sq m c (pt r'.val 3 (by omega) (by decide))
  | 0, hr => by
    rw [loss_first m c (pt 0 3 hr (by decide)) rfl, Fin.sum_univ_one]
    rfl
  | r + 1, hr => by
    rw [loss_later m c (pt (r + 1) 3 hr (by decide)) (by show (4 * (r + 1) + 3) % 4 = 3; omega) (by show 4 ≤ 4 * (r + 1) + 3; omega),
      Fin.sum_univ_castSucc,
      show (outsAt0 m c ((pt (r + 1) 3 hr (by decide)).val - 1) _).2.1 = _ from loss_idle m c (pt (r + 1) 2 hr (by decide)) (by show (4 * (r + 1) + 2) % 4 ≠ 3; omega),
      show (outsAt0 m c ((pt (r + 1) 2 hr (by decide)).val - 1) _).2.1 = _ from loss_idle m c (pt (r + 1) 1 hr (by decide)) (by show (4 * (r + 1) + 1) % 4 ≠ 3; omega),
      show (outsAt0 m c ((pt (r + 1) 1 hr (by decide)).val - 1) _).2.1 = _ from loss_idle m c (pt (r + 1) 0 hr (by decide)) (by show (4 * (r + 1) + 0) % 4 ≠ 3; omega),
      show (outsAt0 m c ((pt (r + 1) 0 hr (by decide)).val - 1) _).2.1 (ix2 0 0) = _ from loss_at r (by omega)]
    rfl

/-! ## The blocks at an index -/

abbrev A := FVec Ideal S8192x8192 .bf16
abbrev B := FVec Ideal S8192x2048 .bf16
abbrev O := FVec Ideal S8192x2048 .f32

theorem idx (t : Fin cfg0.N) : win0_0.index t = ![t.val / 8, t.val % 4] ∧ win0_1.index t = ![t.val % 4, t.val / 4 % 2] ∧ win0_2.index t = ![t.val / 8, t.val / 4 % 2] ∧ win0_3.index t = ![t.val / 8, t.val / 4 % 2] :=
  (by decide +kernel : ∀ t : Fin grid0.N, win0_0.index t = ![t.val / 8, t.val % 4] ∧ win0_1.index t = ![t.val % 4, t.val / 4 % 2] ∧ win0_2.index t = ![t.val / 8, t.val / 4 % 2] ∧ win0_3.index t = ![t.val / 8, t.val / 4 % 2]) t

theorem emb0 (t : Fin cfg0.N) (p : Fin 1024) (k : Fin 2048) :
    (((cfg0.win 0).blk t).view.emb (ix2 p k) : S8192x8192.Idx) = ix2 ⟨1024 * (t.val / 8) + p.val, by have := lt64 t; omega⟩ (at4 (t.val % 4) (Nat.mod_lt _ (by decide)) k) := by
  have hh := lt64 t
  blk_ext [at4, idx t]
theorem emb1 (t : Fin cfg0.N) (k : Fin 2048) (q : Fin 1024) :
    (((cfg0.win 1).blk t).view.emb (ix2 k q) : S8192x2048.Idx) = ix2 (at4 (t.val % 4) (Nat.mod_lt _ (by decide)) k) ⟨1024 * (t.val / 4 % 2) + q.val, by omega⟩ := by
  have hh := lt64 t
  blk_ext [at4, idx t]

theorem emb2 (t : Fin cfg0.N) (p q : Fin 1024) :
    (((cfg0.win 2).blk t).view.emb (ix2 p q) : S8192x2048.Idx) = ix2 ⟨1024 * (t.val / 8) + p.val, by have := lt64 t; omega⟩ ⟨1024 * (t.val / 4 % 2) + q.val, by omega⟩ := by
  have hh := lt64 t
  blk_ext [idx t]

theorem emb3 (t : Fin cfg0.N) (p q : Fin 1024) :
    (((cfg0.win 3).blk t).view.emb (ix2 p q) : S8192x2048.Idx) = ix2 ⟨1024 * (t.val / 8) + p.val, by have := lt64 t; omega⟩ ⟨1024 * (t.val / 4 % 2) + q.val, by omega⟩ := by
  have hh := lt64 t
  blk_ext [idx t]

theorem of0 (t : Fin cfg0.N) (x : S1024x2048.Idx) (L : A) : (((cfg0.win 0).blk t).view.read (Elt Ideal) L : Vec Ideal S1024x2048 .bf16) x = L (((cfg0.win 0).blk t).view.emb x) := rfl
theorem of1 (t : Fin cfg0.N) (x : S2048x1024.Idx) (L : B) : (((cfg0.win 1).blk t).view.read (Elt Ideal) L : Vec Ideal S2048x1024 .bf16) x = L (((cfg0.win 1).blk t).view.emb x) := rfl

theorem of2 (t : Fin cfg0.N) (x : S1024x1024.Idx) (L : O) : (((cfg0.win 2).blk t).view.read (Elt Ideal) L : Vec Ideal S1024x1024 .f32) x = L (((cfg0.win 2).blk t).view.emb x) := rfl
theorem of3 (t : Fin cfg0.N) (x : S1024x1024.Idx) (L : O) : (((cfg0.win 3).blk t).view.read (Elt Ideal) L : Vec Ideal S1024x1024 .f32) x = L (((cfg0.win 3).blk t).view.emb x) := rfl

theorem extra_at (t : Fin cfg0.N) (p q : Fin 1024) (x : O) (hx : V m c (Pipeline.arrRef spec0 2) = x) :
    (iblk m c 2 t : Vec Ideal S1024x1024 .f32) (ix2 p q) = x (ix2 ⟨1024 * (t.val / 8) + p.val, by have := lt64 t; omega⟩ ⟨1024 * (t.val / 4 % 2) + q.val, by omega⟩) := by
  unfold iblk
  rw [hx, ← emb2]
  exact of2 t _ x

theorem target_at (t : Fin cfg0.N) (p q : Fin 1024) (x : O) (hx : V m c (Pipeline.arrRef spec0 3) = x) :
    (iblk m c 3 t : Vec Ideal S1024x1024 .f32) (ix2 p q) = x (ix2 ⟨1024 * (t.val / 8) + p.val, by have := lt64 t; omega⟩ ⟨1024 * (t.val / 4 % 2) + q.val, by omega⟩) := by
  unfold iblk
  rw [hx, ← emb3]
  exact of3 t _ x

theorem part_at (t : Fin cfg0.N) (p q : Fin 1024) (a : A) (b : B) (ha : V m c (Pipeline.arrRef spec0 0) = a) (hb : V m c (Pipeline.arrRef spec0 1) = b) :
    part m c t p q = ∑ k : Fin 2048, a (ix2 ⟨1024 * (t.val / 8) + p.val, by have := lt64 t; omega⟩ (at4 (t.val % 4) (Nat.mod_lt _ (by decide)) k))
      * b (ix2 (at4 (t.val % 4) (Nat.mod_lt _ (by decide)) k) ⟨1024 * (t.val / 4 % 2) + q.val, by omega⟩) := by
  unfold part
  rw [pay1_at]
  refine Finset.sum_congr rfl fun k _ => ?_
  unfold iblk
  rw [ha, hb, ← emb0, ← emb1]
  exact congrArg₂ _ (of0 t _ a) (of1 t _ b)

/-! ## The results -/

/-- The product of the two factors plus the residual, less the target. -/
def err (a : A) (b : B) (x y : O) (i : Fin 8192) (j : Fin 2048) : EReal := ((∑ k : Fin 8192, a (ix2 i k) * b (ix2 k j)) + x (ix2 i j)) - y (ix2 i j)

theorem diff_at (r : ℕ) (hr : r < 16) (p q : Fin 1024) (a : A) (b : B) (x y : O) (ha : V m c (Pipeline.arrRef spec0 0) = a) (hb : V m c (Pipeline.arrRef spec0 1) = b)
    (hx : V m c (Pipeline.arrRef spec0 2) = x) (hy : V m c (Pipeline.arrRef spec0 3) = y) :
    diff m c (pt r 3 hr (by decide)) p q = err a b x y ⟨1024 * (r / 2) + p.val, by omega⟩ ⟨1024 * (r % 2) + q.val, by omega⟩ := by
  have hi : ∀ (b' : ℕ) (hb' : b' < 4), (⟨1024 * ((pt r b' hr hb').val / 8) + p.val, by have := lt64 (pt r b' hr hb'); omega⟩ : Fin 8192) = ⟨1024 * (r / 2) + p.val, by omega⟩ := fun b' hb' =>
    Fin.ext (by simp only [pt]; omega)
  have hj : ∀ (b' : ℕ) (hb' : b' < 4), (⟨1024 * ((pt r b' hr hb').val / 4 % 2) + q.val, by omega⟩ : Fin 2048) = ⟨1024 * (r % 2) + q.val, by omega⟩ := fun b' hb' =>
    Fin.ext (by simp only [pt]; omega)
  have hpart : ∀ (b' : ℕ) (hb' : b' < 4), part m c (pt r b' hr hb') p q
      = ∑ k : Fin 2048, a (ix2 ⟨1024 * (r / 2) + p.val, by omega⟩ (at4 b' hb' k)) * b (ix2 (at4 b' hb' k) ⟨1024 * (r % 2) + q.val, by omega⟩) := fun b' hb' => by
    have hk : ∀ k : Fin 2048, at4 ((pt r b' hr hb').val % 4) (Nat.mod_lt _ (by decide)) k = at4 b' hb' k := fun k => Fin.ext (by simp only [at4, pt]; omega)
    rw [part_at m c _ _ _ a b ha hb]
    exact Finset.sum_congr rfl fun k _ => by rw [hi, hj, hk]
  rw [tile, hpart 0, hpart 1, hpart 2, hpart 3, extra_at m c _ _ _ x hx, target_at m c _ _ _ y hy, hi, hj]
  unfold err
  rw [← sum_blocks]

/-- The cotangent of the output. -/
def cot (a : A) (b : B) (x y : O) : O := fun i => err a b x y (i 0) (i 1) * (((1 : ℝ) / 2048 : ℝ) : EReal)

/-- The sum of the squares. -/
def total (a : A) (b : B) (x y : O) : FVec Ideal S1x1 .f32 := fun _ => ∑ i : Fin 8192, ∑ j : Fin 2048, err a b x y i j * err a b x y i j

/-- A sum over all rows and columns, tile by tile. -/
theorem sum_tiles (g : Fin 8192 → Fin 2048 → EReal) :
    ∑ r : Fin 16, ∑ p : Fin 1024, ∑ q : Fin 1024, g ⟨1024 * (r.val / 2) + p.val, by omega⟩ ⟨1024 * (r.val % 2) + q.val, by omega⟩ = ∑ i, ∑ j, g i j := by
  have sp : ∀ (n k : ℕ) (f : Fin (n * k) → EReal), ∑ i, f i = ∑ u : Fin n, ∑ v : Fin k, f (finProdFinEquiv (u, v)) := fun n k f => by
    rw [← finProdFinEquiv.sum_comp, Fintype.sum_prod_type]
  have e1 : ∑ i, ∑ j, g i j = ∑ u : Fin 8, ∑ p : Fin 1024, ∑ v : Fin 2, ∑ q : Fin 1024, g (finProdFinEquiv (u, p)) (finProdFinEquiv (v, q)) :=
    (sp 8 1024 fun i => ∑ j, g i j).trans (Finset.sum_congr rfl fun u _ => Finset.sum_congr rfl fun p _ => sp 2 1024 fun j => g (finProdFinEquiv (u, p)) j)
  rw [e1]
  refine (sp 8 2 fun r : Fin 16 => ∑ p : Fin 1024, ∑ q : Fin 1024, g ⟨1024 * (r.val / 2) + p.val, by omega⟩ ⟨1024 * (r.val % 2) + q.val, by omega⟩).trans ?_
  refine Finset.sum_congr rfl fun u _ => Eq.trans ?_ Finset.sum_comm
  refine Finset.sum_congr rfl fun v _ => Finset.sum_congr rfl fun p _ => Finset.sum_congr rfl fun q _ => congrArg₂ g (Fin.ext ?_) (Fin.ext ?_)
  · show 1024 * ((v.val + 2 * u.val) / 2) + p.val = p.val + 1024 * u.val
    omega
  · show 1024 * ((v.val + 2 * u.val) % 2) + q.val = q.val + 1024 * v.val
    omega

variable (a : A) (b : B) (x y : O) (ha : V m c (Pipeline.arrRef spec0 0) = a) (hb : V m c (Pipeline.arrRef spec0 1) = b)
  (hx : V m c (Pipeline.arrRef spec0 2) = x) (hy : V m c (Pipeline.arrRef spec0 3) = y)
include ha hb hx hy

theorem result : G4 m c = cot a b x y := by
  funext i
  have h0 : (i 0).val < 8192 := (i 0).isLt
  have h1 : (i 1).val < 2048 := (i 1).isLt
  have hr : 2 * ((i 0).val / 1024 - 0) + 1 * ((i 1).val / 1024 - 0) < 16 := by omega
  have hp : pt4Of i < cfg0.N := Nat.lt_of_lt_of_eq (by show 4 * (2 * ((i 0).val / 1024 - 0) + 1 * ((i 1).val / 1024 - 0)) + 3 < 64; omega) N_0.symm
  have hl : loc4Of i = ix2 ⟨(i 0).val % 1024, Nat.mod_lt _ (by decide)⟩ ⟨(i 1).val % 1024, Nat.mod_lt _ (by decide)⟩ := funext fun a => match a with
    | ⟨0, _⟩ => rfl
    | ⟨1, _⟩ => rfl
  have e : G4 m c i = (outsAt0 m c (pt4Of i) hp).1 (loc4Of i) := by
    unfold G4; rw [dif_pos hp, outsAt0_sweep]
  rw [e, hl]
  refine (at_last m c (pt _ 3 hr (by decide)) (by show (4 * _ + 3) % 4 = 3; omega) _ _).trans ?_
  rw [diff_at m c _ hr _ _ a b x y ha hb hx hy]
  refine congrArg (· * (((1 : ℝ) / 2048 : ℝ) : EReal)) (congrArg₂ (err a b x y) (Fin.ext ?_) (Fin.ext ?_))
  · show 1024 * ((2 * ((i 0).val / 1024 - 0) + 1 * ((i 1).val / 1024 - 0)) / 2) + (i 0).val % 1024 = (i 0).val
    omega
  · show 1024 * ((2 * ((i 0).val / 1024 - 0) + 1 * ((i 1).val / 1024 - 0)) % 2) + (i 1).val % 1024 = (i 1).val
    omega

theorem result_total : G5 m c = total a b x y := by
  funext i
  have hi : i = ix2 0 0 := funext fun a => match a with
    | ⟨0, _⟩ => Fin.ext (by have : (i 0).val < 1 := (i 0).isLt; show (i 0).val = 0; omega)
    | ⟨1, _⟩ => Fin.ext (by have : (i 1).val < 1 := (i 1).isLt; show (i 1).val = 0; omega)
  rw [G5_last, ← outsAt0_sweep, hi]
  refine (loss_at m c 15 (by decide)).trans ?_
  unfold total
  rw [← sum_tiles]
  refine Finset.sum_congr rfl fun r _ => ?_
  unfold sq
  exact Finset.sum_congr rfl fun p _ => Finset.sum_congr rfl fun q _ => by rw [diff_at m c _ r.isLt _ _ a b x y ha hb hx hy]

end Cert.LossIdeal.Mm

namespace Cert.LossIdeal

open Idealize.ShloMosaic Idealize.ShloMosaic.TcCoe Idealize.ShloMosaic.Tactic Idealize.SL.Sem
open Cert.Mlp

/-- The down weights, as the call takes them. -/
def hDown (w : FVec Ideal S8192x2048 .f32) : Mm.B := truncf .bf16 w Facts₀.bitsLt_bf16_f32

theorem V_down (m : (ℓ : Loc nD τ sig) → Buf (Elt Ideal) ℓ) (c : Dev nD) : Gen.V m c (Pipeline.arrRef spec0 1) = hDown (m ((c.tc : Thread nD τ).loc main_arg1)) := by
  show Gen.V m c main_v0 = _
  unfold Gen.V; after_results_simp; rfl

/-- The reference's output less the target. -/
def refDiff (a : FVec Ideal LossRefIdeal.S8192x8192 .bf16) (w x y : FVec Ideal LossRefIdeal.S8192x2048 .f32) : FVec Ideal LossRefIdeal.S8192x2048 .f32 :=
  subf (addf x (Host.dotGeneral LossRefIdeal.dot_S8192x8192_S8192x2048_S8192x2048_1_0_0_1_n_n none (extf .f32 a LossRefIdeal.Facts₀.bitsLt_bf16_f32) w)) y

theorem refDiff_at (a : FVec Ideal LossRefIdeal.S8192x8192 .bf16) (w x y : FVec Ideal LossRefIdeal.S8192x2048 .f32) (i : Fin 8192) (j : Fin 2048) :
    refDiff a w x y (ix2 i j) = Mm.err a (hDown w) x y i j := by
  have r : Mm.err a (hDown w) x y i j = (x (ix2 i j) + ∑ k : Fin 8192, a (ix2 i k) * w (ix2 k j)) - y (ix2 i j) := congrArg (· - y (ix2 i j)) (add_comm _ _)
  rw [r]
  pointwise [refDiff]

/-- Half of the mean over 2048, times the derivative of the square. -/
theorem half_two (e : EReal) : Ideal.div (Ideal.ofBits .f32 0x3F000000#32) (Ideal.ofBits .f32 0x45000000#32) * (Ideal.ofBits .f32 0x40000000#32 * e) = e * (((1 : ℝ) / 2048 : ℝ) : EReal) := by
  rw [Mm.c_half, Mm.c_2048, Mm.c_two, Ideal.div_coe (by norm_num), ← mul_assoc, ← EReal.coe_mul, ← EReal.coe_mul, mul_comm]
  norm_num

theorem ref_cot (a : FVec Ideal LossRefIdeal.S8192x8192 .bf16) (w x y : FVec Ideal LossRefIdeal.S8192x2048 .f32) :
    mulf (broadcastInDim LossRefIdeal.S8192x2048 ![0] LossRefIdeal.Facts₀.bcast_S8192_S8192x2048_0 (Host.divf (broadcastInDim LossRefIdeal.S8192 ![] LossRefIdeal.Facts₀.bcast_S_S8192 (mulf (constant LossRefIdeal.S_ .f32 0x3F000000#32) (constant LossRefIdeal.S_ .f32 0x3F800000#32))) (broadcastInDim LossRefIdeal.S8192 ![] LossRefIdeal.Facts₀.bcast_S_S8192 (constant LossRefIdeal.S_ .f32 0x45000000#32))))
      (mulf (broadcastInDim LossRefIdeal.S8192x2048 ![] LossRefIdeal.Facts₀.bcast_S_S8192x2048 (constant LossRefIdeal.S_ .f32 0x40000000#32)) (refDiff a w x y)) = Mm.cot a (hDown w) x y :=
  eq_of_at _ _ fun i j => by
    have r : Mm.cot a (hDown w) x y (ix2 i j) = refDiff a w x y (ix2 i j) * (((1 : ℝ) / 2048 : ℝ) : EReal) := by rw [refDiff_at]; rfl
    rw [r, ← half_two]
    generalize refDiff a w x y = d
    pointwise

theorem ref_total (a : FVec Ideal LossRefIdeal.S8192x8192 .bf16) (w x y : FVec Ideal LossRefIdeal.S8192x2048 .f32) :
    broadcastInDim LossRefIdeal.S1x1 ![1] LossRefIdeal.Facts₀.bcast_S1_S1x1_1 (Host.reduceAdd (broadcastInDim LossRefIdeal.S8192x1 ![0] LossRefIdeal.Facts₀.bcast_S8192_S8192x1_0 (Host.reduceAdd (mulf (refDiff a w x y) (refDiff a w x y)) (constant LossRefIdeal.S_ .f32 0x00000000#32) LossRefIdeal.Gen.reducesTo_S8192x2048_S8192_d1 LossRefIdeal.Gen.h_S_)) (constant LossRefIdeal.S_ .f32 0x00000000#32) LossRefIdeal.Gen.reducesTo_S8192x1_S1_d0 LossRefIdeal.Gen.h_S_) = Mm.total a (hDown w) x y :=
  eq_of_at _ _ fun i j => by
    have r : Mm.total a (hDown w) x y (ix2 i j) = ∑ p : Fin 8192, ∑ q : Fin 2048, refDiff a w x y (ix2 p q) * refDiff a w x y (ix2 p q) :=
      Finset.sum_congr rfl fun p _ => Finset.sum_congr rfl fun q _ => by rw [refDiff_at]
    rw [r]
    generalize refDiff a w x y = d
    pointwise

/-- The call's two results are the reference's. -/
theorem algebraic : Cert.algebraic_LossIdeal_LossRefIdeal := by
  intro m ρ m' ρ' _ hag
  refine ⟨fun c => Mm.cot (m ((c.tc : Thread nD τ).loc main_arg0)) (hDown (m ((c.tc : Thread nD τ).loc main_arg1))) (m ((c.tc : Thread nD τ).loc main_arg2)) (m ((c.tc : Thread nD τ).loc main_arg3)),
    fun c => Mm.total (m ((c.tc : Thread nD τ).loc main_arg0)) (hDown (m ((c.tc : Thread nD τ).loc main_arg1))) (m ((c.tc : Thread nD τ).loc main_arg2)) (m ((c.tc : Thread nD τ).loc main_arg3)), ?_, ?_⟩
  · refine (θ_run Cert.LossIdeal.defs _ _).mono (fun r h c => ?_) (Cert.LossIdeal.Value.run (F := Ideal) m ρ)
    exact ⟨(h c).1.trans (Mm.result m c _ _ _ _ (Gen.V_main_arg0 m c) (V_down m c) (Gen.V_main_arg2 m c) (Gen.V_main_arg3 m c)),
      (h c).2.1.trans (Mm.result_total m c _ _ _ _ (Gen.V_main_arg0 m c) (V_down m c) (Gen.V_main_arg2 m c) (Gen.V_main_arg3 m c)), (h c).2.2⟩
  · refine (θ_run Cert.LossRefIdeal.defs _ _).mono (fun r h c => ?_) (Cert.LossRefIdeal.Value.run (F := Ideal) m' ρ')
    obtain ⟨e0, e1, e2, e3⟩ := hag c
    refine ⟨(h c).1.trans ?_, (h c).2.1.trans ?_, (h c).2.2⟩
    · rw [e0, e1, e2, e3]
      exact ref_cot _ _ _ _
    · rw [e0, e1, e2, e3]
      exact ref_total _ _ _ _

end Cert.LossIdeal

end
-- ==== Proof.Body.lean ====
/-
  The body of the attention backward call, run once over its four conditions: from the contents of its windows and of
  its two scratch sums to the contents it leaves, as pure functions. At any float arithmetic.
-/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The first query block of a key block: the sums in scratch start over. -/
abbrev isFirst (i : grid0.Coords) : Prop := (Scalar.cmpi .ne (Scalar.extui (Scalar.cmpi .eq (BitVec.ofNat 32 (i 2).val) 0#32)) 0#32) = 1#1

/-- Row block `q` of the four lies in dq's window. -/
theorem rows_inb (q : Fin 4) : ∀ a, (![0, 2048 * q.val, 0] : Fin 3 → ℕ) a + S1x2048x128.size a ≤ S1x8192x128.size a
  | ⟨0, _⟩ => show 0 + 1 ≤ 1 by omega
  | ⟨1, _⟩ => show 2048 * q.val + 2048 ≤ 8192 by have := q.isLt; omega
  | ⟨2, _⟩ => show 0 + 128 ≤ 128 by omega

/-- dq's window with row block `q` replaced by `w`. -/
def rowsPut (q : Fin 4) (w : Vec F S1x2048x128 .f32) (y : Vec F S1x8192x128 .f32) : Vec F S1x8192x128 .f32 :=
  VecWindow.put y ![0, 2048 * q.val, 0] S1x2048x128.size w

/-- Row block `q` of dq's window. -/
def rowsGet (q : Fin 4) (y : Vec F S1x8192x128 .f32) : Vec F S1x2048x128 .f32 :=
  VecWindow.window y ![0, 2048 * q.val, 0] S1x2048x128.size (rows_inb q)

section Step

variable (i : grid0.Coords) (x0 : Vec F S1x2048x128 .bf16) (x1 x2 : Vec F S1x1024x128 .bf16) (x3 : Vec F S2048x128 .bf16)
  (x4 x5 : Vec F S1x2048x1 .f32)

/-- The tile of the scores' gradient. -/
def dsT : FVec F S2048x1024 .bf16 := k0_pay12 x0 x1 x3 x4 x2 x5
/-- What the point leaves in the sum of dk. -/
def dkS (s : Vec F S1024x128 .f32) : Vec F S1024x128 .f32 := k0_pay1 (k0_pay9 x0) (dsT x0 x1 x2 x3 x4 x5) (if isFirst i then k0_pay7 else s)
/-- What the point leaves in the sum of dv. -/
def dvS (s : Vec F S1024x128 .f32) : Vec F S1024x128 .f32 := k0_pay13 x0 x1 x3 x4 (if isFirst i then k0_pay8 else s)
/-- What the point leaves in dq's window. -/
def dqW (y : Vec F S1x8192x128 .f32) : Vec F S1x8192x128 .f32 :=
  rowsPut (i 2) (if k0_cond2 i = 1#1 then k0_pay3 (k0_pay10 x1) (dsT x0 x1 x2 x3 x4 x5) else k0_pay4 (k0_pay10 x1) (dsT x0 x1 x2 x3 x4 x5) (rowsGet (i 2) y)) y

end Step

set_option maxHeartbeats 2000000 in
theorem body_run (c : Dev nD) (i : grid0.Coords) (arg3 : Memref sig .tc .vmem S1x2048x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S2048x128 .bf16) (harg6 : arg6.IsWhole) (arg7 : Memref sig .tc .vmem S1x2048x1 .f32) (harg7 : arg7.IsWhole) (arg8 : Memref sig .tc .vmem S1x2048x1 .f32) (harg8 : arg8.IsWhole) (arg9 : Memref sig .tc .vmem S1x8192x128 .f32) (harg9 : arg9.IsWhole) (arg10 : Memref sig .tc .vmem S1x1024x128 .f32) (harg10 : arg10.IsWhole) (arg11 : Memref sig .tc .vmem S1x1024x128 .f32) (harg11 : arg11.IsWhole) (arg12 : Memref sig .tc .vmem S1024x128 .f32) (harg12 : arg12.IsWhole) (arg13 : Memref sig .tc .vmem S1024x128 .f32) (harg13 : arg13.IsWhole)
    (ho1 : k0_off1 i = ![0, 2048 * (i 2).val, 0]) (ho2 : k0_off2 i = ![0, 2048 * (i 2).val, 0]) (hx : k0_cond3 i = 1#1 ↔ ¬ k0_cond2 i = 1#1)
    (x0 : Vec F S1x2048x128 .bf16) (x1 : Vec F S1x1024x128 .bf16) (x2 : Vec F S1x1024x128 .bf16) (x3 : Vec F S2048x128 .bf16) (x4 : Vec F S1x2048x1 .f32) (x5 : Vec F S1x2048x1 .f32)
    (y6 : Vec F S1x8192x128 .f32) (y7 y8 : Vec F S1x1024x128 .f32) (s0 s1 : Vec F S1024x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8 ∗ owns (c : Thread nD τ) arg12 fullShare s0 ∗ owns (c : Thread nD τ) arg13 fullShare s1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ owns (c : Thread nD τ) arg9 fullShare (dqW i x0 x1 x2 x3 x4 x5 y6)
            ∗ owns (c : Thread nD τ) arg10 fullShare (if k0_cond4 i = 1#1 then k0_pay5 (dkS i x0 x1 x2 x3 x4 x5 s0) else y7)
            ∗ owns (c : Thread nD τ) arg11 fullShare (if k0_cond4 i = 1#1 then k0_pay6 (dvS i x0 x1 x3 x4 s1) else y8)
            ∗ owns (c : Thread nD τ) arg12 fullShare (dkS i x0 x1 x2 x3 x4 x5 s0) ∗ owns (c : Thread nD τ) arg13 fullShare (dvS i x0 x1 x3 x4 s1)) -∗ K ⟨⟩))
      ⊢ wp frame (wpE (defs₀ (F := F)) Variants.none c none) E (cc0_gqa_attn_bwd i arg3 harg3 arg4 harg4 arg5 harg5 arg6 harg6 arg7 harg7 arg8 harg8 arg9 harg9 arg10 harg10 arg11 harg11 arg12 harg12 arg13 harg13) K := by
  simp only [cc0_gqa_attn_bwd_eq_skeleton]; unfold cc0_gqa_attn_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hfs0; obtain rfl := harg13.eq_unread hfs1
  have e3 : arg3.view.readAt (Elt F) (Rect.unit (s := S1x2048x128) ![0, 0, 0] ![1, 2048, 128] inb_S1x2048x128_S1x2048x128_0_0_0).toLoadRect (harg3.unread x0) = x0 := (View.readAt_full arg3.view _ inb_S1x2048x128_S1x2048x128_0_0_0).trans (harg3.read_unread _)
  have e4 : arg4.view.readAt (Elt F) (Rect.unit (s := S1x1024x128) ![0, 0, 0] ![1, 1024, 128] inb_S1x1024x128_S1x1024x128_0_0_0).toLoadRect (harg4.unread x1) = x1 := (View.readAt_full arg4.view _ inb_S1x1024x128_S1x1024x128_0_0_0).trans (harg4.read_unread _)
  have e5 : arg5.view.readAt (Elt F) (Rect.unit (s := S1x1024x128) ![0, 0, 0] ![1, 1024, 128] inb_S1x1024x128_S1x1024x128_0_0_0).toLoadRect (harg5.unread x2) = x2 := (View.readAt_full arg5.view _ inb_S1x1024x128_S1x1024x128_0_0_0).trans (harg5.read_unread _)
  have e6 : arg6.view.readAt (Elt F) (Rect.unit (s := S2048x128) ![0, 0] ![2048, 128] inb_S2048x128_S2048x128_0_0).toLoadRect (harg6.unread x3) = x3 := (View.readAt_full arg6.view _ inb_S2048x128_S2048x128_0_0).trans (harg6.read_unread _)
  have e7 : arg7.view.readAt (Elt F) (Rect.unit (s := S1x2048x1) ![0, 0, 0] ![1, 2048, 1] inb_S1x2048x1_S1x2048x1_0_0_0).toLoadRect (harg7.unread x4) = x4 := (View.readAt_full arg7.view _ inb_S1x2048x1_S1x2048x1_0_0_0).trans (harg7.read_unread _)
  have e8 : arg8.view.readAt (Elt F) (Rect.unit (s := S1x2048x1) ![0, 0, 0] ![1, 2048, 1] inb_S1x2048x1_S1x2048x1_0_0_0).toLoadRect (harg8.unread x5) = x5 := (View.readAt_full arg8.view _ inb_S1x2048x1_S1x2048x1_0_0_0).trans (harg8.read_unread _)
  have e12 : arg12.view.readAt (Elt F) (Rect.unit (s := S1024x128) ![0, 0] ![1024, 128] inb_S1024x128_S1024x128_0_0).toLoadRect (harg12.unread s0) = s0 := (View.readAt_full arg12.view _ inb_S1024x128_S1024x128_0_0).trans (harg12.read_unread _)
  have e13 : arg13.view.readAt (Elt F) (Rect.unit (s := S1024x128) ![0, 0] ![1024, 128] inb_S1024x128_S1024x128_0_0).toLoadRect (harg13.unread s1) = s1 := (View.readAt_full arg13.view _ inb_S1024x128_S1024x128_0_0).trans (harg13.read_unread _)
  have c12 : ∀ w L, arg12.view.readCov (Val := Elt F) (⟨Rect.unit (s := S1024x128) ![0, 0] ![1024, 128] inb_S1024x128_S1024x128_0_0, w⟩ :: L) (Rect.unit (s := S1024x128) ![0, 0] ![1024, 128] inb_S1024x128_S1024x128_0_0).toLoadRect = w := fun w L => View.readCov_full arg12.view _ _ w L
  have c13 : ∀ w L, arg13.view.readCov (Val := Elt F) (⟨Rect.unit (s := S1024x128) ![0, 0] ![1024, 128] inb_S1024x128_S1024x128_0_0, w⟩ :: L) (Rect.unit (s := S1024x128) ![0, 0] ![1024, 128] inb_S1024x128_S1024x128_0_0).toLoadRect = w := fun w L => View.readCov_full arg13.view _ _ w L
  have hc12 : (k0_cond2 i = 1#1 ∧ ¬ k0_cond3 i = 1#1) ∨ (¬ k0_cond2 i = 1#1 ∧ k0_cond3 i = 1#1) := by tauto
  rcases Classical.em (isFirst i) with hc0 | hc0 <;> rcases hc12 with ⟨hc1, hc2⟩ | ⟨hc1, hc2⟩ <;> rcases Classical.em (k0_cond4 i = 1#1) with hc3 | hc3 <;>
    (sl_exec (disch := first | sl_exact hc0 | sl_exact hc1 | sl_exact hc2 | sl_exact hc3)
     sl_step
     iapply Hk
     isplitl [H0]; · iexists _; isplitr; · ipureintro; exact harg3.read_unread _
                     iexact H0
     isplitl [H1]; · iexists _; isplitr; · ipureintro; exact harg4.read_unread _
                     iexact H1
     isplitl [H2]; · iexists _; isplitr; · ipureintro; exact harg5.read_unread _
                     iexact H2
     isplitl [H3]; · iexists _; isplitr; · ipureintro; exact harg6.read_unread _
                     iexact H3
     isplitl [H4]; · iexists _; isplitr; · ipureintro; exact harg7.read_unread _
                     iexact H4
     isplitl [H5]; · iexists _; isplitr; · ipureintro; exact harg8.read_unread _
                     iexact H5
     isplitl [H6]; · iexists _; isplitr; swap
                     · iexact H6
                     · ipureintro
                       sl_unfold_run_names
                       first
                       | refine (View.read_writes_cons_put arg9.view _ _ _ [] ho1).trans ?_
                       | refine (View.read_writes_cons_put arg9.view _ _ _ [] ho2).trans ?_
                       simp only [dqW, rowsPut, rowsGet, dsT]
                       first | rw [if_pos hc1] | rw [if_neg hc1]
                       try simp only [View.writes_nil, harg9.read_unread, e3, e4, e5, e6, e7, e8, e12, e13]
                       try rw [View.readAt_unit arg9.view _ _ ho2 (rows_inb (i 2)), harg9.read_unread]
                       try rfl
     isplitl [H7]; · iexists _; isplitr; swap
                     · iexact H7
                     · ipureintro
                       sl_unfold_run_names
                       first
                       | rw [if_neg hc3]; exact harg10.read_unread _
                       | refine (View.read_writes_full arg10.view _ _ _ []).trans ?_
                         simp only [dkS, dsT]
                         rw [if_pos hc3]
                         first | rw [if_pos hc0] | rw [if_neg hc0]
                         try simp only [c12, c13, e3, e4, e5, e6, e7, e8, e12, e13]
                         try rfl
     isplitl [H8]; · iexists _; isplitr; swap
                     · iexact H8
                     · ipureintro
                       sl_unfold_run_names
                       first
                       | rw [if_neg hc3]; exact harg11.read_unread _
                       | refine (View.read_writes_full arg11.view _ _ _ []).trans ?_
                         simp only [dvS]
                         rw [if_pos hc3]
                         first | rw [if_pos hc0] | rw [if_neg hc0]
                         try simp only [c12, c13, e3, e4, e5, e6, e7, e8, e12, e13]
                         try rfl
     isplitl [HS0]; · iexists _; isplitr; swap
                      · iexact HS0
                      · ipureintro
                        sl_unfold_run_names
                        refine (View.read_writes_full arg12.view _ _ _ _).trans ?_
                        simp only [dkS, dsT]
                        first | rw [if_pos hc0] | rw [if_neg hc0]
                        try simp only [c12, c13, e3, e4, e5, e6, e7, e8, e12, e13]
                        try rfl
     iexists _; isplitr; swap
     · iexact HS1
     · ipureintro
       sl_unfold_run_names
       refine (View.read_writes_full arg13.view _ _ _ _).trans ?_
       simp only [dvS]
       first | rw [if_pos hc0] | rw [if_neg hc0]
       try simp only [c12, c13, e3, e4, e5, e6, e7, e8, e12, e13]
       try rfl)

end Cert.KernelIdeal.Bwd

end
-- ==== Proof.Run.lean ====
/-
  The run of the attention backward call over its 256 points, at any float arithmetic: the two scratch sums in closed
  form by recursion over the points, the relation between what a point finds in an output's window and what it leaves,
  and the launch. The frame is read off it.
-/
module

public import proofs.«01_k».proof.Proof.Body
public import Idealize.ShloMosaic.Lib.WordCmp
public import Idealize.ShloMosaic.Lib.Pipeline.ArrRel

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's conditions over the points -/

theorem isFirst_iff (t : Fin cfg0.N) : isFirst (grid0.coords t) ↔ t.val % 4 = 0 :=
  (fun t => by
    have ht : t.val < 256 := Nat.lt_of_lt_of_eq t.isLt N_0
    have e2 : (grid0.coords t 2).val = t.val / 1 % 4 := Pipeline.Grid.coords_val t 2 (by decide) rfl
    simp only [isFirst, e2]
    word_cmp : ∀ t : Fin grid0.N, isFirst (grid0.coords t) ↔ t.val % 4 = 0) t

theorem cond2_iff (t : Fin cfg0.N) : k0_cond2 (grid0.coords t) = 1#1 ↔ t.val / 4 % 8 = 0 :=
  (fun t => by
    have ht : t.val < 256 := Nat.lt_of_lt_of_eq t.isLt N_0
    have e1 : (grid0.coords t 1).val = t.val / 4 % 8 := Pipeline.Grid.coords_val t 1 (by decide) rfl
    simp only [k0_cond2, e1]
    word_cmp : ∀ t : Fin grid0.N, k0_cond2 (grid0.coords t) = 1#1 ↔ t.val / 4 % 8 = 0) t

theorem cond3_iff (t : Fin cfg0.N) : k0_cond3 (grid0.coords t) = 1#1 ↔ ¬ k0_cond2 (grid0.coords t) = 1#1 :=
  (by decide +kernel : ∀ t : Fin grid0.N, k0_cond3 (grid0.coords t) = 1#1 ↔ ¬ k0_cond2 (grid0.coords t) = 1#1) t

theorem cond4_iff (t : Fin cfg0.N) : k0_cond4 (grid0.coords t) = 1#1 ↔ t.val % 4 = 3 :=
  (fun t => by
    have ht : t.val < 256 := Nat.lt_of_lt_of_eq t.isLt N_0
    have e2 : (grid0.coords t 2).val = t.val / 1 % 4 := Pipeline.Grid.coords_val t 2 (by decide) rfl
    simp only [k0_cond4, e2]
    word_cmp : ∀ t : Fin grid0.N, k0_cond4 (grid0.coords t) = 1#1 ↔ t.val % 4 = 3) t

theorem off1_eq (t : Fin cfg0.N) : k0_off1 (grid0.coords t) = ![0, 2048 * (grid0.coords t 2).val, 0] :=
  (by decide +kernel : ∀ t : Fin grid0.N, k0_off1 (grid0.coords t) = ![0, 2048 * (grid0.coords t 2).val, 0]) t

theorem off2_eq (t : Fin cfg0.N) : k0_off2 (grid0.coords t) = ![0, 2048 * (grid0.coords t 2).val, 0] :=
  (by decide +kernel : ∀ t : Fin grid0.N, k0_off2 (grid0.coords t) = ![0, 2048 * (grid0.coords t 2).val, 0]) t

/-! ## The windows' contents over the points -/

abbrev xb0 (c : Dev nD) (t : Fin cfg0.N) : Vec F S1x2048x128 .bf16 := iblk m c 0 t
abbrev xb1 (c : Dev nD) (t : Fin cfg0.N) : Vec F S1x1024x128 .bf16 := iblk m c 1 t
abbrev xb2 (c : Dev nD) (t : Fin cfg0.N) : Vec F S1x1024x128 .bf16 := iblk m c 2 t
abbrev xb3 (c : Dev nD) (t : Fin cfg0.N) : Vec F S2048x128 .bf16 := iblk m c 3 t
abbrev xb4 (c : Dev nD) (t : Fin cfg0.N) : Vec F S1x2048x1 .f32 := iblk m c 4 t
abbrev xb5 (c : Dev nD) (t : Fin cfg0.N) : Vec F S1x2048x1 .f32 := iblk m c 5 t

/-- What point `t` makes of the sum of dk it finds. -/
def dkP (c : Dev nD) (t : Fin cfg0.N) (s : Vec F S1024x128 .f32) : Vec F S1024x128 .f32 :=
  dkS (grid0.coords t) (xb0 m c t) (xb1 m c t) (xb2 m c t) (xb3 m c t) (xb4 m c t) (xb5 m c t) s
/-- What point `t` makes of the sum of dv it finds. -/
def dvP (c : Dev nD) (t : Fin cfg0.N) (s : Vec F S1024x128 .f32) : Vec F S1024x128 .f32 :=
  dvS (grid0.coords t) (xb0 m c t) (xb1 m c t) (xb3 m c t) (xb4 m c t) s
/-- What point `t` makes of dq's window. -/
def dqP (c : Dev nD) (t : Fin cfg0.N) (y : Vec F S1x8192x128 .f32) : Vec F S1x8192x128 .f32 :=
  dqW (grid0.coords t) (xb0 m c t) (xb1 m c t) (xb2 m c t) (xb3 m c t) (xb4 m c t) (xb5 m c t) y

/-- The sum of dk before point `n`. -/
def skA (c : Dev nD) : ℕ → Vec F S1024x128 .f32
  | 0 => k0_pay7
  | n + 1 => if h : n < cfg0.N then dkP m c ⟨n, h⟩ (skA c n) else skA c n
/-- The sum of dv before point `n`. -/
def svA (c : Dev nD) : ℕ → Vec F S1024x128 .f32
  | 0 => k0_pay8
  | n + 1 => if h : n < cfg0.N then dvP m c ⟨n, h⟩ (svA c n) else svA c n

theorem skA_succ (c : Dev nD) (t : Fin cfg0.N) : skA m c (t.val + 1) = dkP m c t (skA m c t.val) := dif_pos t.isLt
theorem svA_succ (c : Dev nD) (t : Fin cfg0.N) : svA m c (t.val + 1) = dvP m c t (svA m c t.val) := dif_pos t.isLt

/-- A point that starts the sums over does not read what it finds in them. -/
theorem dkP_congr (c : Dev nD) (t : Fin cfg0.N) (s s' : Vec F S1024x128 .f32) (h : t.val % 4 ≠ 0 → s = s') : dkP m c t s = dkP m c t s' := by
  unfold dkP dkS
  by_cases h0 : t.val % 4 = 0
  · rw [if_pos ((isFirst_iff t).mpr h0), if_pos ((isFirst_iff t).mpr h0)]
  · rw [h h0]
theorem dvP_congr (c : Dev nD) (t : Fin cfg0.N) (s s' : Vec F S1024x128 .f32) (h : t.val % 4 ≠ 0 → s = s') : dvP m c t s = dvP m c t s' := by
  unfold dvP dvS
  by_cases h0 : t.val % 4 = 0
  · rw [if_pos ((isFirst_iff t).mpr h0), if_pos ((isFirst_iff t).mpr h0)]
  · rw [h h0]

attribute [irreducible] skA svA

/-! ## The proof data -/

abbrev scr0 : Memref sig .tc .vmem S1024x128 .f32 := Memref.whole cc0_scratch0
abbrev scr1 : Memref sig .tc .vmem S1024x128 .f32 := Memref.whole cc0_scratch1

/-- The launch's invariant with the two scratch sums as memrefs owned at some contents. -/
theorem PhiA_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- Before point `n` the two scratch sums hold what the points before it made (before the first, anything). -/
def PhiT (c : Dev nD) (n : ℕ) : sProp 𝕄 :=
  iprop((∃ d, ⌜n ≠ 0 → d = skA m c n⌝ ∗ owns (c : Thread nD τ) scr0 fullShare d) ∗ (∃ d, ⌜n ≠ 0 → d = svA m c n⌝ ∗ owns (c : Thread nD τ) scr1 fullShare d) ∗ (∃ r, prngReg c r))

/-- What a point leaves in a window, from what it finds there. -/
def leaves (c : Dev nD) (w : Fin cfg0.W) (t : Fin cfg0.N) : (Y X : (cfg0.win w).block.Idx → Elt F (cfg0.win w).elt) → Prop := match w with
  | ⟨0, _⟩ => fun Y X => X = Y
  | ⟨1, _⟩ => fun Y X => X = Y
  | ⟨2, _⟩ => fun Y X => X = Y
  | ⟨3, _⟩ => fun Y X => X = Y
  | ⟨4, _⟩ => fun Y X => X = Y
  | ⟨5, _⟩ => fun Y X => X = Y
  | ⟨6, _⟩ => fun Y X => X = dqP m c t Y
  | ⟨7, _⟩ => fun Y X => X = if k0_cond4 (grid0.coords t) = 1#1 then k0_pay5 (skA m c (t.val + 1)) else Y
  | ⟨8, _⟩ => fun Y X => X = if k0_cond4 (grid0.coords t) = 1#1 then k0_pay6 (svA m c (t.val + 1)) else Y

/-- The relational proof data of the call. -/
def rdat (c : Dev nD) : RDat τ (Elt F) Unit ℕ (UR sig nD τ) ℕ cfg0 c where
  A w := V m c (Pipeline.arrRef spec0 w)
  after := leaves m c
  Φ t := PhiT m c t.val
  q _ := fullShare
  owed _ := 0

theorem A_eq (c : Dev nD) (w : Fin cfg0.W) : (rdat m c).A w = V m c (Pipeline.arrRef spec0 w) := by dsimp only [rdat]
theorem after_eq (c : Dev nD) : (rdat m c).after = leaves m c := by dsimp only [rdat]
theorem Phi_castSucc (c : Dev nD) (t : Fin cfg0.N) : (rdat m c).Φ t.castSucc = PhiT m c t.val := by dsimp only [rdat]; rfl
theorem Phi_succ (c : Dev nD) (t : Fin cfg0.N) : (rdat m c).Φ t.succ = PhiT m c (t.val + 1) := by dsimp only [rdat]; rfl
theorem owesAt_eq (c : Dev nD) (t : Fin cfg0.N) : (rdat m c).owesAt () t.castSucc = (rdat m c).owesAt () t.succ := by
  dsimp only [RDat.owesAt, RDat.bound, rdat]

/-- An input's window holds its block at every point. -/
theorem finds_in (c : Dev nD) (w : Fin cfg0.W) (hw : (cfg0.win w).isOut = false) (hk : ∀ t Y X, leaves m c w t Y X → X = Y)
    (hclip : ∀ (t t' : Fin cfg0.N), (cfg0.win w).clip (cfg0.grid.coords t) = (cfg0.win w).clip (cfg0.grid.coords t'))
    (t : Fin cfg0.N) (Y) (h : (rdat m c).Finds w t Y) : ∃ d, Y = (cfg0.win w).fill (cfg0.grid.coords t) d (iblk m c w t) := by
  obtain ⟨d, hd⟩ := RDat.finds_in_eq_fetched (rdat m c) w hw (fun t t' _ => hclip t t') (fun t Y X h => hk t Y X (by rw [after_eq] at h; exact h)) t Y h
  refine ⟨d, hd.trans ?_⟩
  unfold RDat.fetched RDat.blockOf iblk; rw [A_eq]

theorem finds0 (c : Dev nD) (t : Fin cfg0.N) (Y) (h : (rdat m c).Finds 0 t Y) : Y = xb0 m c t := by
  obtain ⟨d, hd⟩ := finds_in m c 0 rfl (fun _ _ _ h => h) (fun _ _ => rfl) t Y h; exact hd
theorem finds1 (c : Dev nD) (t : Fin cfg0.N) (Y) (h : (rdat m c).Finds 1 t Y) : Y = xb1 m c t := by
  obtain ⟨d, hd⟩ := finds_in m c 1 rfl (fun _ _ _ h => h) (fun _ _ => rfl) t Y h; exact hd
theorem finds2 (c : Dev nD) (t : Fin cfg0.N) (Y) (h : (rdat m c).Finds 2 t Y) : Y = xb2 m c t := by
  obtain ⟨d, hd⟩ := finds_in m c 2 rfl (fun _ _ _ h => h) (fun _ _ => rfl) t Y h; exact hd
theorem finds3 (c : Dev nD) (t : Fin cfg0.N) (Y) (h : (rdat m c).Finds 3 t Y) : Y = xb3 m c t := by
  obtain ⟨d, hd⟩ := finds_in m c 3 rfl (fun _ _ _ h => h) (fun _ _ => rfl) t Y h; exact hd
theorem finds4 (c : Dev nD) (t : Fin cfg0.N) (Y) (h : (rdat m c).Finds 4 t Y) : Y = xb4 m c t := by
  obtain ⟨d, hd⟩ := finds_in m c 4 rfl (fun _ _ _ h => h) (fun _ _ => rfl) t Y h; exact hd
theorem finds5 (c : Dev nD) (t : Fin cfg0.N) (Y) (h : (rdat m c).Finds 5 t Y) : Y = xb5 m c t := by
  obtain ⟨d, hd⟩ := finds_in m c 5 rfl (fun _ _ _ h => h) (fun _ _ => rfl) t Y h; exact hd

/-! ## The body at a point -/

theorem body_row (t : Fin cfg0.N) : defs₀ (F := F) .tc cfg0.body (cfg0.bodyArgs t (cfg0.slots t)) = bodyAt0 t := by
  unfold defs₀; rw [Defs.onTc_tc]

theorem sound_body (c : Dev nD) (t : Fin cfg0.N) (y6 : Vec F S1x8192x128 .f32) (y7 y8 : Vec F S1x1024x128 .f32) (R : sProp 𝕄) :
    iprop(PhiT m c t.val ∗ R ∗ owns (c : Thread nD τ) (st0_0 t) fullShare (xb0 m c t) ∗ owns (c : Thread nD τ) (st0_1 t) fullShare (xb1 m c t) ∗ owns (c : Thread nD τ) (st0_2 t) fullShare (xb2 m c t) ∗ owns (c : Thread nD τ) (st0_3 t) fullShare (xb3 m c t) ∗ owns (c : Thread nD τ) (st0_4 t) fullShare (xb4 m c t) ∗ owns (c : Thread nD τ) (st0_5 t) fullShare (xb5 m c t)
        ∗ owns (c : Thread nD τ) (st0_6 t) fullShare y6 ∗ owns (c : Thread nD τ) (st0_7 t) fullShare y7 ∗ owns (c : Thread nD τ) (st0_8 t) fullShare y8)
      ⊢ wp frame (wpE (defs₀ (F := F)) Variants.none c none) Set.univ (bodyAt0 t) fun _ =>
        iprop(PhiT m c (t.val + 1) ∗ R ∗ (∃ X, ⌜X = xb0 m c t⌝ ∗ owns (c : Thread nD τ) (st0_0 t) fullShare X) ∗ (∃ X, ⌜X = xb1 m c t⌝ ∗ owns (c : Thread nD τ) (st0_1 t) fullShare X) ∗ (∃ X, ⌜X = xb2 m c t⌝ ∗ owns (c : Thread nD τ) (st0_2 t) fullShare X) ∗ (∃ X, ⌜X = xb3 m c t⌝ ∗ owns (c : Thread nD τ) (st0_3 t) fullShare X) ∗ (∃ X, ⌜X = xb4 m c t⌝ ∗ owns (c : Thread nD τ) (st0_4 t) fullShare X) ∗ (∃ X, ⌜X = xb5 m c t⌝ ∗ owns (c : Thread nD τ) (st0_5 t) fullShare X)
          ∗ (∃ X, ⌜X = dqP m c t y6⌝ ∗ owns (c : Thread nD τ) (st0_6 t) fullShare X)
          ∗ (∃ X, ⌜X = if k0_cond4 (grid0.coords t) = 1#1 then k0_pay5 (skA m c (t.val + 1)) else y7⌝ ∗ owns (c : Thread nD τ) (st0_7 t) fullShare X)
          ∗ (∃ X, ⌜X = if k0_cond4 (grid0.coords t) = 1#1 then k0_pay6 (svA m c (t.val + 1)) else y8⌝ ∗ owns (c : Thread nD τ) (st0_8 t) fullShare X)) := by
  unfold PhiT
  iintro ⟨⟨⟨%s0, %hs0, HS0⟩, ⟨%s1, %hs1, HS1⟩, Hg⟩, HR, H0, H1, H2, H3, H4, H5, H6, H7, H8⟩
  have k0 : dkP m c t s0 = skA m c (t.val + 1) := by
    rw [skA_succ]; exact dkP_congr m c t _ _ fun h => hs0 (by omega)
  have k1 : dvP m c t s1 = svA m c (t.val + 1) := by
    rw [svA_succ]; exact dvP_congr m c t _ _ fun h => hs1 (by omega)
  iapply (body_run c (grid0.coords t) _ _ _ _ _ _ _ _ _ _ _ _ _ _ _ _ _ _ _ _ _ _ (off1_eq t) (off2_eq t) (cond3_iff t) (xb0 m c t) (xb1 m c t) (xb2 m c t) (xb3 m c t) (xb4 m c t) (xb5 m c t) y6 y7 y8 s0 s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0]
    · iexists _; isplitr; swap; · iexact HS0
      ipureintro; exact fun _ => k0
    isplitl [HS1]
    · iexists _; isplitr; swap; · iexact HS1
      ipureintro; exact fun _ => k1
    iexact Hg
  isplitl [HR]; · iexact HR
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]; · iexists _; isplitr; swap; · iexact H7
                  ipureintro; rw [← k0]; rfl
  iexists _; isplitr; swap; · iexact H8
  ipureintro; rw [← k1]; rfl

theorem body_obligation (c : Dev nD) : (rdat (F := F) m c).BodyObligation (defs₀ (F := F)) Variants.none () Set.univ := fun t Y hY => by
  rw [bigSep_W0, bigSep_W0, body_row, Phi_castSucc, Phi_succ, after_eq, owesAt_eq, finds0 m c t _ (hY 0), finds1 m c t _ (hY 1), finds2 m c t _ (hY 2), finds3 m c t _ (hY 3), finds4 m c t _ (hY 4), finds5 m c t _ (hY 5)]
  exact triple_restated (sound_body m c t (Y 6) (Y 7) (Y 8) _) rfl .rfl fun _ => .rfl

theorem hin (c : Dev nD) : Pipeline.ΦA spec0 c ⊢ PhiT m c 0 := by
  rw [PhiA_eq]; unfold PhiT
  iintro ⟨⟨⟨%d0, H0⟩, ⟨%d1, H1⟩⟩, Hg⟩
  isplitl [H0]
  · iexists d0; isplitr; · ipureintro; exact fun h => absurd rfl h
    iexact H0
  isplitl [H1]
  · iexists d1; isplitr; · ipureintro; exact fun h => absurd rfl h
    iexact H1
  iexact Hg

theorem hout (c : Dev nD) (n : ℕ) : PhiT m c n ⊢ Pipeline.ΦA spec0 c := by
  rw [PhiA_eq]; unfold PhiT
  iintro ⟨⟨%d0, %h0, H0⟩, ⟨%d1, %h1, H1⟩, Hg⟩
  isplitl [H0 H1]
  · isplitl [H0]
    · iexists _; iexact H0
    iexists _; iexact H1
  iexact Hg

theorem Phi_eq (c : Dev nD) (t : Fin (cfg0.N + 1)) : (rdat m c).Φ t = PhiT m c t.val := by dsimp only [rdat]

set_option backward.isDefEq.respectTransparency.types false in
/-- The launch: every array of the call ends as the relation allows, and every counter ends at zero. -/
theorem run_main : θ_run defs (onTc (τ := τ) (main (F := F))) (s₀ m ρ) (fun r => (RDat.FramePost (cfgs 0) (fun c => rdat m c) (V m)) r ∧ r.2.sem = fun _ => 0) :=
  RDat.θ_run_frame_track (Q' := _) cfgs (0 : Fin 1) launch0 defs₀ Variants.none (fun c => rdat m c) m ρ main
    (hbody := fun c => body_obligation m c) (hshare := fun c w => by unfold RDat.share; dsimp only [rdat]; exact ite_self _)
    (howed := fun _ _ => rfl) (V := V m) (hmain := hmain m Variants.none) (hA := A_eq m)
    (hin := fun c => by rw [Phi_eq]; exact hin m c) (hout := fun c => by rw [Phi_eq]; exact hout m c _)
    (hQ' := fun _ h => h)

/-- The argument arrays end unchanged. -/
theorem args_post {r : PUnit × MemSt nD τ sig (Elt F)} (h : (RDat.FramePost (cfgs 0) (fun c => rdat m c) (V m)) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(RDat.FramePost.arr_in h c 0 rfl).trans ((A_eq m c 0).trans (V_main_arg0 m c)),
    (RDat.FramePost.arr_in h c 1 rfl).trans ((A_eq m c 1).trans (V_main_arg1 m c)),
    (RDat.FramePost.arr_in h c 2 rfl).trans ((A_eq m c 2).trans (V_main_arg2 m c)),
    ((h c).2 main_arg3 (Pipeline.mem_restRefs_of main_arg3 (by decide) (by decide))).trans (V_main_arg3 m c),
    (RDat.FramePost.arr_in h c 3 rfl).trans ((A_eq m c 3).trans (V_main_arg4 m c))⟩

/-- The argument arrays end unchanged and every counter ends at zero. -/
theorem frame_run : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_post m h.1, h.2⟩) (run_main m ρ)

end Cert.KernelIdeal.Bwd

end
-- ==== Proof.Tile.lean ====
/-
  The body's arithmetic at an index, over the extended reals.
-/
module

public import proofs.«01_k».proof.Proof.Run
public import proofs.«01_k».proof.Proof.Attn

@[expose] public section

set_option maxRecDepth 16384

noncomputable section

namespace Cert.KernelIdeal.Bwd

open Idealize.ShloMosaic Idealize.ShloMosaic.TcCoe
open Cert.KernelIdeal.Gen
open scoped BigOperators

/-! ## The body's arithmetic at an index -/

theorem pay11_at (x0 : Vec Ideal S1x2048x128 .bf16) (x1 : Vec Ideal S1x1024x128 .bf16) (x4 : Vec Ideal S1x2048x1 .f32) (r : Fin 2048) (k : Fin 1024) :
    k0_pay11 x0 x1 x4 (ix2 r k) = Ideal.exp ((∑ d : Fin 128, x0 (ix3 0 r d) * x1 (ix3 0 k d)) - x4 (ix3 0 r 0)) := by
  pointwise [k0_pay11, k0_pay9, k0_pay10]

theorem dsT_at (x0 : Vec Ideal S1x2048x128 .bf16) (x1 x2 : Vec Ideal S1x1024x128 .bf16) (x3 : Vec Ideal S2048x128 .bf16) (x4 x5 : Vec Ideal S1x2048x1 .f32) (r : Fin 2048) (k : Fin 1024) :
    dsT x0 x1 x2 x3 x4 x5 (ix2 r k) = k0_pay11 x0 x1 x4 (ix2 r k) * ((∑ d : Fin 128, x3 (ix2 r d) * x2 (ix3 0 k d)) - x5 (ix3 0 r 0)) := by
  pointwise [dsT, k0_pay12]

theorem pay13_at (x0 : Vec Ideal S1x2048x128 .bf16) (x1 : Vec Ideal S1x1024x128 .bf16) (x3 : Vec Ideal S2048x128 .bf16) (x4 : Vec Ideal S1x2048x1 .f32) (s : Vec Ideal S1024x128 .f32) (k : Fin 1024) (d : Fin 128) :
    k0_pay13 x0 x1 x3 x4 s (ix2 k d) = s (ix2 k d) + ∑ r : Fin 2048, k0_pay11 x0 x1 x4 (ix2 r k) * x3 (ix2 r d) := by
  pointwise [k0_pay13]

theorem pay1_at (x0 : Vec Ideal S1x2048x128 .bf16) (p : FVec Ideal S2048x1024 .bf16) (s : Vec Ideal S1024x128 .f32) (k : Fin 1024) (d : Fin 128) :
    k0_pay1 (k0_pay9 x0) p s (ix2 k d) = s (ix2 k d) + ∑ r : Fin 2048, p (ix2 r k) * x0 (ix3 0 r d) := by
  pointwise [k0_pay1, k0_pay9]

theorem pay3_at (x1 : Vec Ideal S1x1024x128 .bf16) (p : FVec Ideal S2048x1024 .bf16) (r : Fin 2048) (d : Fin 128) :
    k0_pay3 (k0_pay10 x1) p (ix3 0 r d) = ∑ k : Fin 1024, p (ix2 r k) * x1 (ix3 0 k d) := by
  pointwise [k0_pay3, k0_pay2, k0_pay10]

theorem pay4_at (x1 : Vec Ideal S1x1024x128 .bf16) (p : FVec Ideal S2048x1024 .bf16) (s : Vec Ideal S1x2048x128 .f32) (r : Fin 2048) (d : Fin 128) :
    k0_pay4 (k0_pay10 x1) p s (ix3 0 r d) = s (ix3 0 r d) + ∑ k : Fin 1024, p (ix2 r k) * x1 (ix3 0 k d) := by
  pointwise [k0_pay4, k0_pay2, k0_pay10]

theorem pay5_at (s : Vec Ideal S1024x128 .f32) (k : Fin 1024) (d : Fin 128) : k0_pay5 s (ix3 0 k d) = s (ix2 k d) := by
  pointwise [k0_pay5]
theorem pay6_at (s : Vec Ideal S1024x128 .f32) (k : Fin 1024) (d : Fin 128) : k0_pay6 s (ix3 0 k d) = s (ix2 k d) := by
  pointwise [k0_pay6]
theorem pay7_at (k : Fin 1024) (d : Fin 128) : k0_pay7 (F := Ideal) (ix2 k d) = 0 := by
  pointwise [k0_pay7]
theorem pay8_at (k : Fin 1024) (d : Fin 128) : k0_pay8 (F := Ideal) (ix2 k d) = 0 := by
  pointwise [k0_pay8]

end Cert.KernelIdeal.Bwd

end
-- ==== Proof.Host.lean ====
/-
  What the host lines before the attention backward call make of the arguments, read at an index: the softmax's row
  logarithm of the exponentials' sum, and the row sum of cotangent times output.
-/
module

public import proofs.«01_k».proof.Proof.Tile

@[expose] public section

set_option maxRecDepth 16384

noncomputable section

namespace Cert.KernelIdeal.Bwd

open Idealize.ShloMosaic Idealize.ShloMosaic.TcCoe Idealize.ShloMosaic.Tactic
open Cert.KernelIdeal.Gen
open Cert.Attn
open scoped BigOperators

/-! ## The host's stages as functions of the arguments -/

abbrev C8 := FVec Ideal S8x8192x128 .bf16
abbrev C2 := FVec Ideal S2x8192x128 .bf16
abbrev CO := FVec Ideal S8192x1024 .bf16
abbrev CM := FVec Ideal S8192x2048 .bf16

/-- A key head's rows at each of its query heads. -/
def hRep (x : C2) : FVec Ideal S8x8192x128 .f32 :=
  shapeCast _ (broadcastInDim S2x4x8192x128 ![0, 2, 3] bcast_S2x8192x128_S2x4x8192x128_0_2_3 (extf .f32 x bitsLt_bf16_f32)) shapeCasts_S2x4x8192x128_S8x8192x128
/-- The scores. -/
def hSc (x0 : C8) (x1 : C2) : FVec Ideal S8x8192x8192 .f32 :=
  Host.dotGeneral dot_S8x8192x128_S8x8192x128_S8x8192x8192_2_2_1_1_0_0 none (extf .f32 x0 bitsLt_bf16_f32) (hRep x1)
/-- Each row's greatest score. -/
def hMax (x0 : C8) (x1 : C2) : FVec Ideal S8x8192 .f32 :=
  Host.reduce FloatOps.maximumf (hSc x0 x1) (constant S_ .f32 0xFF800000#32) reducesTo_S8x8192x8192_S8x8192_d2 h_S_
/-- The greatest score as a column. -/
def hMaxC (x0 : C8) (x1 : C2) : FVec Ideal S8x8192x1 .f32 :=
  broadcastInDim S8x8192x1 ![0, 1] bcast_S8x8192_S8x8192x1_0_1 (hMax x0 x1)
/-- The exponentials. -/
def hExp (x0 : C8) (x1 : C2) : FVec Ideal S8x8192x8192 .f32 :=
  Host.exp (subf (hSc x0 x1) (broadcastInDim S8x8192x8192 ![0, 1, 2] bcast_S8x8192x1_S8x8192x8192_0_1_2 (hMaxC x0 x1)))
/-- The exponentials' row sums. -/
def hSum (x0 : C8) (x1 : C2) : FVec Ideal S8x8192 .f32 :=
  Host.reduceAdd (hExp x0 x1) (constant S_ .f32 0x00000000#32) reducesTo_S8x8192x8192_S8x8192_d2 h_S_
/-- The row sums as a column. -/
def hSumC (x0 : C8) (x1 : C2) : FVec Ideal S8x8192x1 .f32 :=
  broadcastInDim S8x8192x1 ![0, 1] bcast_S8x8192_S8x8192x1_0_1 (hSum x0 x1)
/-- The rows' logarithms of the exponentials' sum. -/
def hLse (x0 : C8) (x1 : C2) : FVec Ideal S8x8192x1 .f32 :=
  addf (hMaxC x0 x1) (Host.log (hSumC x0 x1))
/-- The probabilities. -/
def hPr (x0 : C8) (x1 : C2) : FVec Ideal S8x8192x8192 .f32 :=
  Host.divf (hExp x0 x1) (broadcastInDim S8x8192x8192 ![0, 1, 2] bcast_S8x8192x1_S8x8192x8192_0_1_2 (hSumC x0 x1))
/-- The output. -/
def hOut (x0 : C8) (x1 x2 : C2) : FVec Ideal S8x8192x128 .f32 :=
  Host.dotGeneral dot_S8x8192x8192_S8x8192x128_S8x8192x128_2_1_1_2_0_0 none (hPr x0 x1) (hRep x2)
/-- The output with the heads side by side. -/
def hOutM (x0 : C8) (x1 x2 : C2) : CO :=
  truncf .bf16 (shapeCast S8192x1024 (transpose S8192x8x128 [1, 0, 2] (hOut x0 x1 x2) transposes_S8x8192x128_S8192x8x128_1_0_2) shapeCasts_S8192x8x128_S8192x1024) bitsLt_bf16_f32
/-- Two arrays side by side. -/
def hCat (a b : CO) : CM :=
  concatenate S8192x2048 1 [⟨S8192x1024, a⟩, ⟨S8192x1024, b⟩] concatenates_S8192x1024_S8192x1024_S8192x2048_d1
/-- Cotangent times output, entry by entry, split into heads. -/
def hProd (x3 : CO) (x4 : CM) (o : CO) : FVec Ideal S8192x16x128 .f32 :=
  shapeCast S8192x16x128 (mulf (extf .f32 x4 bitsLt_bf16_f32) (extf .f32 (hCat x3 o) bitsLt_bf16_f32)) shapeCasts_S8192x2048_S8192x16x128
/-- The row sums of cotangent times output, a column to a head. -/
def hDel (x3 : CO) (x4 : CM) (o : CO) : FVec Ideal S16x8192x1 .f32 :=
  broadcastInDim S16x8192x1 ![0, 1] bcast_S16x8192_S16x8192x1_0_1 (transpose S16x8192 [1, 0]
    (Host.reduceAdd (hProd x3 x4 o) (constant S_ .f32 0x00000000#32) reducesTo_S8192x16x128_S8192x16_d2 h_S_) transposes_S8192x16_S16x8192_1_0)

variable (m : (ℓ : Loc nD τ sig) → Buf (Elt Ideal) ℓ)

theorem V_lse (c : Dev nD) : V m c main_v16 = hLse (m ((c.tc : Thread nD τ).loc main_arg0)) (m ((c.tc : Thread nD τ).loc main_arg1)) := by
  unfold V; after_results_simp; rfl

theorem V_del (c : Dev nD) : V m c main_v30 = hDel (m ((c.tc : Thread nD τ).loc main_arg3)) (m ((c.tc : Thread nD τ).loc main_arg4))
    (hOutM (m ((c.tc : Thread nD τ).loc main_arg0)) (m ((c.tc : Thread nD τ).loc main_arg1)) (m ((c.tc : Thread nD τ).loc main_arg2))) := by
  have e : ∀ a b : CO, concatenate S8192x2048 1 [⟨S8192x1024, a⟩, ⟨S8192x1024, b⟩] concatenates_S8192x1024_S8192x1024_S8192x2048_d1 = hCat a b := fun _ _ => rfl
  unfold V hostOps0; simp only [e]; after_results_simp; rfl

/-! ## The stages at an index -/

variable {x0 : C8} {x1 x2 : C2} {x3 : CO} {x4 : CM} (H : Finite x0 x1 x2 x4)

theorem hRep_read (x : C2) (h : Fin 8) (i : Fin 8192) (d : Fin 128) : hRep x (ix3 h i d) = x (ix3 ⟨h.val / 4, by omega⟩ i d) := by
  pointwise [hRep]

theorem hSc_read (x0 : C8) (x1 : C2) (h : Fin 8) (i j : Fin 8192) : hSc x0 x1 (ix3 h i j) = ∑ d : Fin 128, x0 (ix3 h i d) * hRep x1 (ix3 h j d) := by
  unfold hSc
  generalize hRep x1 = a
  pointwise

theorem hMax_read (x0 : C8) (x1 : C2) (h : Fin 8) (i : Fin 8192) : hMax x0 x1 (ix2 h i) = Finset.univ.fold max (Ideal.ofBits .f32 0xFF800000#32) (fun j : Fin 8192 => hSc x0 x1 (ix3 h i j)) := by
  unfold hMax
  generalize hSc x0 x1 = a
  pointwise

theorem hMaxC_read (x0 : C8) (x1 : C2) (h : Fin 8) (i : Fin 8192) : hMaxC x0 x1 (ix3 h i 0) = hMax x0 x1 (ix2 h i) := by
  unfold hMaxC
  generalize hMax x0 x1 = a
  pointwise

theorem hExp_read (x0 : C8) (x1 : C2) (h : Fin 8) (i j : Fin 8192) : hExp x0 x1 (ix3 h i j) = Ideal.exp (hSc x0 x1 (ix3 h i j) - hMaxC x0 x1 (ix3 h i 0)) := by
  unfold hExp
  generalize hSc x0 x1 = a
  generalize hMaxC x0 x1 = b
  pointwise

theorem hSum_read (x0 : C8) (x1 : C2) (h : Fin 8) (i : Fin 8192) : hSum x0 x1 (ix2 h i) = ∑ j : Fin 8192, hExp x0 x1 (ix3 h i j) := by
  unfold hSum
  generalize hExp x0 x1 = a
  pointwise

theorem hSumC_read (x0 : C8) (x1 : C2) (h : Fin 8) (i : Fin 8192) : hSumC x0 x1 (ix3 h i 0) = hSum x0 x1 (ix2 h i) := by
  unfold hSumC
  generalize hSum x0 x1 = a
  pointwise

theorem add_log_read (a b : FVec Ideal S8x8192x1 .f32) (j : S8x8192x1.Idx) : addf a (Host.log b) j = a j + Ideal.log (b j) := rfl

theorem hLse_read (x0 : C8) (x1 : C2) (h : Fin 8) (i : Fin 8192) : hLse x0 x1 (ix3 h i 0) = hMaxC x0 x1 (ix3 h i 0) + Ideal.log (hSumC x0 x1 (ix3 h i 0)) := by
  unfold hLse
  exact add_log_read _ _ _

theorem hPr_read (x0 : C8) (x1 : C2) (h : Fin 8) (i j : Fin 8192) : hPr x0 x1 (ix3 h i j) = Ideal.div (hExp x0 x1 (ix3 h i j)) (hSumC x0 x1 (ix3 h i 0)) := by
  unfold hPr
  generalize hExp x0 x1 = a
  generalize hSumC x0 x1 = b
  pointwise

theorem hOut_read (x0 : C8) (x1 x2 : C2) (h : Fin 8) (i : Fin 8192) (d : Fin 128) : hOut x0 x1 x2 (ix3 h i d) = ∑ j : Fin 8192, hPr x0 x1 (ix3 h i j) * hRep x2 (ix3 h j d) := by
  unfold hOut
  generalize hPr x0 x1 = a
  generalize hRep x2 = b
  pointwise

theorem hOutM_read (x0 : C8) (x1 x2 : C2) (h : Fin 8) (i : Fin 8192) (d : Fin 128) : hOutM x0 x1 x2 (ix2 i ⟨h.val * 128 + d.val, by omega⟩) = hOut x0 x1 x2 (ix3 h i d) := by
  unfold hOutM
  generalize hOut x0 x1 x2 = a
  pointwise

theorem hCat_right (a b : CO) (i : Fin 8192) (y : Fin 1024) : hCat a b (ix2 i ⟨1024 + y.val, by omega⟩) = b (ix2 i y) := by
  unfold hCat
  pointwise

theorem hProd_read (x3 : CO) (x4 : CM) (o : CO) (h : Fin 8) (i : Fin 8192) (d : Fin 128) :
    hProd x3 x4 o (ix3 i ⟨8 + h.val, by omega⟩ d) = x4 (ix2 i ⟨1024 + (h.val * 128 + d.val), by omega⟩) * o (ix2 i ⟨h.val * 128 + d.val, by omega⟩) := by
  have e : ∀ (u : Fin 2048 → EReal) (p : (8 + h.val) * 128 + d.val < 2048), u ⟨(8 + h.val) * 128 + d.val, p⟩ = u ⟨1024 + (h.val * 128 + d.val), by omega⟩ :=
    fun u p => congrArg u (Fin.ext (by show (8 + h.val) * 128 + d.val = 1024 + (h.val * 128 + d.val); omega))
  rw [← hCat_right x3 o]
  unfold hProd
  generalize hCat x3 o = a
  pointwise
  exact congrArg₂ (· * ·) (e (fun y => x4 (ix2 i y)) _) (e (fun y => a (ix2 i y)) _)

theorem hDel_read (x3 : CO) (x4 : CM) (o : CO) (h : Fin 16) (i : Fin 8192) : hDel x3 x4 o (ix3 h i 0) = ∑ d : Fin 128, hProd x3 x4 o (ix3 i h d) := by
  unfold hDel
  generalize hProd x3 x4 o = a
  pointwise

/-! ## The stages on finite arguments -/

include H

theorem hRepK_at (h : Fin 8) (i : Fin 8192) (d : Fin 128) : hRep x1 (ix3 h i d) = (kR x1 h i d : EReal) := by rw [hRep_read]; exact H.k h i d
theorem hRepV_at (h : Fin 8) (i : Fin 8192) (d : Fin 128) : hRep x2 (ix3 h i d) = (kR x2 h i d : EReal) := by rw [hRep_read]; exact H.v h i d

theorem hSc_at (h : Fin 8) (i j : Fin 8192) : hSc x0 x1 (ix3 h i j) = (sc (qR x0 h) (kR x1 h) i j : EReal) := by
  rw [hSc_read]; exact sum_mul_coe _ _ _ _ (H.q h i) (hRepK_at H h j)

omit H in
/-- The row's greatest score. -/
def mx (x0 : C8) (x1 : C2) (h : Fin 8) (i : Fin 8192) : ℝ := (hMax x0 x1 (ix2 h i)).toReal

theorem hMaxC_at (h : Fin 8) (i : Fin 8192) : hMaxC x0 x1 (ix3 h i 0) = (mx x0 x1 h i : EReal) := by
  have e := hMax_read x0 x1 h i
  obtain ⟨r, hr⟩ := fold_max_coe (fun j : Fin 8192 => hSc x0 x1 (ix3 h i j)) fun j => ⟨_, hSc_at H h i j⟩
  rw [ofBits_neg_inf, hr] at e
  rw [hMaxC_read]; unfold mx; rw [e, EReal.toReal_coe]

theorem hExp_at (h : Fin 8) (i j : Fin 8192) : hExp x0 x1 (ix3 h i j) = (Real.exp (sc (qR x0 h) (kR x1 h) i j - mx x0 x1 h i) : EReal) := by
  rw [hExp_read, hSc_at H, hMaxC_at H, ← EReal.coe_sub, Ideal.exp_coe]

theorem hSumC_at (h : Fin 8) (i : Fin 8192) : hSumC x0 x1 (ix3 h i 0) = ((∑ j, Real.exp (sc (qR x0 h) (kR x1 h) i j - mx x0 x1 h i) : ℝ) : EReal) := by
  rw [hSumC_read, hSum_read]; exact sum_coe _ _ (hExp_at H h i)

/-- The row's logarithm of the exponentials' sum. -/
theorem hLse_at (h : Fin 8) (i : Fin 8192) :
    hLse x0 x1 (ix3 h i 0) = ((mx x0 x1 h i + Real.log (∑ j, Real.exp (sc (qR x0 h) (kR x1 h) i j - mx x0 x1 h i)) : ℝ) : EReal) := by
  rw [hLse_read, hMaxC_at H, hSumC_at H, log_coe_pos (dn_shift_pos _ _ _ _), ← EReal.coe_add]

theorem hOut_at (h : Fin 8) (i : Fin 8192) (d : Fin 128) : hOut x0 x1 x2 (ix3 h i d) = (ou (qR x0 h) (kR x1 h) (kR x2 h) i d : EReal) := by
  rw [hOut_read]
  refine sum_mul_coe _ _ _ _ (fun j => ?_) fun j => hRepV_at H h j d
  rw [hPr_read, hExp_at H, hSumC_at H, div_coe_coe (dn_shift_pos _ _ _ _).ne', pr_shift]

/-- The row sum of cotangent times output, in the columns of the second half of the heads. -/
theorem hDel_at (x3 : CO) (h : Fin 8) (i : Fin 8192) :
    hDel x3 x4 (hOutM x0 x1 x2) (ix3 ⟨8 + h.val, by omega⟩ i 0) = (de (qR x0 h) (kR x1 h) (kR x2 h) (gR x4 h) i : EReal) := by
  rw [hDel_read, ← de_of_out]
  refine sum_coe _ _ fun d => ?_
  rw [hProd_read, hOutM_read, hOut_at H, H.g h i d, ← EReal.coe_mul]

end Cert.KernelIdeal.Bwd

end
-- ==== Proof.Blocks.lean ====
/-
  The operands of the attention backward call at a point, read at an index of the whole arrays.
-/
module

public import proofs.«01_k».proof.Proof.Host
public import Idealize.ShloMosaic.Lib.Pipeline.ValueKit.Geometry

@[expose] public section

set_option maxRecDepth 16384

noncomputable section

namespace Cert.KernelIdeal.Bwd

open Idealize.ShloMosaic Idealize.ShloMosaic.TcCoe Idealize.ShloMosaic.Tactic
open Idealize.ShloMosaic.Pipeline (RDat)
open Cert.KernelIdeal.Gen
open Cert.Attn
open scoped BigOperators

variable (m : (ℓ : Loc nD τ sig) → Buf (Elt Ideal) ℓ) (c : Dev nD)

/-! ## The blocks at an index -/

theorem idx (t : Fin cfg0.N) : win0_0.index t = ![t.val / 32, t.val % 4, 0] ∧ win0_1.index t = ![t.val / 128, t.val / 4 % 8, 0] ∧ win0_2.index t = ![t.val / 128, t.val / 4 % 8, 0]
    ∧ win0_3.index t = ![t.val % 4, 8 + t.val / 32] ∧ win0_4.index t = ![t.val / 32, t.val % 4, 0] ∧ win0_5.index t = ![8 + t.val / 32, t.val % 4, 0]
    ∧ win0_6.index t = ![t.val / 32, 0, 0] ∧ win0_7.index t = ![t.val / 32, t.val / 4 % 8, 0] ∧ win0_8.index t = ![t.val / 32, t.val / 4 % 8, 0] :=
  (by decide +kernel : ∀ t : Fin grid0.N, win0_0.index t = ![t.val / 32, t.val % 4, 0] ∧ win0_1.index t = ![t.val / 128, t.val / 4 % 8, 0] ∧ win0_2.index t = ![t.val / 128, t.val / 4 % 8, 0]
    ∧ win0_3.index t = ![t.val % 4, 8 + t.val / 32] ∧ win0_4.index t = ![t.val / 32, t.val % 4, 0] ∧ win0_5.index t = ![8 + t.val / 32, t.val % 4, 0]
    ∧ win0_6.index t = ![t.val / 32, 0, 0] ∧ win0_7.index t = ![t.val / 32, t.val / 4 % 8, 0] ∧ win0_8.index t = ![t.val / 32, t.val / 4 % 8, 0]) t

theorem lt256 (t : Fin cfg0.N) : t.val < 256 := Nat.lt_of_lt_of_eq t.isLt N_0

/-- The head of point `t`. -/
def hd (t : Fin cfg0.N) : Fin 8 := ⟨t.val / 32, by have := lt256 t; omega⟩
/-- The query position of row `r` of point `t`'s query block. -/
def row (t : Fin cfg0.N) (r : Fin 2048) : Fin 8192 := ⟨2048 * (t.val % 4) + r.val, by omega⟩
/-- The key position of row `k` of point `t`'s key block. -/
def col (t : Fin cfg0.N) (k : Fin 1024) : Fin 8192 := ⟨1024 * (t.val / 4 % 8) + k.val, by omega⟩

abbrev X0 : C8 := m ((c.tc : Thread nD τ).loc main_arg0)
abbrev X1 : C2 := m ((c.tc : Thread nD τ).loc main_arg1)
abbrev X2 : C2 := m ((c.tc : Thread nD τ).loc main_arg2)
abbrev X3 : CO := m ((c.tc : Thread nD τ).loc main_arg3)
abbrev X4 : CM := m ((c.tc : Thread nD τ).loc main_arg4)

theorem xb0_emb (t : Fin cfg0.N) (r : Fin 2048) (d : Fin 128) : (((cfg0.win 0).blk t).view.emb (ix3 0 r d) : S8x8192x128.Idx) = ix3 (hd t) (row t r) d := by
  have hh := lt256 t
  blk_ext [hd, row, idx t]
theorem xb0_of (t : Fin cfg0.N) (x : S1x2048x128.Idx) (L : FVec Ideal S8x8192x128 .bf16) : (((cfg0.win 0).blk t).view.read (Elt Ideal) L : Vec Ideal S1x2048x128 .bf16) x = L (((cfg0.win 0).blk t).view.emb x) := rfl
theorem xb0_read (t : Fin cfg0.N) (r : Fin 2048) (d : Fin 128) (L : FVec Ideal S8x8192x128 .bf16) (hL : V m c main_arg0 = L) : xb0 m c t (ix3 0 r d) = L (ix3 (hd t) (row t r) d) := by
  have e : V m c (Pipeline.arrRef spec0 0) = L := hL
  unfold xb0 iblk
  rw [e, ← xb0_emb]
  exact xb0_of t _ L

theorem xb1_emb (t : Fin cfg0.N) (k : Fin 1024) (d : Fin 128) : (((cfg0.win 1).blk t).view.emb (ix3 0 k d) : S2x8192x128.Idx) = ix3 ⟨(hd t).val / 4, by omega⟩ (col t k) d := by
  have hh := lt256 t
  blk_ext [hd, col, idx t]
theorem xb1_of (t : Fin cfg0.N) (x : S1x1024x128.Idx) (L : FVec Ideal S2x8192x128 .bf16) : (((cfg0.win 1).blk t).view.read (Elt Ideal) L : Vec Ideal S1x1024x128 .bf16) x = L (((cfg0.win 1).blk t).view.emb x) := rfl
theorem xb1_read (t : Fin cfg0.N) (k : Fin 1024) (d : Fin 128) (L : FVec Ideal S2x8192x128 .bf16) (hL : V m c main_arg1 = L) : xb1 m c t (ix3 0 k d) = L (ix3 ⟨(hd t).val / 4, by omega⟩ (col t k) d) := by
  have e : V m c (Pipeline.arrRef spec0 1) = L := hL
  unfold xb1 iblk
  rw [e, ← xb1_emb]
  exact xb1_of t _ L

theorem xb2_emb (t : Fin cfg0.N) (k : Fin 1024) (d : Fin 128) : (((cfg0.win 2).blk t).view.emb (ix3 0 k d) : S2x8192x128.Idx) = ix3 ⟨(hd t).val / 4, by omega⟩ (col t k) d := by
  have hh := lt256 t
  blk_ext [hd, col, idx t]
theorem xb2_of (t : Fin cfg0.N) (x : S1x1024x128.Idx) (L : FVec Ideal S2x8192x128 .bf16) : (((cfg0.win 2).blk t).view.read (Elt Ideal) L : Vec Ideal S1x1024x128 .bf16) x = L (((cfg0.win 2).blk t).view.emb x) := rfl
theorem xb2_read (t : Fin cfg0.N) (k : Fin 1024) (d : Fin 128) (L : FVec Ideal S2x8192x128 .bf16) (hL : V m c main_arg2 = L) : xb2 m c t (ix3 0 k d) = L (ix3 ⟨(hd t).val / 4, by omega⟩ (col t k) d) := by
  have e : V m c (Pipeline.arrRef spec0 2) = L := hL
  unfold xb2 iblk
  rw [e, ← xb2_emb]
  exact xb2_of t _ L

theorem xb3_emb (t : Fin cfg0.N) (r : Fin 2048) (d : Fin 128) : (((cfg0.win 3).blk t).view.emb (ix2 r d) : S8192x2048.Idx) = ix2 (row t r) ⟨1024 + ((hd t).val * 128 + d.val), by omega⟩ := by
  have hh := lt256 t
  blk_ext [hd, row, idx t]
theorem xb3_of (t : Fin cfg0.N) (x : S2048x128.Idx) (L : FVec Ideal S8192x2048 .bf16) : (((cfg0.win 3).blk t).view.read (Elt Ideal) L : Vec Ideal S2048x128 .bf16) x = L (((cfg0.win 3).blk t).view.emb x) := rfl
theorem xb3_read (t : Fin cfg0.N) (r : Fin 2048) (d : Fin 128) (L : FVec Ideal S8192x2048 .bf16) (hL : V m c main_arg4 = L) : xb3 m c t (ix2 r d) = L (ix2 (row t r) ⟨1024 + ((hd t).val * 128 + d.val), by omega⟩) := by
  have e : V m c (Pipeline.arrRef spec0 3) = L := hL
  unfold xb3 iblk
  rw [e, ← xb3_emb]
  exact xb3_of t _ L

theorem xb4_emb (t : Fin cfg0.N) (r : Fin 2048) : (((cfg0.win 4).blk t).view.emb (ix3 0 r 0) : S8x8192x1.Idx) = ix3 (hd t) (row t r) 0 := by
  have hh := lt256 t
  blk_ext [hd, row, idx t]
theorem xb4_of (t : Fin cfg0.N) (x : S1x2048x1.Idx) (L : FVec Ideal S8x8192x1 .f32) : (((cfg0.win 4).blk t).view.read (Elt Ideal) L : Vec Ideal S1x2048x1 .f32) x = L (((cfg0.win 4).blk t).view.emb x) := rfl
theorem xb4_read (t : Fin cfg0.N) (r : Fin 2048) (L : FVec Ideal S8x8192x1 .f32) (hL : V m c main_v16 = L) : xb4 m c t (ix3 0 r 0) = L (ix3 (hd t) (row t r) 0) := by
  have e : V m c (Pipeline.arrRef spec0 4) = L := hL
  unfold xb4 iblk
  rw [e, ← xb4_emb]
  exact xb4_of t _ L

theorem xb5_emb (t : Fin cfg0.N) (r : Fin 2048) : (((cfg0.win 5).blk t).view.emb (ix3 0 r 0) : S16x8192x1.Idx) = ix3 ⟨8 + (hd t).val, by omega⟩ (row t r) 0 := by
  have hh := lt256 t
  blk_ext [hd, row, idx t]
theorem xb5_of (t : Fin cfg0.N) (x : S1x2048x1.Idx) (L : FVec Ideal S16x8192x1 .f32) : (((cfg0.win 5).blk t).view.read (Elt Ideal) L : Vec Ideal S1x2048x1 .f32) x = L (((cfg0.win 5).blk t).view.emb x) := rfl
theorem xb5_read (t : Fin cfg0.N) (r : Fin 2048) (L : FVec Ideal S16x8192x1 .f32) (hL : V m c main_v30 = L) : xb5 m c t (ix3 0 r 0) = L (ix3 ⟨8 + (hd t).val, by omega⟩ (row t r) 0) := by
  have e : V m c (Pipeline.arrRef spec0 5) = L := hL
  unfold xb5 iblk
  rw [e, ← xb5_emb]
  exact xb5_of t _ L

end Cert.KernelIdeal.Bwd

end
-- ==== Proof.Out.lean ====
/-
  The three results of the attention backward call on finite arguments: point by point, the sums of dk and dv over the
  query blocks so far and the rows of dq over the key blocks so far; at the end, the gradients of `Attn`.
-/
module

public import proofs.«01_k».proof.Proof.Blocks

@[expose] public section

set_option maxRecDepth 16384

noncomputable section

namespace Cert.KernelIdeal.Bwd

open Idealize.ShloMosaic Idealize.ShloMosaic.TcCoe Idealize.ShloMosaic.Tactic
open Idealize.ShloMosaic.Pipeline (RDat)
open Cert.KernelIdeal.Gen
open Cert.Attn
open scoped BigOperators

variable (m : (ℓ : Loc nD τ sig) → Buf (Elt Ideal) ℓ) (c : Dev nD)
variable (H : Finite (X0 m c) (X1 m c) (X2 m c) (X4 m c))

/-- The score's cotangent at a head. -/
abbrev dsH (h : Fin 8) (i j : Fin 8192) : ℝ := ds (qR (X0 m c) h) (kR (X1 m c) h) (kR (X2 m c) h) (gR (X4 m c) h) i j
/-- The probability at a head. -/
abbrev prH (h : Fin 8) (i j : Fin 8192) : ℝ := pr (qR (X0 m c) h) (kR (X1 m c) h) i j

section Tiles
include H

theorem xb0_at (t : Fin cfg0.N) (r : Fin 2048) (d : Fin 128) : xb0 m c t (ix3 0 r d) = (qR (X0 m c) (hd t) (row t r) d : EReal) := by
  rw [xb0_read m c t r d _ (V_main_arg0 m c)]; exact H.q _ _ _
theorem xb1_at (t : Fin cfg0.N) (k : Fin 1024) (d : Fin 128) : xb1 m c t (ix3 0 k d) = (kR (X1 m c) (hd t) (col t k) d : EReal) := by
  rw [xb1_read m c t k d _ (V_main_arg1 m c)]; exact H.k _ _ _
theorem xb2_at (t : Fin cfg0.N) (k : Fin 1024) (d : Fin 128) : xb2 m c t (ix3 0 k d) = (kR (X2 m c) (hd t) (col t k) d : EReal) := by
  rw [xb2_read m c t k d _ (V_main_arg2 m c)]; exact H.v _ _ _
theorem xb3_at (t : Fin cfg0.N) (r : Fin 2048) (d : Fin 128) : xb3 m c t (ix2 r d) = (gR (X4 m c) (hd t) (row t r) d : EReal) := by
  rw [xb3_read m c t r d _ (V_main_arg4 m c)]; exact H.g _ _ _

/-- A point's probabilities. -/
theorem prT_at (t : Fin cfg0.N) (r : Fin 2048) (k : Fin 1024) : k0_pay11 (xb0 m c t) (xb1 m c t) (xb4 m c t) (ix2 r k) = (prH m c (hd t) (row t r) (col t k) : EReal) := by
  rw [pay11_at, xb4_read m c t r _ (V_lse m c), hLse_at H, sum_mul_coe _ _ _ _ (xb0_at m c H t r) (xb1_at m c H t k), ← EReal.coe_sub, Ideal.exp_coe]
  exact congrArg _ (pr_of_lse _ _ _ _ _)

/-- A point's score cotangents. -/
theorem dsT_val (t : Fin cfg0.N) (r : Fin 2048) (k : Fin 1024) :
    dsT (xb0 m c t) (xb1 m c t) (xb2 m c t) (xb3 m c t) (xb4 m c t) (xb5 m c t) (ix2 r k) = (dsH m c (hd t) (row t r) (col t k) : EReal) := by
  rw [dsT_at, prT_at m c H, xb5_read m c t r _ (V_del m c), hDel_at H, sum_mul_coe _ _ _ _ (xb3_at m c H t r) (xb2_at m c H t k), ← EReal.coe_sub, ← EReal.coe_mul]
  rfl

/-! ## The sums of dk and dv -/

/-- What a point makes of the sum of dk, when it finds the sum over the query blocks before. -/
theorem dkP_at (t : Fin cfg0.N) (s : Vec Ideal S1024x128 .f32) (k : Fin 1024) (d : Fin 128)
    (hs : t.val % 4 ≠ 0 → s (ix2 k d) = (part (fun x => dsH m c (hd t) x (col t k) * qR (X0 m c) (hd t) x d) (2048 * (t.val % 4)) : EReal)) :
    dkP m c t s (ix2 k d) = (part (fun x => dsH m c (hd t) x (col t k) * qR (X0 m c) (hd t) x d) (2048 * (t.val % 4) + 2048) : EReal) := by
  have e : (if isFirst (grid0.coords t) then k0_pay7 (F := Ideal) else s) (ix2 k d) = (part (fun x => dsH m c (hd t) x (col t k) * qR (X0 m c) (hd t) x d) (2048 * (t.val % 4)) : EReal) := by
    by_cases h : t.val % 4 = 0
    · rw [if_pos ((isFirst_iff t).mpr h), pay7_at, h, Nat.mul_zero, part_zero, EReal.coe_zero]
    · rw [if_neg (fun h' => h ((isFirst_iff t).mp h')), hs h]
  unfold dkP dkS
  rw [pay1_at, e, sum_mul_coe _ _ _ _ (fun r => dsT_val m c H t r k) (fun r => xb0_at m c H t r d), ← EReal.coe_add, part_add _ _ _ (by omega)]
  rfl

/-- The same of the sum of dv. -/
theorem dvP_at (t : Fin cfg0.N) (s : Vec Ideal S1024x128 .f32) (k : Fin 1024) (d : Fin 128)
    (hs : t.val % 4 ≠ 0 → s (ix2 k d) = (part (fun x => prH m c (hd t) x (col t k) * gR (X4 m c) (hd t) x d) (2048 * (t.val % 4)) : EReal)) :
    dvP m c t s (ix2 k d) = (part (fun x => prH m c (hd t) x (col t k) * gR (X4 m c) (hd t) x d) (2048 * (t.val % 4) + 2048) : EReal) := by
  have e : (if isFirst (grid0.coords t) then k0_pay8 (F := Ideal) else s) (ix2 k d) = (part (fun x => prH m c (hd t) x (col t k) * gR (X4 m c) (hd t) x d) (2048 * (t.val % 4)) : EReal) := by
    by_cases h : t.val % 4 = 0
    · rw [if_pos ((isFirst_iff t).mpr h), pay8_at, h, Nat.mul_zero, part_zero, EReal.coe_zero]
    · rw [if_neg (fun h' => h ((isFirst_iff t).mp h')), hs h]
  unfold dvP dvS
  rw [pay13_at, e, sum_mul_coe _ _ _ _ (fun r => prT_at m c H t r k) (fun r => xb3_at m c H t r d), ← EReal.coe_add, part_add _ _ _ (by omega)]
  rfl

omit H in
/-- The point before a point that is not a block's first: the same head and key block, the query block before. -/
theorem before_hd (t : Fin cfg0.N) (h : t.val % 4 ≠ 0) : ∃ t' : Fin cfg0.N, t'.val + 1 = t.val ∧ hd t' = hd t ∧ (∀ k, col t' k = col t k) ∧ 2048 * (t'.val % 4) + 2048 = 2048 * (t.val % 4) :=
  ⟨⟨t.val - 1, by omega⟩, by show t.val - 1 + 1 = t.val; omega, Fin.ext (by show (t.val - 1) / 32 = t.val / 32; omega),
    fun k => Fin.ext (by show 1024 * ((t.val - 1) / 4 % 8) + k.val = 1024 * (t.val / 4 % 8) + k.val; omega), by show 2048 * ((t.val - 1) % 4) + 2048 = 2048 * (t.val % 4); omega⟩

theorem sk_at (t : Fin cfg0.N) (k : Fin 1024) (d : Fin 128) :
    skA m c (t.val + 1) (ix2 k d) = (part (fun x => dsH m c (hd t) x (col t k) * qR (X0 m c) (hd t) x d) (2048 * (t.val % 4) + 2048) : EReal)
    ∧ svA m c (t.val + 1) (ix2 k d) = (part (fun x => prH m c (hd t) x (col t k) * gR (X4 m c) (hd t) x d) (2048 * (t.val % 4) + 2048) : EReal) := by
  have key : ∀ n, ∀ t : Fin cfg0.N, t.val = n →
      skA m c (t.val + 1) (ix2 k d) = (part (fun x => dsH m c (hd t) x (col t k) * qR (X0 m c) (hd t) x d) (2048 * (t.val % 4) + 2048) : EReal)
      ∧ svA m c (t.val + 1) (ix2 k d) = (part (fun x => prH m c (hd t) x (col t k) * gR (X4 m c) (hd t) x d) (2048 * (t.val % 4) + 2048) : EReal) := by
    intro n
    induction n using Nat.strong_induction_on with
    | _ n ih =>
      intro t ht
      rw [skA_succ, svA_succ]
      refine ⟨dkP_at m c H t _ k d fun h => ?_, dvP_at m c H t _ k d fun h => ?_⟩
      all_goals
        obtain ⟨t', h1, h2, h3, h4⟩ := before_hd t h
        have := ih t'.val (by omega) t' rfl
        rw [h1, h2, h3, h4] at this
      · exact this.1
      · exact this.2
  exact key t.val t rfl

/-! ## The rows of dq -/

omit H in
/-- How many key positions the row at query position `x` has had before point `t`. -/
def had (t : Fin cfg0.N) (x : Fin 8192) : ℕ := if x.val < 2048 * (t.val % 4) then 1024 * (t.val / 4 % 8) + 1024 else 1024 * (t.val / 4 % 8)

omit H in
theorem rowsPut_in (q : Fin 4) (w : Vec Ideal S1x2048x128 .f32) (y : Vec Ideal S1x8192x128 .f32) (r : Fin 2048) (d : Fin 128) :
    rowsPut q w y (ix3 0 ⟨2048 * q.val + r.val, by omega⟩ d) = w (ix3 0 r d) := by
  have h := congrFun (VecWindow.window_put_same y ![0, 2048 * q.val, 0] S1x2048x128.size (rows_inb q) w) (ix3 0 r d)
  refine Eq.trans (congrArg (rowsPut q w y) ?_) h
  funext a; apply Fin.ext
  match a with
  | ⟨0, _⟩ => rfl
  | ⟨1, _⟩ => show 2048 * q.val + r.val = 2048 * q.val + 1 * r.val; omega
  | ⟨2, _⟩ => show d.val = 0 + 1 * d.val; omega

omit H in
theorem rowsPut_out (q : Fin 4) (w : Vec Ideal S1x2048x128 .f32) (y : Vec Ideal S1x8192x128 .f32) (x : Fin 8192) (d : Fin 128)
    (hx : ¬ (2048 * q.val ≤ x.val ∧ x.val < 2048 * q.val + 2048)) : rowsPut q w y (ix3 0 x d) = y (ix3 0 x d) :=
  dif_neg fun h => hx (h 1)

omit H in
theorem rowsGet_at (q : Fin 4) (y : Vec Ideal S1x8192x128 .f32) (r : Fin 2048) (d : Fin 128) :
    rowsGet q y (ix3 0 r d) = y (ix3 0 ⟨2048 * q.val + r.val, by omega⟩ d) := by
  refine congrArg y ?_
  funext a; apply Fin.ext
  match a with
  | ⟨0, _⟩ => rfl
  | ⟨1, _⟩ => show 2048 * q.val + 1 * r.val = 2048 * q.val + r.val; omega
  | ⟨2, _⟩ => show 0 + 1 * d.val = d.val; omega

/-- What a point makes of a row of dq that holds the sum over the key blocks before. -/
theorem dqP_at (t : Fin cfg0.N) (y : Vec Ideal S1x8192x128 .f32) (x : Fin 8192) (d : Fin 128)
    (hy : had t x ≠ 0 → y (ix3 0 x d) = (part (fun j => dsH m c (hd t) x j * kR (X1 m c) (hd t) j d) (had t x) : EReal))
    (hx : x.val < 2048 * (t.val % 4) + 2048 ∨ had t x ≠ 0) :
    dqP m c t y (ix3 0 x d) = (part (fun j => dsH m c (hd t) x j * kR (X1 m c) (hd t) j d) (if x.val < 2048 * (t.val % 4) + 2048 then 1024 * (t.val / 4 % 8) + 1024 else 1024 * (t.val / 4 % 8)) : EReal) := by
  have e2 : (grid0.coords t 2).val = t.val % 4 := (Pipeline.Grid.coords_val t 2 (by decide) rfl : (grid0.coords t 2).val = t.val / 1 % 4).trans (by rw [Nat.div_one])
  unfold dqP dqW
  by_cases h : 2048 * (t.val % 4) ≤ x.val ∧ x.val < 2048 * (t.val % 4) + 2048
  · obtain ⟨r, hr⟩ : ∃ r : Fin 2048, x = row t r := ⟨⟨x.val - 2048 * (t.val % 4), by omega⟩, Fin.ext (by show x.val = 2048 * (t.val % 4) + (x.val - 2048 * (t.val % 4)); omega)⟩
    have hr' : x = ⟨2048 * (grid0.coords t 2).val + r.val, by have := x.isLt; have := r.isLt; rw [e2]; omega⟩ := hr.trans (Fin.ext (by show 2048 * (t.val % 4) + r.val = 2048 * (grid0.coords t 2).val + r.val; rw [e2]))
    have hh : had t x = 1024 * (t.val / 4 % 8) := if_neg (by omega)
    rw [if_pos h.2, part_add _ _ _ (by omega)]
    rw [hh] at hy
    have es : ∑ k : Fin 1024, dsT (xb0 m c t) (xb1 m c t) (xb2 m c t) (xb3 m c t) (xb4 m c t) (xb5 m c t) (ix2 r k) * xb1 m c t (ix3 0 k d)
        = ((∑ k : Fin 1024, dsH m c (hd t) x (col t k) * kR (X1 m c) (hd t) (col t k) d : ℝ) : EReal) :=
      sum_mul_coe _ _ _ _ (fun k => by rw [hr]; exact dsT_val m c H t r k) (fun k => xb1_at m c H t k d)
    conv_lhs => rw [hr']
    refine (rowsPut_in (grid0.coords t 2) _ y r d).trans ?_
    by_cases h2 : t.val / 4 % 8 = 0
    · have hz : ∀ f : Fin 8192 → ℝ, part f (1024 * (t.val / 4 % 8)) = 0 := fun f => by rw [h2, Nat.mul_zero, part_zero]
      rw [if_pos ((cond2_iff t).mpr h2), pay3_at, es, hz, zero_add]
      rfl
    · rw [if_neg (fun h' => h2 ((cond2_iff t).mp h')), pay4_at, es, EReal.coe_add, ← hy (by omega)]
      refine congrArg₂ (· + ·) ?_ rfl
      refine (rowsGet_at (grid0.coords t 2) y r d).trans ?_
      rw [← hr']
  · refine (rowsPut_out (grid0.coords t 2) _ y x d (by rw [e2]; exact h)).trans ?_
    have hh : had t x = (if x.val < 2048 * (t.val % 4) + 2048 then 1024 * (t.val / 4 % 8) + 1024 else 1024 * (t.val / 4 % 8)) := by
      unfold had; split <;> split <;> omega
    rw [← hh]
    refine hy ?_
    rcases hx with hx | hx
    · rw [hh, if_pos hx]; omega
    · exact hx

omit H in
theorem fetch0_6 (t : Fin cfg0.N) : (cfg0.win 6).fetch t = false := rfl

theorem leaves6 (t : Fin cfg0.N) : ∀ X, (rdat m c).Leaves 6 t X → ∀ (x : Fin 8192) (d : Fin 128), (x.val < 2048 * (t.val % 4) + 2048 ∨ t.val / 4 % 8 ≠ 0) →
    X (ix3 0 x d) = (part (fun j => dsH m c (hd t) x j * kR (X1 m c) (hd t) j d) (if x.val < 2048 * (t.val % 4) + 2048 then 1024 * (t.val / 4 % 8) + 1024 else 1024 * (t.val / 4 % 8)) : EReal) := by
  have key : ∀ n, ∀ t : Fin cfg0.N, t.val = n → ∀ X, (rdat m c).Leaves 6 t X → ∀ (x : Fin 8192) (d : Fin 128), (x.val < 2048 * (t.val % 4) + 2048 ∨ t.val / 4 % 8 ≠ 0) →
      X (ix3 0 x d) = (part (fun j => dsH m c (hd t) x j * kR (X1 m c) (hd t) j d) (if x.val < 2048 * (t.val % 4) + 2048 then 1024 * (t.val / 4 % 8) + 1024 else 1024 * (t.val / 4 % 8)) : EReal) := by
    intro n
    induction n using Nat.strong_induction_on with
    | _ n ih =>
      intro t ht X hX x d hx
      obtain ⟨Y, hY, hXY⟩ := hX
      rw [after_eq] at hXY
      have hXY : X = dqP m c t Y := hXY
      rw [hXY]
      refine dqP_at m c H t Y x d (fun hne => ?_) (hx.imp id fun h => by unfold had; split <;> omega)
      have h32 : t.val % 32 ≠ 0 := by
        intro h0; apply hne; unfold had; rw [if_neg (by omega)]; omega
      rcases (RDat.finds_of_pos (rdat m c) (fetch0_6 t) (by omega) Y).mp hY with hf | hL
      · have := (flush0_6 _).mp hf
        have : (t.val - 1) % 32 = 31 := this
        omega
      · have hv : ((⟨t.val - 1, Nat.lt_of_le_of_lt (Nat.sub_le _ _) t.isLt⟩ : Fin cfg0.N)).val = t.val - 1 := rfl
        generalize (⟨t.val - 1, Nat.lt_of_le_of_lt (Nat.sub_le _ _) t.isLt⟩ : Fin cfg0.N) = t' at hL hv
        have hh : hd t' = hd t := Fin.ext (by show t'.val / 32 = t.val / 32; omega)
        have e := ih t'.val (by omega) t' rfl Y hL x d (by unfold had at hne; have := x.isLt; split at hne <;> omega)
        have hp : (if x.val < 2048 * (t'.val % 4) + 2048 then 1024 * (t'.val / 4 % 8) + 1024 else 1024 * (t'.val / 4 % 8)) = had t x := by
          unfold had; have := x.isLt; split <;> split <;> omega
        rw [hh, hp] at e
        exact e
  exact key t.val t rfl

/-! ## What the launch leaves in the three result arrays -/

theorem leaves7 (t : Fin cfg0.N) (ht : t.val % 4 = 3) (X) (hX : (rdat m c).Leaves 7 t X) (k : Fin 1024) (d : Fin 128) :
    X (ix3 0 k d) = (dk (qR (X0 m c) (hd t)) (kR (X1 m c) (hd t)) (kR (X2 m c) (hd t)) (gR (X4 m c) (hd t)) (col t k) d : EReal) := by
  obtain ⟨Y, -, hXY⟩ := hX
  rw [after_eq] at hXY
  have hXY : X = if k0_cond4 (grid0.coords t) = 1#1 then k0_pay5 (skA m c (t.val + 1)) else Y := hXY
  rw [hXY, if_pos ((cond4_iff t).mpr ht), pay5_at, (sk_at m c H t k d).1, ht]
  exact congrArg _ (part_all _)

theorem leaves8 (t : Fin cfg0.N) (ht : t.val % 4 = 3) (X) (hX : (rdat m c).Leaves 8 t X) (k : Fin 1024) (d : Fin 128) :
    X (ix3 0 k d) = (dv (qR (X0 m c) (hd t)) (kR (X1 m c) (hd t)) (gR (X4 m c) (hd t)) (col t k) d : EReal) := by
  obtain ⟨Y, -, hXY⟩ := hX
  rw [after_eq] at hXY
  have hXY : X = if k0_cond4 (grid0.coords t) = 1#1 then k0_pay6 (svA m c (t.val + 1)) else Y := hXY
  rw [hXY, if_pos ((cond4_iff t).mpr ht), pay6_at, (sk_at m c H t k d).2, ht]
  exact congrArg _ (part_all _)

theorem leaves6_last (t : Fin cfg0.N) (ht : t.val % 32 = 31) (X) (hX : (rdat m c).Leaves 6 t X) (x : Fin 8192) (d : Fin 128) :
    X (ix3 0 x d) = (dq (qR (X0 m c) (hd t)) (kR (X1 m c) (hd t)) (kR (X2 m c) (hd t)) (gR (X4 m c) (hd t)) x d : EReal) := by
  have := x.isLt
  rw [leaves6 m c H t X hX x d (by omega), if_pos (by omega), show 1024 * (t.val / 4 % 8) + 1024 = 8192 by omega]
  exact congrArg _ (part_all _)

omit H in
theorem emb6 (t : Fin cfg0.N) (y : S1x8192x128.Idx) : (((cfg0.win 6).blk t).view.emb y : S8x8192x128.Idx) = ix3 (hd t) (y 1) (y 2) := by
  have hh := lt256 t
  blk_ext [hd, idx t]
omit H in
theorem emb7 (t : Fin cfg0.N) (y : S1x1024x128.Idx) : (((cfg0.win 7).blk t).view.emb y : S8x8192x128.Idx) = ix3 (hd t) (col t (y 1)) (y 2) := by
  have hh := lt256 t
  blk_ext [hd, col, idx t]
omit H in
theorem emb8 (t : Fin cfg0.N) (y : S1x1024x128.Idx) : (((cfg0.win 8).blk t).view.emb y : S8x8192x128.Idx) = ix3 (hd t) (col t (y 1)) (y 2) := by
  have hh := lt256 t
  blk_ext [hd, col, idx t]

omit H in
theorem ix_of (n : ℕ) (y : (⟨3, ![1, n, 128]⟩ : Shape).Idx) : y = ix3 0 (y 1) (y 2) :=
  funext fun a => match a with
  | ⟨0, _⟩ => Fin.ext (by have : (y 0).val < 1 := (y 0).isLt; show (y 0).val = 0; omega)
  | ⟨1, _⟩ => rfl
  | ⟨2, _⟩ => rfl

/-- A gradient by heads as an array. -/
abbrev arr (f : Fin 8 → Fin 8192 → Fin 128 → ℝ) : S8x8192x128.Idx → EReal := fun i => (f (i 0) (i 1) (i 2) : EReal)

omit H in
theorem arr6 (after : (w : Fin cfg0.W) → Fin cfg0.N → (cfg0.win w).block.Idx → Elt Ideal (cfg0.win w).elt) (D : Fin 8 → Fin 8192 → Fin 128 → ℝ)
    (hD : ∀ t : Fin cfg0.N, (cfg0.win 6).flush t = true → ∀ (x : Fin 8192) (d : Fin 128), (after 6 t : S1x8192x128.Idx → EReal) (ix3 0 x d) = (D (hd t) x d : EReal)) (i : S8x8192x128.Idx) :
    (((rdat m c).withAfter after).arrAt 6 cfg0.N : S8x8192x128.Idx → EReal) i = arr D i := by
  refine ((rdat m c).withAfter after).arrAt_forall_of_covers 6 (fun i v => v = arr D i) (by decide +kernel) (fun t hf y => ?_) i
  rw [RDat.withAfter_after]
  have e1 : (after 6 t : S1x8192x128.Idx → EReal) y = (D (hd t) (y 1) (y 2) : EReal) := (congrArg (after 6 t : S1x8192x128.Idx → EReal) (ix_of 8192 y)).trans (hD t hf (y 1) (y 2))
  have e2 : arr D (((cfg0.win 6).blk t).view.emb y : S8x8192x128.Idx) = (D (hd t) (y 1) (y 2) : EReal) := congrArg (arr D) (emb6 t y)
  exact Eq.trans e1 e2.symm

omit H in
theorem arr7 (after : (w : Fin cfg0.W) → Fin cfg0.N → (cfg0.win w).block.Idx → Elt Ideal (cfg0.win w).elt) (D : Fin 8 → Fin 8192 → Fin 128 → ℝ)
    (hD : ∀ t : Fin cfg0.N, (cfg0.win 7).flush t = true → ∀ (k : Fin 1024) (d : Fin 128), (after 7 t : S1x1024x128.Idx → EReal) (ix3 0 k d) = (D (hd t) (col t k) d : EReal)) (i : S8x8192x128.Idx) :
    (((rdat m c).withAfter after).arrAt 7 cfg0.N : S8x8192x128.Idx → EReal) i = arr D i := by
  refine ((rdat m c).withAfter after).arrAt_forall_of_covers 7 (fun i v => v = arr D i) (by decide +kernel) (fun t hf y => ?_) i
  rw [RDat.withAfter_after]
  have e1 : (after 7 t : S1x1024x128.Idx → EReal) y = (D (hd t) (col t (y 1)) (y 2) : EReal) := (congrArg (after 7 t : S1x1024x128.Idx → EReal) (ix_of 1024 y)).trans (hD t hf (y 1) (y 2))
  have e2 : arr D (((cfg0.win 7).blk t).view.emb y : S8x8192x128.Idx) = (D (hd t) (col t (y 1)) (y 2) : EReal) := congrArg (arr D) (emb7 t y)
  exact Eq.trans e1 e2.symm

omit H in
theorem arr8 (after : (w : Fin cfg0.W) → Fin cfg0.N → (cfg0.win w).block.Idx → Elt Ideal (cfg0.win w).elt) (D : Fin 8 → Fin 8192 → Fin 128 → ℝ)
    (hD : ∀ t : Fin cfg0.N, (cfg0.win 8).flush t = true → ∀ (k : Fin 1024) (d : Fin 128), (after 8 t : S1x1024x128.Idx → EReal) (ix3 0 k d) = (D (hd t) (col t k) d : EReal)) (i : S8x8192x128.Idx) :
    (((rdat m c).withAfter after).arrAt 8 cfg0.N : S8x8192x128.Idx → EReal) i = arr D i := by
  refine ((rdat m c).withAfter after).arrAt_forall_of_covers 8 (fun i v => v = arr D i) (by decide +kernel) (fun t hf y => ?_) i
  rw [RDat.withAfter_after]
  have e1 : (after 8 t : S1x1024x128.Idx → EReal) y = (D (hd t) (col t (y 1)) (y 2) : EReal) := (congrArg (after 8 t : S1x1024x128.Idx → EReal) (ix_of 1024 y)).trans (hD t hf (y 1) (y 2))
  have e2 : arr D (((cfg0.win 8).blk t).view.emb y : S8x8192x128.Idx) = (D (hd t) (col t (y 1)) (y 2) : EReal) := congrArg (arr D) (emb8 t y)
  exact Eq.trans e1 e2.symm

/-- The results of the launch: each array is the gradient of `Attn`, at every head. -/
theorem arrays (r : PUnit × MemSt nD τ sig (Elt Ideal)) (h : RDat.FramePost (cfgs 0) (fun c => rdat m c) (V m) r) :
    r.2.mem ((c.tc : Thread nD τ).loc main_v31_0) = arr (fun h => dq (qR (X0 m c) h) (kR (X1 m c) h) (kR (X2 m c) h) (gR (X4 m c) h))
    ∧ r.2.mem ((c.tc : Thread nD τ).loc main_v31_1) = arr (fun h => dk (qR (X0 m c) h) (kR (X1 m c) h) (kR (X2 m c) h) (gR (X4 m c) h))
    ∧ r.2.mem ((c.tc : Thread nD τ).loc main_v31_2) = arr (fun h => dv (qR (X0 m c) h) (kR (X1 m c) h) (gR (X4 m c) h)) := by
  obtain ⟨after, ha, hm⟩ := RDat.FramePost.exists_exact h c
  refine ⟨(hm 6).trans (funext fun i => ?_), (hm 7).trans (funext fun i => ?_), (hm 8).trans (funext fun i => ?_)⟩
  · exact arr6 m c after _ (fun t hf => leaves6_last m c H t ((flush0_6 t).mp hf) _ (ha 6 t hf)) i
  · exact arr7 m c after _ (fun t hf => leaves7 m c H t ((flush0_7 t).mp hf) _ (ha 7 t hf)) i
  · exact arr8 m c after _ (fun t hf => leaves8 m c H t ((flush0_8 t).mp hf) _ (ha 8 t hf)) i

end Tiles

end Cert.KernelIdeal.Bwd

end
-- ==== Proof.Ref.lean ====
/-
  The reference read at an index: on finite arguments its three results are the gradients of softmax attention of
  `Attn`, head by head.
-/
module

public import proofs.«01_k».proof.Proof.Attn
public import proofs.«01_k».proof.Proof.Gen.ReferenceIdeal.Read

@[expose] public section

set_option maxRecDepth 16384

noncomputable section

namespace Cert.ReferenceIdeal.Bwd

open Idealize.ShloMosaic Idealize.ShloMosaic.TcCoe
open Cert.ReferenceIdeal Cert.ReferenceIdeal.Gen Cert.ReferenceIdeal.Read
open Cert.Attn
open scoped BigOperators

variable {x0 : (⟨S8x8192x128, .bf16⟩ : BufTy).Contents (Elt Ideal)} {x1 x2 : (⟨S2x8192x128, .bf16⟩ : BufTy).Contents (Elt Ideal)} {x4 : (⟨S8192x2048, .bf16⟩ : BufTy).Contents (Elt Ideal)}

/-- An exponential is of a score less the row's greatest. -/
theorem e32 (x0 : (⟨S8x8192x128, .bf16⟩ : BufTy).Contents (Elt Ideal)) (x1 : (⟨S2x8192x128, .bf16⟩ : BufTy).Contents (Elt Ideal)) (h : Fin 8) (i j : Fin 8192) : val_main_v32 (F := Ideal) x0 x1 (ix3 h i j) = Ideal.exp (val_main_v11 (F := Ideal) x0 x1 (ix3 h i j) - val_main_v19 (F := Ideal) x0 x1 (ix2 h i)) := by
  unfold val_main_v32 val_main_v31 val_main_v30 val_main_v29
  generalize val_main_v11 (F := Ideal) x0 x1 = a
  generalize val_main_v19 (F := Ideal) x0 x1 = b
  pointwise

/-- The row's greatest score, after its maximum with minus infinity. -/
theorem e19 (x0 : (⟨S8x8192x128, .bf16⟩ : BufTy).Contents (Elt Ideal)) (x1 : (⟨S2x8192x128, .bf16⟩ : BufTy).Contents (Elt Ideal)) (h : Fin 8) (i : Fin 8192) : val_main_v19 (F := Ideal) x0 x1 (ix2 h i) = max (Ideal.ofBits .f32 0xFF800000#32) (val_main_v12 (F := Ideal) x0 x1 (ix2 h i)) := by
  rw [val_main_v19_apply, val_main_v18_apply, val_main_cst_1_apply]
  generalize val_main_v12 (F := Ideal) x0 x1 (ix2 h i) = b
  rfl

variable (H : Finite x0 x1 x2 x4)
include H

theorem v3_at (h : Fin 8) (i : Fin 8192) (d : Fin 128) : val_main_v3 (F := Ideal) x1 (ix3 h i d) = (kR x1 h i d : EReal) := by
  rw [← H.k]; pointwise [val_main_v3, val_main_v2, val_main_v1]

theorem v6_at (h : Fin 8) (i : Fin 8192) (d : Fin 128) : val_main_v6 (F := Ideal) x2 (ix3 h i d) = (kR x2 h i d : EReal) := by
  rw [← H.v]; pointwise [val_main_v6, val_main_v5, val_main_v4]

theorem v10_at (h : Fin 8) (i : Fin 8192) (d : Fin 128) : val_main_v10 (F := Ideal) x4 (ix3 h i d) = (gR x4 h i d : EReal) := by
  rw [← H.g]; pointwise [val_main_v10, val_main_v9, val_main_v8, val_main_v7]

theorem v11_at (h : Fin 8) (i j : Fin 8192) : val_main_v11 (F := Ideal) x0 x1 (ix3 h i j) = (sc (qR x0 h) (kR x1 h) i j : EReal) := by
  have e : val_main_v11 (F := Ideal) x0 x1 (ix3 h i j) = ∑ d : Fin 128, x0 (ix3 h i d) * val_main_v3 (F := Ideal) x1 (ix3 h j d) := by
    pointwise [val_main_v11, val_main_v0]
  rw [e]; exact sum_mul_coe _ _ _ _ (H.q h i) (v3_at H h j)

theorem v43_at (h : Fin 8) (i j : Fin 8192) : val_main_v43 (F := Ideal) x2 x4 (ix3 h i j) = (dp (gR x4 h) (kR x2 h) i j : EReal) := by
  have e : val_main_v43 (F := Ideal) x2 x4 (ix3 h i j) = ∑ d : Fin 128, val_main_v10 (F := Ideal) x4 (ix3 h i d) * val_main_v6 (F := Ideal) x2 (ix3 h j d) := by
    pointwise [val_main_v43]
  rw [e]; exact sum_mul_coe _ _ _ _ (v10_at H h i) (v6_at H h j)

/-- The row's greatest score. -/
def mx (x0 : (⟨S8x8192x128, .bf16⟩ : BufTy).Contents (Elt Ideal)) (x1 : (⟨S2x8192x128, .bf16⟩ : BufTy).Contents (Elt Ideal)) (h : Fin 8) (i : Fin 8192) : ℝ :=
  (val_main_v12 (F := Ideal) x0 x1 (ix2 h i)).toReal

theorem v12_at (h : Fin 8) (i : Fin 8192) : val_main_v12 (F := Ideal) x0 x1 (ix2 h i) = (mx x0 x1 h i : EReal) := by
  have e : val_main_v12 (F := Ideal) x0 x1 (ix2 h i) = Finset.univ.fold max (Ideal.ofBits .f32 0xFF800000#32) (fun j : Fin 8192 => val_main_v11 (F := Ideal) x0 x1 (ix3 h i j)) := by
    unfold val_main_v12
    generalize val_main_v11 (F := Ideal) x0 x1 = a
    pointwise [val_main_cst]
  obtain ⟨r, hr⟩ := fold_max_coe (fun j : Fin 8192 => val_main_v11 (F := Ideal) x0 x1 (ix3 h i j)) fun j => ⟨_, v11_at H h i j⟩
  rw [ofBits_neg_inf, hr] at e
  unfold mx; rw [e, EReal.toReal_coe]

theorem v32_at (h : Fin 8) (i j : Fin 8192) : val_main_v32 (F := Ideal) x0 x1 (ix3 h i j) = (Real.exp (sc (qR x0 h) (kR x1 h) i j - mx x0 x1 h i) : EReal) := by
  rw [e32, e19, v11_at H, v12_at H, ofBits_neg_inf, max_eq_right bot_le, ← EReal.coe_sub, Ideal.exp_coe]

theorem v33_at (h : Fin 8) (i : Fin 8192) : val_main_v33 (F := Ideal) x0 x1 (ix2 h i) = ((∑ j, Real.exp (sc (qR x0 h) (kR x1 h) i j - mx x0 x1 h i) : ℝ) : EReal) := by
  rw [val_main_v33_apply, val_main_cst_7_apply]
  have e : ∀ j : Fin 8192, idx_main_v33 (ix2 h i) j = ix3 h i j := fun j => funext fun a => match a with | ⟨0, _⟩ => rfl | ⟨1, _⟩ => rfl | ⟨2, _⟩ => rfl
  rw [show FloatOps.ofBits (F := Ideal) .f32 0x00000000#32 = (0 : EReal) from Ideal.ofBits_zero_f32, zero_add]
  exact sum_coe _ _ fun j => by rw [e, v32_at H]

theorem den_ne (h : Fin 8) (i : Fin 8192) : (∑ j, Real.exp (sc (qR x0 h) (kR x1 h) i j - mx x0 x1 h i)) ≠ 0 := (dn_shift_pos (qR x0 h) (kR x1 h) i (mx x0 x1 h i)).ne'

theorem v36_at (h : Fin 8) (i j : Fin 8192) : val_main_v36 (F := Ideal) x0 x1 (ix3 h i j) = (pr (qR x0 h) (kR x1 h) i j : EReal) := by
  have e : val_main_v36 (F := Ideal) x0 x1 (ix3 h i j) = Ideal.div (val_main_v32 (F := Ideal) x0 x1 (ix3 h i j)) (val_main_v33 (F := Ideal) x0 x1 (ix2 h i)) := by
    unfold val_main_v36 val_main_v35 val_main_v34
    generalize val_main_v32 (F := Ideal) x0 x1 = a
    generalize val_main_v33 (F := Ideal) x0 x1 = b
    pointwise
  rw [e, v32_at H, v33_at H, div_coe_coe (den_ne H h i), pr_shift]

theorem v47_at (h : Fin 8) (i : Fin 8192) : val_main_v47 (F := Ideal) x0 x1 x2 x4 (ix2 h i)
    = ((∑ j, dp (gR x4 h) (kR x2 h) i j * (1 / ((∑ j, Real.exp (sc (qR x0 h) (kR x1 h) i j - mx x0 x1 h i)) * ∑ j, Real.exp (sc (qR x0 h) (kR x1 h) i j - mx x0 x1 h i)))
        * Real.exp (sc (qR x0 h) (kR x1 h) i j - mx x0 x1 h i) : ℝ) : EReal) := by
  rw [val_main_v47_apply, val_main_cst_9_apply]
  have e : ∀ j : Fin 8192, idx_main_v47 (ix2 h i) j = ix3 h i j := fun j => funext fun a => match a with | ⟨0, _⟩ => rfl | ⟨1, _⟩ => rfl | ⟨2, _⟩ => rfl
  rw [show FloatOps.ofBits (F := Ideal) .f32 0x00000000#32 = (0 : EReal) from Ideal.ofBits_zero_f32, zero_add]
  refine sum_coe _ _ fun j => ?_
  have e' : val_main_v46 (F := Ideal) x0 x1 x2 x4 (ix3 h i j) = val_main_v43 (F := Ideal) x2 x4 (ix3 h i j)
      * Ideal.div 1 (val_main_v33 (F := Ideal) x0 x1 (ix2 h i) * val_main_v33 (F := Ideal) x0 x1 (ix2 h i)) * val_main_v32 (F := Ideal) x0 x1 (ix3 h i j) := by
    have h1 : ∀ u, val_main_v38 (F := Ideal) u = 1 := fun u => by rw [val_main_v38_apply, val_main_cst_8_apply]; exact Ideal.ofBits_one_f32
    unfold val_main_v46 val_main_v45 val_main_v44 val_main_v39 val_main_v37 val_main_v34
    generalize val_main_v43 (F := Ideal) x2 x4 = a
    generalize val_main_v33 (F := Ideal) x0 x1 = b
    generalize val_main_v32 (F := Ideal) x0 x1 = c
    generalize val_main_v38 (F := Ideal) = w at h1 ⊢
    pointwise
    rw [h1]
  rw [e, e', v43_at H, v33_at H, v32_at H, ← EReal.coe_mul, ← EReal.coe_one, div_coe_coe (mul_ne_zero (den_ne H h i) (den_ne H h i)), ← EReal.coe_mul, ← EReal.coe_mul]

theorem v52_at (h : Fin 8) (i : Fin 8192) : val_main_v52 (F := Ideal) x0 x1 x2 x4 (ix2 h i) = - val_main_v47 (F := Ideal) x0 x1 x2 x4 (ix2 h i) := by
  rw [val_main_v52_apply, val_main_cst_10_apply]
  rw [show FloatOps.ofBits (F := Ideal) .f32 0x00000000#32 = (0 : EReal) from Ideal.ofBits_zero_f32, zero_add, Fin.sum_univ_one]
  have e : idx_main_v52 (ix2 h i) 0 = ix3 h i 0 := funext fun a => match a with | ⟨0, _⟩ => rfl | ⟨1, _⟩ => rfl | ⟨2, _⟩ => rfl
  rw [e]
  unfold val_main_v49 val_main_v48
  generalize val_main_v47 (F := Ideal) x0 x1 x2 x4 = a
  pointwise

theorem v55_at (h : Fin 8) (i j : Fin 8192) : val_main_v55 (F := Ideal) x0 x1 x2 x4 (ix3 h i j) = (ds (qR x0 h) (kR x1 h) (kR x2 h) (gR x4 h) i j : EReal) := by
  have e : val_main_v55 (F := Ideal) x0 x1 x2 x4 (ix3 h i j) = (Ideal.div (val_main_v43 (F := Ideal) x2 x4 (ix3 h i j)) (val_main_v33 (F := Ideal) x0 x1 (ix2 h i))
      + val_main_v52 (F := Ideal) x0 x1 x2 x4 (ix2 h i)) * val_main_v32 (F := Ideal) x0 x1 (ix3 h i j) := by
    unfold val_main_v55 val_main_v54 val_main_v53 val_main_v51 val_main_v50 val_main_v34
    generalize val_main_v43 (F := Ideal) x2 x4 = a
    generalize val_main_v33 (F := Ideal) x0 x1 = b
    generalize val_main_v52 (F := Ideal) x0 x1 x2 x4 = c
    generalize val_main_v32 (F := Ideal) x0 x1 = f
    pointwise
  rw [e, v52_at H, v47_at H, v43_at H, v33_at H, v32_at H, div_coe_coe (den_ne H h i), ← EReal.coe_neg, ← EReal.coe_add, ← EReal.coe_mul, ds_of_quotient]

/-- The gradient of the queries. -/
theorem dq_at (h : Fin 8) (i : Fin 8192) (d : Fin 128) : val_main_v57 (F := Ideal) x0 x1 x2 x4 (ix3 h i d) = (dq (qR x0 h) (kR x1 h) (kR x2 h) (gR x4 h) i d : EReal) := by
  have e : val_main_v57 (F := Ideal) x0 x1 x2 x4 (ix3 h i d) = ∑ j : Fin 8192, val_main_v55 (F := Ideal) x0 x1 x2 x4 (ix3 h i j) * val_main_v3 (F := Ideal) x1 (ix3 h j d) := by
    unfold val_main_v57
    generalize val_main_v55 (F := Ideal) x0 x1 x2 x4 = a
    generalize val_main_v3 (F := Ideal) x1 = b
    pointwise
  rw [e]; exact sum_mul_coe _ _ _ _ (v55_at H h i) fun j => v3_at H h j d

/-- The gradient of the keys, at each query head. -/
theorem dk_at (h : Fin 8) (j : Fin 8192) (d : Fin 128) : val_main_v56 (F := Ideal) x0 x1 x2 x4 (ix3 h j d) = (dk (qR x0 h) (kR x1 h) (kR x2 h) (gR x4 h) j d : EReal) := by
  have e : val_main_v56 (F := Ideal) x0 x1 x2 x4 (ix3 h j d) = ∑ i : Fin 8192, val_main_v55 (F := Ideal) x0 x1 x2 x4 (ix3 h i j) * x0 (ix3 h i d) := by
    unfold val_main_v56
    generalize val_main_v55 (F := Ideal) x0 x1 x2 x4 = a
    pointwise [val_main_v0]
  rw [e]; exact sum_mul_coe _ _ _ _ (fun i => v55_at H h i j) fun i => H.q h i d

/-- The gradient of the values, at each query head. -/
theorem dv_at (h : Fin 8) (j : Fin 8192) (d : Fin 128) : val_main_v42 (F := Ideal) x0 x1 x4 (ix3 h j d) = (dv (qR x0 h) (kR x1 h) (gR x4 h) j d : EReal) := by
  have e : val_main_v42 (F := Ideal) x0 x1 x4 (ix3 h j d) = ∑ i : Fin 8192, val_main_v10 (F := Ideal) x4 (ix3 h i d) * val_main_v36 (F := Ideal) x0 x1 (ix3 h i j) := by
    unfold val_main_v42 val_main_v41
    generalize val_main_v10 (F := Ideal) x4 = a
    generalize val_main_v36 (F := Ideal) x0 x1 = b
    pointwise
  rw [e, Finset.sum_congr rfl fun i _ => mul_comm (val_main_v10 (F := Ideal) x4 (ix3 h i d)) _]
  exact sum_mul_coe _ _ _ _ (fun i => v36_at H h i j) fun i => v10_at H h i d

end Cert.ReferenceIdeal.Bwd

end
-- ==== Proof.lean ====
/-
  The proof of `Cert.Claim`: the frames and the values of the two attentions' forward and backward calls, of the
  squared-ReLU layer's two forward calls and four gradient calls, of the last layer's call
  with the loss, and of the projections into and out of the attentions, with their gradients, each with its
  idealization and its reference. The run of the attention call is `Bwd.run_main`, once for any float arithmetic.
-/
module

public import proofs.«01_k».proof.Defs
public import proofs.«01_k».proof.Proof.Same
public import proofs.«01_k».proof.Proof.DactValue
public import proofs.«01_k».proof.Proof.GdownValue
public import proofs.«01_k».proof.Proof.GupValue
public import proofs.«01_k».proof.Proof.DnormValue
public import proofs.«01_k».proof.Proof.MlaValue
public import proofs.«01_k».proof.Proof.UpValue
public import proofs.«01_k».proof.Proof.DownValue
public import proofs.«01_k».proof.Proof.FwdValue
public import proofs.«01_k».proof.Proof.MlaFwdValue
public import proofs.«01_k».proof.Proof.OutValue
public import proofs.«01_k».proof.Proof.DattnValue
public import proofs.«01_k».proof.Proof.GoutValue
public import proofs.«01_k».proof.Proof.OddInValue
public import proofs.«01_k».proof.Proof.OddGinValue
public import proofs.«01_k».proof.Proof.OddDnormValue
public import proofs.«01_k».proof.Proof.EvenInValue
public import proofs.«01_k».proof.Proof.EvenGinValue
public import proofs.«01_k».proof.Proof.EvenDnormValue
public import proofs.«01_k».proof.Proof.LossValue
public import proofs.«01_k».proof.Proof.Out
public import proofs.«01_k».proof.Proof.Ref
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem
open Cert.Attn
open Cert.KernelIdeal.Bwd (X0 X1 X2 X4 arr arrays run_main frame_run)

/-- The two programs are one text (`Same`), so the kernel's frame is the same run, at the machine's floats. -/
theorem frame_kernel : Cert.quiescent_Kernel := fun m ρ _ => run_of _ _ (frame_run (F := Bits) m ρ)

theorem frame_ideal : Cert.quiescent_KernelIdeal := fun m ρ _ => frame_run (F := Ideal) m ρ

/-- The reference declares no semaphore, so its counters are zero at any state. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- An index of a result array by its coordinates. -/
theorem ix_eta (i : (⟨3, ![8, 8192, 128]⟩ : Shape).Idx) : i = ix3 (i 0) (i 1) (i 2) :=
  funext fun a => match a with
  | ⟨0, _⟩ => rfl
  | ⟨1, _⟩ => rfl
  | ⟨2, _⟩ => rfl

/-- An array known at its coordinates. -/
theorem arr_of (f : (⟨3, ![8, 8192, 128]⟩ : Shape).Idx → EReal) (D : Fin 8 → Fin 8192 → Fin 128 → ℝ) (hf : ∀ h i d, f (ix3 h i d) = (D h i d : EReal)) : f = arr D :=
  funext fun i => (congrArg f (ix_eta i)).trans (hf _ _ _)

/-- The call's three results are the reference's, on finite arguments. -/
theorem algebraic : Cert.algebraic_KernelIdeal_ReferenceIdeal_pre_finite := by
  intro m ρ m' ρ' hpre hag
  have H : ∀ c, Finite (X0 m c) (X1 m c) (X2 m c) (X4 m c) := fun c => Cert.Pre_finite.Bwd.finite_of_pre _ _ _ _ _ (hpre c)
  refine ⟨fun c => arr (fun h => dq (qR (X0 m c) h) (kR (X1 m c) h) (kR (X2 m c) h) (gR (X4 m c) h)),
    fun c => arr (fun h => dk (qR (X0 m c) h) (kR (X1 m c) h) (kR (X2 m c) h) (gR (X4 m c) h)),
    fun c => arr (fun h => dv (qR (X0 m c) h) (kR (X1 m c) h) (gR (X4 m c) h)), ?_, ?_⟩
  · refine (θ_run Cert.KernelIdeal.defs _ _).mono (fun r h c => ?_) (run_main (F := Ideal) m ρ)
    obtain ⟨h0, h1, h2⟩ := arrays m c (H c) r h.1
    exact ⟨h0, h1, h2, Cert.KernelIdeal.Bwd.args_post m h.1 c⟩
  · refine (θ_run Cert.ReferenceIdeal.defs _ _).mono (fun r h c => ?_) (Cert.ReferenceIdeal.Value.run (F := Ideal) m' ρ')
    obtain ⟨h0, h1, h2, hargs⟩ := h c
    obtain ⟨e0, e1, e2, -, e4⟩ := hag c
    refine ⟨h0.trans ?_, h1.trans ?_, h2.trans ?_, hargs⟩
    · rw [Cert.ReferenceIdeal.Read.val_main_v57_eq, e0, e1, e2, e4]
      exact arr_of _ _ (Cert.ReferenceIdeal.Bwd.dq_at (H c))
    · rw [Cert.ReferenceIdeal.Read.val_main_v56_eq, e0, e1, e2, e4]
      exact arr_of _ _ (Cert.ReferenceIdeal.Bwd.dk_at (H c))
    · rw [e0, e1, e4]
      exact (Cert.ReferenceIdeal.Read.val_main_v42_eq (F := Ideal) _ _ _).trans (arr_of _ _ (Cert.ReferenceIdeal.Bwd.dv_at (H c)))

theorem frame_DactRef : Cert.quiescent_DactRefIdeal := fun m ρ _ =>
  (θ_run Cert.DactRefIdeal.defs _ _).mono (fun r h => ⟨fun c => (h c).2, sem_eq_zero_of_no_sems (by decide) r.2⟩)
    (Cert.DactRefIdeal.Value.run (F := Ideal) m ρ)

theorem frame_GdownRef : Cert.quiescent_GdownRefIdeal := fun m ρ _ =>
  (θ_run Cert.GdownRefIdeal.defs _ _).mono (fun r h => ⟨fun c => (h c).2, sem_eq_zero_of_no_sems (by decide) r.2⟩)
    (Cert.GdownRefIdeal.Value.run (F := Ideal) m ρ)

theorem frame_GupRef : Cert.quiescent_GupRefIdeal := fun m ρ _ =>
  (θ_run Cert.GupRefIdeal.defs _ _).mono (fun r h => ⟨fun c => (h c).2, sem_eq_zero_of_no_sems (by decide) r.2⟩)
    (Cert.GupRefIdeal.Value.run (F := Ideal) m ρ)

theorem frame_DnormRef : Cert.quiescent_DnormRefIdeal := fun m ρ _ =>
  (θ_run Cert.DnormRefIdeal.defs _ _).mono (fun r h => ⟨fun c => (h c).2, sem_eq_zero_of_no_sems (by decide) r.2⟩)
    (Cert.DnormRefIdeal.Value.run (F := Ideal) m ρ)

theorem frame_UpRef : Cert.quiescent_UpRefIdeal := fun m ρ _ =>
  (θ_run Cert.UpRefIdeal.defs _ _).mono (fun r h => ⟨fun c => (h c).2.2, sem_eq_zero_of_no_sems (by decide) r.2⟩)
    (Cert.UpRefIdeal.Value.run (F := Ideal) m ρ)

theorem frame_DownRef : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem frame_FwdRef : Cert.quiescent_FwdRefIdeal := fun m ρ _ =>
  (θ_run Cert.FwdRefIdeal.defs _ _).mono (fun r h => ⟨fun c => (h c).2.2, sem_eq_zero_of_no_sems (by decide) r.2⟩)
    (Cert.FwdRefIdeal.Value.run (F := Ideal) m ρ)

theorem frame_MlaFwdRef : Cert.quiescent_MlaFwdRefIdeal := fun m ρ _ =>
  (θ_run Cert.MlaFwdRefIdeal.defs _ _).mono (fun r h => ⟨fun c => (h c).2.2, sem_eq_zero_of_no_sems (by decide) r.2⟩)
    (Cert.MlaFwdRefIdeal.Value.run (F := Ideal) m ρ)

theorem frame_OutRef : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

theorem frame_DattnRef : Cert.quiescent_DattnRefIdeal := fun m ρ _ =>
  (θ_run Cert.DattnRefIdeal.defs _ _).mono (fun r h => ⟨fun c => (h c).2, sem_eq_zero_of_no_sems (by decide) r.2⟩)
    (Cert.DattnRefIdeal.Value.run (F := Ideal) m ρ)

theorem frame_GoutRef : Cert.quiescent_GoutRefIdeal := fun m ρ _ =>
  (θ_run Cert.GoutRefIdeal.defs _ _).mono (fun r h => ⟨fun c => (h c).2, sem_eq_zero_of_no_sems (by decide) r.2⟩)
    (Cert.GoutRefIdeal.Value.run (F := Ideal) m ρ)

theorem frame_OddInRef : Cert.quiescent_OddInRefIdeal := fun m ρ _ =>
  (θ_run Cert.OddInRefIdeal.defs _ _).mono (fun r h => ⟨fun c => (h c).2, sem_eq_zero_of_no_sems (by decide) r.2⟩)
    (Cert.OddInRefIdeal.Value.run (F := Ideal) m ρ)

theorem frame_OddGinRef : Cert.quiescent_OddGinRefIdeal := fun m ρ _ =>
  (θ_run Cert.OddGinRefIdeal.defs _ _).mono (fun r h => ⟨fun c => (h c).2, sem_eq_zero_of_no_sems (by decide) r.2⟩)
    (Cert.OddGinRefIdeal.Value.run (F := Ideal) m ρ)

theorem frame_OddDnormRef : Cert.quiescent_OddDnormRefIdeal := fun m ρ _ =>
  (θ_run Cert.OddDnormRefIdeal.defs _ _).mono (fun r h => ⟨fun c => (h c).2, sem_eq_zero_of_no_sems (by decide) r.2⟩)
    (Cert.OddDnormRefIdeal.Value.run (F := Ideal) m ρ)

theorem frame_EvenInRef : Cert.quiescent_EvenInRefIdeal := fun m ρ _ =>
  (θ_run Cert.EvenInRefIdeal.defs _ _).mono (fun r h => ⟨fun c => (h c).2, sem_eq_zero_of_no_sems (by decide) r.2⟩)
    (Cert.EvenInRefIdeal.Value.run (F := Ideal) m ρ)

theorem frame_EvenGinRef : Cert.quiescent_EvenGinRefIdeal := fun m ρ _ =>
  (θ_run Cert.EvenGinRefIdeal.defs _ _).mono (fun r h => ⟨fun c => (h c).2, sem_eq_zero_of_no_sems (by decide) r.2⟩)
    (Cert.EvenGinRefIdeal.Value.run (F := Ideal) m ρ)

theorem frame_EvenDnormRef : Cert.quiescent_EvenDnormRefIdeal := fun m ρ _ =>
  (θ_run Cert.EvenDnormRefIdeal.defs _ _).mono (fun r h => ⟨fun c => (h c).2, sem_eq_zero_of_no_sems (by decide) r.2⟩)
    (Cert.EvenDnormRefIdeal.Value.run (F := Ideal) m ρ)

theorem frame_LossRef : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

theorem claim : Cert.Claim := ⟨Cert.Kernel.Gen.facts, Cert.KernelIdeal.Gen.facts, Cert.ReferenceIdeal.Gen.facts, Cert.Dact.Gen.facts, Cert.DactIdeal.Gen.facts, Cert.DactRefIdeal.Gen.facts, Cert.Gdown.Gen.facts, Cert.GdownIdeal.Gen.facts, Cert.GdownRefIdeal.Gen.facts, Cert.Gup.Gen.facts, Cert.GupIdeal.Gen.facts, Cert.GupRefIdeal.Gen.facts, Cert.Dnorm.Gen.facts, Cert.DnormIdeal.Gen.facts, Cert.DnormRefIdeal.Gen.facts, Cert.Mla.Gen.facts, Cert.MlaIdeal.Gen.facts, Cert.MlaRefIdeal.Gen.facts, Cert.Up.Gen.facts, Cert.UpIdeal.Gen.facts, Cert.UpRefIdeal.Gen.facts, Cert.Down.Gen.facts, Cert.DownIdeal.Gen.facts, Cert.DownRefIdeal.Gen.facts, Cert.Fwd.Gen.facts, Cert.FwdIdeal.Gen.facts, Cert.FwdRefIdeal.Gen.facts, Cert.MlaFwd.Gen.facts, Cert.MlaFwdIdeal.Gen.facts, Cert.MlaFwdRefIdeal.Gen.facts, Cert.Out.Gen.facts, Cert.OutIdeal.Gen.facts, Cert.OutRefIdeal.Gen.facts, Cert.Dattn.Gen.facts, Cert.DattnIdeal.Gen.facts, Cert.DattnRefIdeal.Gen.facts, Cert.Gout.Gen.facts, Cert.GoutIdeal.Gen.facts, Cert.GoutRefIdeal.Gen.facts, Cert.OddIn.Gen.facts, Cert.OddInIdeal.Gen.facts, Cert.OddInRefIdeal.Gen.facts, Cert.OddGin.Gen.facts, Cert.OddGinIdeal.Gen.facts, Cert.OddGinRefIdeal.Gen.facts, Cert.OddDnorm.Gen.facts, Cert.OddDnormIdeal.Gen.facts, Cert.OddDnormRefIdeal.Gen.facts, Cert.EvenIn.Gen.facts, Cert.EvenInIdeal.Gen.facts, Cert.EvenInRefIdeal.Gen.facts, Cert.EvenGin.Gen.facts, Cert.EvenGinIdeal.Gen.facts, Cert.EvenGinRefIdeal.Gen.facts, Cert.EvenDnorm.Gen.facts, Cert.EvenDnormIdeal.Gen.facts, Cert.EvenDnormRefIdeal.Gen.facts, Cert.Loss.Gen.facts, Cert.LossIdeal.Gen.facts, Cert.LossRefIdeal.Gen.facts, Cert.Pre_finite.Gen.facts, Cert.Pre_finite_mla.Gen.facts, Cert.Pre_finite_fwd.Gen.facts, Cert.Pre_finite_mla_fwd.Gen.facts,
  frame_kernel, frame_ideal, fun m ρ _ => frame_ideal m ρ trivial, frame_reference, fun m ρ _ => frame_reference m ρ trivial,
  fun m ρ _ => Cert.Dact.Gen.frame m ρ, fun m ρ _ => Cert.DactIdeal.Gen.frame m ρ, frame_DactRef,
  fun m ρ _ => Cert.Gdown.Gen.frame m ρ, fun m ρ _ => Cert.GdownIdeal.Gen.frame m ρ, frame_GdownRef,
  fun m ρ _ => Cert.Gup.Gen.frame m ρ, fun m ρ _ => Cert.GupIdeal.Gen.frame m ρ, frame_GupRef,
  fun m ρ _ => Cert.Dnorm.Gen.frame m ρ, fun m ρ _ => Cert.DnormIdeal.Gen.frame m ρ, frame_DnormRef,
  MlaValue.frame_kernel, MlaValue.frame_ideal, fun m ρ _ => MlaValue.frame_ideal m ρ trivial, MlaValue.frame_reference, fun m ρ _ => MlaValue.frame_reference m ρ trivial,
  fun m ρ _ => Cert.Up.Gen.frame m ρ, fun m ρ _ => Cert.UpIdeal.Gen.frame m ρ, frame_UpRef,
  fun m ρ _ => Cert.Down.Gen.frame m ρ, fun m ρ _ => Cert.DownIdeal.Gen.frame m ρ, frame_DownRef,
  fun m ρ _ => Cert.Fwd.Gen.frame m ρ, fun m ρ _ => Cert.FwdIdeal.Gen.frame m ρ, fun m ρ _ => Cert.FwdIdeal.Gen.frame m ρ, frame_FwdRef, fun m ρ _ => frame_FwdRef m ρ trivial,
  fun m ρ _ => Cert.MlaFwd.Gen.frame m ρ, fun m ρ _ => Cert.MlaFwdIdeal.Gen.frame m ρ, fun m ρ _ => Cert.MlaFwdIdeal.Gen.frame m ρ, frame_MlaFwdRef, fun m ρ _ => frame_MlaFwdRef m ρ trivial,
  fun m ρ _ => Cert.Out.Gen.frame m ρ, fun m ρ _ => Cert.OutIdeal.Gen.frame m ρ, frame_OutRef,
  fun m ρ _ => Cert.Dattn.Gen.frame m ρ, fun m ρ _ => Cert.DattnIdeal.Gen.frame m ρ, frame_DattnRef,
  fun m ρ _ => Cert.Gout.Gen.frame m ρ, fun m ρ _ => Cert.GoutIdeal.Gen.frame m ρ, frame_GoutRef,
  fun m ρ _ => Cert.OddIn.Gen.frame m ρ, fun m ρ _ => Cert.OddInIdeal.Gen.frame m ρ, frame_OddInRef,
  fun m ρ _ => Cert.OddGin.Gen.frame m ρ, fun m ρ _ => Cert.OddGinIdeal.Gen.frame m ρ, frame_OddGinRef,
  fun m ρ _ => Cert.OddDnorm.Gen.frame m ρ, fun m ρ _ => Cert.OddDnormIdeal.Gen.frame m ρ, frame_OddDnormRef,
  fun m ρ _ => Cert.EvenIn.Gen.frame m ρ, fun m ρ _ => Cert.EvenInIdeal.Gen.frame m ρ, frame_EvenInRef,
  fun m ρ _ => Cert.EvenGin.Gen.frame m ρ, fun m ρ _ => Cert.EvenGinIdeal.Gen.frame m ρ, frame_EvenGinRef,
  fun m ρ _ => Cert.EvenDnorm.Gen.frame m ρ, fun m ρ _ => Cert.EvenDnormIdeal.Gen.frame m ρ, frame_EvenDnormRef,
  fun m ρ _ => Cert.Loss.Gen.frame m ρ, fun m ρ _ => Cert.LossIdeal.Gen.frame m ρ, frame_LossRef,
  trivial, algebraic, trivial, Cert.DactIdeal.algebraic, trivial, Cert.GdownIdeal.algebraic, trivial, Cert.GupIdeal.algebraic, trivial, Cert.DnormIdeal.algebraic, trivial, MlaValue.algebraic,
  trivial, Cert.UpIdeal.algebraic, trivial, Cert.DownIdeal.algebraic, trivial, Cert.FwdIdeal.algebraic, trivial, Cert.MlaFwdIdeal.algebraic, trivial, Cert.OutIdeal.algebraic, trivial, Cert.DattnIdeal.algebraic, trivial, Cert.GoutIdeal.algebraic,
  trivial, Cert.OddInIdeal.algebraic, trivial, Cert.OddGinIdeal.algebraic, trivial, Cert.OddDnormIdeal.algebraic, trivial, Cert.EvenInIdeal.algebraic, trivial, Cert.EvenGinIdeal.algebraic, trivial, Cert.EvenDnormIdeal.algebraic, trivial, Cert.LossIdeal.algebraic⟩

end Cert.Proof

end
